-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_top [hPre_decays_below_top : Cert.Pre_decays_below_top.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_top [hPre_decays_below_top : Cert.Pre_decays_below_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_experts_in_range [hPre_experts_in_range : Cert.Pre_experts_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_decay_weights_finite [hPre_decay_weights_finite : Cert.Pre_decay_weights_finite.Facts] (m : (ℓ : Loc Cert.InprojIdeal.nD Cert.InprojIdeal.τ Cert.InprojIdeal.sig) → Buf (Elt Ideal) ℓ) : Prop :=
  ∀ c : Dev Cert.InprojIdeal.nD,
    (Cert.Pre_decay_weights_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_decay_weights_finite [hPre_decay_weights_finite : Cert.Pre_decay_weights_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_decay_weights_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Routing (m : (ℓ : Loc Cert.Routing.nD Cert.Routing.τ Cert.Routing.sig) → Buf (Elt Bits) ℓ) : Prop :=
  True

def Pre_RoutingIdeal (m : (ℓ : Loc Cert.RoutingIdeal.nD Cert.RoutingIdeal.τ Cert.RoutingIdeal.sig) → Buf (Elt Ideal) ℓ) : Prop :=
  True

def Pre_RoutingIdeal_router_weights_finite [hPre_router_weights_finite : Cert.Pre_router_weights_finite.Facts] (m : (ℓ : Loc Cert.RoutingIdeal.nD Cert.RoutingIdeal.τ Cert.RoutingIdeal.sig) → Buf (Elt Ideal) ℓ) : Prop :=
  ∀ c : Dev Cert.RoutingIdeal.nD,
    (Cert.Pre_router_weights_finite.fn (F := Ideal) (m ((c.tc : Thread Cert.RoutingIdeal.nD Cert.RoutingIdeal.τ).loc Cert.RoutingIdeal.main_arg0)) (m ((c.tc : Thread Cert.RoutingIdeal.nD Cert.RoutingIdeal.τ).loc Cert.RoutingIdeal.main_arg1)) (m ((c.tc : Thread Cert.RoutingIdeal.nD Cert.RoutingIdeal.τ).loc Cert.RoutingIdeal.main_arg2)) (m ((c.tc : Thread Cert.RoutingIdeal.nD Cert.RoutingIdeal.τ).loc Cert.RoutingIdeal.main_arg3)) (m ((c.tc : Thread Cert.RoutingIdeal.nD Cert.RoutingIdeal.τ).loc Cert.RoutingIdeal.main_arg4))) = (fun _ => 1#1)

def Pre_RoutingRefIdeal (m : (ℓ : Loc Cert.RoutingRefIdeal.nD Cert.RoutingRefIdeal.τ Cert.RoutingRefIdeal.sig) → Buf (Elt Ideal) ℓ) : Prop :=
  True

def Pre_RoutingRefIdeal_router_weights_finite [hPre_router_weights_finite : Cert.Pre_router_weights_finite.Facts] (m : (ℓ : Loc Cert.RoutingRefIdeal.nD Cert.RoutingRefIdeal.τ Cert.RoutingRefIdeal.sig) → Buf (Elt Ideal) ℓ) : Prop :=
  ∀ c : Dev Cert.RoutingRefIdeal.nD,
    (Cert.Pre_router_weights_finite.fn (F := Ideal) (m ((c.tc : Thread Cert.RoutingRefIdeal.nD Cert.RoutingRefIdeal.τ).loc Cert.RoutingRefIdeal.main_arg0)) (m ((c.tc : Thread Cert.RoutingRefIdeal.nD Cert.RoutingRefIdeal.τ).loc Cert.RoutingRefIdeal.main_arg1)) (m ((c.tc : Thread Cert.RoutingRefIdeal.nD Cert.RoutingRefIdeal.τ).loc Cert.RoutingRefIdeal.main_arg2)) (m ((c.tc : Thread Cert.RoutingRefIdeal.nD Cert.RoutingRefIdeal.τ).loc Cert.RoutingRefIdeal.main_arg3)) (m ((c.tc : Thread Cert.RoutingRefIdeal.nD Cert.RoutingRefIdeal.τ).loc Cert.RoutingRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays_below_top [hKernelIdeal : Cert.KernelIdeal.Facts] [hPre_decays_below_top : Cert.Pre_decays_below_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays_below_top [hReferenceIdeal : Cert.ReferenceIdeal.Facts] [hPre_decays_below_top : Cert.Pre_decays_below_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_ExpertsRefIdeal_pre_experts_in_range [hExpertsRefIdeal : Cert.ExpertsRefIdeal.Facts] [hPre_experts_in_range : Cert.Pre_experts_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_experts_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojIdeal_pre_decay_weights_finite [hInprojIdeal : Cert.InprojIdeal.Facts] [hPre_decay_weights_finite : Cert.Pre_decay_weights_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_decay_weights_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojRefIdeal_pre_decay_weights_finite [hInprojRefIdeal : Cert.InprojRefIdeal.Facts] [hPre_decay_weights_finite : Cert.Pre_decay_weights_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_decay_weights_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_Routing [hRouting : Cert.Routing.Facts] : Prop :=
  ∀ (m : (ℓ : Loc Cert.Routing.nD Cert.Routing.τ Cert.Routing.sig) → Buf (Elt Bits) ℓ) (g : Dev Cert.Routing.nD → PrngReg), Pre_Routing m →
    θ_run (Cert.Routing.defs (F := Bits)) (onTc (τ := Cert.Routing.τ) (Cert.Routing.main (F := Bits))) ⟨m, fun _ => 0, g⟩ (fun r => (∀ c : Dev Cert.Routing.nD,
      r.2.mem ((c.tc : Thread Cert.Routing.nD Cert.Routing.τ).loc Cert.Routing.main_arg0) = m ((c.tc : Thread Cert.Routing.nD Cert.Routing.τ).loc Cert.Routing.main_arg0)
      ∧ r.2.mem ((c.tc : Thread Cert.Routing.nD Cert.Routing.τ).loc Cert.Routing.main_arg1) = m ((c.tc : Thread Cert.Routing.nD Cert.Routing.τ).loc Cert.Routing.main_arg1)
      ∧ r.2.mem ((c.tc : Thread Cert.Routing.nD Cert.Routing.τ).loc Cert.Routing.main_arg2) = m ((c.tc : Thread Cert.Routing.nD Cert.Routing.τ).loc Cert.Routing.main_arg2)
      ∧ r.2.mem ((c.tc : Thread Cert.Routing.nD Cert.Routing.τ).loc Cert.Routing.main_arg3) = m ((c.tc : Thread Cert.Routing.nD Cert.Routing.τ).loc Cert.Routing.main_arg3)
      ∧ r.2.mem ((c.tc : Thread Cert.Routing.nD Cert.Routing.τ).loc Cert.Routing.main_arg4) = m ((c.tc : Thread Cert.Routing.nD Cert.Routing.τ).loc Cert.Routing.main_arg4))
      ∧ r.2.sem = fun _ => 0)

def quiescent_RoutingIdeal [hRoutingIdeal : Cert.RoutingIdeal.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4))
      ∧ r.2.sem = fun _ => 0)

def quiescent_RoutingIdeal_pre_router_weights_finite [hRoutingIdeal : Cert.RoutingIdeal.Facts] [hPre_router_weights_finite : Cert.Pre_router_weights_finite.Facts] : Prop :=
  ∀ (m : (ℓ : Loc Cert.RoutingIdeal.nD Cert.RoutingIdeal.τ Cert.RoutingIdeal.sig) → Buf (Elt Ideal) ℓ) (g : Dev Cert.RoutingIdeal.nD → PrngReg), Pre_RoutingIdeal_router_weights_finite m →
    θ_run (Cert.RoutingIdeal.defs (F := Ideal)) (onTc (τ := Cert.RoutingIdeal.τ) (Cert.RoutingIdeal.main (F := Ideal))) ⟨m, fun _ => 0, g⟩ (fun r => (∀ c : Dev Cert.RoutingIdeal.nD,
      r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
      ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
      ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
      ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
      ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4))
      ∧ r.2.sem = fun _ => 0)

def quiescent_RoutingRefIdeal [hRoutingRefIdeal : Cert.RoutingRefIdeal.Facts] : Prop :=
  ∀ (m : (ℓ : Loc Cert.RoutingRefIdeal.nD Cert.RoutingRefIdeal.τ Cert.RoutingRefIdeal.sig) → Buf (Elt Ideal) ℓ) (g : Dev Cert.RoutingRefIdeal.nD → PrngReg), Pre_RoutingRefIdeal m →
    θ_run (Cert.RoutingRefIdeal.defs (F := Ideal)) (onTc (τ := Cert.RoutingRefIdeal.τ) (Cert.RoutingRefIdeal.main (F := Ideal))) ⟨m, fun _ => 0, g⟩ (fun r => (∀ c : Dev Cert.RoutingRefIdeal.nD,
      r.2.mem ((c.tc : Thread Cert.RoutingRefIdeal.nD Cert.RoutingRefIdeal.τ).loc Cert.RoutingRefIdeal.main_arg0) = m ((c.tc : Thread Cert.RoutingRefIdeal.nD Cert.RoutingRefIdeal.τ).loc Cert.RoutingRefIdeal.main_arg0)
      ∧ r.2.mem ((c.tc : Thread Cert.RoutingRefIdeal.nD Cert.RoutingRefIdeal.τ).loc Cert.RoutingRefIdeal.main_arg1) = m ((c.tc : Thread Cert.RoutingRefIdeal.nD Cert.RoutingRefIdeal.τ).loc Cert.RoutingRefIdeal.main_arg1)
      ∧ r.2.mem ((c.tc : Thread Cert.RoutingRefIdeal.nD Cert.RoutingRefIdeal.τ).loc Cert.RoutingRefIdeal.main_arg2) = m ((c.tc : Thread Cert.RoutingRefIdeal.nD Cert.RoutingRefIdeal.τ).loc Cert.RoutingRefIdeal.main_arg2)
      ∧ r.2.mem ((c.tc : Thread Cert.RoutingRefIdeal.nD Cert.RoutingRefIdeal.τ).loc Cert.RoutingRefIdeal.main_arg3) = m ((c.tc : Thread Cert.RoutingRefIdeal.nD Cert.RoutingRefIdeal.τ).loc Cert.RoutingRefIdeal.main_arg3)
      ∧ r.2.mem ((c.tc : Thread Cert.RoutingRefIdeal.nD Cert.RoutingRefIdeal.τ).loc Cert.RoutingRefIdeal.main_arg4) = m ((c.tc : Thread Cert.RoutingRefIdeal.nD Cert.RoutingRefIdeal.τ).loc Cert.RoutingRefIdeal.main_arg4))
      ∧ r.2.sem = fun _ => 0)

def quiescent_RoutingRefIdeal_pre_router_weights_finite [hRoutingRefIdeal : Cert.RoutingRefIdeal.Facts] [hPre_router_weights_finite : Cert.Pre_router_weights_finite.Facts] : Prop :=
  ∀ (m : (ℓ : Loc Cert.RoutingRefIdeal.nD Cert.RoutingRefIdeal.τ Cert.RoutingRefIdeal.sig) → Buf (Elt Ideal) ℓ) (g : Dev Cert.RoutingRefIdeal.nD → PrngReg), Pre_RoutingRefIdeal_router_weights_finite m →
    θ_run (Cert.RoutingRefIdeal.defs (F := Ideal)) (onTc (τ := Cert.RoutingRefIdeal.τ) (Cert.RoutingRefIdeal.main (F := Ideal))) ⟨m, fun _ => 0, g⟩ (fun r => (∀ c : Dev Cert.RoutingRefIdeal.nD,
      r.2.mem ((c.tc : Thread Cert.RoutingRefIdeal.nD Cert.RoutingRefIdeal.τ).loc Cert.RoutingRefIdeal.main_arg0) = m ((c.tc : Thread Cert.RoutingRefIdeal.nD Cert.RoutingRefIdeal.τ).loc Cert.RoutingRefIdeal.main_arg0)
      ∧ r.2.mem ((c.tc : Thread Cert.RoutingRefIdeal.nD Cert.RoutingRefIdeal.τ).loc Cert.RoutingRefIdeal.main_arg1) = m ((c.tc : Thread Cert.RoutingRefIdeal.nD Cert.RoutingRefIdeal.τ).loc Cert.RoutingRefIdeal.main_arg1)
      ∧ r.2.mem ((c.tc : Thread Cert.RoutingRefIdeal.nD Cert.RoutingRefIdeal.τ).loc Cert.RoutingRefIdeal.main_arg2) = m ((c.tc : Thread Cert.RoutingRefIdeal.nD Cert.RoutingRefIdeal.τ).loc Cert.RoutingRefIdeal.main_arg2)
      ∧ r.2.mem ((c.tc : Thread Cert.RoutingRefIdeal.nD Cert.RoutingRefIdeal.τ).loc Cert.RoutingRefIdeal.main_arg3) = m ((c.tc : Thread Cert.RoutingRefIdeal.nD Cert.RoutingRefIdeal.τ).loc Cert.RoutingRefIdeal.main_arg3)
      ∧ r.2.mem ((c.tc : Thread Cert.RoutingRefIdeal.nD Cert.RoutingRefIdeal.τ).loc Cert.RoutingRefIdeal.main_arg4) = m ((c.tc : Thread Cert.RoutingRefIdeal.nD Cert.RoutingRefIdeal.τ).loc Cert.RoutingRefIdeal.main_arg4))
      ∧ r.2.sem = fun _ => 0)

def preserves_Kernel_KernelIdeal : Prop :=
  True

def algebraic_KernelIdeal_ReferenceIdeal_pre_decays_below_top [hKernelIdeal : Cert.KernelIdeal.Facts] [hReferenceIdeal : Cert.ReferenceIdeal.Facts] [hPre_decays_below_top : Cert.Pre_decays_below_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v141) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v51) = v0 c
          ∧ r.2.mem ((c.tc : Thread Cert.QkvRefIdeal.nD Cert.QkvRefIdeal.τ).loc Cert.QkvRefIdeal.main_v53) = v1 c
          ∧ r.2.mem ((c.tc : Thread Cert.QkvRefIdeal.nD Cert.QkvRefIdeal.τ).loc Cert.QkvRefIdeal.main_v55) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Inproj_InprojIdeal : Prop :=
  True

def algebraic_InprojIdeal_InprojRefIdeal_pre_decay_weights_finite [hInprojIdeal : Cert.InprojIdeal.Facts] [hInprojRefIdeal : Cert.InprojRefIdeal.Facts] [hPre_decay_weights_finite : Cert.Pre_decay_weights_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_decay_weights_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v31) = v0 c
          ∧ r.2.mem ((c.tc : Thread Cert.InprojRefIdeal.nD Cert.InprojRefIdeal.τ).loc Cert.InprojRefIdeal.main_v33) = v1 c
          ∧ r.2.mem ((c.tc : Thread Cert.InprojRefIdeal.nD Cert.InprojRefIdeal.τ).loc Cert.InprojRefIdeal.main_v35) = v2 c
          ∧ r.2.mem ((c.tc : Thread Cert.InprojRefIdeal.nD Cert.InprojRefIdeal.τ).loc Cert.InprojRefIdeal.main_v37) = v3 c
          ∧ r.2.mem ((c.tc : Thread Cert.InprojRefIdeal.nD Cert.InprojRefIdeal.τ).loc Cert.InprojRefIdeal.main_v38) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Router_RouterIdeal : Prop :=
  True

def algebraic_RouterIdeal_RouterRefIdeal [hRouterIdeal : Cert.RouterIdeal.Facts] [hRouterRefIdeal : Cert.RouterRefIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)) →
    ∃ (v0 : (c : Dev Cert.RouterIdeal.nD) → Buf (Elt Ideal) ((c.tc : Thread Cert.RouterIdeal.nD Cert.RouterIdeal.τ).loc Cert.RouterIdeal.main_v11_0)) (v1 : (c : Dev Cert.RouterIdeal.nD) → Buf (Elt Ideal) ((c.tc : Thread Cert.RouterIdeal.nD Cert.RouterIdeal.τ).loc Cert.RouterIdeal.main_v11_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v11_0) = v0 c
          ∧ r.2.mem ((c.tc : Thread Cert.RouterIdeal.nD Cert.RouterIdeal.τ).loc Cert.RouterIdeal.main_v11_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v18) = v0 c
          ∧ r.2.mem ((c.tc : Thread Cert.RouterRefIdeal.nD Cert.RouterRefIdeal.τ).loc Cert.RouterRefIdeal.main_v20) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4))

def preserves_Routing_RoutingIdeal : Prop :=
  True

def algebraic_RoutingIdeal_RoutingRefIdeal_pre_router_weights_finite [hRoutingIdeal : Cert.RoutingIdeal.Facts] [hRoutingRefIdeal : Cert.RoutingRefIdeal.Facts] [hPre_router_weights_finite : Cert.Pre_router_weights_finite.Facts] : Prop :=
  ∀ (m : (ℓ : Loc Cert.RoutingIdeal.nD Cert.RoutingIdeal.τ Cert.RoutingIdeal.sig) → Buf (Elt Ideal) ℓ) (g : Dev Cert.RoutingIdeal.nD → PrngReg)
    (m' : (ℓ : Loc Cert.RoutingRefIdeal.nD Cert.RoutingRefIdeal.τ Cert.RoutingRefIdeal.sig) → Buf (Elt Ideal) ℓ) (g' : Dev Cert.RoutingRefIdeal.nD → PrngReg), Pre_RoutingIdeal_router_weights_finite m →
    (∀ c : Dev Cert.RoutingIdeal.nD,
      m' ((c.tc : Thread Cert.RoutingRefIdeal.nD Cert.RoutingRefIdeal.τ).loc Cert.RoutingRefIdeal.main_arg0) = m ((c.tc : Thread Cert.RoutingIdeal.nD Cert.RoutingIdeal.τ).loc Cert.RoutingIdeal.main_arg0)
      ∧ m' ((c.tc : Thread Cert.RoutingRefIdeal.nD Cert.RoutingRefIdeal.τ).loc Cert.RoutingRefIdeal.main_arg1) = m ((c.tc : Thread Cert.RoutingIdeal.nD Cert.RoutingIdeal.τ).loc Cert.RoutingIdeal.main_arg1)
      ∧ m' ((c.tc : Thread Cert.RoutingRefIdeal.nD Cert.RoutingRefIdeal.τ).loc Cert.RoutingRefIdeal.main_arg2) = m ((c.tc : Thread Cert.RoutingIdeal.nD Cert.RoutingIdeal.τ).loc Cert.RoutingIdeal.main_arg2)
      ∧ m' ((c.tc : Thread Cert.RoutingRefIdeal.nD Cert.RoutingRefIdeal.τ).loc Cert.RoutingRefIdeal.main_arg3) = m ((c.tc : Thread Cert.RoutingIdeal.nD Cert.RoutingIdeal.τ).loc Cert.RoutingIdeal.main_arg3)
      ∧ m' ((c.tc : Thread Cert.RoutingRefIdeal.nD Cert.RoutingRefIdeal.τ).loc Cert.RoutingRefIdeal.main_arg4) = m ((c.tc : Thread Cert.RoutingIdeal.nD Cert.RoutingIdeal.τ).loc Cert.RoutingIdeal.main_arg4)) →
    ∃ (v0 : (c : Dev Cert.RoutingIdeal.nD) → Buf (Elt Ideal) ((c.tc : Thread Cert.RoutingIdeal.nD Cert.RoutingIdeal.τ).loc Cert.RoutingIdeal.main_v11_2)) (v1 : (c : Dev Cert.RoutingIdeal.nD) → Buf (Elt Ideal) ((c.tc : Thread Cert.RoutingIdeal.nD Cert.RoutingIdeal.τ).loc Cert.RoutingIdeal.main_v11_3)) (v2 : (c : Dev Cert.RoutingIdeal.nD) → Buf (Elt Ideal) ((c.tc : Thread Cert.RoutingIdeal.nD Cert.RoutingIdeal.τ).loc Cert.RoutingIdeal.main_v11_4)),
      θ_run (Cert.RoutingIdeal.defs (F := Ideal)) (onTc (τ := Cert.RoutingIdeal.τ) (Cert.RoutingIdeal.main (F := Ideal))) ⟨m, fun _ => 0, g⟩ (fun r => ∀ c : Dev Cert.RoutingIdeal.nD,
          r.2.mem ((c.tc : Thread Cert.RoutingIdeal.nD Cert.RoutingIdeal.τ).loc Cert.RoutingIdeal.main_v11_2) = v0 c
          ∧ r.2.mem ((c.tc : Thread Cert.RoutingIdeal.nD Cert.RoutingIdeal.τ).loc Cert.RoutingIdeal.main_v11_3) = v1 c
          ∧ r.2.mem ((c.tc : Thread Cert.RoutingIdeal.nD Cert.RoutingIdeal.τ).loc Cert.RoutingIdeal.main_v11_4) = v2 c
          ∧ r.2.mem ((c.tc : Thread Cert.RoutingIdeal.nD Cert.RoutingIdeal.τ).loc Cert.RoutingIdeal.main_arg0) = m ((c.tc : Thread Cert.RoutingIdeal.nD Cert.RoutingIdeal.τ).loc Cert.RoutingIdeal.main_arg0)
          ∧ r.2.mem ((c.tc : Thread Cert.RoutingIdeal.nD Cert.RoutingIdeal.τ).loc Cert.RoutingIdeal.main_arg1) = m ((c.tc : Thread Cert.RoutingIdeal.nD Cert.RoutingIdeal.τ).loc Cert.RoutingIdeal.main_arg1)
          ∧ r.2.mem ((c.tc : Thread Cert.RoutingIdeal.nD Cert.RoutingIdeal.τ).loc Cert.RoutingIdeal.main_arg2) = m ((c.tc : Thread Cert.RoutingIdeal.nD Cert.RoutingIdeal.τ).loc Cert.RoutingIdeal.main_arg2)
          ∧ r.2.mem ((c.tc : Thread Cert.RoutingIdeal.nD Cert.RoutingIdeal.τ).loc Cert.RoutingIdeal.main_arg3) = m ((c.tc : Thread Cert.RoutingIdeal.nD Cert.RoutingIdeal.τ).loc Cert.RoutingIdeal.main_arg3)
          ∧ r.2.mem ((c.tc : Thread Cert.RoutingIdeal.nD Cert.RoutingIdeal.τ).loc Cert.RoutingIdeal.main_arg4) = m ((c.tc : Thread Cert.RoutingIdeal.nD Cert.RoutingIdeal.τ).loc Cert.RoutingIdeal.main_arg4))
      ∧ θ_run (Cert.RoutingRefIdeal.defs (F := Ideal)) (onTc (τ := Cert.RoutingRefIdeal.τ) (Cert.RoutingRefIdeal.main (F := Ideal))) ⟨m', fun _ => 0, g'⟩ (fun r => ∀ c : Dev Cert.RoutingRefIdeal.nD,
          r.2.mem ((c.tc : Thread Cert.RoutingRefIdeal.nD Cert.RoutingRefIdeal.τ).loc Cert.RoutingRefIdeal.main_v54) = v0 c
          ∧ r.2.mem ((c.tc : Thread Cert.RoutingRefIdeal.nD Cert.RoutingRefIdeal.τ).loc Cert.RoutingRefIdeal.main_v56) = v1 c
          ∧ r.2.mem ((c.tc : Thread Cert.RoutingRefIdeal.nD Cert.RoutingRefIdeal.τ).loc Cert.RoutingRefIdeal.main_v57) = v2 c
          ∧ r.2.mem ((c.tc : Thread Cert.RoutingRefIdeal.nD Cert.RoutingRefIdeal.τ).loc Cert.RoutingRefIdeal.main_arg0) = m' ((c.tc : Thread Cert.RoutingRefIdeal.nD Cert.RoutingRefIdeal.τ).loc Cert.RoutingRefIdeal.main_arg0)
          ∧ r.2.mem ((c.tc : Thread Cert.RoutingRefIdeal.nD Cert.RoutingRefIdeal.τ).loc Cert.RoutingRefIdeal.main_arg1) = m' ((c.tc : Thread Cert.RoutingRefIdeal.nD Cert.RoutingRefIdeal.τ).loc Cert.RoutingRefIdeal.main_arg1)
          ∧ r.2.mem ((c.tc : Thread Cert.RoutingRefIdeal.nD Cert.RoutingRefIdeal.τ).loc Cert.RoutingRefIdeal.main_arg2) = m' ((c.tc : Thread Cert.RoutingRefIdeal.nD Cert.RoutingRefIdeal.τ).loc Cert.RoutingRefIdeal.main_arg2)
          ∧ r.2.mem ((c.tc : Thread Cert.RoutingRefIdeal.nD Cert.RoutingRefIdeal.τ).loc Cert.RoutingRefIdeal.main_arg3) = m' ((c.tc : Thread Cert.RoutingRefIdeal.nD Cert.RoutingRefIdeal.τ).loc Cert.RoutingRefIdeal.main_arg3)
          ∧ r.2.mem ((c.tc : Thread Cert.RoutingRefIdeal.nD Cert.RoutingRefIdeal.τ).loc Cert.RoutingRefIdeal.main_arg4) = m' ((c.tc : Thread Cert.RoutingRefIdeal.nD Cert.RoutingRefIdeal.τ).loc Cert.RoutingRefIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hInproj : Cert.Inproj.Facts) (hInprojIdeal : Cert.InprojIdeal.Facts) (hInprojRefIdeal : Cert.InprojRefIdeal.Facts) (hRouter : Cert.Router.Facts) (hRouterIdeal : Cert.RouterIdeal.Facts) (hRouterRefIdeal : Cert.RouterRefIdeal.Facts) (hRouting : Cert.Routing.Facts) (hRoutingIdeal : Cert.RoutingIdeal.Facts) (hRoutingRefIdeal : Cert.RoutingRefIdeal.Facts) (hPre_decays_below_top : Cert.Pre_decays_below_top.Facts) (hPre_experts_in_range : Cert.Pre_experts_in_range.Facts) (hPre_decay_weights_finite : Cert.Pre_decay_weights_finite.Facts) (hPre_router_weights_finite : Cert.Pre_router_weights_finite.Facts),
    quiescent_Kernel (hKernel := hKernel)
    ∧ quiescent_KernelIdeal (hKernelIdeal := hKernelIdeal)
    ∧ quiescent_KernelIdeal_pre_decays_below_top (hKernelIdeal := hKernelIdeal) (hPre_decays_below_top := hPre_decays_below_top)
    ∧ quiescent_ReferenceIdeal (hReferenceIdeal := hReferenceIdeal)
    ∧ quiescent_ReferenceIdeal_pre_decays_below_top (hReferenceIdeal := hReferenceIdeal) (hPre_decays_below_top := hPre_decays_below_top)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsRefIdeal (hExpertsRefIdeal := hExpertsRefIdeal)
    ∧ quiescent_ExpertsRefIdeal_pre_experts_in_range (hExpertsRefIdeal := hExpertsRefIdeal) (hPre_experts_in_range := hPre_experts_in_range)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Inproj (hInproj := hInproj)
    ∧ quiescent_InprojIdeal (hInprojIdeal := hInprojIdeal)
    ∧ quiescent_InprojIdeal_pre_decay_weights_finite (hInprojIdeal := hInprojIdeal) (hPre_decay_weights_finite := hPre_decay_weights_finite)
    ∧ quiescent_InprojRefIdeal (hInprojRefIdeal := hInprojRefIdeal)
    ∧ quiescent_InprojRefIdeal_pre_decay_weights_finite (hInprojRefIdeal := hInprojRefIdeal) (hPre_decay_weights_finite := hPre_decay_weights_finite)
    ∧ quiescent_Router (hRouter := hRouter)
    ∧ quiescent_RouterIdeal (hRouterIdeal := hRouterIdeal)
    ∧ quiescent_RouterRefIdeal (hRouterRefIdeal := hRouterRefIdeal)
    ∧ quiescent_Routing (hRouting := hRouting)
    ∧ quiescent_RoutingIdeal (hRoutingIdeal := hRoutingIdeal)
    ∧ quiescent_RoutingIdeal_pre_router_weights_finite (hRoutingIdeal := hRoutingIdeal) (hPre_router_weights_finite := hPre_router_weights_finite)
    ∧ quiescent_RoutingRefIdeal (hRoutingRefIdeal := hRoutingRefIdeal)
    ∧ quiescent_RoutingRefIdeal_pre_router_weights_finite (hRoutingRefIdeal := hRoutingRefIdeal) (hPre_router_weights_finite := hPre_router_weights_finite)
    ∧ preserves_Kernel_KernelIdeal
    ∧ algebraic_KernelIdeal_ReferenceIdeal_pre_decays_below_top (hKernelIdeal := hKernelIdeal) (hReferenceIdeal := hReferenceIdeal) (hPre_decays_below_top := hPre_decays_below_top)
    ∧ preserves_Experts_ExpertsIdeal
    ∧ algebraic_ExpertsIdeal_ExpertsRefIdeal (hExpertsIdeal := hExpertsIdeal) (hExpertsRefIdeal := hExpertsRefIdeal) (hPre_experts_in_range := hPre_experts_in_range)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Inproj_InprojIdeal
    ∧ algebraic_InprojIdeal_InprojRefIdeal_pre_decay_weights_finite (hInprojIdeal := hInprojIdeal) (hInprojRefIdeal := hInprojRefIdeal) (hPre_decay_weights_finite := hPre_decay_weights_finite)
    ∧ preserves_Router_RouterIdeal
    ∧ algebraic_RouterIdeal_RouterRefIdeal (hRouterIdeal := hRouterIdeal) (hRouterRefIdeal := hRouterRefIdeal)
    ∧ preserves_Routing_RoutingIdeal
    ∧ algebraic_RoutingIdeal_RoutingRefIdeal_pre_router_weights_finite (hRoutingIdeal := hRoutingIdeal) (hRoutingRefIdeal := hRoutingRefIdeal) (hPre_router_weights_finite := hPre_router_weights_finite)
-- ==== Pre_decay_weights_finite.lean ====
abbrev S8x2048x1024 : Shape := ⟨3, ![8, 2048, 1024]⟩
abbrev S1x1024 : Shape := ⟨2, ![1, 1024]⟩
abbrev S1x1024x3088 : Shape := ⟨3, ![1, 1024, 3088]⟩
abbrev S1x16x512 : Shape := ⟨3, ![1, 16, 512]⟩
abbrev S1x512 : Shape := ⟨2, ![1, 512]⟩
abbrev S_ : Shape := ⟨0, ![]⟩
abbrev S1x1024x16 : Shape := ⟨3, ![1, 1024, 16]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S1x1024x3088_S1x1024x16_0_0_3072 : S1x1024x3088.Slices ![0, 0, 3072] S1x1024x16
  bcast_S_S1x1024x16 : S_.BroadcastsInDim S1x1024x16 (![] : Fin 0 → Fin S1x1024x16.rank)
  reducesTo_S1x1024x16_S_d0_1_2 : S1x1024x16.ReducesTo [0, 1, 2] S_
  bcast_S_S1x16x512 : S_.BroadcastsInDim S1x16x512 (![] : Fin 0 → Fin S1x16x512.rank)
  reducesTo_S1x16x512_S_d0_1_2 : S1x16x512.ReducesTo [0, 1, 2] S_

variable [Facts]

def fn {F : FTy → Type} [FloatOps F] (main_arg0 : FVec F S8x2048x1024 .f32) (main_arg1 : FVec F S1x1024 .f32) (main_arg2 : FVec F S1x1024x3088 .f32) (main_arg3 : FVec F S1x16x512 .f32) (main_arg4 : FVec F S1x512 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x16 .f32 := (extractStridedSlice S1x1024x16 ![0, 0, 3072] · slices_S1x1024x3088_S1x1024x16_0_0_3072) main_arg2
  let main_v5 : FVec F S1x1024x16 .f32 := Host.absf main_v4
  let main_cst_0 : FVec F S_ .f32 := constant S_ .f32 0x7F800000#32
  let main_v6 : FVec F S1x1024x16 .f32 := broadcastInDim S1x1024x16 ![] bcast_S_S1x1024x16 main_cst_0
  let main_v7 : IVec S1x1024x16 1 := cmpf .olt main_v5 main_v6
  let main_c_1 : IVec S_ 1 := constantI S_ 1 1#1
  let main_v8 : IVec S_ 1 := (fun x v => Host.reduce IntOp.andi x v reducesTo_S1x1024x16_S_d0_1_2 h_S_) main_v7 main_c_1
  let main_v9 : IVec S_ 1 := andi main_v3 main_v8
  let main_v10 : FVec F S1x16x512 .f32 := Host.absf main_arg3
  let main_cst_2 : FVec F S_ .f32 := constant S_ .f32 0x7F800000#32
  let main_v11 : FVec F S1x16x512 .f32 := broadcastInDim S1x16x512 ![] bcast_S_S1x16x512 main_cst_2
  let main_v12 : IVec S1x16x512 1 := cmpf .olt main_v10 main_v11
  let main_c_3 : IVec S_ 1 := constantI S_ 1 1#1
  let main_v13 : IVec S_ 1 := (fun x v => Host.reduce IntOp.andi x v reducesTo_S1x16x512_S_d0_1_2 h_S_) main_v12 main_c_3
  let main_v14 : IVec S_ 1 := andi main_v9 main_v13
  main_v14
-- ==== Pre_decays_below_top.lean ====
abbrev S8x2048x512 : Shape := ⟨3, ![8, 2048, 512]⟩
abbrev S8x2048x1024 : Shape := ⟨3, ![8, 2048, 1024]⟩
abbrev S1x256 : Shape := ⟨2, ![1, 256]⟩
abbrev S_ : Shape := ⟨0, ![]⟩

class Facts : Prop where
  bcast_S_S8x2048x512 : S_.BroadcastsInDim S8x2048x512 (![] : Fin 0 → Fin S8x2048x512.rank)

variable [Facts]

def fn {F : FTy → Type} [FloatOps F] (main_arg0 : FVec F S8x2048x512 .bf16) (main_arg1 : FVec F S8x2048x512 .bf16) (main_arg2 : FVec F S8x2048x1024 .bf16) (main_arg3 : FVec F S8x2048x1024 .bf16) (main_arg4 : FVec F S8x2048x512 .f32) (main_arg5 : FVec F S1x256 .f32) : IVec S8x2048x512 1 :=
  let main_cst : FVec F S_ .f32 := constant S_ .f32 0x7F800000#32
  let main_v0 : FVec F S8x2048x512 .f32 := broadcastInDim S8x2048x512 ![] bcast_S_S8x2048x512 main_cst
  let main_v1 : IVec S8x2048x512 1 := cmpf .olt main_arg4 main_v0
  main_v1
-- ==== Pre_experts_in_range.lean ====
abbrev S34816x1024 : Shape := ⟨2, ![34816, 1024]⟩
abbrev S34816x1 : Shape := ⟨2, ![34816, 1]⟩
abbrev S136 : Shape := ⟨1, ![136]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : FVec F S34816x1024 .bf16) (main_arg1 : FVec F S34816x1 .f32) (main_arg2 : IVec S136 32) (main_arg3 : IVec S136 32) (main_arg4 : FVec F S8x1024x3584 .bf16) (main_arg5 : FVec F S8x1024x3584 .bf16) (main_arg6 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg2 main_v0
  let main_c_0 : IVec S_ 32 := constantI S_ 32 8#32
  let main_v2 : IVec S136 32 := broadcastInDim S136 ![] bcast_S_S136 main_c_0
  let main_v3 : IVec S136 1 := cmpi .slt main_arg2 main_v2
  let main_v4 : IVec S136 1 := andi main_v1 main_v3
  main_v4
-- ==== Pre_router_weights_finite.lean ====
abbrev S8x2048x1024 : Shape := ⟨3, ![8, 2048, 1024]⟩
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S8x2048x1024 .f32) (main_arg1 : FVec F S16384x1024 .bf16) (main_arg2 : FVec F S1024x1024 .f32) (main_arg3 : FVec F S1x1024 .f32) (main_arg4 : FVec F S1024x8 .f32) : IVec S_ 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x8 .f32 := Host.absf main_arg4
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S8x2048x512 : Shape := ⟨3, ![8, 2048, 512]⟩
abbrev S8x2048x1024 : Shape := ⟨3, ![8, 2048, 1024]⟩
abbrev S1x256 : Shape := ⟨2, ![1, 256]⟩
abbrev S4x256x512 : Shape := ⟨3, ![4, 256, 512]⟩
abbrev S4x256x1024 : Shape := ⟨3, ![4, 256, 1024]⟩
abbrev S4x4x256x128 : Shape := ⟨4, ![4, 4, 256, 128]⟩
abbrev S256x256 : Shape := ⟨2, ![256, 256]⟩
abbrev S1x256x512 : Shape := ⟨3, ![1, 256, 512]⟩
abbrev S256x512 : Shape := ⟨2, ![256, 512]⟩
abbrev S1x512 : Shape := ⟨2, ![1, 512]⟩
abbrev S64x512 : Shape := ⟨2, ![64, 512]⟩
abbrev S256x128 : Shape := ⟨2, ![256, 128]⟩
abbrev S1x64x256 : Shape := ⟨3, ![1, 64, 256]⟩
abbrev S64x256 : Shape := ⟨2, ![64, 256]⟩
abbrev S64x128 : Shape := ⟨2, ![64, 128]⟩
abbrev S1x256x256 : Shape := ⟨3, ![1, 256, 256]⟩
abbrev S1x1x256x128 : Shape := ⟨4, ![1, 1, 256, 128]⟩
abbrev S1x128 : Shape := ⟨2, ![1, 128]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x1024, .bf16⟩
  | .hbm, ⟨3, _⟩ => ⟨S8x2048x1024, .bf16⟩
  | .hbm, ⟨4, _⟩ => ⟨S8x2048x512, .f32⟩
  | .hbm, ⟨5, _⟩ => ⟨S1x256, .f32⟩
  | .hbm, ⟨6, _⟩ => ⟨S8x2048x1024, .bf16⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | .local _ .vmem, ⟨8, _⟩ => ⟨S4x256x512, .f32⟩
  | .local _ .vmem, ⟨9, _⟩ => ⟨S4x256x512, .f32⟩
  | .local _ .vmem, ⟨10, _⟩ => ⟨S1x256, .f32⟩
  | .local _ .vmem, ⟨11, _⟩ => ⟨S4x256x1024, .bf16⟩
  | .local _ .vmem, ⟨12, _⟩ => ⟨S4x256x1024, .bf16⟩
  | .local _ .vmem, ⟨13, _⟩ => ⟨S4x4x256x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x512 : Shape := ⟨3, ![8, 2048, 512]⟩
abbrev S8x2048x1024 : Shape := ⟨3, ![8, 2048, 1024]⟩
abbrev S1x256 : Shape := ⟨2, ![1, 256]⟩
abbrev S8x32x64x4x128 : Shape := ⟨5, ![8, 32, 64, 4, 128]⟩
abbrev S8x4x32x64x128 : Shape := ⟨5, ![8, 4, 32, 64, 128]⟩
abbrev S_ : Shape := ⟨0, ![]⟩
abbrev S8x32x64x4x256 : Shape := ⟨5, ![8, 32, 64, 4, 256]⟩
abbrev S8x4x32x64x256 : Shape := ⟨5, ![8, 4, 32, 64, 256]⟩
abbrev S64x64 : Shape := ⟨2, ![64, 64]⟩
abbrev S8x4x32x64x64 : Shape := ⟨5, ![8, 4, 32, 64, 64]⟩
abbrev S8x4x32x1x128 : Shape := ⟨5, ![8, 4, 32, 1, 128]⟩
abbrev S8x4x32x128 : Shape := ⟨4, ![8, 4, 32, 128]⟩
abbrev S8x4x32x128x256 : Shape := ⟨5, ![8, 4, 32, 128, 256]⟩
abbrev S8x4x128x256 : Shape := ⟨4, ![8, 4, 128, 256]⟩
abbrev S32x8x4x128 : Shape := ⟨4, ![32, 8, 4, 128]⟩
abbrev S32x8x4x128x256 : Shape := ⟨5, ![32, 8, 4, 128, 256]⟩
abbrev S32x8x4x64x128 : Shape := ⟨5, ![32, 8, 4, 64, 128]⟩
abbrev S32x8x4x64x256 : Shape := ⟨5, ![32, 8, 4, 64, 256]⟩
abbrev S1x8x4x128 : Shape := ⟨4, ![1, 8, 4, 128]⟩
abbrev S8x4x128 : Shape := ⟨3, ![8, 4, 128]⟩
abbrev S1x8x4x128x256 : Shape := ⟨5, ![1, 8, 4, 128, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S8x4x128x1 : Shape := ⟨4, ![8, 4, 128, 1]⟩
abbrev S256 : Shape := ⟨1, ![256]⟩
abbrev S32x8x4x64 : Shape := ⟨4, ![32, 8, 4, 64]⟩
abbrev S32x8x4x64x1 : Shape := ⟨5, ![32, 8, 4, 64, 1]⟩
abbrev S1x1x1x1x256 : Shape := ⟨5, ![1, 1, 1, 1, 256]⟩

abbrev nBuf : Space → Nat
  | .hbm => 141
  | .vmem => 0
  | .smem => 0
  | _ => 0

abbrev hbmTy0_0 (i : Nat) : BufTy := match i % 128 with
  | 0 => ⟨S8x2048x512, .bf16⟩
  | 1 => ⟨S8x2048x512, .bf16⟩
  | 2 => ⟨S8x2048x1024, .bf16⟩
  | 3 => ⟨S8x2048x1024, .bf16⟩
  | 4 => ⟨S8x2048x512, .f32⟩
  | 5 => ⟨S1x256, .f32⟩
  | 6 => ⟨S8x2048x512, .f32⟩
  | 7 => ⟨S8x32x64x4x128, .f32⟩
  | 8 => ⟨S8x4x32x64x128, .f32⟩
  | 9 => ⟨S_, .f32⟩
  | 10 => ⟨S8x4x32x64x128, .f32⟩
  | 11 => ⟨S8x4x32x64x128, .f32⟩
  | 12 => ⟨S8x2048x512, .f32⟩
  | 13 => ⟨S8x32x64x4x128, .f32⟩
  | 14 => ⟨S8x4x32x64x128, .f32⟩
  | 15 => ⟨S8x2048x1024, .f32⟩
  | 16 => ⟨S8x32x64x4x256, .f32⟩
  | 17 => ⟨S8x4x32x64x256, .f32⟩
  | 18 => ⟨S8x32x64x4x128, .f32⟩
  | 19 => ⟨S8x4x32x64x128, .f32⟩
  | 20 => ⟨S_, .f32⟩
  | 21 => ⟨S_, .f32⟩
  | 22 => ⟨S8x4x32x64x128, .f32⟩
  | 23 => ⟨S8x4x32x64x128, .f32⟩
  | 24 => ⟨S8x4x32x64x128, .f32⟩
  | 25 => ⟨S8x4x32x64x128, .f32⟩
  | 26 => ⟨S8x4x32x64x128, .f32⟩
  | 27 => ⟨S8x4x32x64x128, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S8x4x32x64x64, .f32⟩
  | 40 => ⟨S_, .f32⟩
  | 41 => ⟨S_, .f32⟩
  | 42 => ⟨S8x4x32x64x64, .i1⟩
  | 43 => ⟨S8x4x32x64x64, .f32⟩
  | 44 => ⟨S8x4x32x64x64, .f32⟩
  | 45 => ⟨S8x4x32x64x256, .f32⟩
  | 46 => ⟨S8x4x32x1x128, .f32⟩
  | 47 => ⟨S8x4x32x128, .f32⟩
  | 48 => ⟨S8x4x32x1x128, .f32⟩
  | 49 => ⟨S8x4x32x64x128, .f32⟩
  | 50 => ⟨S8x4x32x64x128, .f32⟩
  | 51 => ⟨S8x4x32x64x128, .f32⟩
  | 52 => ⟨S8x4x32x64x128, .f32⟩
  | 53 => ⟨S8x4x32x128x256, .f32⟩
  | 54 => ⟨S_, .f32⟩
  | 55 => ⟨S8x4x128x256, .f32⟩
  | 56 => ⟨S8x4x32x128, .f32⟩
  | 57 => ⟨S32x8x4x128, .f32⟩
  | 58 => ⟨S32x8x4x128x256, .f32⟩
  | 59 => ⟨S32x8x4x64x128, .f32⟩
  | 60 => ⟨S32x8x4x64x256, .f32⟩
  | 61 => ⟨S_, .f32⟩
  | 62 => ⟨S32x8x4x64x256, .f32⟩
  | 63 => ⟨S_, .i32⟩
  | 64 => ⟨S32x8x4x128, .f32⟩
  | 65 => ⟨S32x8x4x128x256, .f32⟩
  | 66 => ⟨S32x8x4x64x128, .f32⟩
  | 67 => ⟨S32x8x4x64x256, .f32⟩
  | 68 => ⟨S_, .i32⟩
  | 69 => ⟨S8x4x128x256, .f32⟩
  | 70 => ⟨S32x8x4x64x256, .f32⟩
  | 71 => ⟨S_, .i32⟩
  | 72 => ⟨S_, .i1⟩
  | 73 => ⟨S_, .i32⟩
  | 74 => ⟨S_, .i32⟩
  | 75 => ⟨S_, .i32⟩
  | 76 => ⟨S1x8x4x128, .f32⟩
  | 77 => ⟨S8x4x128, .f32⟩
  | 78 => ⟨S_, .i32⟩
  | 79 => ⟨S_, .i32⟩
  | 80 => ⟨S_, .i32⟩
  | 81 => ⟨S_, .i32⟩
  | 82 => ⟨S1x8x4x128x256, .f32⟩
  | 83 => ⟨S8x4x128x256, .f32⟩
  | 84 => ⟨S_, .i32⟩
  | 85 => ⟨S_, .i32⟩
  | 86 => ⟨S_, .i32⟩
  | 87 => ⟨S_, .i32⟩
  | 88 => ⟨S1x8x4x64x128, .f32⟩
  | 89 => ⟨S8x4x64x128, .f32⟩
  | 90 => ⟨S_, .i32⟩
  | 91 => ⟨S_, .i32⟩
  | 92 => ⟨S_, .i32⟩
  | 93 => ⟨S_, .i32⟩
  | 94 => ⟨S1x8x4x64x256, .f32⟩
  | 95 => ⟨S8x4x64x256, .f32⟩
  | 96 => ⟨S8x4x64x256, .f32⟩
  | 97 => ⟨S8x4x64x256, .f32⟩
  | 98 => ⟨S8x4x128x1, .f32⟩
  | 99 => ⟨S8x4x128x256, .f32⟩
  | 100 => ⟨S8x4x128x256, .f32⟩
  | 101 => ⟨S8x4x128x256, .f32⟩
  | 102 => ⟨S1x8x4x64x256, .f32⟩
  | 103 => ⟨S_, .i32⟩
  | 104 => ⟨S_, .i32⟩
  | 105 => ⟨S_, .i32⟩
  | 106 => ⟨S_, .i32⟩
  | 107 => ⟨S32x8x4x64x256, .f32⟩
  | 108 => ⟨S_, .i32⟩
  | 109 => ⟨S_, .i32⟩
  | 110 => ⟨S256, .f32⟩
  | 111 => ⟨S32x8x4x64x256, .f32⟩
  | 112 => ⟨S_, .f32⟩
  | 113 => ⟨S32x8x4x64, .f32⟩
  | 114 => ⟨S32x8x4x64x1, .f32⟩
  | 115 => ⟨S_, .f32⟩
  | 116 => ⟨S32x8x4x64x1, .f32⟩
  | 117 => ⟨S32x8x4x64x1, .f32⟩
  | 118 => ⟨S_, .f32⟩
  | 119 => ⟨S32x8x4x64x1, .f32⟩
  | 120 => ⟨S32x8x4x64x1, .f32⟩
  | 121 => ⟨S32x8x4x64x1, .f32⟩
  | 122 => ⟨S32x8x4x64x256, .f32⟩
  | 123 => ⟨S32x8x4x64x256, .f32⟩
  | 124 => ⟨S1x1x1x1x256, .f32⟩
  | 125 => ⟨S32x8x4x64x256, .f32⟩
  | 126 => ⟨S32x8x4x64x256, .f32⟩
  | 127 => ⟨S8x32x64x4x256, .f32⟩
  | _ => ⟨S8x2048x512, .bf16⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S_, .f32⟩
  | 5 => ⟨S8x2048x1024, .f32⟩
  | 6 => ⟨S8x2048x1024, .f32⟩
  | 7 => ⟨S_, .f32⟩
  | 8 => ⟨S8x2048x1024, .f32⟩
  | 9 => ⟨S8x2048x1024, .f32⟩
  | 10 => ⟨S8x2048x1024, .f32⟩
  | 11 => ⟨S8x2048x1024, .f32⟩
  | 12 => ⟨S8x2048x1024, .bf16⟩
  | _ => ⟨S8x2048x512, .bf16⟩

abbrev hbmTy (i : Nat) : BufTy := match i / 128 with
  | 0 => hbmTy0_0 i
  | 1 => hbmTy0_1 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_c_3 : Ref sig .tc := ⟨.hbm, 63, rfl⟩
abbrev main_v39_0 : Ref sig .tc := ⟨.hbm, 64, rfl⟩
abbrev main_v39_1 : Ref sig .tc := ⟨.hbm, 65, rfl⟩
abbrev main_v39_2 : Ref sig .tc := ⟨.hbm, 66, rfl⟩
abbrev main_v39_3 : Ref sig .tc := ⟨.hbm, 67, rfl⟩
abbrev main_v39_4 : Ref sig .tc := ⟨.hbm, 68, rfl⟩
abbrev main_v39_5 : Ref sig .tc := ⟨.hbm, 69, rfl⟩
abbrev main_v39_6 : Ref sig .tc := ⟨.hbm, 70, rfl⟩
abbrev main_while0c_c_13 : Ref sig .tc := ⟨.hbm, 71, rfl⟩
abbrev main_while0c_v60 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_v0 : Ref sig .tc := ⟨.hbm, 76, rfl⟩
abbrev main_while0b_v60 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_c_2 : Ref sig .tc := ⟨.hbm, 81, rfl⟩
abbrev main_while0b_call4_v0 : Ref sig .tc := ⟨.hbm, 82, rfl⟩
abbrev main_while0b_v61 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_c_2 : Ref sig .tc := ⟨.hbm, 87, rfl⟩
abbrev main_while0b_call5_v0 : Ref sig .tc := ⟨.hbm, 88, rfl⟩
abbrev main_while0b_v62 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_c_2 : Ref sig .tc := ⟨.hbm, 93, rfl⟩
abbrev main_while0b_call6_v0 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_call7_v0 : Ref sig .tc := ⟨.hbm, 102, rfl⟩
abbrev main_while0b_call7_c : Ref sig .tc := ⟨.hbm, 103, rfl⟩
abbrev main_while0b_call7_c_0 : Ref sig .tc := ⟨.hbm, 104, rfl⟩
abbrev main_while0b_call7_c_1 : Ref sig .tc := ⟨.hbm, 105, rfl⟩
abbrev main_while0b_call7_c_2 : Ref sig .tc := ⟨.hbm, 106, rfl⟩
abbrev main_while0b_v70 : Ref sig .tc := ⟨.hbm, 107, rfl⟩
abbrev main_while0b_c_13 : Ref sig .tc := ⟨.hbm, 108, rfl⟩
abbrev main_while0b_v71 : Ref sig .tc := ⟨.hbm, 109, rfl⟩
abbrev main_v40 : Ref sig .tc := ⟨.hbm, 110, rfl⟩
abbrev main_v41 : Ref sig .tc := ⟨.hbm, 111, rfl⟩
abbrev main_cst_4 : Ref sig .tc := ⟨.hbm, 112, rfl⟩
abbrev main_v42 : Ref sig .tc := ⟨.hbm, 113, rfl⟩
abbrev main_v43 : Ref sig .tc := ⟨.hbm, 114, rfl⟩
abbrev main_cst_5 : Ref sig .tc := ⟨.hbm, 115, rfl⟩
abbrev main_v44 : Ref sig .tc := ⟨.hbm, 116, rfl⟩
abbrev main_v45 : Ref sig .tc := ⟨.hbm, 117, rfl⟩
abbrev main_cst_6 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_call8_v0 : Ref sig .tc := ⟨.hbm, 130, rfl⟩
abbrev main_call8_v1 : Ref sig .tc := ⟨.hbm, 131, rfl⟩
abbrev main_call8_cst : Ref sig .tc := ⟨.hbm, 132, rfl⟩
abbrev main_call8_v2 : Ref sig .tc := ⟨.hbm, 133, rfl⟩
abbrev main_call8_v3 : Ref sig .tc := ⟨.hbm, 134, rfl⟩
abbrev main_call8_cst_0 : Ref sig .tc := ⟨.hbm, 135, rfl⟩
abbrev main_call8_v4 : Ref sig .tc := ⟨.hbm, 136, rfl⟩
abbrev main_call8_v5 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩

abbrev nD : Nat := 1
abbrev τ : Topo := Topo.v7x

variable {F : FTy → Type} [FloatOps F]

abbrev main_while0_count : Scf.Loop 32 := ⟨0#32, 32#32, 1#32⟩
-- ==== Experts.lean ====
abbrev S34816x1024 : Shape := ⟨2, ![34816, 1024]⟩
abbrev S34816x1 : Shape := ⟨2, ![34816, 1]⟩
abbrev S136 : Shape := ⟨1, ![136]⟩
abbrev S8x1024x3584 : Shape := ⟨3, ![8, 1024, 3584]⟩
abbrev S8x3584x1024 : Shape := ⟨3, ![8, 3584, 1024]⟩
abbrev S256x1024 : Shape := ⟨2, ![256, 1024]⟩
abbrev S256x1 : Shape := ⟨2, ![256, 1]⟩
abbrev S1x1024x3584 : Shape := ⟨3, ![1, 1024, 3584]⟩
abbrev S1 : Shape := ⟨1, ![1]⟩
abbrev S1x3584x1024 : Shape := ⟨3, ![1, 3584, 1024]⟩
abbrev S8x1024 : Shape := ⟨2, ![8, 1024]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩
abbrev S1x1024x768 : Shape := ⟨3, ![1, 1024, 768]⟩
abbrev S1024x768 : Shape := ⟨2, ![1024, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 6
  | .vmem => 13
  | .smem => 2
  | _ => 0

abbrev bufTy : (tb : Table) → Fin (tcTables nBuf tb) → BufTy
  | .hbm, ⟨0, _⟩ => ⟨S34816x1024, .bf16⟩
  | .hbm, ⟨1, _⟩ => ⟨S34816x1, .f32⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S34816x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x3584, .bf16⟩
  | .local _ .vmem, ⟨5, _⟩ => ⟨S1x1024x3584, .bf16⟩
  | .local _ .vmem, ⟨6, _⟩ => ⟨S1x1024x3584, .bf16⟩
  | .local _ .vmem, ⟨7, _⟩ => ⟨S1x1024x3584, .bf16⟩
  | .local _ .vmem, ⟨8, _⟩ => ⟨S1x3584x1024, .bf16⟩
  | .local _ .vmem, ⟨9, _⟩ => ⟨S1x3584x1024, .bf16⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .smem, ⟨0, _⟩ => ⟨S136, .i32⟩
  | .local _ .smem, ⟨1, _⟩ => ⟨S136, .i32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![136, 1], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) (v1 : BitVec 32) : BitVec 1 :=
  let c0_i32 : BitVec 32 := 0#32
  let v2 : BitVec 1 := Scalar.cmpi .sgt v1 c0_i32
  let v_true : BitVec 1 := 1#1
  let v5 : BitVec 1 := Scalar.xori v2 v_true
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c0_i32_1 : BitVec 32 := 0#32
  let c0_i32_2 : BitVec 32 := 0#32
  ![v1.toNat, c0_i32_1.toNat, v5.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c0_i32_1 : BitVec 32 := 0#32
  let c0_i32_2 : BitVec 32 := 0#32
  ![v1.toNat, c0_i32_1.toNat, v5.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c0_i32 : BitVec 32 := 0#32
  let v4 : BitVec 1 := Scalar.cmpi .sgt v3 c0_i32
  let c0_i32_0 : BitVec 32 := 0#32
  let v5 : BitVec 32 := Scalar.select v4 arg1 c0_i32_0
  let c0_i32_1 : BitVec 32 := 0#32
  let c0_i32_2 : BitVec 32 := 0#32
  ![v1.toNat, v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3584x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsRefIdeal.lean ====
abbrev S34816x1024 : Shape := ⟨2, ![34816, 1024]⟩
abbrev S34816x1 : Shape := ⟨2, ![34816, 1]⟩
abbrev S136 : Shape := ⟨1, ![136]⟩
abbrev S8x1024x3584 : Shape := ⟨3, ![8, 1024, 3584]⟩
abbrev S8x3584x1024 : Shape := ⟨3, ![8, 3584, 1024]⟩
abbrev S136x1 : Shape := ⟨2, ![136, 1]⟩
abbrev S136x256 : Shape := ⟨2, ![136, 256]⟩
abbrev S_ : Shape := ⟨0, ![]⟩
abbrev S8 : Shape := ⟨1, ![8]⟩
abbrev S1x8 : Shape := ⟨2, ![1, 8]⟩
abbrev S34816x8 : Shape := ⟨2, ![34816, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S34816x3584 : Shape := ⟨2, ![34816, 3584]⟩

abbrev nBuf : Space → Nat
  | .hbm => 219
  | .vmem => 0
  | .smem => 0
  | _ => 0

abbrev hbmTy0_0 (i : Nat) : BufTy := match i % 128 with
  | 0 => ⟨S34816x1024, .bf16⟩
  | 1 => ⟨S34816x1, .f32⟩
  | 2 => ⟨S136, .i32⟩
  | 3 => ⟨S136, .i32⟩
  | 4 => ⟨S8x1024x3584, .bf16⟩
  | 5 => ⟨S8x1024x3584, .bf16⟩
  | 6 => ⟨S8x3584x1024, .bf16⟩
  | 7 => ⟨S34816x1024, .f32⟩
  | 8 => ⟨S8x1024x3584, .f32⟩
  | 9 => ⟨S8x1024x3584, .f32⟩
  | 10 => ⟨S8x3584x1024, .f32⟩
  | 11 => ⟨S136x1, .i32⟩
  | 12 => ⟨S136x256, .i32⟩
  | 13 => ⟨S34816x1, .i32⟩
  | 14 => ⟨S136x1, .i32⟩
  | 15 => ⟨S_, .i32⟩
  | 16 => ⟨S136x1, .i32⟩
  | 17 => ⟨S136x1, .i1⟩
  | 18 => ⟨S136x256, .i1⟩
  | 19 => ⟨S34816x1, .i1⟩
  | 20 => ⟨S8, .i32⟩
  | 21 => ⟨S1x8, .i32⟩
  | 22 => ⟨S34816x8, .i32⟩
  | 23 => ⟨S34816x8, .i32⟩
  | 24 => ⟨S34816x8, .i1⟩
  | 25 => ⟨S34816x8, .i1⟩
  | 26 => ⟨S34816x8, .i1⟩
  | 27 => ⟨S_, .f32⟩
  | 28 => ⟨S_, .f32⟩
  | 29 => ⟨S34816x8, .f32⟩
  | 30 => ⟨S34816x8, .f32⟩
  | 31 => ⟨S34816x8, .f32⟩
  | 32 => ⟨S_, .f32⟩
  | 33 => ⟨S34816x1024, .f32⟩
  | 34 => ⟨S34816x1, .f32⟩
  | 35 => ⟨S1x1024x3584, .f32⟩
  | 36 => ⟨S1024x3584, .f32⟩
  | 37 => ⟨S1x1024x3584, .f32⟩
  | 38 => ⟨S1024x3584, .f32⟩
  | 39 => ⟨S1x3584x1024, .f32⟩
  | 40 => ⟨S3584x1024, .f32⟩
  | 41 => ⟨S34816x3584, .f32⟩
  | 42 => ⟨S34816x3584, .f32⟩
  | 43 => ⟨S34816x3584, .f32⟩
  | 44 => ⟨S_, .f32⟩
  | 45 => ⟨S34816x3584, .f32⟩
  | 46 => ⟨S34816x3584, .f32⟩
  | 47 => ⟨S_, .f32⟩
  | 48 => ⟨S34816x3584, .f32⟩
  | 49 => ⟨S34816x3584, .f32⟩
  | 50 => ⟨S34816x3584, .f32⟩
  | 51 => ⟨S34816x3584, .f32⟩
  | 52 => ⟨S34816x3584, .f32⟩
  | 53 => ⟨S34816x1024, .f32⟩
  | 54 => ⟨S34816x1024, .f32⟩
  | 55 => ⟨S34816x1024, .f32⟩
  | 56 => ⟨S34816x1024, .f32⟩
  | 57 => ⟨S34816x1, .f32⟩
  | 58 => ⟨S1x1024x3584, .f32⟩
  | 59 => ⟨S1024x3584, .f32⟩
  | 60 => ⟨S1x1024x3584, .f32⟩
  | 61 => ⟨S1024x3584, .f32⟩
  | 62 => ⟨S1x3584x1024, .f32⟩
  | 63 => ⟨S3584x1024, .f32⟩
  | 64 => ⟨S34816x3584, .f32⟩
  | 65 => ⟨S34816x3584, .f32⟩
  | 66 => ⟨S34816x3584, .f32⟩
  | 67 => ⟨S_, .f32⟩
  | 68 => ⟨S34816x3584, .f32⟩
  | 69 => ⟨S34816x3584, .f32⟩
  | 70 => ⟨S_, .f32⟩
  | 71 => ⟨S34816x3584, .f32⟩
  | 72 => ⟨S34816x3584, .f32⟩
  | 73 => ⟨S34816x3584, .f32⟩
  | 74 => ⟨S34816x3584, .f32⟩
  | 75 => ⟨S34816x3584, .f32⟩
  | 76 => ⟨S34816x1024, .f32⟩
  | 77 => ⟨S34816x1024, .f32⟩
  | 78 => ⟨S34816x1024, .f32⟩
  | 79 => ⟨S34816x1024, .f32⟩
  | 80 => ⟨S34816x1, .f32⟩
  | 81 => ⟨S1x1024x3584, .f32⟩
  | 82 => ⟨S1024x3584, .f32⟩
  | 83 => ⟨S1x1024x3584, .f32⟩
  | 84 => ⟨S1024x3584, .f32⟩
  | 85 => ⟨S1x3584x1024, .f32⟩
  | 86 => ⟨S3584x1024, .f32⟩
  | 87 => ⟨S34816x3584, .f32⟩
  | 88 => ⟨S34816x3584, .f32⟩
  | 89 => ⟨S34816x3584, .f32⟩
  | 90 => ⟨S_, .f32⟩
  | 91 => ⟨S34816x3584, .f32⟩
  | 92 => ⟨S34816x3584, .f32⟩
  | 93 => ⟨S_, .f32⟩
  | 94 => ⟨S34816x3584, .f32⟩
  | 95 => ⟨S34816x3584, .f32⟩
  | 96 => ⟨S34816x3584, .f32⟩
  | 97 => ⟨S34816x3584, .f32⟩
  | 98 => ⟨S34816x3584, .f32⟩
  | 99 => ⟨S34816x1024, .f32⟩
  | 100 => ⟨S34816x1024, .f32⟩
  | 101 => ⟨S34816x1024, .f32⟩
  | 102 => ⟨S34816x1024, .f32⟩
  | 103 => ⟨S34816x1, .f32⟩
  | 104 => ⟨S1x1024x3584, .f32⟩
  | 105 => ⟨S1024x3584, .f32⟩
  | 106 => ⟨S1x1024x3584, .f32⟩
  | 107 => ⟨S1024x3584, .f32⟩
  | 108 => ⟨S1x3584x1024, .f32⟩
  | 109 => ⟨S3584x1024, .f32⟩
  | 110 => ⟨S34816x3584, .f32⟩
  | 111 => ⟨S34816x3584, .f32⟩
  | 112 => ⟨S34816x3584, .f32⟩
  | 113 => ⟨S_, .f32⟩
  | 114 => ⟨S34816x3584, .f32⟩
  | 115 => ⟨S34816x3584, .f32⟩
  | 116 => ⟨S_, .f32⟩
  | 117 => ⟨S34816x3584, .f32⟩
  | 118 => ⟨S34816x3584, .f32⟩
  | 119 => ⟨S34816x3584, .f32⟩
  | 120 => ⟨S34816x3584, .f32⟩
  | 121 => ⟨S34816x3584, .f32⟩
  | 122 => ⟨S34816x1024, .f32⟩
  | 123 => ⟨S34816x1024, .f32⟩
  | 124 => ⟨S34816x1024, .f32⟩
  | 125 => ⟨S34816x1024, .f32⟩
  | 126 => ⟨S34816x1, .f32⟩
  | 127 => ⟨S1x1024x3584, .f32⟩
  | _ => ⟨S34816x1024, .bf16⟩

abbrev hbmTy0_1 (i : Nat) : BufTy := match i % 128 with
  | 0 => ⟨S1024x3584, .f32⟩
  | 1 => ⟨S1x1024x3584, .f32⟩
  | 2 => ⟨S1024x3584, .f32⟩
  | 3 => ⟨S1x3584x1024, .f32⟩
  | 4 => ⟨S3584x1024, .f32⟩
  | 5 => ⟨S34816x3584, .f32⟩
  | 6 => ⟨S34816x3584, .f32⟩
  | 7 => ⟨S34816x3584, .f32⟩
  | 8 => ⟨S_, .f32⟩
  | 9 => ⟨S34816x3584, .f32⟩
  | 10 => ⟨S34816x3584, .f32⟩
  | 11 => ⟨S_, .f32⟩
  | 12 => ⟨S34816x3584, .f32⟩
  | 13 => ⟨S34816x3584, .f32⟩
  | 14 => ⟨S34816x3584, .f32⟩
  | 15 => ⟨S34816x3584, .f32⟩
  | 16 => ⟨S34816x3584, .f32⟩
  | 17 => ⟨S34816x1024, .f32⟩
  | 18 => ⟨S34816x1024, .f32⟩
  | 19 => ⟨S34816x1024, .f32⟩
  | 20 => ⟨S34816x1024, .f32⟩
  | 21 => ⟨S34816x1, .f32⟩
  | 22 => ⟨S1x1024x3584, .f32⟩
  | 23 => ⟨S1024x3584, .f32⟩
  | 24 => ⟨S1x1024x3584, .f32⟩
  | 25 => ⟨S1024x3584, .f32⟩
  | 26 => ⟨S1x3584x1024, .f32⟩
  | 27 => ⟨S3584x1024, .f32⟩
  | 28 => ⟨S34816x3584, .f32⟩
  | 29 => ⟨S34816x3584, .f32⟩
  | 30 => ⟨S34816x3584, .f32⟩
  | 31 => ⟨S_, .f32⟩
  | 32 => ⟨S34816x3584, .f32⟩
  | 33 => ⟨S34816x3584, .f32⟩
  | 34 => ⟨S_, .f32⟩
  | 35 => ⟨S34816x3584, .f32⟩
  | 36 => ⟨S34816x3584, .f32⟩
  | 37 => ⟨S34816x3584, .f32⟩
  | 38 => ⟨S34816x3584, .f32⟩
  | 39 => ⟨S34816x3584, .f32⟩
  | 40 => ⟨S34816x1024, .f32⟩
  | 41 => ⟨S34816x1024, .f32⟩
  | 42 => ⟨S34816x1024, .f32⟩
  | 43 => ⟨S34816x1024, .f32⟩
  | 44 => ⟨S34816x1, .f32⟩
  | 45 => ⟨S1x1024x3584, .f32⟩
  | 46 => ⟨S1024x3584, .f32⟩
  | 47 => ⟨S1x1024x3584, .f32⟩
  | 48 => ⟨S1024x3584, .f32⟩
  | 49 => ⟨S1x3584x1024, .f32⟩
  | 50 => ⟨S3584x1024, .f32⟩
  | 51 => ⟨S34816x3584, .f32⟩
  | 52 => ⟨S34816x3584, .f32⟩
  | 53 => ⟨S34816x3584, .f32⟩
  | 54 => ⟨S_, .f32⟩
  | 55 => ⟨S34816x3584, .f32⟩
  | 56 => ⟨S34816x3584, .f32⟩
  | 57 => ⟨S_, .f32⟩
  | 58 => ⟨S34816x3584, .f32⟩
  | 59 => ⟨S34816x3584, .f32⟩
  | 60 => ⟨S34816x3584, .f32⟩
  | 61 => ⟨S34816x3584, .f32⟩
  | 62 => ⟨S34816x3584, .f32⟩
  | 63 => ⟨S34816x1024, .f32⟩
  | 64 => ⟨S34816x1024, .f32⟩
  | 65 => ⟨S34816x1024, .f32⟩
  | 66 => ⟨S34816x1024, .f32⟩
  | 67 => ⟨S34816x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S34816x3584, .f32⟩
  | 75 => ⟨S34816x3584, .f32⟩
  | 76 => ⟨S34816x3584, .f32⟩
  | 77 => ⟨S_, .f32⟩
  | 78 => ⟨S34816x3584, .f32⟩
  | 79 => ⟨S34816x3584, .f32⟩
  | 80 => ⟨S_, .f32⟩
  | 81 => ⟨S34816x3584, .f32⟩
  | 82 => ⟨S34816x3584, .f32⟩
  | 83 => ⟨S34816x3584, .f32⟩
  | 84 => ⟨S34816x3584, .f32⟩
  | 85 => ⟨S34816x3584, .f32⟩
  | 86 => ⟨S34816x1024, .f32⟩
  | 87 => ⟨S34816x1024, .f32⟩
  | 88 => ⟨S34816x1024, .f32⟩
  | 89 => ⟨S34816x1024, .f32⟩
  | 90 => ⟨S34816x1024, .bf16⟩
  | _ => ⟨S34816x1024, .bf16⟩

abbrev hbmTy (i : Nat) : BufTy := match i / 128 with
  | 0 => hbmTy0_0 i
  | 1 => hbmTy0_1 i
  | _ => ⟨S34816x1024, .bf16⟩

abbrev bufTy : (tb : Table) → Fin (tcTables nBuf tb) → BufTy
  | .hbm, ⟨i, _⟩ => hbmTy i
  | _, _ => ⟨S34816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call4_v0 : Ref sig .tc := ⟨.hbm, 111, rfl⟩
abbrev main_call4_v1 : Ref sig .tc := ⟨.hbm, 112, rfl⟩
abbrev main_call4_cst : Ref sig .tc := ⟨.hbm, 113, rfl⟩
abbrev main_call4_v2 : Ref sig .tc := ⟨.hbm, 114, rfl⟩
abbrev main_call4_v3 : Ref sig .tc := ⟨.hbm, 115, rfl⟩
abbrev main_call4_cst_0 : Ref sig .tc := ⟨.hbm, 116, rfl⟩
abbrev main_call4_v4 : Ref sig .tc := ⟨.hbm, 117, rfl⟩
abbrev main_call4_v5 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_call6_v0 : Ref sig .tc := ⟨.hbm, 157, rfl⟩
abbrev main_call6_v1 : Ref sig .tc := ⟨.hbm, 158, rfl⟩
abbrev main_call6_cst : Ref sig .tc := ⟨.hbm, 159, rfl⟩
abbrev main_call6_v2 : Ref sig .tc := ⟨.hbm, 160, rfl⟩
abbrev main_call6_v3 : Ref sig .tc := ⟨.hbm, 161, rfl⟩
abbrev main_call6_cst_0 : Ref sig .tc := ⟨.hbm, 162, rfl⟩
abbrev main_call6_v4 : Ref sig .tc := ⟨.hbm, 163, rfl⟩
abbrev main_call6_v5 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_call7_v0 : Ref sig .tc := ⟨.hbm, 180, rfl⟩
abbrev main_call7_v1 : Ref sig .tc := ⟨.hbm, 181, rfl⟩
abbrev main_call7_cst : Ref sig .tc := ⟨.hbm, 182, rfl⟩
abbrev main_call7_v2 : Ref sig .tc := ⟨.hbm, 183, rfl⟩
abbrev main_call7_v3 : Ref sig .tc := ⟨.hbm, 184, rfl⟩
abbrev main_call7_cst_0 : Ref sig .tc := ⟨.hbm, 185, rfl⟩
abbrev main_call7_v4 : Ref sig .tc := ⟨.hbm, 186, rfl⟩
abbrev main_call7_v5 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_call8_v0 : Ref sig .tc := ⟨.hbm, 203, rfl⟩
abbrev main_call8_v1 : Ref sig .tc := ⟨.hbm, 204, rfl⟩
abbrev main_call8_cst : Ref sig .tc := ⟨.hbm, 205, rfl⟩
abbrev main_call8_v2 : Ref sig .tc := ⟨.hbm, 206, rfl⟩
abbrev main_call8_v3 : Ref sig .tc := ⟨.hbm, 207, rfl⟩
abbrev main_call8_cst_0 : Ref sig .tc := ⟨.hbm, 208, rfl⟩
abbrev main_call8_v4 : Ref sig .tc := ⟨.hbm, 209, rfl⟩
abbrev main_call8_v5 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩

abbrev nD : Nat := 1
abbrev τ : Topo := Topo.v7x

variable {F : FTy → Type} [FloatOps F]
-- ==== Ffn.lean ====
abbrev S8x2048x1024 : Shape := ⟨3, ![8, 2048, 1024]⟩
abbrev S1024x1024 : Shape := ⟨2, ![1024, 1024]⟩
abbrev S1x1024 : Shape := ⟨2, ![1, 1024]⟩
abbrev S1024x3584 : Shape := ⟨2, ![1024, 3584]⟩
abbrev S3584x1024 : Shape := ⟨2, ![3584, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 14
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1x1024, .f32⟩
  | .hbm, ⟨4, _⟩ => ⟨S1024x3584, .f32⟩
  | .hbm, ⟨5, _⟩ => ⟨S1024x3584, .f32⟩
  | .hbm, ⟨6, _⟩ => ⟨S3584x1024, .f32⟩
  | .hbm, ⟨7, _⟩ => ⟨S16384x1024, .f32⟩
  | .hbm, ⟨8, _⟩ => ⟨S16384x1024, .bf16⟩
  | .hbm, ⟨9, _⟩ => ⟨S1024x1024, .bf16⟩
  | .hbm, ⟨10, _⟩ => ⟨S1024x3584, .bf16⟩
  | .hbm, ⟨11, _⟩ => ⟨S1024x3584, .bf16⟩
  | .hbm, ⟨12, _⟩ => ⟨S3584x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x3584, .bf16⟩
  | .local _ .vmem, ⟨7, _⟩ => ⟨S1024x3584, .bf16⟩
  | .local _ .vmem, ⟨8, _⟩ => ⟨S3584x1024, .bf16⟩
  | .local _ .vmem, ⟨9, _⟩ => ⟨S512x1024, .f32⟩
  | .local _ .vmem, ⟨10, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3584x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S8x2048x1024 : Shape := ⟨3, ![8, 2048, 1024]⟩
abbrev S1024x1024 : Shape := ⟨2, ![1024, 1024]⟩
abbrev S1x1024 : Shape := ⟨2, ![1, 1024]⟩
abbrev S1024x3584 : Shape := ⟨2, ![1024, 3584]⟩
abbrev S3584x1024 : Shape := ⟨2, ![3584, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3584 : Shape := ⟨3, ![8, 2048, 3584]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1x1024, .f32⟩
  | .hbm, ⟨4, _⟩ => ⟨S1024x3584, .f32⟩
  | .hbm, ⟨5, _⟩ => ⟨S1024x3584, .f32⟩
  | .hbm, ⟨6, _⟩ => ⟨S3584x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x3584, .f32⟩
  | .hbm, ⟨28, _⟩ => ⟨S8x2048x3584, .f32⟩
  | .hbm, ⟨29, _⟩ => ⟨S8x2048x3584, .f32⟩
  | .hbm, ⟨30, _⟩ => ⟨S_, .f32⟩
  | .hbm, ⟨31, _⟩ => ⟨S8x2048x3584, .f32⟩
  | .hbm, ⟨32, _⟩ => ⟨S8x2048x3584, .f32⟩
  | .hbm, ⟨33, _⟩ => ⟨S_, .f32⟩
  | .hbm, ⟨34, _⟩ => ⟨S8x2048x3584, .f32⟩
  | .hbm, ⟨35, _⟩ => ⟨S8x2048x3584, .f32⟩
  | .hbm, ⟨36, _⟩ => ⟨S8x2048x3584, .f32⟩
  | .hbm, ⟨37, _⟩ => ⟨S8x2048x3584, .f32⟩
  | .hbm, ⟨38, _⟩ => ⟨S8x2048x3584, .f32⟩
  | .hbm, ⟨39, _⟩ => ⟨S8x2048x1024, .f32⟩
  | .hbm, ⟨40, _⟩ => ⟨S8x2048x1024, .f32⟩
  | .hbm, ⟨41, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Qkv.lean ====
abbrev S8x2048x1024 : Shape := ⟨3, ![8, 2048, 1024]⟩
abbrev S1x1024 : Shape := ⟨2, ![1, 1024]⟩
abbrev S1024x3072 : Shape := ⟨2, ![1024, 3072]⟩
abbrev S1x128 : Shape := ⟨2, ![1, 128]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 10
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x3072, .f32⟩
  | .hbm, ⟨3, _⟩ => ⟨S1x128, .f32⟩
  | .hbm, ⟨4, _⟩ => ⟨S1x128, .f32⟩
  | .hbm, ⟨5, _⟩ => ⟨S16384x1024, .f32⟩
  | .hbm, ⟨6, _⟩ => ⟨S1024x3072, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S8x2048x1024 : Shape := ⟨3, ![8, 2048, 1024]⟩
abbrev S1x1024 : Shape := ⟨2, ![1, 1024]⟩
abbrev S1024x3072 : Shape := ⟨2, ![1024, 3072]⟩
abbrev S1x128 : Shape := ⟨2, ![1, 128]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x8x128 : Shape := ⟨4, ![8, 2048, 8, 128]⟩
abbrev S128 : Shape := ⟨1, ![128]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x3072, .f32⟩
  | .hbm, ⟨3, _⟩ => ⟨S1x128, .f32⟩
  | .hbm, ⟨4, _⟩ => ⟨S1x128, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x3072, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x8x128, .f32⟩
  | .hbm, ⟨27, _⟩ => ⟨S128, .f32⟩
  | .hbm, ⟨28, _⟩ => ⟨S8x2048x8x128, .f32⟩
  | .hbm, ⟨29, _⟩ => ⟨S_, .f32⟩
  | .hbm, ⟨30, _⟩ => ⟨S8x2048x8, .f32⟩
  | .hbm, ⟨31, _⟩ => ⟨S8x2048x8x1, .f32⟩
  | .hbm, ⟨32, _⟩ => ⟨S_, .f32⟩
  | .hbm, ⟨33, _⟩ => ⟨S8x2048x8x1, .f32⟩
  | .hbm, ⟨34, _⟩ => ⟨S8x2048x8x1, .f32⟩
  | .hbm, ⟨35, _⟩ => ⟨S_, .f32⟩
  | .hbm, ⟨36, _⟩ => ⟨S8x2048x8x1, .f32⟩
  | .hbm, ⟨37, _⟩ => ⟨S8x2048x8x1, .f32⟩
  | .hbm, ⟨38, _⟩ => ⟨S8x2048x8x1, .f32⟩
  | .hbm, ⟨39, _⟩ => ⟨S8x2048x8x128, .f32⟩
  | .hbm, ⟨40, _⟩ => ⟨S8x2048x8x128, .f32⟩
  | .hbm, ⟨41, _⟩ => ⟨S1x1x1x128, .f32⟩
  | .hbm, ⟨42, _⟩ => ⟨S8x2048x8x128, .f32⟩
  | .hbm, ⟨43, _⟩ => ⟨S8x2048x8x128, .f32⟩
  | .hbm, ⟨44, _⟩ => ⟨S_, .f32⟩
  | .hbm, ⟨45, _⟩ => ⟨S8x2048x8x128, .f32⟩
  | .hbm, ⟨46, _⟩ => ⟨S8x2048x8x128, .f32⟩
  | .hbm, ⟨47, _⟩ => ⟨S8x2048x8x128, .f32⟩
  | .hbm, ⟨48, _⟩ => ⟨S128, .f32⟩
  | .hbm, ⟨49, _⟩ => ⟨S8x2048x8x128, .f32⟩
  | .hbm, ⟨50, _⟩ => ⟨S_, .f32⟩
  | .hbm, ⟨51, _⟩ => ⟨S8x2048x8, .f32⟩
  | .hbm, ⟨52, _⟩ => ⟨S8x2048x8x1, .f32⟩
  | .hbm, ⟨53, _⟩ => ⟨S_, .f32⟩
  | .hbm, ⟨54, _⟩ => ⟨S8x2048x8x1, .f32⟩
  | .hbm, ⟨55, _⟩ => ⟨S8x2048x8x1, .f32⟩
  | .hbm, ⟨56, _⟩ => ⟨S_, .f32⟩
  | .hbm, ⟨57, _⟩ => ⟨S8x2048x8x1, .f32⟩
  | .hbm, ⟨58, _⟩ => ⟨S8x2048x8x1, .f32⟩
  | .hbm, ⟨59, _⟩ => ⟨S8x2048x8x1, .f32⟩
  | .hbm, ⟨60, _⟩ => ⟨S8x2048x8x128, .f32⟩
  | .hbm, ⟨61, _⟩ => ⟨S8x2048x8x128, .f32⟩
  | .hbm, ⟨62, _⟩ => ⟨S1x1x1x128, .f32⟩
  | .hbm, ⟨63, _⟩ => ⟨S8x2048x8x128, .f32⟩
  | .hbm, ⟨64, _⟩ => ⟨S8x2048x8x128, .f32⟩
  | .hbm, ⟨65, _⟩ => ⟨S16384x1024, .f32⟩
  | .hbm, ⟨66, _⟩ => ⟨S16384x1024, .bf16⟩
  | .hbm, ⟨67, _⟩ => ⟨S16384x1024, .f32⟩
  | .hbm, ⟨68, _⟩ => ⟨S16384x1024, .bf16⟩
  | .hbm, ⟨69, _⟩ => ⟨S16384x1024, .f32⟩
  | .hbm, ⟨70, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Inproj.lean ====
abbrev S8x2048x1024 : Shape := ⟨3, ![8, 2048, 1024]⟩
abbrev S1x1024 : Shape := ⟨2, ![1, 1024]⟩
abbrev S1x1024x3088 : Shape := ⟨3, ![1, 1024, 3088]⟩
abbrev S1x16x512 : Shape := ⟨3, ![1, 16, 512]⟩
abbrev S1x512 : Shape := ⟨2, ![1, 512]⟩
abbrev S16384x1024 : Shape := ⟨2, ![16384, 1024]⟩
abbrev S16x512 : Shape := ⟨2, ![16, 512]⟩
abbrev S16384x512 : Shape := ⟨2, ![16384, 512]⟩
abbrev S512x1024 : Shape := ⟨2, ![512, 1024]⟩
abbrev S512x512 : Shape := ⟨2, ![512, 512]⟩
abbrev S1024x3088 : Shape := ⟨2, ![1024, 3088]⟩
abbrev S2x512x1024 : Shape := ⟨3, ![2, 512, 1024]⟩
abbrev S512 : Shape := ⟨1, ![512]⟩
abbrev S512x1 : Shape := ⟨2, ![512, 1]⟩
abbrev S1x512x1024 : Shape := ⟨3, ![1, 512, 1024]⟩
abbrev S1024x16 : Shape := ⟨2, ![1024, 16]⟩
abbrev S512x16 : Shape := ⟨2, ![512, 16]⟩
abbrev S512x48 : Shape := ⟨2, ![512, 48]⟩
abbrev S48x512 : Shape := ⟨2, ![48, 512]⟩
abbrev S1024x512 : Shape := ⟨2, ![1024, 512]⟩
abbrev S1024x1024 : Shape := ⟨2, ![1024, 1024]⟩

abbrev nBuf : Space → Nat
  | .hbm => 12
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S16384x1024, .f32⟩
  | .hbm, ⟨6, _⟩ => ⟨S16x512, .f32⟩
  | .hbm, ⟨7, _⟩ => ⟨S16384x512, .bf16⟩
  | .hbm, ⟨8, _⟩ => ⟨S16384x512, .bf16⟩
  | .hbm, ⟨9, _⟩ => ⟨S16384x1024, .bf16⟩
  | .hbm, ⟨10, _⟩ => ⟨S16384x1024, .bf16⟩
  | .hbm, ⟨11, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1024x3088, .f32⟩
  | .local _ .vmem, ⟨5, _⟩ => ⟨S16x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .f32⟩
  | .local _ .vmem, ⟨16, _⟩ => ⟨S512x512, .f32⟩
  | .local _ .vmem, ⟨17, _⟩ => ⟨S1024x3088, .bf16⟩
  | .local _ .vmem, ⟨18, _⟩ => ⟨S2x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3088 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S8x2048x1024 : Shape := ⟨3, ![8, 2048, 1024]⟩
abbrev S1x1024 : Shape := ⟨2, ![1, 1024]⟩
abbrev S1x1024x3088 : Shape := ⟨3, ![1, 1024, 3088]⟩
abbrev S1x16x512 : Shape := ⟨3, ![1, 16, 512]⟩
abbrev S1x512 : Shape := ⟨2, ![1, 512]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3088 : Shape := ⟨2, ![1024, 3088]⟩
abbrev S8x2048x3088 : Shape := ⟨3, ![8, 2048, 3088]⟩
abbrev S8x2048x512 : Shape := ⟨3, ![8, 2048, 512]⟩
abbrev S8x2048x16 : Shape := ⟨3, ![8, 2048, 16]⟩
abbrev S16x512 : Shape := ⟨2, ![16, 512]⟩
abbrev S512 : Shape := ⟨1, ![512]⟩
abbrev S1x1x512 : Shape := ⟨3, ![1, 1, 512]⟩
abbrev S16384x512 : Shape := ⟨2, ![16384, 512]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x3088, .f32⟩
  | .hbm, ⟨23, _⟩ => ⟨S8x2048x3088, .f32⟩
  | .hbm, ⟨24, _⟩ => ⟨S8x2048x512, .f32⟩
  | .hbm, ⟨25, _⟩ => ⟨S8x2048x512, .f32⟩
  | .hbm, ⟨26, _⟩ => ⟨S8x2048x1024, .f32⟩
  | .hbm, ⟨27, _⟩ => ⟨S8x2048x1024, .f32⟩
  | .hbm, ⟨28, _⟩ => ⟨S8x2048x16, .f32⟩
  | .hbm, ⟨29, _⟩ => ⟨S16x512, .f32⟩
  | .hbm, ⟨30, _⟩ => ⟨S8x2048x512, .f32⟩
  | .hbm, ⟨31, _⟩ => ⟨S512, .f32⟩
  | .hbm, ⟨32, _⟩ => ⟨S1x1x512, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x512, .i1⟩
  | .hbm, ⟨42, _⟩ => ⟨S8x2048x512, .f32⟩
  | .hbm, ⟨43, _⟩ => ⟨S8x2048x512, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S8x2048x512, .f32⟩
  | .hbm, ⟨48, _⟩ => ⟨S8x2048x512, .f32⟩
  | .hbm, ⟨49, _⟩ => ⟨S8x2048x512, .f32⟩
  | .hbm, ⟨50, _⟩ => ⟨S8x2048x512, .f32⟩
  | .hbm, ⟨51, _⟩ => ⟨S_, .f32⟩
  | .hbm, ⟨52, _⟩ => ⟨S8x2048x512, .f32⟩
  | .hbm, ⟨53, _⟩ => ⟨S8x2048x512, .f32⟩
  | .hbm, ⟨54, _⟩ => ⟨S16384x512, .f32⟩
  | .hbm, ⟨55, _⟩ => ⟨S16384x512, .bf16⟩
  | .hbm, ⟨56, _⟩ => ⟨S16384x512, .f32⟩
  | .hbm, ⟨57, _⟩ => ⟨S16384x512, .bf16⟩
  | .hbm, ⟨58, _⟩ => ⟨S16384x1024, .f32⟩
  | .hbm, ⟨59, _⟩ => ⟨S16384x1024, .bf16⟩
  | .hbm, ⟨60, _⟩ => ⟨S16384x1024, .f32⟩
  | .hbm, ⟨61, _⟩ => ⟨S16384x1024, .bf16⟩
  | .hbm, ⟨62, _⟩ => ⟨S16384x512, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Router.lean ====
abbrev S8x2048x1024 : Shape := ⟨3, ![8, 2048, 1024]⟩
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S32x1024 : Shape := ⟨2, ![32, 1024]⟩
abbrev S16384x4 : Shape := ⟨2, ![16384, 4]⟩
abbrev S4x128x128 : Shape := ⟨3, ![4, 128, 128]⟩
abbrev S128x128 : Shape := ⟨2, ![128, 128]⟩
abbrev S1024x4 : Shape := ⟨2, ![1024, 4]⟩
abbrev S4x8x128 : Shape := ⟨3, ![4, 8, 128]⟩
abbrev S8x128 : Shape := ⟨2, ![8, 128]⟩
abbrev S16x128 : Shape := ⟨2, ![16, 128]⟩
abbrev S1024 : Shape := ⟨1, ![1024]⟩
abbrev S1024x1 : Shape := ⟨2, ![1024, 1]⟩
abbrev S8x16 : Shape := ⟨2, ![8, 16]⟩
abbrev S8x112 : Shape := ⟨2, ![8, 112]⟩
abbrev S16 : Shape := ⟨1, ![16]⟩
abbrev S16x1 : Shape := ⟨2, ![16, 1]⟩
abbrev S1x128 : Shape := ⟨2, ![1, 128]⟩
abbrev S1x1x128 : Shape := ⟨3, ![1, 1, 128]⟩
abbrev S124x1024 : Shape := ⟨2, ![124, 1024]⟩
abbrev S128x1024 : Shape := ⟨2, ![128, 1024]⟩
abbrev S1024x128 : Shape := ⟨2, ![1024, 128]⟩

abbrev nBuf : Space → Nat
  | .hbm => 25
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024x1024, .f32⟩
  | .hbm, ⟨3, _⟩ => ⟨S1x1024, .f32⟩
  | .hbm, ⟨4, _⟩ => ⟨S1024x8, .f32⟩
  | .hbm, ⟨5, _⟩ => ⟨S16384x1024, .f32⟩
  | .hbm, ⟨6, _⟩ => ⟨S1024x1024, .bf16⟩
  | .hbm, ⟨7, _⟩ => ⟨S8x1024, .f32⟩
  | .hbm, ⟨8, _⟩ => ⟨S8x1024, .bf16⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .bf16⟩
  | .hbm, ⟨13, _⟩ => ⟨S_, .i32⟩
  | .hbm, ⟨14, _⟩ => ⟨S_, .bf16⟩
  | .hbm, ⟨15, _⟩ => ⟨S16x1024, .bf16⟩
  | .hbm, ⟨16, _⟩ => ⟨S_, .i32⟩
  | .hbm, ⟨17, _⟩ => ⟨S_, .bf16⟩
  | .hbm, ⟨18, _⟩ => ⟨S16x1024, .bf16⟩
  | .hbm, ⟨19, _⟩ => ⟨S32x1024, .bf16⟩
  | .hbm, ⟨20, _⟩ => ⟨S16384x1024, .f32⟩
  | .hbm, ⟨21, _⟩ => ⟨S16384x1024, .bf16⟩
  | .hbm, ⟨22, _⟩ => ⟨S16384x4, .f32⟩
  | .hbm, ⟨23, _⟩ => ⟨S4x128x128, .f32⟩
  | .hbm, ⟨24, _⟩ => ⟨S128x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S32x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x4, .f32⟩
  | .local _ .vmem, ⟨12, _⟩ => ⟨S1024x4, .f32⟩
  | .local _ .vmem, ⟨13, _⟩ => ⟨S4x8x128, .f32⟩
  | .local _ .vmem, ⟨14, _⟩ => ⟨S4x8x128, .f32⟩
  | .local _ .vmem, ⟨15, _⟩ => ⟨S8x128, .f32⟩
  | .local _ .vmem, ⟨16, _⟩ => ⟨S8x128, .f32⟩
  | .local _ .vmem, ⟨17, _⟩ => ⟨S16x128, .f32⟩
  | .local _ .vmem, ⟨18, _⟩ => ⟨S128x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RouterRefIdeal.lean ====
abbrev S8x2048x1024 : Shape := ⟨3, ![8, 2048, 1024]⟩
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024x1024, .f32⟩
  | .hbm, ⟨3, _⟩ => ⟨S1x1024, .f32⟩
  | .hbm, ⟨4, _⟩ => ⟨S1024x8, .f32⟩
  | .hbm, ⟨5, _⟩ => ⟨S8x2048x1024, .bf16⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Routing.lean ====
abbrev S8x2048x1024 : Shape := ⟨3, ![8, 2048, 1024]⟩
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S32x1024 : Shape := ⟨2, ![32, 1024]⟩
abbrev S16384x4 : Shape := ⟨2, ![16384, 4]⟩
abbrev S4x128x128 : Shape := ⟨3, ![4, 128, 128]⟩
abbrev S128x128 : Shape := ⟨2, ![128, 128]⟩
abbrev S1024x4 : Shape := ⟨2, ![1024, 4]⟩
abbrev S4x8x128 : Shape := ⟨3, ![4, 8, 128]⟩
abbrev S8x128 : Shape := ⟨2, ![8, 128]⟩
abbrev S16x128 : Shape := ⟨2, ![16, 128]⟩
abbrev S1024 : Shape := ⟨1, ![1024]⟩
abbrev S1024x1 : Shape := ⟨2, ![1024, 1]⟩
abbrev S8x16 : Shape := ⟨2, ![8, 16]⟩
abbrev S8x112 : Shape := ⟨2, ![8, 112]⟩
abbrev S16 : Shape := ⟨1, ![16]⟩
abbrev S16x1 : Shape := ⟨2, ![16, 1]⟩
abbrev S1x128 : Shape := ⟨2, ![1, 128]⟩
abbrev S1x1x128 : Shape := ⟨3, ![1, 1, 128]⟩
abbrev S124x1024 : Shape := ⟨2, ![124, 1024]⟩
abbrev S128x1024 : Shape := ⟨2, ![128, 1024]⟩
abbrev S1024x128 : Shape := ⟨2, ![1024, 128]⟩

abbrev nBuf : Space → Nat
  | .hbm => 25
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024x1024, .f32⟩
  | .hbm, ⟨3, _⟩ => ⟨S1x1024, .f32⟩
  | .hbm, ⟨4, _⟩ => ⟨S1024x8, .f32⟩
  | .hbm, ⟨5, _⟩ => ⟨S16384x1024, .f32⟩
  | .hbm, ⟨6, _⟩ => ⟨S1024x1024, .bf16⟩
  | .hbm, ⟨7, _⟩ => ⟨S8x1024, .f32⟩
  | .hbm, ⟨8, _⟩ => ⟨S8x1024, .bf16⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .bf16⟩
  | .hbm, ⟨13, _⟩ => ⟨S_, .i32⟩
  | .hbm, ⟨14, _⟩ => ⟨S_, .bf16⟩
  | .hbm, ⟨15, _⟩ => ⟨S16x1024, .bf16⟩
  | .hbm, ⟨16, _⟩ => ⟨S_, .i32⟩
  | .hbm, ⟨17, _⟩ => ⟨S_, .bf16⟩
  | .hbm, ⟨18, _⟩ => ⟨S16x1024, .bf16⟩
  | .hbm, ⟨19, _⟩ => ⟨S32x1024, .bf16⟩
  | .hbm, ⟨20, _⟩ => ⟨S16384x1024, .f32⟩
  | .hbm, ⟨21, _⟩ => ⟨S16384x1024, .bf16⟩
  | .hbm, ⟨22, _⟩ => ⟨S16384x4, .f32⟩
  | .hbm, ⟨23, _⟩ => ⟨S4x128x128, .f32⟩
  | .hbm, ⟨24, _⟩ => ⟨S128x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S32x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x4, .f32⟩
  | .local _ .vmem, ⟨12, _⟩ => ⟨S1024x4, .f32⟩
  | .local _ .vmem, ⟨13, _⟩ => ⟨S4x8x128, .f32⟩
  | .local _ .vmem, ⟨14, _⟩ => ⟨S4x8x128, .f32⟩
  | .local _ .vmem, ⟨15, _⟩ => ⟨S8x128, .f32⟩
  | .local _ .vmem, ⟨16, _⟩ => ⟨S8x128, .f32⟩
  | .local _ .vmem, ⟨17, _⟩ => ⟨S16x128, .f32⟩
  | .local _ .vmem, ⟨18, _⟩ => ⟨S128x128, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RoutingRefIdeal.lean ====
abbrev S8x2048x1024 : Shape := ⟨3, ![8, 2048, 1024]⟩
abbrev S16384x1024 : Shape := ⟨2, ![16384, 1024]⟩
abbrev S1024x1024 : Shape := ⟨2, ![1024, 1024]⟩
abbrev S1x1024 : Shape := ⟨2, ![1, 1024]⟩
abbrev S1024x8 : Shape := ⟨2, ![1024, 8]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8 : Shape := ⟨3, ![8, 2048, 8]⟩
abbrev S8x2048x2 : Shape := ⟨3, ![8, 2048, 2]⟩
abbrev S16384x2 : Shape := ⟨2, ![16384, 2]⟩
abbrev S8x2048x2x1 : Shape := ⟨4, ![8, 2048, 2, 1]⟩
abbrev S1x1x1x8 : Shape := ⟨4, ![1, 1, 1, 8]⟩
abbrev S8x2048x2x8 : Shape := ⟨4, ![8, 2048, 2, 8]⟩
abbrev S128x128x8 : Shape := ⟨3, ![128, 128, 8]⟩
abbrev S128x8 : Shape := ⟨2, ![128, 8]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S16384x8 : Shape := ⟨2, ![16384, 8]⟩
abbrev S16384x2x8 : Shape := ⟨3, ![16384, 2, 8]⟩
abbrev S16384x1x8 : Shape := ⟨3, ![16384, 1, 8]⟩
abbrev S16384x4 : Shape := ⟨2, ![16384, 4]⟩
abbrev S4x16384 : Shape := ⟨2, ![4, 16384]⟩
abbrev S4x128x128 : Shape := ⟨3, ![4, 128, 128]⟩
abbrev S128x128 : Shape := ⟨2, ![128, 128]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x1024, .bf16⟩
  | .hbm, ⟨2, _⟩ => ⟨S1024x1024, .f32⟩
  | .hbm, ⟨3, _⟩ => ⟨S1x1024, .f32⟩
  | .hbm, ⟨4, _⟩ => ⟨S1024x8, .f32⟩
  | .hbm, ⟨5, _⟩ => ⟨S8x2048x1024, .bf16⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x8, .f32⟩
  | .hbm, ⟨27, _⟩ => ⟨S8x2048x2, .f32⟩
  | .hbm, ⟨28, _⟩ => ⟨S8x2048x2, .i32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2, .f32⟩
  | .hbm, ⟨36, _⟩ => ⟨S8x2048x2, .f32⟩
  | .hbm, ⟨37, _⟩ => ⟨S8x2048x2, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2, .f32⟩
  | .hbm, ⟨42, _⟩ => ⟨S8x2048x2, .f32⟩
  | .hbm, ⟨43, _⟩ => ⟨S16384x2, .f32⟩
  | .hbm, ⟨44, _⟩ => ⟨S8x2048x2x1, .i32⟩
  | .hbm, ⟨45, _⟩ => ⟨S1x1x1x8, .i32⟩
  | .hbm, ⟨46, _⟩ => ⟨S8x2048x2x8, .i32⟩
  | .hbm, ⟨47, _⟩ => ⟨S8x2048x2x8, .i32⟩
  | .hbm, ⟨48, _⟩ => ⟨S8x2048x2x8, .i1⟩
  | .hbm, ⟨49, _⟩ => ⟨S8x2048x2x8, .f32⟩
  | .hbm, ⟨50, _⟩ => ⟨S_, .f32⟩
  | .hbm, ⟨51, _⟩ => ⟨S8x2048x8, .f32⟩
  | .hbm, ⟨52, _⟩ => ⟨S128x128x8, .f32⟩
  | .hbm, ⟨53, _⟩ => ⟨S_, .f32⟩
  | .hbm, ⟨54, _⟩ => ⟨S128x8, .f32⟩
  | .hbm, ⟨55, _⟩ => ⟨S16384, .i32⟩
  | .hbm, ⟨56, _⟩ => ⟨S1x16384, .i32⟩
  | .hbm, ⟨57, _⟩ => ⟨S16384x1, .i32⟩
  | .hbm, ⟨58, _⟩ => ⟨S16384x16384, .i32⟩
  | .hbm, ⟨59, _⟩ => ⟨S16384x16384, .i32⟩
  | .hbm, ⟨60, _⟩ => ⟨S16384x16384, .i1⟩
  | .hbm, ⟨61, _⟩ => ⟨S16384x16384, .f32⟩
  | .hbm, ⟨62, _⟩ => ⟨S16384x8, .f32⟩
  | .hbm, ⟨63, _⟩ => ⟨S16384x8, .f32⟩
  | .hbm, ⟨64, _⟩ => ⟨S16384x2x8, .f32⟩
  | .hbm, ⟨65, _⟩ => ⟨S16384x1x8, .f32⟩
  | .hbm, ⟨66, _⟩ => ⟨S16384x2x8, .f32⟩
  | .hbm, ⟨67, _⟩ => ⟨S16384x2x8, .f32⟩
  | .hbm, ⟨68, _⟩ => ⟨S_, .f32⟩
  | .hbm, ⟨69, _⟩ => ⟨S16384x2, .f32⟩
  | .hbm, ⟨70, _⟩ => ⟨S16384x2, .i32⟩
  | .hbm, ⟨71, _⟩ => ⟨S16384x2, .f32⟩
  | .hbm, ⟨72, _⟩ => ⟨S_, .f32⟩
  | .hbm, ⟨73, _⟩ => ⟨S16384x2, .f32⟩
  | .hbm, ⟨74, _⟩ => ⟨S16384x2, .f32⟩
  | .hbm, ⟨75, _⟩ => ⟨S16384x2, .f32⟩
  | .hbm, ⟨76, _⟩ => ⟨S16384x4, .f32⟩
  | .hbm, ⟨77, _⟩ => ⟨S4x16384, .f32⟩
  | .hbm, ⟨78, _⟩ => ⟨S4x128x128, .f32⟩
  | .hbm, ⟨79, _⟩ => ⟨S_, .i32⟩
  | .hbm, ⟨80, _⟩ => ⟨S_, .f32⟩
  | .hbm, ⟨81, _⟩ => ⟨S128x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call1_v0 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pointwise

@[expose] public section
set_option maxRecDepth 16384

noncomputable section
namespace Cert.Proof.Block
open Idealize.ShloMosaic Idealize.SL.Sem Cert.KernelIdeal Cert.KernelIdeal.Gen
variable {F : FTy → Type} [FloatOps F]

/-! ## What one grid point computes, one batch row and one head at a time -/

/-- Whether two positions of a block lie in one chunk, the second no later than the first. -/
def causal : IVec S256x256 1 :=
  k0_pay7 (iota .tc S256x256 32 [1] iota_S256x256_d1_w32) k0_pay3 k0_pay4 64#32 k0_pay5 k0_pay6 1#32 0#32

/-- The same as ones and zeros. -/
def tril : FVec F S256x256 .bf16 :=
  k0_pay8 (iota .tc S256x256 32 [1] iota_S256x256_d1_w32) k0_pay3 k0_pay4 64#32 k0_pay5 k0_pay6 1#32 0#32

/-- The running sums of a row's log decays, over every chunk of the block. -/
def cum (la : Vec F S1x256x512 .f32) : FVec F S256x512 .f32 :=
  k0_pay9 (iota .tc S256x256 32 [1] iota_S256x256_d1_w32) k0_pay3 k0_pay4 64#32 k0_pay5 k0_pay6 1#32 0#32 la

/-- The four chunks' last running sums, each repeated over its chunk. -/
def last (la : Vec F S1x256x512 .f32) : FVec F S256x512 .f32 :=
  k0_pay14 (iota .tc S256x256 32 [1] iota_S256x256_d1_w32) k0_pay3 k0_pay4 64#32 k0_pay5 k0_pay6 1#32 0#32 la

/-- A row's decayed queries, keys with the decay taken out, and keys carried to their chunk's end. -/
def qDec (la : Vec F S1x256x512 .f32) (q : Vec F S1x256x512 .bf16) : FVec F S256x512 .bf16 := k0_pay16 (cum la) q
def kInv (la : Vec F S1x256x512 .f32) (k : Vec F S1x256x512 .bf16) : FVec F S256x512 .bf16 := k0_pay17 (cum la) k
def kEnd (la : Vec F S1x256x512 .f32) (k : Vec F S1x256x512 .bf16) : FVec F S256x512 .bf16 := k0_pay18 (cum la) (last la) k

theorem slice_end (ci : Fin 4) : S256x512.Slices ![64 * ci.val + 63, 0] S1x512 :=
  ⟨rfl, by intro a; match a with | ⟨0, _⟩ => (show 64 * ci.val + 63 + 1 ≤ 256; omega) | ⟨1, _⟩ => (show 0 + 512 ≤ 512; omega)⟩
theorem slice_head (h : Fin 4) : S256x512.Slices ![0, 128 * h.val] S256x128 :=
  ⟨rfl, by intro a; match a with | ⟨0, _⟩ => (show 0 + 256 ≤ 256; omega) | ⟨1, _⟩ => (show 128 * h.val + 128 ≤ 512; omega)⟩
theorem slice_chunk (ci h : Fin 4) : S256x512.Slices ![64 * ci.val, 128 * h.val] S64x128 :=
  ⟨rfl, by intro a; match a with | ⟨0, _⟩ => (show 64 * ci.val + 64 ≤ 256; omega) | ⟨1, _⟩ => (show 128 * h.val + 128 ≤ 512; omega)⟩
theorem slice_row (h : Fin 4) : S1x512.Slices ![0, 128 * h.val] S1x128 :=
  ⟨rfl, by intro a; match a with | ⟨0, _⟩ => (show 0 + 1 ≤ 1; omega) | ⟨1, _⟩ => (show 128 * h.val + 128 ≤ 512; omega)⟩

/-- The decay over the whole chunk `ci`. -/
def decay (ci : Fin 4) (la : Vec F S1x256x512 .f32) : FVec F S1x512 .f32 :=
  exp (extractStridedSlice S1x512 ![64 * ci.val + 63, 0] (cum la) (slice_end ci))

/-- The scores of a head over the block: zero off the causal part of each chunk. -/
def scores (h : Fin 4) (qd ki : FVec F S256x512 .bf16) : FVec F S256x256 .bf16 :=
  k0_pay74 causal (extractStridedSlice S256x128 ![0, 128 * h.val] qd (slice_head h))
    (extractStridedSlice S256x128 ![0, 128 * h.val] ki (slice_head h)) (constant S256x256 .f32 0x00000000#32)

/-- What each position gets from the earlier positions of its own chunk. -/
def intra (s : FVec F S256x256 .bf16) (v : Vec F S1x256x256 .bf16) : FVec F S256x256 .f32 :=
  matmul dot_S256x256_S256x256_S256x256_1_0_0_1_n_n none s
    (shapeCast S256x256 v shapeCasts_S1x256x256_S256x256) (constant S256x256 .f32 0x00000000#32)

/-- What chunk `ci` adds to the (transposed) state. -/
def stateIn (ci h : Fin 4) (ke : FVec F S256x512 .bf16) (vc : Vec F S1x64x256 .bf16) : FVec F S256x128 .f32 :=
  matmul dot_S64x256_S64x128_S256x128_0_0_1_1_n_n none (shapeCast S64x256 vc shapeCasts_S1x64x256_S64x256)
    (extractStridedSlice S64x128 ![64 * ci.val, 128 * h.val] ke (slice_chunk ci h)) (constant S256x128 .f32 0x00000000#32)

/-- The state after chunk `ci`. -/
def next (h : Fin 4) (st : FVec F S256x128 .f32) (e : FVec F S1x512 .f32) (s : FVec F S256x128 .f32) : FVec F S256x128 .f32 :=
  addf (mulf st (broadcastTo S256x128 (extractStridedSlice S1x128 ![0, 128 * h.val] e (slice_row h)) broadcasts_S1x128_S256x128)) s

/-- What chunk `ci`'s positions get from the state before it. -/
def inter (ci h : Fin 4) (qd : FVec F S256x512 .bf16) (st : FVec F S256x128 .f32) : FVec F S64x256 .f32 :=
  matmul dot_S64x128_S256x128_S64x256_1_1_0_0_n_n none
    (extractStridedSlice S64x128 ![64 * ci.val, 128 * h.val] qd (slice_chunk ci h))
    (truncf .bf16 st bitsLt_bf16_f32) (constant S64x256 .f32 0x00000000#32)

/-- The head's state before each chunk of the block, from the state before the block. -/
def st0 (st : Vec F S1x1x256x128 .f32) : FVec F S256x128 .f32 := shapeCast S256x128 st shapeCasts_S1x1x256x128_S256x128
def st1 (h : Fin 4) (la : Vec F S1x256x512 .f32) (k : Vec F S1x256x512 .bf16) (v0 : Vec F S1x64x256 .bf16)
    (st : Vec F S1x1x256x128 .f32) : FVec F S256x128 .f32 := next h (st0 st) (decay 0 la) (stateIn 0 h (kEnd la k) v0)
def st2 (h : Fin 4) (la : Vec F S1x256x512 .f32) (k : Vec F S1x256x512 .bf16) (v0 v1 : Vec F S1x64x256 .bf16)
    (st : Vec F S1x1x256x128 .f32) : FVec F S256x128 .f32 := next h (st1 h la k v0 st) (decay 1 la) (stateIn 1 h (kEnd la k) v1)
def st3 (h : Fin 4) (la : Vec F S1x256x512 .f32) (k : Vec F S1x256x512 .bf16) (v0 v1 v2 : Vec F S1x64x256 .bf16)
    (st : Vec F S1x1x256x128 .f32) : FVec F S256x128 .f32 := next h (st2 h la k v0 v1 st) (decay 2 la) (stateIn 2 h (kEnd la k) v2)
def st4 (h : Fin 4) (la : Vec F S1x256x512 .f32) (k : Vec F S1x256x512 .bf16) (v0 v1 v2 v3 : Vec F S1x64x256 .bf16)
    (st : Vec F S1x1x256x128 .f32) : FVec F S256x128 .f32 := next h (st3 h la k v0 v1 v2 st) (decay 3 la) (stateIn 3 h (kEnd la k) v3)

/-- What the point stores for one batch row and one head: the results, and the state after the block. -/
def outHead (h : Fin 4) (q k : Vec F S1x256x512 .bf16) (la : Vec F S1x256x512 .f32) (og : Vec F S1x256 .f32)
    (v : Vec F S1x256x256 .bf16) (v0 v1 v2 : Vec F S1x64x256 .bf16) (g : Vec F S1x256x256 .bf16)
    (st : Vec F S1x1x256x128 .f32) : FVec F S1x256x256 .bf16 :=
  k0_pay188 og (intra (scores h (qDec la q) (kInv la k)) v) (inter 0 h (qDec la q) (st0 st))
    (inter 1 h (qDec la q) (st1 h la k v0 st)) (inter 2 h (qDec la q) (st2 h la k v0 v1 st))
    (inter 3 h (qDec la q) (st3 h la k v0 v1 v2 st)) g
def stHead (h : Fin 4) (k : Vec F S1x256x512 .bf16) (la : Vec F S1x256x512 .f32) (v0 v1 v2 v3 : Vec F S1x64x256 .bf16)
    (st : Vec F S1x1x256x128 .f32) : FVec F S1x1x256x128 .f32 :=
  shapeCast S1x1x256x128 (st4 h la k v0 v1 v2 v3 st) shapeCasts_S256x128_S1x1x256x128

/-! ## The blocks a head reads, as parts of the point's blocks -/

theorem in_row (b : Fin 4) : ∀ a, (![b.val, 0, 0] : Fin 3 → ℕ) a + S1x256x512.size a ≤ S4x256x512.size a := by
  intro a; match a with
  | ⟨0, _⟩ => (show b.val + 1 ≤ 4; omega) | ⟨1, _⟩ => (show 0 + 256 ≤ 256; omega) | ⟨2, _⟩ => (show 0 + 512 ≤ 512; omega)
theorem in_head (b h : Fin 4) : ∀ a, (![b.val, 0, 256 * h.val] : Fin 3 → ℕ) a + S1x256x256.size a ≤ S4x256x1024.size a := by
  intro a; match a with
  | ⟨0, _⟩ => (show b.val + 1 ≤ 4; omega) | ⟨1, _⟩ => (show 0 + 256 ≤ 256; omega) | ⟨2, _⟩ => (show 256 * h.val + 256 ≤ 1024; omega)
theorem in_chunk (b h ci : Fin 4) :
    ∀ a, (![b.val, 64 * ci.val, 256 * h.val] : Fin 3 → ℕ) a + S1x64x256.size a ≤ S4x256x1024.size a := by
  intro a; match a with
  | ⟨0, _⟩ => (show b.val + 1 ≤ 4; omega) | ⟨1, _⟩ => (show 64 * ci.val + 64 ≤ 256; omega) | ⟨2, _⟩ => (show 256 * h.val + 256 ≤ 1024; omega)
theorem in_state (b h : Fin 4) : ∀ a, (![b.val, h.val, 0, 0] : Fin 4 → ℕ) a + S1x1x256x128.size a ≤ S4x4x256x128.size a := by
  intro a; match a with
  | ⟨0, _⟩ => (show b.val + 1 ≤ 4; omega) | ⟨1, _⟩ => (show h.val + 1 ≤ 4; omega)
  | ⟨2, _⟩ => (show 0 + 256 ≤ 256; omega) | ⟨3, _⟩ => (show 0 + 128 ≤ 128; omega)

abbrev rowRect (b : Fin 4) : Rect S4x256x512 := Rect.unit ![b.val, 0, 0] S1x256x512.size (in_row b)
abbrev headRect (b h : Fin 4) : Rect S4x256x1024 := Rect.unit ![b.val, 0, 256 * h.val] S1x256x256.size (in_head b h)
abbrev chunkRect (b h ci : Fin 4) : Rect S4x256x1024 := Rect.unit ![b.val, 64 * ci.val, 256 * h.val] S1x64x256.size (in_chunk b h ci)
abbrev stateRect (b h : Fin 4) : Rect S4x4x256x128 := Rect.unit ![b.val, h.val, 0, 0] S1x1x256x128.size (in_state b h)

/-- What the point stores for row `b` and head `h`, from the point's blocks and the head's state before it. -/
def outWith (x0 x1 : Vec F S4x256x512 .bf16) (x2 x3 : Vec F S4x256x1024 .bf16) (x4 : Vec F S4x256x512 .f32)
    (x5 : Vec F S1x256 .f32) (b h : Fin 4) (s : Vec F S1x1x256x128 .f32) : FVec F S1x256x256 .bf16 :=
  outHead h (View.ld x0 (rowRect b)) (View.ld x1 (rowRect b)) (View.ld x4 (rowRect b))
    (View.ld x5 (Rect.unit ![0, 0] S1x256.size inb_S1x256_S1x256_0_0)) (View.ld x2 (headRect b h))
    (View.ld x2 (chunkRect b h 0)) (View.ld x2 (chunkRect b h 1)) (View.ld x2 (chunkRect b h 2)) (View.ld x3 (headRect b h)) s
def stWith (x1 : Vec F S4x256x512 .bf16) (x2 : Vec F S4x256x1024 .bf16) (x4 : Vec F S4x256x512 .f32) (b h : Fin 4)
    (s : Vec F S1x1x256x128 .f32) : FVec F S1x1x256x128 .f32 :=
  stHead h (View.ld x1 (rowRect b)) (View.ld x4 (rowRect b)) (View.ld x2 (chunkRect b h 0)) (View.ld x2 (chunkRect b h 1))
    (View.ld x2 (chunkRect b h 2)) (View.ld x2 (chunkRect b h 3)) s

/-- The same from the whole block of states. -/
def outAt (x0 x1 : Vec F S4x256x512 .bf16) (x2 x3 : Vec F S4x256x1024 .bf16) (x4 : Vec F S4x256x512 .f32)
    (x5 : Vec F S1x256 .f32) (xs : Vec F S4x4x256x128 .f32) (b h : Fin 4) : FVec F S1x256x256 .bf16 :=
  outWith x0 x1 x2 x3 x4 x5 b h (View.ld xs (stateRect b h))
def stAt (x1 : Vec F S4x256x512 .bf16) (x2 : Vec F S4x256x1024 .bf16) (x4 : Vec F S4x256x512 .f32)
    (xs : Vec F S4x4x256x128 .f32) (b h : Fin 4) : FVec F S1x1x256x128 .f32 :=
  stWith x1 x2 x4 b h (View.ld xs (stateRect b h))

/-- The whole block of results, and the whole block of states. -/
def out (x0 x1 : Vec F S4x256x512 .bf16) (x2 x3 : Vec F S4x256x1024 .bf16) (x4 : Vec F S4x256x512 .f32)
    (x5 : Vec F S1x256 .f32) (xs : Vec F S4x4x256x128 .f32) : Vec F S4x256x1024 .bf16 := fun y =>
  outAt x0 x1 x2 x3 x4 x5 xs (y 0) ⟨(y 2).val / 256, by have := (y 2).isLt; change _ < 1024 at this; omega⟩
    (ix3 (0 : Fin 1) (y 1) (⟨(y 2).val % 256, by omega⟩ : Fin 256))
def st (x1 : Vec F S4x256x512 .bf16) (x2 : Vec F S4x256x1024 .bf16) (x4 : Vec F S4x256x512 .f32)
    (xs : Vec F S4x4x256x128 .f32) : Vec F S4x4x256x128 .f32 := fun y =>
  stAt x1 x2 x4 xs (y 0) (y 1) (ix4 (0 : Fin 1) (0 : Fin 1) (y 2) (y 3))

end Cert.Proof.Block
end
-- ==== Proof.BlockPieces.lean ====
module

public import proofs.«01_k».proof.Proof.Block

@[expose] public section
set_option maxRecDepth 16384

noncomputable section
namespace Cert.Proof.Block
open Idealize.ShloMosaic Idealize.SL.Sem Cert.KernelIdeal Cert.KernelIdeal.Gen
variable {F : FTy → Type} [FloatOps F]

theorem out_piece (x0 x1 : Vec F S4x256x512 .bf16) (x2 x3 : Vec F S4x256x1024 .bf16) (x4 : Vec F S4x256x512 .f32)
    (x5 : Vec F S1x256 .f32) (xs : Vec F S4x4x256x128 .f32) (b h : Fin 4) (j : S1x256x256.Idx) :
    outAt x0 x1 x2 x3 x4 x5 xs b h j = out x0 x1 x2 x3 x4 x5 xs ((headRect b h).emb j) := by
  have h0 : ((headRect b h).emb j) 0 = b := Fin.ext (by
    have := (j 0).isLt; change _ < 1 at this; show b.val + 1 * (j 0).val = _; omega)
  have h1 : ((headRect b h).emb j) 1 = (j 1 : Fin 256) := Fin.ext (by
    show 0 + 1 * (j 1).val = _; omega)
  have h2 : (((headRect b h).emb j) 2).val = 256 * h.val + (j 2).val := by
    show 256 * h.val + 1 * (j 2).val = _; omega
  have hj := (j 2).isLt
  change _ < 256 at hj
  unfold out
  have e1 : (⟨(((headRect b h).emb j) 2).val / 256, by rw [h2]; omega⟩ : Fin 4) = h := Fin.ext (by
    show (((headRect b h).emb j) 2).val / 256 = _; rw [h2]; omega)
  have e2 : (⟨(((headRect b h).emb j) 2).val % 256, by omega⟩ : Fin 256) = (j 2 : Fin 256) := Fin.ext (by
    show (((headRect b h).emb j) 2).val % 256 = _; rw [h2]; omega)
  rw [e1, e2, h0, h1]
  congr 1
  funext a
  match a with
  | ⟨0, _⟩ => exact Subsingleton.elim (α := Fin 1) _ _
  | ⟨1, _⟩ => rfl
  | ⟨2, _⟩ => rfl

theorem st_piece (x1 : Vec F S4x256x512 .bf16) (x2 : Vec F S4x256x1024 .bf16) (x4 : Vec F S4x256x512 .f32)
    (xs : Vec F S4x4x256x128 .f32) (b h : Fin 4) (j : S1x1x256x128.Idx) :
    stAt x1 x2 x4 xs b h j = st x1 x2 x4 xs ((stateRect b h).emb j) := by
  have h0 : ((stateRect b h).emb j) 0 = b := Fin.ext (by
    have := (j 0).isLt; change _ < 1 at this; show b.val + 1 * (j 0).val = _; omega)
  have h1 : ((stateRect b h).emb j) 1 = h := Fin.ext (by
    have := (j 1).isLt; change _ < 1 at this; show h.val + 1 * (j 1).val = _; omega)
  have h2 : ((stateRect b h).emb j) 2 = (j 2 : Fin 256) := Fin.ext (by
    show 0 + 1 * (j 2).val = _; omega)
  have h3 : ((stateRect b h).emb j) 3 = (j 3 : Fin 128) := Fin.ext (by
    show 0 + 1 * (j 3).val = _; omega)
  unfold st
  rw [h0, h1, h2, h3]
  congr 1
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-- A read of one head's state passes over the stores of the other heads' states. -/
theorem readCov_skip {sig : RefSig} {κ : Kind} {sp : Space} (v : View sig κ sp S4x4x256x128 .f32) (b h b' h' : ℕ)
    (inb : ∀ a, (![b, h, 0, 0] : Fin 4 → ℕ) a + S1x1x256x128.size a ≤ S4x4x256x128.size a)
    (inb' : ∀ a, (![b', h', 0, 0] : Fin 4 → ℕ) a + S1x1x256x128.size a ≤ S4x4x256x128.size a)
    (hne : ¬(b = b' ∧ h = h')) (w : (Rect.unit (s := S4x4x256x128) ![b', h', 0, 0] S1x1x256x128.size inb').shape.Idx → Elt F .f32)
    (L : List (View.Piece (Elt F) S4x4x256x128 .f32)) :
    v.readCov (⟨Rect.unit ![b', h', 0, 0] S1x1x256x128.size inb', w⟩ :: L)
        (Rect.unit (s := S4x4x256x128) ![b, h, 0, 0] S1x1x256x128.size inb).toLoadRect
      = v.readCov L (Rect.unit (s := S4x4x256x128) ![b, h, 0, 0] S1x1x256x128.size inb).toLoadRect := by
  unfold View.readCov
  rw [View.readAt_writes_junk_eq_canon, View.readAt_writes_junk_eq_canon]
  funext j
  refine View.canon_cons_of_not_mem _ _ fun hm => hne ?_
  obtain ⟨x, hx⟩ := LoadRect.exists_idx_of_mem _ hm
  have e0 := congrArg Fin.val (congrFun hx 0)
  have e1 := congrArg Fin.val (congrFun hx 1)
  have a0 := (j 0).isLt
  have a1 := (j 1).isLt
  have b0 := (x 0).isLt
  have b1 := (x 1).isLt
  change _ < 1 at a0 a1 b0 b1
  change b' + 1 * (x 0).val = b + 1 * (j 0).val at e0
  change h' + 1 * (x 1).val = h + 1 * (j 1).val at e1
  omega

/-- A read after one store of the whole buffer reads that store. -/
theorem readCov_whole {sig : RefSig} {κ : Kind} {sp : Space} (v : View sig κ sp S4x4x256x128 .f32)
    (inb : ∀ a, (![0, 0, 0, 0] : Fin 4 → ℕ) a + S4x4x256x128.size a ≤ S4x4x256x128.size a) (w : S4x4x256x128.Idx → Elt F .f32)
    (r : Rect S4x4x256x128) :
    v.readCov [(⟨Rect.unit (s := S4x4x256x128) ![0, 0, 0, 0] S4x4x256x128.size inb, w⟩ : View.Piece (Elt F) S4x4x256x128 .f32)]
        r.toLoadRect = View.ld w r := by
  unfold View.readCov
  rw [View.readAt_writes_junk_eq_canon, View.canon_unit_zero (by funext a; match a with | ⟨0, _⟩ => rfl | ⟨1, _⟩ => rfl | ⟨2, _⟩ => rfl | ⟨3, _⟩ => rfl)]

/-- The first pieces decide the contents where they cover. -/
theorem canon_first {Val : EltTy → Type} {S : Shape} {e : EltTy} [∀ e, Nonempty (Val e)] (G : S.Idx → Val e) (M : List (View.Piece Val S e)) :
    ∀ (L : List (View.Piece Val S e)) (_ : ∀ p ∈ L, ∀ x : p.1.shape.Idx, p.2 x = G (p.1.emb x)) (y : S.Idx)
      (_ : ∃ p ∈ L, y ∈ p.1.set), View.canon (L ++ M) y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_first G M L (fun q hq => hL q (by simp [hq])) y ?_
      obtain ⟨q, hq, hyq⟩ := hy
      rcases List.mem_cons.mp hq with rfl | hq'
      · exact absurd hyq hm
      · exact ⟨q, hq', hyq⟩

end Cert.Proof.Block
end
-- ==== Proof.BlockA.lean ====
module

public import proofs.«01_k».proof.Proof.BlockPieces

@[expose] public section
set_option maxRecDepth 16384

noncomputable section
namespace Cert.Proof.Block
open Idealize.ShloMosaic Idealize.SL.Sem Cert.KernelIdeal Cert.KernelIdeal.Gen
variable {F : FTy → Type} [FloatOps F]

/-! At the first point of a row of blocks the state is cleared first: each head reads zeros. -/

theorem zero_0 (c : Dev nD) (arg9 : Memref sig .tc .vmem S4x4x256x128 .f32) :
    kernelRun0_A.sl.v672 (F := F) c arg9 = View.ld k0_pay2 (stateRect 0 0) := by
  exact readCov_whole _ _ _ _

theorem zero_1 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v733 (F := F) c arg3 harg3 arg4 harg4 arg6 harg6 arg9 x1 x2 x4 = View.ld k0_pay2 (stateRect 0 1) := by
  refine (readCov_skip _ 0 1 0 0 _ _ (by decide) _ _).trans ?_
  exact readCov_whole _ _ _ _

theorem zero_2 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v794 (F := F) c arg3 harg3 arg4 harg4 arg6 harg6 arg9 x1 x2 x4 = View.ld k0_pay2 (stateRect 0 2) := by
  refine (readCov_skip _ 0 2 0 1 _ _ (by decide) _ _).trans ?_
  refine (readCov_skip _ 0 2 0 0 _ _ (by decide) _ _).trans ?_
  exact readCov_whole _ _ _ _

theorem zero_3 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v855 (F := F) c arg3 harg3 arg4 harg4 arg6 harg6 arg9 x1 x2 x4 = View.ld k0_pay2 (stateRect 0 3) := by
  refine (readCov_skip _ 0 3 0 2 _ _ (by decide) _ _).trans ?_
  refine (readCov_skip _ 0 3 0 1 _ _ (by decide) _ _).trans ?_
  refine (readCov_skip _ 0 3 0 0 _ _ (by decide) _ _).trans ?_
  exact readCov_whole _ _ _ _

theorem zero_4 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v916 (F := F) c arg3 harg3 arg4 harg4 arg6 harg6 arg9 x1 x2 x4 = View.ld k0_pay2 (stateRect 1 0) := by
  refine (readCov_skip _ 1 0 0 3 _ _ (by decide) _ _).trans ?_
  refine (readCov_skip _ 1 0 0 2 _ _ (by decide) _ _).trans ?_
  refine (readCov_skip _ 1 0 0 1 _ _ (by decide) _ _).trans ?_
  refine (readCov_skip _ 1 0 0 0 _ _ (by decide) _ _).trans ?_
  exact readCov_whole _ _ _ _

theorem zero_5 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v977 (F := F) c arg3 harg3 arg4 harg4 arg6 harg6 arg9 x1 x2 x4 = View.ld k0_pay2 (stateRect 1 1) := by
  refine (readCov_skip _ 1 1 1 0 _ _ (by decide) _ _).trans ?_
  refine (readCov_skip _ 1 1 0 3 _ _ (by decide) _ _).trans ?_
  refine (readCov_skip _ 1 1 0 2 _ _ (by decide) _ _).trans ?_
  refine (readCov_skip _ 1 1 0 1 _ _ (by decide) _ _).trans ?_
  refine (readCov_skip _ 1 1 0 0 _ _ (by decide) _ _).trans ?_
  exact readCov_whole _ _ _ _

theorem zero_6 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1038 (F := F) c arg3 harg3 arg4 harg4 arg6 harg6 arg9 x1 x2 x4 = View.ld k0_pay2 (stateRect 1 2) := by
  refine (readCov_skip _ 1 2 1 1 _ _ (by decide) _ _).trans ?_
  refine (readCov_skip _ 1 2 1 0 _ _ (by decide) _ _).trans ?_
  refine (readCov_skip _ 1 2 0 3 _ _ (by decide) _ _).trans ?_
  refine (readCov_skip _ 1 2 0 2 _ _ (by decide) _ _).trans ?_
  refine (readCov_skip _ 1 2 0 1 _ _ (by decide) _ _).trans ?_
  refine (readCov_skip _ 1 2 0 0 _ _ (by decide) _ _).trans ?_
  exact readCov_whole _ _ _ _

theorem zero_7 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1099 (F := F) c arg3 harg3 arg4 harg4 arg6 harg6 arg9 x1 x2 x4 = View.ld k0_pay2 (stateRect 1 3) := by
  refine (readCov_skip _ 1 3 1 2 _ _ (by decide) _ _).trans ?_
  refine (readCov_skip _ 1 3 1 1 _ _ (by decide) _ _).trans ?_
  refine (readCov_skip _ 1 3 1 0 _ _ (by decide) _ _).trans ?_
  refine (readCov_skip _ 1 3 0 3 _ _ (by decide) _ _).trans ?_
  refine (readCov_skip _ 1 3 0 2 _ _ (by decide) _ _).trans ?_
  refine (readCov_skip _ 1 3 0 1 _ _ (by decide) _ _).trans ?_
  refine (readCov_skip _ 1 3 0 0 _ _ (by decide) _ _).trans ?_
  exact readCov_whole _ _ _ _

theorem zero_8 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1160 (F := F) c arg3 harg3 arg4 harg4 arg6 harg6 arg9 x1 x2 x4 = View.ld k0_pay2 (stateRect 2 0) := by
  refine (readCov_skip _ 2 0 1 3 _ _ (by decide) _ _).trans ?_
  refine (readCov_skip _ 2 0 1 2 _ _ (by decide) _ _).trans ?_
  refine (readCov_skip _ 2 0 1 1 _ _ (by decide) _ _).trans ?_
  refine (readCov_skip _ 2 0 1 0 _ _ (by decide) _ _).trans ?_
  refine (readCov_skip _ 2 0 0 3 _ _ (by decide) _ _).trans ?_
  refine (readCov_skip _ 2 0 0 2 _ _ (by decide) _ _).trans ?_
  refine (readCov_skip _ 2 0 0 1 _ _ (by decide) _ _).trans ?_
  refine (readCov_skip _ 2 0 0 0 _ _ (by decide) _ _).trans ?_
  exact readCov_whole _ _ _ _

theorem zero_9 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1221 (F := F) c arg3 harg3 arg4 harg4 arg6 harg6 arg9 x1 x2 x4 = View.ld k0_pay2 (stateRect 2 1) := by
  refine (readCov_skip _ 2 1 2 0 _ _ (by decide) _ _).trans ?_
  refine (readCov_skip _ 2 1 1 3 _ _ (by decide) _ _).trans ?_
  refine (readCov_skip _ 2 1 1 2 _ _ (by decide) _ _).trans ?_
  refine (readCov_skip _ 2 1 1 1 _ _ (by decide) _ _).trans ?_
  refine (readCov_skip _ 2 1 1 0 _ _ (by decide) _ _).trans ?_
  refine (readCov_skip _ 2 1 0 3 _ _ (by decide) _ _).trans ?_
  refine (readCov_skip _ 2 1 0 2 _ _ (by decide) _ _).trans ?_
  refine (readCov_skip _ 2 1 0 1 _ _ (by decide) _ _).trans ?_
  refine (readCov_skip _ 2 1 0 0 _ _ (by decide) _ _).trans ?_
  exact readCov_whole _ _ _ _

theorem zero_10 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1282 (F := F) c arg3 harg3 arg4 harg4 arg6 harg6 arg9 x1 x2 x4 = View.ld k0_pay2 (stateRect 2 2) := by
  refine (readCov_skip _ 2 2 2 1 _ _ (by decide) _ _).trans ?_
  refine (readCov_skip _ 2 2 2 0 _ _ (by decide) _ _).trans ?_
  refine (readCov_skip _ 2 2 1 3 _ _ (by decide) _ _).trans ?_
  refine (readCov_skip _ 2 2 1 2 _ _ (by decide) _ _).trans ?_
  refine (readCov_skip _ 2 2 1 1 _ _ (by decide) _ _).trans ?_
  refine (readCov_skip _ 2 2 1 0 _ _ (by decide) _ _).trans ?_
  refine (readCov_skip _ 2 2 0 3 _ _ (by decide) _ _).trans ?_
  refine (readCov_skip _ 2 2 0 2 _ _ (by decide) _ _).trans ?_
  refine (readCov_skip _ 2 2 0 1 _ _ (by decide) _ _).trans ?_
  refine (readCov_skip _ 2 2 0 0 _ _ (by decide) _ _).trans ?_
  exact readCov_whole _ _ _ _

theorem zero_11 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1343 (F := F) c arg3 harg3 arg4 harg4 arg6 harg6 arg9 x1 x2 x4 = View.ld k0_pay2 (stateRect 2 3) := by
  refine (readCov_skip _ 2 3 2 2 _ _ (by decide) _ _).trans ?_
  refine (readCov_skip _ 2 3 2 1 _ _ (by decide) _ _).trans ?_
  refine (readCov_skip _ 2 3 2 0 _ _ (by decide) _ _).trans ?_
  refine (readCov_skip _ 2 3 1 3 _ _ (by decide) _ _).trans ?_
  refine (readCov_skip _ 2 3 1 2 _ _ (by decide) _ _).trans ?_
  refine (readCov_skip _ 2 3 1 1 _ _ (by decide) _ _).trans ?_
  refine (readCov_skip _ 2 3 1 0 _ _ (by decide) _ _).trans ?_
  refine (readCov_skip _ 2 3 0 3 _ _ (by decide) _ _).trans ?_
  refine (readCov_skip _ 2 3 0 2 _ _ (by decide) _ _).trans ?_
  refine (readCov_skip _ 2 3 0 1 _ _ (by decide) _ _).trans ?_
  refine (readCov_skip _ 2 3 0 0 _ _ (by decide) _ _).trans ?_
  exact readCov_whole _ _ _ _

theorem zero_12 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1404 (F := F) c arg3 harg3 arg4 harg4 arg6 harg6 arg9 x1 x2 x4 = View.ld k0_pay2 (stateRect 3 0) := by
  refine (readCov_skip _ 3 0 2 3 _ _ (by decide) _ _).trans ?_
  refine (readCov_skip _ 3 0 2 2 _ _ (by decide) _ _).trans ?_
  refine (readCov_skip _ 3 0 2 1 _ _ (by decide) _ _).trans ?_
  refine (readCov_skip _ 3 0 2 0 _ _ (by decide) _ _).trans ?_
  refine (readCov_skip _ 3 0 1 3 _ _ (by decide) _ _).trans ?_
  refine (readCov_skip _ 3 0 1 2 _ _ (by decide) _ _).trans ?_
  refine (readCov_skip _ 3 0 1 1 _ _ (by decide) _ _).trans ?_
  refine (readCov_skip _ 3 0 1 0 _ _ (by decide) _ _).trans ?_
  refine (readCov_skip _ 3 0 0 3 _ _ (by decide) _ _).trans ?_
  refine (readCov_skip _ 3 0 0 2 _ _ (by decide) _ _).trans ?_
  refine (readCov_skip _ 3 0 0 1 _ _ (by decide) _ _).trans ?_
  refine (readCov_skip _ 3 0 0 0 _ _ (by decide) _ _).trans ?_
  exact readCov_whole _ _ _ _

theorem zero_13 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1465 (F := F) c arg3 harg3 arg4 harg4 arg6 harg6 arg9 x1 x2 x4 = View.ld k0_pay2 (stateRect 3 1) := by
  refine (readCov_skip _ 3 1 3 0 _ _ (by decide) _ _).trans ?_
  refine (readCov_skip _ 3 1 2 3 _ _ (by decide) _ _).trans ?_
  refine (readCov_skip _ 3 1 2 2 _ _ (by decide) _ _).trans ?_
  refine (readCov_skip _ 3 1 2 1 _ _ (by decide) _ _).trans ?_
  refine (readCov_skip _ 3 1 2 0 _ _ (by decide) _ _).trans ?_
  refine (readCov_skip _ 3 1 1 3 _ _ (by decide) _ _).trans ?_
  refine (readCov_skip _ 3 1 1 2 _ _ (by decide) _ _).trans ?_
  refine (readCov_skip _ 3 1 1 1 _ _ (by decide) _ _).trans ?_
  refine (readCov_skip _ 3 1 1 0 _ _ (by decide) _ _).trans ?_
  refine (readCov_skip _ 3 1 0 3 _ _ (by decide) _ _).trans ?_
  refine (readCov_skip _ 3 1 0 2 _ _ (by decide) _ _).trans ?_
  refine (readCov_skip _ 3 1 0 1 _ _ (by decide) _ _).trans ?_
  refine (readCov_skip _ 3 1 0 0 _ _ (by decide) _ _).trans ?_
  exact readCov_whole _ _ _ _

theorem zero_14 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1526 (F := F) c arg3 harg3 arg4 harg4 arg6 harg6 arg9 x1 x2 x4 = View.ld k0_pay2 (stateRect 3 2) := by
  refine (readCov_skip _ 3 2 3 1 _ _ (by decide) _ _).trans ?_
  refine (readCov_skip _ 3 2 3 0 _ _ (by decide) _ _).trans ?_
  refine (readCov_skip _ 3 2 2 3 _ _ (by decide) _ _).trans ?_
  refine (readCov_skip _ 3 2 2 2 _ _ (by decide) _ _).trans ?_
  refine (readCov_skip _ 3 2 2 1 _ _ (by decide) _ _).trans ?_
  refine (readCov_skip _ 3 2 2 0 _ _ (by decide) _ _).trans ?_
  refine (readCov_skip _ 3 2 1 3 _ _ (by decide) _ _).trans ?_
  refine (readCov_skip _ 3 2 1 2 _ _ (by decide) _ _).trans ?_
  refine (readCov_skip _ 3 2 1 1 _ _ (by decide) _ _).trans ?_
  refine (readCov_skip _ 3 2 1 0 _ _ (by decide) _ _).trans ?_
  refine (readCov_skip _ 3 2 0 3 _ _ (by decide) _ _).trans ?_
  refine (readCov_skip _ 3 2 0 2 _ _ (by decide) _ _).trans ?_
  refine (readCov_skip _ 3 2 0 1 _ _ (by decide) _ _).trans ?_
  refine (readCov_skip _ 3 2 0 0 _ _ (by decide) _ _).trans ?_
  exact readCov_whole _ _ _ _

theorem zero_15 (c : Dev nD) (arg3 : Memref sig .tc .vmem S4x256x512 .bf16) (harg3 : arg3.IsWhole) (arg4 : Memref sig .tc .vmem S4x256x1024 .bf16) (harg4 : arg4.IsWhole) (arg6 : Memref sig .tc .vmem S4x256x512 .f32) (harg6 : arg6.IsWhole) (arg9 : Memref sig .tc .vmem S4x4x256x128 .f32)
    (x1 : Vec F S4x256x512 .bf16) (x2 : Vec F S4x256x1024 .bf16) (x4 : Vec F S4x256x512 .f32) :
    kernelRun0_A.sl.v1587 (F := F) c arg3 harg3 arg4 harg4 arg6 harg6 arg9 x1 x2 x4 = View.ld k0_pay2 (stateRect 3 3) := by
  refine (readCov_skip _ 3 3 3 2 _ _ (by decide) _ _).trans ?_
  refine (readCov_skip _ 3 3 3 1 _ _ (by decide) _ _).trans ?_
  refine (readCov_skip _ 3 3 3 0 _ _ (by decide) _ _).trans ?_
  refine (readCov_skip _ 3 3 2 3 _ _ (by decide) _ _).trans ?_
  refine (readCov_skip _ 3 3 2 2 _ _ (by decide) _ _).trans ?_
  refine (readCov_skip _ 3 3 2 1 _ _ (by decide) _ _).trans ?_
  refine (readCov_skip _ 3 3 2 0 _ _ (by decide) _ _).trans ?_
  refine (readCov_skip _ 3 3 1 3 _ _ (by decide) _ _).trans ?_
  refine (readCov_skip _ 3 3 1 2 _ _ (by decide) _ _).trans ?_
  refine (readCov_skip _ 3 3 1 1 _ _ (by decide) _ _).trans ?_
  refine (readCov_skip _ 3 3 1 0 _ _ (by decide) _ _).trans ?_
  refine (readCov_skip _ 3 3 0 3 _ _ (by decide) _ _).trans ?_
  refine (readCov_skip _ 3 3 0 2 _ _ (by decide) _ _).trans ?_
  refine (readCov_skip _ 3 3 0 1 _ _ (by decide) _ _).trans ?_
  refine (readCov_skip _ 3 3 0 0 _ _ (by decide) _ _).trans ?_
  exact readCov_whole _ _ _ _

theorem out_A (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x512 .f32) (harg6 : arg6.IsWhole) (arg7 : Memref sig .tc .vmem S1x256 .f32) (harg7 : arg7.IsWhole) (arg8 : Memref sig .tc .vmem S4x256x1024 .bf16) (harg8 : arg8.IsWhole) (arg9 : Memref sig .tc .vmem S4x4x256x128 .f32) (harg9 : arg9.IsWhole) (hc : cond0_0 i)
    (x0 : Vec F S4x256x512 .bf16) (x1 : Vec F S4x256x512 .bf16) (x2 : Vec F S4x256x1024 .bf16) (x3 : Vec F S4x256x1024 .bf16) (x4 : Vec F S4x256x512 .f32) (x5 : Vec F S1x256 .f32) :
    out0_A_6 c i arg2 harg2 arg3 harg3 arg4 harg4 arg5 harg5 arg6 harg6 arg7 harg7 arg8 harg8 arg9 harg9 hc x0 x1 x2 x3 x4 x5 = out x0 x1 x2 x3 x4 x5 k0_pay2 := by
  unfold out0_A_6
  rw [View.read_writes_eq_canon _ _ _ (cover0_A_6 c i arg2 harg2 arg3 harg3 arg4 harg4 arg5 harg5 arg6 harg6 arg7 harg7 arg8 harg8 arg9 harg9 hc x0 x1 x2 x3 x4 x5)]
  funext y
  refine View.canon_apply_of_pieces _ _ ?_ y (cover0_A_6 c i arg2 harg2 arg3 harg3 arg4 harg4 arg5 harg5 arg6 harg6 arg7 harg7 arg8 harg8 arg9 harg9 hc x0 x1 x2 x3 x4 x5 y)
  unfold kernelRun0_A
  dsimp only
  simp only [List.forall_mem_cons, List.not_mem_nil, false_implies, implies_true, and_true]
  refine ⟨?_, ?_, ?_, ?_, ?_, ?_, ?_, ?_, ?_, ?_, ?_, ?_, ?_, ?_, ?_, ?_⟩
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      3 3 (kernelRun0_A.sl.v1587 c arg3 harg3 arg4 harg4 arg6 harg6 arg9 x1 x2 x4) j from rfl).trans ?_
    rw [zero_15 c arg3 harg3 arg4 harg4 arg6 harg6, harg2.read_unread, harg3.read_unread, harg4.read_unread, harg5.read_unread, harg6.read_unread, harg7.read_unread]
    exact out_piece x0 x1 x2 x3 x4 x5 k0_pay2 3 3 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      3 2 (kernelRun0_A.sl.v1526 c arg3 harg3 arg4 harg4 arg6 harg6 arg9 x1 x2 x4) j from rfl).trans ?_
    rw [zero_14 c arg3 harg3 arg4 harg4 arg6 harg6, harg2.read_unread, harg3.read_unread, harg4.read_unread, harg5.read_unread, harg6.read_unread, harg7.read_unread]
    exact out_piece x0 x1 x2 x3 x4 x5 k0_pay2 3 2 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      3 1 (kernelRun0_A.sl.v1465 c arg3 harg3 arg4 harg4 arg6 harg6 arg9 x1 x2 x4) j from rfl).trans ?_
    rw [zero_13 c arg3 harg3 arg4 harg4 arg6 harg6, harg2.read_unread, harg3.read_unread, harg4.read_unread, harg5.read_unread, harg6.read_unread, harg7.read_unread]
    exact out_piece x0 x1 x2 x3 x4 x5 k0_pay2 3 1 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      3 0 (kernelRun0_A.sl.v1404 c arg3 harg3 arg4 harg4 arg6 harg6 arg9 x1 x2 x4) j from rfl).trans ?_
    rw [zero_12 c arg3 harg3 arg4 harg4 arg6 harg6, harg2.read_unread, harg3.read_unread, harg4.read_unread, harg5.read_unread, harg6.read_unread, harg7.read_unread]
    exact out_piece x0 x1 x2 x3 x4 x5 k0_pay2 3 0 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      2 3 (kernelRun0_A.sl.v1343 c arg3 harg3 arg4 harg4 arg6 harg6 arg9 x1 x2 x4) j from rfl).trans ?_
    rw [zero_11 c arg3 harg3 arg4 harg4 arg6 harg6, harg2.read_unread, harg3.read_unread, harg4.read_unread, harg5.read_unread, harg6.read_unread, harg7.read_unread]
    exact out_piece x0 x1 x2 x3 x4 x5 k0_pay2 2 3 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      2 2 (kernelRun0_A.sl.v1282 c arg3 harg3 arg4 harg4 arg6 harg6 arg9 x1 x2 x4) j from rfl).trans ?_
    rw [zero_10 c arg3 harg3 arg4 harg4 arg6 harg6, harg2.read_unread, harg3.read_unread, harg4.read_unread, harg5.read_unread, harg6.read_unread, harg7.read_unread]
    exact out_piece x0 x1 x2 x3 x4 x5 k0_pay2 2 2 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      2 1 (kernelRun0_A.sl.v1221 c arg3 harg3 arg4 harg4 arg6 harg6 arg9 x1 x2 x4) j from rfl).trans ?_
    rw [zero_9 c arg3 harg3 arg4 harg4 arg6 harg6, harg2.read_unread, harg3.read_unread, harg4.read_unread, harg5.read_unread, harg6.read_unread, harg7.read_unread]
    exact out_piece x0 x1 x2 x3 x4 x5 k0_pay2 2 1 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      2 0 (kernelRun0_A.sl.v1160 c arg3 harg3 arg4 harg4 arg6 harg6 arg9 x1 x2 x4) j from rfl).trans ?_
    rw [zero_8 c arg3 harg3 arg4 harg4 arg6 harg6, harg2.read_unread, harg3.read_unread, harg4.read_unread, harg5.read_unread, harg6.read_unread, harg7.read_unread]
    exact out_piece x0 x1 x2 x3 x4 x5 k0_pay2 2 0 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      1 3 (kernelRun0_A.sl.v1099 c arg3 harg3 arg4 harg4 arg6 harg6 arg9 x1 x2 x4) j from rfl).trans ?_
    rw [zero_7 c arg3 harg3 arg4 harg4 arg6 harg6, harg2.read_unread, harg3.read_unread, harg4.read_unread, harg5.read_unread, harg6.read_unread, harg7.read_unread]
    exact out_piece x0 x1 x2 x3 x4 x5 k0_pay2 1 3 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      1 2 (kernelRun0_A.sl.v1038 c arg3 harg3 arg4 harg4 arg6 harg6 arg9 x1 x2 x4) j from rfl).trans ?_
    rw [zero_6 c arg3 harg3 arg4 harg4 arg6 harg6, harg2.read_unread, harg3.read_unread, harg4.read_unread, harg5.read_unread, harg6.read_unread, harg7.read_unread]
    exact out_piece x0 x1 x2 x3 x4 x5 k0_pay2 1 2 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      1 1 (kernelRun0_A.sl.v977 c arg3 harg3 arg4 harg4 arg6 harg6 arg9 x1 x2 x4) j from rfl).trans ?_
    rw [zero_5 c arg3 harg3 arg4 harg4 arg6 harg6, harg2.read_unread, harg3.read_unread, harg4.read_unread, harg5.read_unread, harg6.read_unread, harg7.read_unread]
    exact out_piece x0 x1 x2 x3 x4 x5 k0_pay2 1 1 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      1 0 (kernelRun0_A.sl.v916 c arg3 harg3 arg4 harg4 arg6 harg6 arg9 x1 x2 x4) j from rfl).trans ?_
    rw [zero_4 c arg3 harg3 arg4 harg4 arg6 harg6, harg2.read_unread, harg3.read_unread, harg4.read_unread, harg5.read_unread, harg6.read_unread, harg7.read_unread]
    exact out_piece x0 x1 x2 x3 x4 x5 k0_pay2 1 0 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      0 3 (kernelRun0_A.sl.v855 c arg3 harg3 arg4 harg4 arg6 harg6 arg9 x1 x2 x4) j from rfl).trans ?_
    rw [zero_3 c arg3 harg3 arg4 harg4 arg6 harg6, harg2.read_unread, harg3.read_unread, harg4.read_unread, harg5.read_unread, harg6.read_unread, harg7.read_unread]
    exact out_piece x0 x1 x2 x3 x4 x5 k0_pay2 0 3 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      0 2 (kernelRun0_A.sl.v794 c arg3 harg3 arg4 harg4 arg6 harg6 arg9 x1 x2 x4) j from rfl).trans ?_
    rw [zero_2 c arg3 harg3 arg4 harg4 arg6 harg6, harg2.read_unread, harg3.read_unread, harg4.read_unread, harg5.read_unread, harg6.read_unread, harg7.read_unread]
    exact out_piece x0 x1 x2 x3 x4 x5 k0_pay2 0 2 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      0 1 (kernelRun0_A.sl.v733 c arg3 harg3 arg4 harg4 arg6 harg6 arg9 x1 x2 x4) j from rfl).trans ?_
    rw [zero_1 c arg3 harg3 arg4 harg4 arg6 harg6, harg2.read_unread, harg3.read_unread, harg4.read_unread, harg5.read_unread, harg6.read_unread, harg7.read_unread]
    exact out_piece x0 x1 x2 x3 x4 x5 k0_pay2 0 1 j
  · intro j
    refine (show _ = outWith (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5))
      0 0 (kernelRun0_A.sl.v672 c arg9) j from rfl).trans ?_
    rw [zero_0, harg2.read_unread, harg3.read_unread, harg4.read_unread, harg5.read_unread, harg6.read_unread, harg7.read_unread]
    exact out_piece x0 x1 x2 x3 x4 x5 k0_pay2 0 0 j

theorem st_A (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x512 .f32) (harg6 : arg6.IsWhole) (arg7 : Memref sig .tc .vmem S1x256 .f32) (harg7 : arg7.IsWhole) (arg8 : Memref sig .tc .vmem S4x256x1024 .bf16) (harg8 : arg8.IsWhole) (arg9 : Memref sig .tc .vmem S4x4x256x128 .f32) (harg9 : arg9.IsWhole) (hc : cond0_0 i)
    (x0 : Vec F S4x256x512 .bf16) (x1 : Vec F S4x256x512 .bf16) (x2 : Vec F S4x256x1024 .bf16) (x3 : Vec F S4x256x1024 .bf16) (x4 : Vec F S4x256x512 .f32) (x5 : Vec F S1x256 .f32) :
    sout0_A_0 c i arg2 harg2 arg3 harg3 arg4 harg4 arg5 harg5 arg6 harg6 arg7 harg7 arg8 harg8 arg9 harg9 hc x0 x1 x2 x3 x4 x5 = st x1 x2 x4 k0_pay2 := by
  unfold sout0_A_0
  rw [View.read_writes_eq_canon _ _ _ (scover0_A_0 c i arg2 harg2 arg3 harg3 arg4 harg4 arg5 harg5 arg6 harg6 arg7 harg7 arg8 harg8 arg9 harg9 hc x0 x1 x2 x3 x4 x5)]
  funext y
  unfold kernelRun0_A
  dsimp only
  delta kernelRun0_A.sl.HS0_16 kernelRun0_A.sl.HS0_15 kernelRun0_A.sl.HS0_14 kernelRun0_A.sl.HS0_13 kernelRun0_A.sl.HS0_12 kernelRun0_A.sl.HS0_11 kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  refine canon_first (st x1 x2 x4 k0_pay2) _ [_, _, _, _, _, _, _, _, _, _, _, _, _, _, _, _] ?_ y
    (View.cover_of_tiledL (s := S4x4x256x128) _ S1x1x256x128.size (by sl_kernel_rfl) y)
  simp only [List.forall_mem_cons, List.not_mem_nil, false_implies, implies_true, and_true]
  refine ⟨?_, ?_, ?_, ?_, ?_, ?_, ?_, ?_, ?_, ?_, ?_, ?_, ?_, ?_, ?_, ?_⟩
  · intro j
    refine (show _ = stWith (arg3.view.read (Elt F) (harg3.unread x1)) (arg4.view.read (Elt F) (harg4.unread x2)) (arg6.view.read (Elt F) (harg6.unread x4))
      3 3 (kernelRun0_A.sl.v1587 c arg3 harg3 arg4 harg4 arg6 harg6 arg9 x1 x2 x4) j from rfl).trans ?_
    rw [zero_15 c arg3 harg3 arg4 harg4 arg6 harg6, harg3.read_unread, harg4.read_unread, harg6.read_unread]
    exact st_piece x1 x2 x4 k0_pay2 3 3 j
  · intro j
    refine (show _ = stWith (arg3.view.read (Elt F) (harg3.unread x1)) (arg4.view.read (Elt F) (harg4.unread x2)) (arg6.view.read (Elt F) (harg6.unread x4))
      3 2 (kernelRun0_A.sl.v1526 c arg3 harg3 arg4 harg4 arg6 harg6 arg9 x1 x2 x4) j from rfl).trans ?_
    rw [zero_14 c arg3 harg3 arg4 harg4 arg6 harg6, harg3.read_unread, harg4.read_unread, harg6.read_unread]
    exact st_piece x1 x2 x4 k0_pay2 3 2 j
  · intro j
    refine (show _ = stWith (arg3.view.read (Elt F) (harg3.unread x1)) (arg4.view.read (Elt F) (harg4.unread x2)) (arg6.view.read (Elt F) (harg6.unread x4))
      3 1 (kernelRun0_A.sl.v1465 c arg3 harg3 arg4 harg4 arg6 harg6 arg9 x1 x2 x4) j from rfl).trans ?_
    rw [zero_13 c arg3 harg3 arg4 harg4 arg6 harg6, harg3.read_unread, harg4.read_unread, harg6.read_unread]
    exact st_piece x1 x2 x4 k0_pay2 3 1 j
  · intro j
    refine (show _ = stWith (arg3.view.read (Elt F) (harg3.unread x1)) (arg4.view.read (Elt F) (harg4.unread x2)) (arg6.view.read (Elt F) (harg6.unread x4))
      3 0 (kernelRun0_A.sl.v1404 c arg3 harg3 arg4 harg4 arg6 harg6 arg9 x1 x2 x4) j from rfl).trans ?_
    rw [zero_12 c arg3 harg3 arg4 harg4 arg6 harg6, harg3.read_unread, harg4.read_unread, harg6.read_unread]
    exact st_piece x1 x2 x4 k0_pay2 3 0 j
  · intro j
    refine (show _ = stWith (arg3.view.read (Elt F) (harg3.unread x1)) (arg4.view.read (Elt F) (harg4.unread x2)) (arg6.view.read (Elt F) (harg6.unread x4))
      2 3 (kernelRun0_A.sl.v1343 c arg3 harg3 arg4 harg4 arg6 harg6 arg9 x1 x2 x4) j from rfl).trans ?_
    rw [zero_11 c arg3 harg3 arg4 harg4 arg6 harg6, harg3.read_unread, harg4.read_unread, harg6.read_unread]
    exact st_piece x1 x2 x4 k0_pay2 2 3 j
  · intro j
    refine (show _ = stWith (arg3.view.read (Elt F) (harg3.unread x1)) (arg4.view.read (Elt F) (harg4.unread x2)) (arg6.view.read (Elt F) (harg6.unread x4))
      2 2 (kernelRun0_A.sl.v1282 c arg3 harg3 arg4 harg4 arg6 harg6 arg9 x1 x2 x4) j from rfl).trans ?_
    rw [zero_10 c arg3 harg3 arg4 harg4 arg6 harg6, harg3.read_unread, harg4.read_unread, harg6.read_unread]
    exact st_piece x1 x2 x4 k0_pay2 2 2 j
  · intro j
    refine (show _ = stWith (arg3.view.read (Elt F) (harg3.unread x1)) (arg4.view.read (Elt F) (harg4.unread x2)) (arg6.view.read (Elt F) (harg6.unread x4))
      2 1 (kernelRun0_A.sl.v1221 c arg3 harg3 arg4 harg4 arg6 harg6 arg9 x1 x2 x4) j from rfl).trans ?_
    rw [zero_9 c arg3 harg3 arg4 harg4 arg6 harg6, harg3.read_unread, harg4.read_unread, harg6.read_unread]
    exact st_piece x1 x2 x4 k0_pay2 2 1 j
  · intro j
    refine (show _ = stWith (arg3.view.read (Elt F) (harg3.unread x1)) (arg4.view.read (Elt F) (harg4.unread x2)) (arg6.view.read (Elt F) (harg6.unread x4))
      2 0 (kernelRun0_A.sl.v1160 c arg3 harg3 arg4 harg4 arg6 harg6 arg9 x1 x2 x4) j from rfl).trans ?_
    rw [zero_8 c arg3 harg3 arg4 harg4 arg6 harg6, harg3.read_unread, harg4.read_unread, harg6.read_unread]
    exact st_piece x1 x2 x4 k0_pay2 2 0 j
  · intro j
    refine (show _ = stWith (arg3.view.read (Elt F) (harg3.unread x1)) (arg4.view.read (Elt F) (harg4.unread x2)) (arg6.view.read (Elt F) (harg6.unread x4))
      1 3 (kernelRun0_A.sl.v1099 c arg3 harg3 arg4 harg4 arg6 harg6 arg9 x1 x2 x4) j from rfl).trans ?_
    rw [zero_7 c arg3 harg3 arg4 harg4 arg6 harg6, harg3.read_unread, harg4.read_unread, harg6.read_unread]
    exact st_piece x1 x2 x4 k0_pay2 1 3 j
  · intro j
    refine (show _ = stWith (arg3.view.read (Elt F) (harg3.unread x1)) (arg4.view.read (Elt F) (harg4.unread x2)) (arg6.view.read (Elt F) (harg6.unread x4))
      1 2 (kernelRun0_A.sl.v1038 c arg3 harg3 arg4 harg4 arg6 harg6 arg9 x1 x2 x4) j from rfl).trans ?_
    rw [zero_6 c arg3 harg3 arg4 harg4 arg6 harg6, harg3.read_unread, harg4.read_unread, harg6.read_unread]
    exact st_piece x1 x2 x4 k0_pay2 1 2 j
  · intro j
    refine (show _ = stWith (arg3.view.read (Elt F) (harg3.unread x1)) (arg4.view.read (Elt F) (harg4.unread x2)) (arg6.view.read (Elt F) (harg6.unread x4))
      1 1 (kernelRun0_A.sl.v977 c arg3 harg3 arg4 harg4 arg6 harg6 arg9 x1 x2 x4) j from rfl).trans ?_
    rw [zero_5 c arg3 harg3 arg4 harg4 arg6 harg6, harg3.read_unread, harg4.read_unread, harg6.read_unread]
    exact st_piece x1 x2 x4 k0_pay2 1 1 j
  · intro j
    refine (show _ = stWith (arg3.view.read (Elt F) (harg3.unread x1)) (arg4.view.read (Elt F) (harg4.unread x2)) (arg6.view.read (Elt F) (harg6.unread x4))
      1 0 (kernelRun0_A.sl.v916 c arg3 harg3 arg4 harg4 arg6 harg6 arg9 x1 x2 x4) j from rfl).trans ?_
    rw [zero_4 c arg3 harg3 arg4 harg4 arg6 harg6, harg3.read_unread, harg4.read_unread, harg6.read_unread]
    exact st_piece x1 x2 x4 k0_pay2 1 0 j
  · intro j
    refine (show _ = stWith (arg3.view.read (Elt F) (harg3.unread x1)) (arg4.view.read (Elt F) (harg4.unread x2)) (arg6.view.read (Elt F) (harg6.unread x4))
      0 3 (kernelRun0_A.sl.v855 c arg3 harg3 arg4 harg4 arg6 harg6 arg9 x1 x2 x4) j from rfl).trans ?_
    rw [zero_3 c arg3 harg3 arg4 harg4 arg6 harg6, harg3.read_unread, harg4.read_unread, harg6.read_unread]
    exact st_piece x1 x2 x4 k0_pay2 0 3 j
  · intro j
    refine (show _ = stWith (arg3.view.read (Elt F) (harg3.unread x1)) (arg4.view.read (Elt F) (harg4.unread x2)) (arg6.view.read (Elt F) (harg6.unread x4))
      0 2 (kernelRun0_A.sl.v794 c arg3 harg3 arg4 harg4 arg6 harg6 arg9 x1 x2 x4) j from rfl).trans ?_
    rw [zero_2 c arg3 harg3 arg4 harg4 arg6 harg6, harg3.read_unread, harg4.read_unread, harg6.read_unread]
    exact st_piece x1 x2 x4 k0_pay2 0 2 j
  · intro j
    refine (show _ = stWith (arg3.view.read (Elt F) (harg3.unread x1)) (arg4.view.read (Elt F) (harg4.unread x2)) (arg6.view.read (Elt F) (harg6.unread x4))
      0 1 (kernelRun0_A.sl.v733 c arg3 harg3 arg4 harg4 arg6 harg6 arg9 x1 x2 x4) j from rfl).trans ?_
    rw [zero_1 c arg3 harg3 arg4 harg4 arg6 harg6, harg3.read_unread, harg4.read_unread, harg6.read_unread]
    exact st_piece x1 x2 x4 k0_pay2 0 1 j
  · intro j
    refine (show _ = stWith (arg3.view.read (Elt F) (harg3.unread x1)) (arg4.view.read (Elt F) (harg4.unread x2)) (arg6.view.read (Elt F) (harg6.unread x4))
      0 0 (kernelRun0_A.sl.v672 c arg9) j from rfl).trans ?_
    rw [zero_0, harg3.read_unread, harg4.read_unread, harg6.read_unread]
    exact st_piece x1 x2 x4 k0_pay2 0 0 j

end Cert.Proof.Block
end
-- ==== Proof.BlockB.lean ====
module

public import proofs.«01_k».proof.Proof.BlockPieces

@[expose] public section
set_option maxRecDepth 16384

noncomputable section
namespace Cert.Proof.Block
open Idealize.ShloMosaic Idealize.SL.Sem Cert.KernelIdeal Cert.KernelIdeal.Gen
variable {F : FTy → Type} [FloatOps F]

theorem out_B (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x512 .f32) (harg6 : arg6.IsWhole) (arg7 : Memref sig .tc .vmem S1x256 .f32) (harg7 : arg7.IsWhole) (arg8 : Memref sig .tc .vmem S4x256x1024 .bf16) (harg8 : arg8.IsWhole) (arg9 : Memref sig .tc .vmem S4x4x256x128 .f32) (harg9 : arg9.IsWhole) (hc : ¬ cond0_0 i)
    (x0 : Vec F S4x256x512 .bf16) (x1 : Vec F S4x256x512 .bf16) (x2 : Vec F S4x256x1024 .bf16) (x3 : Vec F S4x256x1024 .bf16) (x4 : Vec F S4x256x512 .f32) (x5 : Vec F S1x256 .f32) (xs : Vec F S4x4x256x128 .f32) :
    out0_B_6 c i arg2 harg2 arg3 harg3 arg4 harg4 arg5 harg5 arg6 harg6 arg7 harg7 arg8 harg8 arg9 harg9 hc x0 x1 x2 x3 x4 x5 xs = out x0 x1 x2 x3 x4 x5 xs := by
  unfold out0_B_6
  rw [View.read_writes_eq_canon _ _ _ (cover0_B_6 c i arg2 harg2 arg3 harg3 arg4 harg4 arg5 harg5 arg6 harg6 arg7 harg7 arg8 harg8 arg9 harg9 hc x0 x1 x2 x3 x4 x5 xs)]
  funext y
  refine View.canon_apply_of_pieces _ _ ?_ y (cover0_B_6 c i arg2 harg2 arg3 harg3 arg4 harg4 arg5 harg5 arg6 harg6 arg7 harg7 arg8 harg8 arg9 harg9 hc x0 x1 x2 x3 x4 x5 xs y)
  unfold kernelRun0_B
  dsimp only
  sl_unfold_words
  simp only [View.readAt_eq_ld, harg2.read_unread, harg3.read_unread, harg4.read_unread, harg5.read_unread, harg6.read_unread,
    harg7.read_unread, harg9.read_unread, List.forall_mem_cons, List.not_mem_nil, false_implies, implies_true, and_true]
  refine ⟨?_, ?_, ?_, ?_, ?_, ?_, ?_, ?_, ?_, ?_, ?_, ?_, ?_, ?_, ?_, ?_⟩
  · intro j
    refine Eq.trans ?_ (out_piece x0 x1 x2 x3 x4 x5 xs 3 3 j)
    unfold outAt outWith outHead
    rfl
  · intro j
    refine Eq.trans ?_ (out_piece x0 x1 x2 x3 x4 x5 xs 3 2 j)
    unfold outAt outWith outHead
    rfl
  · intro j
    refine Eq.trans ?_ (out_piece x0 x1 x2 x3 x4 x5 xs 3 1 j)
    unfold outAt outWith outHead
    rfl
  · intro j
    refine Eq.trans ?_ (out_piece x0 x1 x2 x3 x4 x5 xs 3 0 j)
    unfold outAt outWith outHead
    rfl
  · intro j
    refine Eq.trans ?_ (out_piece x0 x1 x2 x3 x4 x5 xs 2 3 j)
    unfold outAt outWith outHead
    rfl
  · intro j
    refine Eq.trans ?_ (out_piece x0 x1 x2 x3 x4 x5 xs 2 2 j)
    unfold outAt outWith outHead
    rfl
  · intro j
    refine Eq.trans ?_ (out_piece x0 x1 x2 x3 x4 x5 xs 2 1 j)
    unfold outAt outWith outHead
    rfl
  · intro j
    refine Eq.trans ?_ (out_piece x0 x1 x2 x3 x4 x5 xs 2 0 j)
    unfold outAt outWith outHead
    rfl
  · intro j
    refine Eq.trans ?_ (out_piece x0 x1 x2 x3 x4 x5 xs 1 3 j)
    unfold outAt outWith outHead
    rfl
  · intro j
    refine Eq.trans ?_ (out_piece x0 x1 x2 x3 x4 x5 xs 1 2 j)
    unfold outAt outWith outHead
    rfl
  · intro j
    refine Eq.trans ?_ (out_piece x0 x1 x2 x3 x4 x5 xs 1 1 j)
    unfold outAt outWith outHead
    rfl
  · intro j
    refine Eq.trans ?_ (out_piece x0 x1 x2 x3 x4 x5 xs 1 0 j)
    unfold outAt outWith outHead
    rfl
  · intro j
    refine Eq.trans ?_ (out_piece x0 x1 x2 x3 x4 x5 xs 0 3 j)
    unfold outAt outWith outHead
    rfl
  · intro j
    refine Eq.trans ?_ (out_piece x0 x1 x2 x3 x4 x5 xs 0 2 j)
    unfold outAt outWith outHead
    rfl
  · intro j
    refine Eq.trans ?_ (out_piece x0 x1 x2 x3 x4 x5 xs 0 1 j)
    unfold outAt outWith outHead
    rfl
  · intro j
    refine Eq.trans ?_ (out_piece x0 x1 x2 x3 x4 x5 xs 0 0 j)
    unfold outAt outWith outHead
    rfl

theorem st_B (c : Dev nD) (i : grid0.Coords) (arg2 : Memref sig .tc .vmem S4x256x512 .bf16) (harg2 : arg2.IsWhole) (arg3 : Memref sig .tc .vmem S4x256x512 .bf16) (harg3 : arg3.IsWhole) (arg4 : Memref sig .tc .vmem S4x256x1024 .bf16) (harg4 : arg4.IsWhole) (arg5 : Memref sig .tc .vmem S4x256x1024 .bf16) (harg5 : arg5.IsWhole) (arg6 : Memref sig .tc .vmem S4x256x512 .f32) (harg6 : arg6.IsWhole) (arg7 : Memref sig .tc .vmem S1x256 .f32) (harg7 : arg7.IsWhole) (arg8 : Memref sig .tc .vmem S4x256x1024 .bf16) (harg8 : arg8.IsWhole) (arg9 : Memref sig .tc .vmem S4x4x256x128 .f32) (harg9 : arg9.IsWhole) (hc : ¬ cond0_0 i)
    (x0 : Vec F S4x256x512 .bf16) (x1 : Vec F S4x256x512 .bf16) (x2 : Vec F S4x256x1024 .bf16) (x3 : Vec F S4x256x1024 .bf16) (x4 : Vec F S4x256x512 .f32) (x5 : Vec F S1x256 .f32) (xs : Vec F S4x4x256x128 .f32) :
    sout0_B_0 c i arg2 harg2 arg3 harg3 arg4 harg4 arg5 harg5 arg6 harg6 arg7 harg7 arg8 harg8 arg9 harg9 hc x0 x1 x2 x3 x4 x5 xs = st x1 x2 x4 xs := by
  unfold sout0_B_0
  rw [View.read_writes_eq_canon _ _ _ (scover0_B_0 c i arg2 harg2 arg3 harg3 arg4 harg4 arg5 harg5 arg6 harg6 arg7 harg7 arg8 harg8 arg9 harg9 hc x0 x1 x2 x3 x4 x5 xs)]
  funext y
  refine View.canon_apply_of_pieces _ _ ?_ y (scover0_B_0 c i arg2 harg2 arg3 harg3 arg4 harg4 arg5 harg5 arg6 harg6 arg7 harg7 arg8 harg8 arg9 harg9 hc x0 x1 x2 x3 x4 x5 xs y)
  unfold kernelRun0_B
  dsimp only
  sl_unfold_words
  simp only [View.readAt_eq_ld, harg2.read_unread, harg3.read_unread, harg4.read_unread, harg5.read_unread, harg6.read_unread,
    harg7.read_unread, harg9.read_unread, List.forall_mem_cons, List.not_mem_nil, false_implies, implies_true, and_true]
  refine ⟨?_, ?_, ?_, ?_, ?_, ?_, ?_, ?_, ?_, ?_, ?_, ?_, ?_, ?_, ?_, ?_⟩
  · intro j
    refine Eq.trans ?_ (st_piece x1 x2 x4 xs 3 3 j)
    unfold stAt stWith stHead
    rfl
  · intro j
    refine Eq.trans ?_ (st_piece x1 x2 x4 xs 3 2 j)
    unfold stAt stWith stHead
    rfl
  · intro j
    refine Eq.trans ?_ (st_piece x1 x2 x4 xs 3 1 j)
    unfold stAt stWith stHead
    rfl
  · intro j
    refine Eq.trans ?_ (st_piece x1 x2 x4 xs 3 0 j)
    unfold stAt stWith stHead
    rfl
  · intro j
    refine Eq.trans ?_ (st_piece x1 x2 x4 xs 2 3 j)
    unfold stAt stWith stHead
    rfl
  · intro j
    refine Eq.trans ?_ (st_piece x1 x2 x4 xs 2 2 j)
    unfold stAt stWith stHead
    rfl
  · intro j
    refine Eq.trans ?_ (st_piece x1 x2 x4 xs 2 1 j)
    unfold stAt stWith stHead
    rfl
  · intro j
    refine Eq.trans ?_ (st_piece x1 x2 x4 xs 2 0 j)
    unfold stAt stWith stHead
    rfl
  · intro j
    refine Eq.trans ?_ (st_piece x1 x2 x4 xs 1 3 j)
    unfold stAt stWith stHead
    rfl
  · intro j
    refine Eq.trans ?_ (st_piece x1 x2 x4 xs 1 2 j)
    unfold stAt stWith stHead
    rfl
  · intro j
    refine Eq.trans ?_ (st_piece x1 x2 x4 xs 1 1 j)
    unfold stAt stWith stHead
    rfl
  · intro j
    refine Eq.trans ?_ (st_piece x1 x2 x4 xs 1 0 j)
    unfold stAt stWith stHead
    rfl
  · intro j
    refine Eq.trans ?_ (st_piece x1 x2 x4 xs 0 3 j)
    unfold stAt stWith stHead
    rfl
  · intro j
    refine Eq.trans ?_ (st_piece x1 x2 x4 xs 0 2 j)
    unfold stAt stWith stHead
    rfl
  · intro j
    refine Eq.trans ?_ (st_piece x1 x2 x4 xs 0 1 j)
    unfold stAt stWith stHead
    rfl
  · intro j
    refine Eq.trans ?_ (st_piece x1 x2 x4 xs 0 0 j)
    unfold stAt stWith stHead
    rfl

end Cert.Proof.Block
end
-- ==== Proof.Spec.lean ====
module

public import Idealize.ShloMosaic.Lib.Pointwise

@[expose] public section
set_option maxRecDepth 16384

noncomputable section
namespace Cert.Proof.Spec
open Idealize.ShloMosaic

/-! ## Gated linear attention, one head of one batch row, a chunk of 64 positions at a time

Every statement here is over the extended reals and mentions no program. -/

/-- One chunk of one head: its queries, keys, values and log decays. -/
structure Chunk where
  q : Fin 64 → Fin 128 → EReal
  k : Fin 64 → Fin 128 → EReal
  v : Fin 64 → Fin 256 → EReal
  la : Fin 64 → Fin 128 → EReal

/-- A head's state: keys by values. -/
abbrev State := Fin 128 → Fin 256 → EReal

/-- The number every query is scaled by. -/
def scale : EReal := Ideal.ofBits .f32 0x3DB504F3#32

namespace Chunk
variable (c : Chunk)

/-- The log decay from the chunk's start through position `i`. -/
def cum (i : Fin 64) (d : Fin 128) : EReal := ∑ j : Fin 64, if j ≤ i then c.la j d else 0
/-- The log decay over the whole chunk. -/
def last (d : Fin 128) : EReal := c.cum 63 d
/-- The scaled queries decayed from the chunk's start. -/
def qDec (i : Fin 64) (d : Fin 128) : EReal := c.q i d * scale * Ideal.exp (c.cum i d)
/-- The keys with the decay from the chunk's start taken out. -/
def kInv (i : Fin 64) (d : Fin 128) : EReal := c.k i d * Ideal.exp (-c.cum i d)
/-- The keys decayed to the chunk's end. -/
def kEnd (i : Fin 64) (d : Fin 128) : EReal := c.k i d * Ideal.exp (c.last d - c.cum i d)
/-- A position's score with an earlier position of its chunk. -/
def score (i j : Fin 64) : EReal := if j ≤ i then ∑ d : Fin 128, c.qDec i d * c.kInv j d else 0
/-- What a position gets from its own chunk. -/
def intra (i : Fin 64) (w : Fin 256) : EReal := ∑ j : Fin 64, c.score i j * c.v j w
/-- What the chunk adds to the state. -/
def kv (d : Fin 128) (w : Fin 256) : EReal := ∑ j : Fin 64, c.kEnd j d * c.v j w
/-- The state after the chunk. -/
def next (S : State) : State := fun d w => Ideal.exp (c.last d) * S d w + c.kv d w
/-- What a position reads: its own chunk's part and the state's part. -/
def read (S : State) (i : Fin 64) (w : Fin 256) : EReal := c.intra i w + ∑ d : Fin 128, c.qDec i d * S d w

end Chunk

/-- The state before chunk `n` of a run of chunks. -/
def states (cs : ℕ → Chunk) : ℕ → State
  | 0 => fun _ _ => 0
  | n + 1 => (cs n).next (states cs n)

/-- The end of the head: the root mean square taken out of the 256 values, the gain and the gate multiplied in. -/
def finish (o : Fin 256 → EReal) (gain gate : EReal) (w : Fin 256) : EReal :=
  o w * Ideal.rsqrt (Ideal.div (∑ u : Fin 256, o u * o u) (Ideal.ofBits .f32 0x43800000#32) + Ideal.ofBits .f32 0x358637BD#32)
    * gain * (gate * Ideal.logistic gate)

/-! ## The whole arrays -/

/-- An array by its coordinates. -/
def arr {a b c : ℕ} (x : (⟨3, ![a, b, c]⟩ : Shape).Idx → EReal) (i : Fin a) (j : Fin b) (k : Fin c) : EReal := x (ix3 i j k)

/-- Row `64 * n + i` of the sequence, column `128 * h + d` of the queries and keys, column `256 * h + w` of the values. -/
def row (n : Fin 32) (i : Fin 64) : Fin 2048 := ⟨64 * n.val + i.val, by omega⟩
def keyCol (h : Fin 4) (d : Fin 128) : Fin 512 := ⟨128 * h.val + d.val, by omega⟩
def valCol (h : Fin 4) (w : Fin 256) : Fin 1024 := ⟨256 * h.val + w.val, by omega⟩

/-- Chunk `n` of head `h` of batch row `b`. -/
def chunk (q k : Fin 8 → Fin 2048 → Fin 512 → EReal) (v : Fin 8 → Fin 2048 → Fin 1024 → EReal)
    (la : Fin 8 → Fin 2048 → Fin 512 → EReal) (b : Fin 8) (h : Fin 4) (n : Fin 32) : Chunk where
  q i d := q b (row n i) (keyCol h d)
  k i d := k b (row n i) (keyCol h d)
  v i w := v b (row n i) (valCol h w)
  la i d := la b (row n i) (keyCol h d)

/-- The chunks of a head in their order. -/
def chunks (q k : Fin 8 → Fin 2048 → Fin 512 → EReal) (v : Fin 8 → Fin 2048 → Fin 1024 → EReal)
    (la : Fin 8 → Fin 2048 → Fin 512 → EReal) (b : Fin 8) (h : Fin 4) (n : ℕ) : Chunk := chunk q k v la b h (Fin.ofNat 32 n)

/-- The attention's result at position `i` of chunk `n`. -/
def attention (q k : Fin 8 → Fin 2048 → Fin 512 → EReal) (v g : Fin 8 → Fin 2048 → Fin 1024 → EReal)
    (la : Fin 8 → Fin 2048 → Fin 512 → EReal) (gain : Fin 256 → EReal) (b : Fin 8) (h : Fin 4) (n : Fin 32) (i : Fin 64)
    (w : Fin 256) : EReal :=
  finish ((chunk q k v la b h n).read (states (chunks q k v la b h) n.val) i) (gain w) (g b (row n i) (valCol h w)) w

/-! ## Sums -/

/-- A sum with a bottom term is bottom. -/
theorem sum_bot {ι : Type} (s : Finset ι) (f : ι → EReal) (i : ι) (hi : i ∈ s) (h : f i = ⊥) : ∑ j ∈ s, f j = ⊥ := by
  classical
  rw [← Finset.add_sum_erase s f hi, h, EReal.bot_add]

/-- A masked sum of numbers below top split in three by the differences `x - x` and `(x - x) - (x - x)` is the masked sum. -/
theorem split_sum {ι : Type} [Fintype ι] (m : ι → Prop) [DecidablePred m] (f : ι → EReal) (hf : ∀ i, f i ≠ ⊤) :
    (∑ i, (if m i then (1 : EReal) else 0) * f i) + (∑ i, (if m i then (1 : EReal) else 0) * (f i - f i))
      + (∑ i, (if m i then (1 : EReal) else 0) * ((f i - f i) - (f i - f i))) = ∑ i, if m i then f i else 0 := by
  have e : ∀ g : ι → EReal, (∑ i, (if m i then (1 : EReal) else 0) * g i) = ∑ i, if m i then g i else 0 := fun g =>
    Finset.sum_congr rfl fun i _ => by by_cases h : m i <;> simp [h]
  rw [e, e, e]
  by_cases hb : ∃ i, m i ∧ f i = ⊥
  · obtain ⟨i, hm, hi⟩ := hb
    rw [sum_bot Finset.univ (fun i => if m i then f i else 0) i (Finset.mem_univ i) (by simp [hm, hi]), EReal.bot_add, EReal.bot_add]
  · have z : ∀ i, m i → f i - f i = 0 := fun i hm => EReal.sub_self (hf i) fun h => hb ⟨i, hm, h⟩
    have z1 : (∑ i, if m i then f i - f i else 0) = 0 := Finset.sum_eq_zero fun i _ => by
      by_cases h : m i
      · simp [h, z i h]
      · simp [h]
    have z2 : (∑ i, if m i then (f i - f i) - (f i - f i) else 0) = 0 := Finset.sum_eq_zero fun i _ => by
      by_cases h : m i
      · simp [h, z i h]
      · simp [h]
    rw [z1, z2, add_zero, add_zero]

/-- A sum over 256 positions of a function that is zero off one chunk is the sum over the chunk. -/
theorem sum_chunk (ci : Fin 4) (f : Fin 256 → EReal) (h0 : ∀ p : Fin 256, p.val / 64 ≠ ci.val → f p = 0) :
    ∑ p : Fin 256, f p = ∑ j : Fin 64, f ⟨64 * ci.val + j.val, by omega⟩ := by
  have hinj : Function.Injective (fun j : Fin 64 => (⟨64 * ci.val + j.val, by omega⟩ : Fin 256)) := fun a b hab => by
    have := congrArg Fin.val hab; ext; simpa using this
  refine (Finset.sum_of_injOn (fun j : Fin 64 => (⟨64 * ci.val + j.val, by omega⟩ : Fin 256)) hinj.injOn (fun _ _ => Finset.mem_coe.mpr (Finset.mem_univ _)) ?_ (fun _ _ => rfl)).symm
  intro p _ hp
  refine h0 p fun h => hp ?_
  refine ⟨⟨p.val - 64 * ci.val, by have := p.isLt; omega⟩, Finset.mem_coe.mpr (Finset.mem_univ _), ?_⟩
  ext; show 64 * ci.val + (p.val - 64 * ci.val) = p.val; omega

/-- `z / (1 + exp (0 - z))` is `z * logistic z`. -/
theorem silu (z : EReal) : Ideal.div z (1 + Ideal.exp (0 - z)) = z * Ideal.logistic z := by
  have h : (1 : EReal) + Ideal.exp (0 - z) ≠ 0 := by
    have h0 : (0 : EReal) ≤ Ideal.exp (0 - z) := by
      generalize 0 - z = x
      induction x using EReal.rec with
      | bot => exact le_refl _
      | top => exact le_top
      | coe x => exact EReal.coe_nonneg.mpr (Real.exp_pos x).le
    have h1 : (0 : EReal) < 1 + Ideal.exp (0 - z) := lt_of_lt_of_le zero_lt_one (by simpa using add_le_add_right h0 1)
    exact h1.ne'
  have e : Ideal.logistic z = Ideal.div 1 (1 + Ideal.exp (-z)) := rfl
  rw [e, ← zero_sub z]
  simp only [Ideal.div, if_neg h, one_mul]

end Cert.Proof.Spec
end
-- ==== Proof.BlockValue.lean ====
module

public import proofs.«01_k».proof.Proof.Block
public import proofs.«01_k».proof.Proof.Spec

@[expose] public section
set_option maxRecDepth 16384

noncomputable section
namespace Cert.Proof.Block
open Idealize.ShloMosaic Idealize.SL.Sem Cert.KernelIdeal Cert.KernelIdeal.Gen Cert.Proof.Spec

/-! ## A point's values over the extended reals, read at an index -/

/-- The chunk of a row number, as the kernel computes it: a division rounded down. -/
theorem pay4_apply (p p' : Fin 256) : k0_pay4 (ix2 p p') = BitVec.ofNat 32 (p.val / 64) := by
  pointwise [k0_pay4]
  revert p
  decide

theorem pay3_apply (p p' : Fin 256) : k0_pay3 (ix2 p p') = if p' ≤ p then 1#1 else 0#1 := by
  pointwise [k0_pay3]
  have h : (BitVec.ofNat 32 p'.val).toInt ≤ (BitVec.ofNat 32 p.val).toInt ↔ p' ≤ p := by
    rw [BitVec.toInt_ofNat', BitVec.toInt_ofNat', Fin.le_def]
    norm_num [Int.bmod]
    omega
  unfold IntOp.cmpi
  by_cases hp : p' ≤ p
  · simp [hp, BitVec.sle, h]
  · simp [hp, BitVec.sle, h]

theorem causal_apply (p p' : Fin 256) : causal (ix2 p p') = if p' ≤ p ∧ p'.val / 64 = p.val / 64 then 1#1 else 0#1 := by
  unfold causal
  pointwise [k0_pay7, k0_pay5, k0_pay6]
  have h : ∀ p' : Fin 256, Scalar.select
          (IntOp.andi
            (IntOp.cmpi CmpIPredicate.ne
              (IntOp.subi (BitVec.setWidth 32 (IntOp.cmpi CmpIPredicate.sgt (BitVec.ofNat 32 p'.val) 0#32))
                (BitVec.setWidth 32 (IntOp.cmpi CmpIPredicate.slt (BitVec.ofNat 32 p'.val) 0#32)))
              (Scalar.subi 1#32 0#32))
            (IntOp.cmpi CmpIPredicate.ne (IntOp.remsi ArithUnit.vector (BitVec.ofNat 32 p'.val) 64#32) 0#32))
          (IntOp.subi (IntOp.divsi ArithUnit.vector (BitVec.ofNat 32 p'.val) 64#32) 1#32)
          (IntOp.divsi ArithUnit.vector (BitVec.ofNat 32 p'.val) 64#32) = BitVec.ofNat 32 (p'.val / 64) := by decide
  rw [h, pay3_apply, pay4_apply]
  have e : (BitVec.ofNat 32 (p.val / 64) = BitVec.ofNat 32 (p'.val / 64)) ↔ p'.val / 64 = p.val / 64 := by
    constructor
    · intro h
      have := congrArg BitVec.toNat h
      simp only [BitVec.toNat_ofNat] at this
      omega
    · intro h; rw [h]
  unfold IntOp.cmpi IntOp.andi
  by_cases hq : p'.val / 64 = p.val / 64
  · by_cases hp : p' ≤ p <;> simp [hp, hq]
  · rw [show (BitVec.ofNat 32 (p.val / 64) == BitVec.ofNat 32 (p'.val / 64)) = false from
      beq_eq_false_iff_ne.mpr fun hh => hq (e.mp hh)]
    by_cases hp : p' ≤ p <;> simp [hp, hq]

theorem tril_apply (p p' : Fin 256) :
    tril (F := Ideal) (ix2 p p') = if p' ≤ p ∧ p'.val / 64 = p.val / 64 then (1 : EReal) else 0 := by
  have h : tril (F := Ideal) (ix2 p p') = FloatOps.sitofp (F := Ideal) .f32 ((causal (ix2 p p')).setWidth 32) := by
    rfl
  rw [h, causal_apply]
  have e : FloatOps.sitofp (F := Ideal) FTy.f32 (BitVec.setWidth 32 1#1) = (1 : EReal) := by
    show (((BitVec.setWidth 32 1#1).toInt : ℝ) : EReal) = 1
    rw [show (BitVec.setWidth 32 1#1).toInt = 1 from by decide]; simp
  have e0 : FloatOps.sitofp (F := Ideal) FTy.f32 (BitVec.setWidth 32 0#1) = (0 : EReal) := by
    show (((BitVec.setWidth 32 0#1).toInt : ℝ) : EReal) = 0
    rw [show (BitVec.setWidth 32 0#1).toInt = 0 from by decide]; simp
  by_cases hp : p' ≤ p ∧ p'.val / 64 = p.val / 64
  · rw [if_pos hp, if_pos hp, e]
  · rw [if_neg hp, if_neg hp, e0]

theorem cum_apply (la : Vec Ideal S1x256x512 .f32) (hla : ∀ i, la i ≠ (⊤ : EReal)) (p : Fin 256) (c : Fin 512) :
    cum (F := Ideal) la (ix2 p c) = ∑ x : Fin 256, if x ≤ p ∧ x.val / 64 = p.val / 64 then la (ix3 0 x c) else (0 : EReal) := by
  have h : cum (F := Ideal) la (ix2 p c)
      = (∑ x : Fin 256, tril (F := Ideal) (ix2 p x) * la (ix3 0 x c))
        + (∑ x : Fin 256, tril (F := Ideal) (ix2 p x) * (la (ix3 0 x c) - la (ix3 0 x c)))
        + ∑ x : Fin 256, tril (F := Ideal) (ix2 p x) * (la (ix3 0 x c) - la (ix3 0 x c) - (la (ix3 0 x c) - la (ix3 0 x c))) := by
    unfold cum tril
    pointwise [k0_pay9]
  rw [h]
  simp only [tril_apply]
  exact split_sum (fun x : Fin 256 => x ≤ p ∧ x.val / 64 = p.val / 64) (fun x => la (ix3 0 x c)) fun x => hla _

/-- The last row of each chunk, repeated over its chunk. -/
def ends (x : FVec Ideal S256x512 .f32) : FVec Ideal S256x512 .f32 :=
  concatenate S256x512 0 [⟨S64x512, broadcastTo S64x512 (shapeCast S1x512 (extractStridedSlice S1x512 ![63, 0] x (slice_end 0)) shapeCasts_S1x512_S1x512) broadcasts_S1x512_S64x512⟩,
    ⟨S64x512, broadcastTo S64x512 (shapeCast S1x512 (extractStridedSlice S1x512 ![127, 0] x (slice_end 1)) shapeCasts_S1x512_S1x512) broadcasts_S1x512_S64x512⟩,
    ⟨S64x512, broadcastTo S64x512 (shapeCast S1x512 (extractStridedSlice S1x512 ![191, 0] x (slice_end 2)) shapeCasts_S1x512_S1x512) broadcasts_S1x512_S64x512⟩,
    ⟨S64x512, broadcastTo S64x512 (shapeCast S1x512 (extractStridedSlice S1x512 ![255, 0] x (slice_end 3)) shapeCasts_S1x512_S1x512) broadcasts_S1x512_S64x512⟩]
    concatenates_S64x512_S64x512_S64x512_S64x512_S256x512_d0

/-- Position `i` of chunk `ci` of a block. -/
def pos (ci : Fin 4) (i : Fin 64) : Fin 256 := ⟨64 * ci.val + i.val, by omega⟩

theorem ends_apply (x : FVec Ideal S256x512 .f32) (ci : Fin 4) (i : Fin 64) (c : Fin 512) :
    ends x (ix2 (pos ci i) c) = x (ix2 (pos ci 63) c) := by
  unfold ends
  pointwise []
  have hc := ci.isLt
  have hi := i.isLt
  have hp : (pos ci i).val = 64 * ci.val + i.val := rfl
  obtain h0 | h1 | h2 | h3 : ci.val = 0 ∨ ci.val = 1 ∨ ci.val = 2 ∨ ci.val = 3 := by omega
  · rw [dif_pos (by omega), show ci = 0 from Fin.ext h0]; rfl
  · rw [dif_neg (by omega), dif_pos (by omega), show ci = 1 from Fin.ext h1]; rfl
  · rw [dif_neg (by omega), dif_neg (by omega), dif_pos (by omega), show ci = 2 from Fin.ext h2]; rfl
  · rw [dif_neg (by omega), dif_neg (by omega), dif_neg (by omega), show ci = 3 from Fin.ext h3]; rfl

theorem pos_le (ci : Fin 4) (j i : Fin 64) : (pos ci j ≤ pos ci i ∧ (pos ci j).val / 64 = (pos ci i).val / 64) ↔ j ≤ i := by
  simp only [Fin.le_def, pos]; omega

/-- Chunk `ci` of head `h`, out of one row of a block. -/
def chunkOf (h : Fin 4) (q k : Vec Ideal S1x256x512 .bf16) (v : Vec Ideal S1x256x256 .bf16) (la : Vec Ideal S1x256x512 .f32)
    (ci : Fin 4) : Chunk where
  q i d := q (ix3 0 (pos ci i) (keyCol h d))
  k i d := k (ix3 0 (pos ci i) (keyCol h d))
  v i w := v (ix3 0 (pos ci i) w)
  la i d := la (ix3 0 (pos ci i) (keyCol h d))

section
variable (h : Fin 4) (q k : Vec Ideal S1x256x512 .bf16) (v : Vec Ideal S1x256x256 .bf16) (la : Vec Ideal S1x256x512 .f32)
  (hla : ∀ i, la i ≠ (⊤ : EReal))
include hla

theorem cum_pos (ci : Fin 4) (i : Fin 64) (d : Fin 128) :
    cum (F := Ideal) la (ix2 (pos ci i) (keyCol h d)) = (chunkOf h q k v la ci).cum i d := by
  rw [cum_apply la hla]
  refine (sum_chunk ci _ fun p hp => if_neg fun hh => hp ?_).trans (Finset.sum_congr rfl fun j _ => ?_)
  · rw [hh.2]; simp only [pos]; omega
  · exact if_congr (pos_le ci j i) rfl rfl

theorem last_pos (ci : Fin 4) (i : Fin 64) (d : Fin 128) :
    last (F := Ideal) la (ix2 (pos ci i) (keyCol h d)) = (chunkOf h q k v la ci).last d := by
  rw [Chunk.last, ← cum_pos h q k v la hla]
  have e : last (F := Ideal) la = ends (cum la) := rfl
  rw [e]
  exact ends_apply _ _ _ _

theorem qDec_pos (ci : Fin 4) (i : Fin 64) (d : Fin 128) :
    qDec (F := Ideal) la q (ix2 (pos ci i) (keyCol h d)) = (chunkOf h q k v la ci).qDec i d := by
  rw [Chunk.qDec, ← cum_pos h q k v la hla]
  unfold qDec
  pointwise [k0_pay16]
  rfl

theorem kInv_pos (ci : Fin 4) (i : Fin 64) (d : Fin 128) :
    kInv (F := Ideal) la k (ix2 (pos ci i) (keyCol h d)) = (chunkOf h q k v la ci).kInv i d := by
  rw [Chunk.kInv, ← cum_pos h q k v la hla]
  unfold kInv
  pointwise [k0_pay17, k0_pay15]
  rw [zero_sub]
  rfl

theorem kEnd_pos (ci : Fin 4) (i : Fin 64) (d : Fin 128) :
    kEnd (F := Ideal) la k (ix2 (pos ci i) (keyCol h d)) = (chunkOf h q k v la ci).kEnd i d := by
  rw [Chunk.kEnd, ← cum_pos h q k v la hla, ← last_pos h q k v la hla ci i]
  unfold kEnd
  pointwise [k0_pay18, k0_pay15]
  rfl

omit hla in
theorem scores_apply (qd ki : FVec Ideal S256x512 .bf16) (p p' : Fin 256) :
    scores (F := Ideal) h qd ki (ix2 p p') = if p' ≤ p ∧ p'.val / 64 = p.val / 64 then
      ∑ d : Fin 128, (qd (ix2 p (keyCol h d)) : EReal) * ki (ix2 p' (keyCol h d)) else (0 : EReal) := by
  unfold scores
  pointwise [k0_pay74]
  rw [causal_apply]
  by_cases hp : p' ≤ p ∧ p'.val / 64 = p.val / 64
  · rw [if_pos hp, if_pos hp, ValueIdx.select_one]; rfl
  · rw [if_neg hp, if_neg hp, ValueIdx.select_zero]

theorem intra_pos (ci : Fin 4) (i : Fin 64) (w : Fin 256) :
    intra (F := Ideal) (scores h (qDec la q) (kInv la k)) v (ix2 (pos ci i) w) = (chunkOf h q k v la ci).intra i w := by
  have e : intra (F := Ideal) (scores h (qDec la q) (kInv la k)) v (ix2 (pos ci i) w)
      = ∑ p : Fin 256, scores (F := Ideal) h (qDec la q) (kInv la k) (ix2 (pos ci i) p) * v (ix3 0 p w) := by
    unfold intra
    pointwise []
  rw [e]
  refine (sum_chunk ci _ fun p hp => ?_).trans (Finset.sum_congr rfl fun j _ => ?_)
  · rw [scores_apply, if_neg (fun hh => hp (by rw [hh.2]; simp only [pos]; omega)), zero_mul]
  · change scores (F := Ideal) h (qDec la q) (kInv la k) (ix2 (pos ci i) (pos ci j)) * v (ix3 0 (pos ci j) w) = _
    rw [scores_apply, if_congr (pos_le ci j i) rfl rfl]
    refine congrArg₂ (· * ·) (ite_congr rfl (fun _ => Finset.sum_congr rfl fun d _ => ?_) fun _ => rfl) rfl
    rw [qDec_pos h q k v la hla]
    exact congrArg _ (kInv_pos h q k v la hla ci j d)

theorem stateIn_apply (vc : Vec Ideal S1x64x256 .bf16) (ci : Fin 4) (hv : ∀ j w, vc (ix3 0 j w) = v (ix3 0 (pos ci j) w))
    (w : Fin 256) (d : Fin 128) :
    stateIn (F := Ideal) ci h (kEnd la k) vc (ix2 w d) = (chunkOf h q k v la ci).kv d w := by
  have e : stateIn (F := Ideal) ci h (kEnd la k) vc (ix2 w d)
      = ∑ j : Fin 64, vc (ix3 0 j w) * kEnd (F := Ideal) la k (ix2 (pos ci j) (keyCol h d)) := by
    unfold stateIn
    pointwise []
    rfl
  rw [e]
  refine Finset.sum_congr rfl fun j _ => ?_
  rw [hv, kEnd_pos h q k v la hla, mul_comm]
  rfl

theorem decay_apply (ci : Fin 4) (d : Fin 128) :
    decay (F := Ideal) ci la (ix2 0 (keyCol h d)) = Ideal.exp ((chunkOf h q k v la ci).last d) := by
  rw [Chunk.last, ← cum_pos h q k v la hla]
  unfold decay
  pointwise []
  rfl

theorem next_apply (vc : Vec Ideal S1x64x256 .bf16) (ci : Fin 4) (hv : ∀ j w, vc (ix3 0 j w) = v (ix3 0 (pos ci j) w))
    (st : FVec Ideal S256x128 .f32) (S : State) (hS : ∀ w d, st (ix2 w d) = S d w) (w : Fin 256) (d : Fin 128) :
    next (F := Ideal) h st (decay ci la) (stateIn ci h (kEnd la k) vc) (ix2 w d) = (chunkOf h q k v la ci).next S d w := by
  have e : next (F := Ideal) h st (decay ci la) (stateIn ci h (kEnd la k) vc) (ix2 w d)
      = st (ix2 w d) * decay (F := Ideal) ci la (ix2 0 (keyCol h d)) + stateIn (F := Ideal) ci h (kEnd la k) vc (ix2 w d) := by
    unfold next
    pointwise []
    rfl
  rw [e, hS, decay_apply h q k v la hla, stateIn_apply h q k v la hla vc ci hv, mul_comm]
  rfl

theorem inter_apply (ci : Fin 4) (st : FVec Ideal S256x128 .f32) (S : State) (hS : ∀ w d, st (ix2 w d) = S d w)
    (i : Fin 64) (w : Fin 256) :
    inter (F := Ideal) ci h (qDec la q) st (ix2 i w) = ∑ d : Fin 128, (chunkOf h q k v la ci).qDec i d * S d w := by
  have e : inter (F := Ideal) ci h (qDec la q) st (ix2 i w)
      = ∑ d : Fin 128, qDec (F := Ideal) la q (ix2 (pos ci i) (keyCol h d)) * st (ix2 w d) := by
    unfold inter
    pointwise []
    rfl
  rw [e]
  refine Finset.sum_congr rfl fun d _ => ?_
  rw [qDec_pos h q k v la hla, hS]

end

/-- The end of a head, over the block: what the four chunks read, put together. -/
theorem end_apply (og : Vec Ideal S1x256 .f32) (x : FVec Ideal S256x256 .f32) (y0 y1 y2 y3 : FVec Ideal S64x256 .f32)
    (g : Vec Ideal S1x256x256 .bf16) (ci : Fin 4) (i : Fin 64) (w : Fin 256) (o : Fin 256 → EReal)
    (ho : ∀ u, x (ix2 (pos ci i) u) + (![y0, y1, y2, y3] ci) (ix2 i u) = o u) :
    k0_pay188 (F := Ideal) og x y0 y1 y2 y3 g (ix3 0 (pos ci i) w) = finish o (og (ix2 0 w)) (g (ix3 0 (pos ci i) w)) w := by
  pointwise [k0_pay188]
  have hi := i.isLt
  have hp : (pos ci i).val = 64 * ci.val + i.val := rfl
  rw [silu]
  obtain h0 | h1 | h2 | h3 : ci.val = 0 ∨ ci.val = 1 ∨ ci.val = 2 ∨ ci.val = 3 := by omega
  · have c0 : (pos ci i).val < 64 := by omega
    have ei : ∀ hh, (⟨(pos ci i).val, hh⟩ : Fin 64) = i := fun _ => Fin.ext (by dsimp only; omega)
    obtain rfl : ci = 0 := Fin.ext h0
    simp only [c0, ↓reduceDIte, ei, finish, ← ho]
    rfl
  · have c0 : ¬ (pos ci i).val < 64 := by omega
    have c1 : (pos ci i).val - 64 < 64 := by omega
    have ei : ∀ hh, (⟨(pos ci i).val - 64, hh⟩ : Fin 64) = i := fun _ => Fin.ext (by dsimp only; omega)
    obtain rfl : ci = 1 := Fin.ext h1
    simp only [c0, c1, ↓reduceDIte, ei, finish, ← ho]
    rfl
  · have c0 : ¬ (pos ci i).val < 64 := by omega
    have c1 : ¬ (pos ci i).val - 64 < 64 := by omega
    have c2 : (pos ci i).val - 64 - 64 < 64 := by omega
    have ei : ∀ hh, (⟨(pos ci i).val - 64 - 64, hh⟩ : Fin 64) = i := fun _ => Fin.ext (by dsimp only; omega)
    obtain rfl : ci = 2 := Fin.ext h2
    simp only [c0, c1, c2, ↓reduceDIte, ei, finish, ← ho]
    rfl
  · have c0 : ¬ (pos ci i).val < 64 := by omega
    have c1 : ¬ (pos ci i).val - 64 < 64 := by omega
    have c2 : ¬ (pos ci i).val - 64 - 64 < 64 := by omega
    have ei : ∀ hh, (⟨(pos ci i).val - 64 - 64 - 64, hh⟩ : Fin 64) = i := fun _ => Fin.ext (by dsimp only; omega)
    obtain rfl : ci = 3 := Fin.ext h3
    simp only [c0, c1, c2, ↓reduceDIte, ei, finish, ← ho]
    rfl

/-! ## A head of a row over the block -/

section
variable (h : Fin 4) (q k : Vec Ideal S1x256x512 .bf16) (v : Vec Ideal S1x256x256 .bf16) (la : Vec Ideal S1x256x512 .f32)
  (hla : ∀ i, la i ≠ (⊤ : EReal)) (v0 v1 v2 v3 : Vec Ideal S1x64x256 .bf16)
  (hv0 : ∀ j w, v0 (ix3 0 j w) = v (ix3 0 (pos 0 j) w)) (hv1 : ∀ j w, v1 (ix3 0 j w) = v (ix3 0 (pos 1 j) w))
  (hv2 : ∀ j w, v2 (ix3 0 j w) = v (ix3 0 (pos 2 j) w)) (hv3 : ∀ j w, v3 (ix3 0 j w) = v (ix3 0 (pos 3 j) w))
  (st : Vec Ideal S1x1x256x128 .f32) (S : State) (hS : ∀ w d, st (ix4 0 0 w d) = S d w)

/-- The state before each of the block's chunks, and after the last, from the state before the block. -/
def within (S : State) : ℕ → State
  | 0 => S
  | n + 1 => (chunkOf h q k v la (Fin.ofNat 4 n)).next (within S n)

include hS in
theorem st0_apply (w : Fin 256) (d : Fin 128) : st0 (F := Ideal) st (ix2 w d) = within h q k v la S 0 d w := by
  rw [within, ← hS]
  unfold st0
  pointwise []
include hla hS hv0
theorem st1_apply (w : Fin 256) (d : Fin 128) : st1 (F := Ideal) h la k v0 st (ix2 w d) = within h q k v la S 1 d w :=
  next_apply h q k v la hla v0 0 hv0 _ _ (st0_apply h q k v la st S hS) w d
include hv1
theorem st2_apply (w : Fin 256) (d : Fin 128) : st2 (F := Ideal) h la k v0 v1 st (ix2 w d) = within h q k v la S 2 d w :=
  next_apply h q k v la hla v1 1 hv1 _ _ (st1_apply h q k v la hla v0 hv0 st S hS) w d
include hv2
theorem st3_apply (w : Fin 256) (d : Fin 128) : st3 (F := Ideal) h la k v0 v1 v2 st (ix2 w d) = within h q k v la S 3 d w :=
  next_apply h q k v la hla v2 2 hv2 _ _ (st2_apply h q k v la hla v0 v1 hv0 hv1 st S hS) w d

theorem outHead_apply (og : Vec Ideal S1x256 .f32) (g : Vec Ideal S1x256x256 .bf16) (ci : Fin 4) (i : Fin 64) (w : Fin 256) :
    outHead (F := Ideal) h q k la og v v0 v1 v2 g st (ix3 0 (pos ci i) w)
      = finish ((chunkOf h q k v la ci).read (within h q k v la S ci.val) i) (og (ix2 0 w)) (g (ix3 0 (pos ci i) w)) w := by
  unfold outHead
  refine end_apply og _ _ _ _ _ g ci i w _ fun u => ?_
  rw [intra_pos h q k v la hla, Chunk.read]
  refine congrArg _ ?_
  match ci with
  | ⟨0, _⟩ => exact inter_apply h q k v la hla 0 _ _ (st0_apply h q k v la st S hS) i u
  | ⟨1, _⟩ => exact inter_apply h q k v la hla 1 _ _ (st1_apply h q k v la hla v0 hv0 st S hS) i u
  | ⟨2, _⟩ => exact inter_apply h q k v la hla 2 _ _ (st2_apply h q k v la hla v0 v1 hv0 hv1 st S hS) i u
  | ⟨3, _⟩ => exact inter_apply h q k v la hla 3 _ _ (st3_apply h q k v la hla v0 v1 v2 hv0 hv1 hv2 st S hS) i u

include hv3
theorem stHead_apply (w : Fin 256) (d : Fin 128) :
    stHead (F := Ideal) h k la v0 v1 v2 v3 st (ix4 0 0 w d) = within h q k v la S 4 d w := by
  have e : stHead (F := Ideal) h k la v0 v1 v2 v3 st (ix4 0 0 w d) = st4 (F := Ideal) h la k v0 v1 v2 v3 st (ix2 w d) := by
    unfold stHead
    pointwise []
  rw [e]
  exact next_apply h q k v la hla v3 3 hv3 _ _ (st3_apply h q k v la hla v0 v1 v2 hv0 hv1 hv2 st S hS) w d

end

end Cert.Proof.Block
end
-- ==== Proof.Points.lean ====
module

public import proofs.«01_k».proof.Proof.BlockPieces
public import proofs.«01_k».proof.Proof.BlockA
public import proofs.«01_k».proof.Proof.BlockB
public import proofs.«01_k».proof.Proof.BlockValue
public import Idealize.ShloMosaic.Lib.Pipeline.ValueKit.Point

@[expose] public section
set_option maxRecDepth 16384

noncomputable section
namespace Cert.Proof.Grid
open Idealize.ShloMosaic Idealize.ShloMosaic.TcCoe Idealize.SL.Sem Cert.KernelIdeal Cert.KernelIdeal.Gen Cert.Proof.Spec Cert.Proof.Block

/-! ## The points of the grid: which part of the arrays a point reads, and the fold over a row of points -/

theorem idx : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_5.index t (0 : Fin 2) = 0 ∧ win0_5.index t (1 : Fin 2) = 0) :=
  (by decide +kernel : ∀ t : Fin grid0.N, _)

variable (m : (ℓ : Loc nD τ sig) → Buf (Elt Ideal) ℓ) (c : Dev nD)

/-- Row `b` of point `n`'s four batch rows, and position `p` of its 256 positions. -/
def batch (n : ℕ) (b : Fin 4) : Fin 8 := ⟨4 * (n / 8 % 2) + b.val, by omega⟩
def place (n : ℕ) (p : Fin 256) : Fin 2048 := ⟨256 * (n % 8) + p.val, by omega⟩

/-- The arrays, by their coordinates. -/
def Q : Fin 8 → Fin 2048 → Fin 512 → EReal := arr (m ((c : Thread nD τ).loc main_arg0) : S8x2048x512.Idx → EReal)
def K : Fin 8 → Fin 2048 → Fin 512 → EReal := arr (m ((c : Thread nD τ).loc main_arg1) : S8x2048x512.Idx → EReal)
def V' : Fin 8 → Fin 2048 → Fin 1024 → EReal := arr (m ((c : Thread nD τ).loc main_arg2) : S8x2048x1024.Idx → EReal)
def G' : Fin 8 → Fin 2048 → Fin 1024 → EReal := arr (m ((c : Thread nD τ).loc main_arg3) : S8x2048x1024.Idx → EReal)
def LA : Fin 8 → Fin 2048 → Fin 512 → EReal := arr (m ((c : Thread nD τ).loc main_arg4) : S8x2048x512.Idx → EReal)
def gain (w : Fin 256) : EReal := (m ((c : Thread nD τ).loc main_arg5) : S1x256.Idx → EReal) (ix2 0 w)

section
variable (t : Fin cfg0.N) (b : Fin 4) (p : Fin 256)

theorem blk0 (d : Fin 512) : iblk m c 0 t (ix3 b p d) = Q m c (batch t.val b) (place t.val p) d := by
  have ht := lt_of_lt_of_eq t.isLt N_0
  unfold batch place Q arr
  blk_ext! [iblk, V, idx t]
theorem blk1 (d : Fin 512) : iblk m c 1 t (ix3 b p d) = K m c (batch t.val b) (place t.val p) d := by
  have ht := lt_of_lt_of_eq t.isLt N_0
  unfold batch place K arr
  blk_ext! [iblk, V, idx t]
theorem blk2 (d : Fin 1024) : iblk m c 2 t (ix3 b p d) = V' m c (batch t.val b) (place t.val p) d := by
  have ht := lt_of_lt_of_eq t.isLt N_0
  unfold batch place V' arr
  blk_ext! [iblk, V, idx t]
theorem blk3 (d : Fin 1024) : iblk m c 3 t (ix3 b p d) = G' m c (batch t.val b) (place t.val p) d := by
  have ht := lt_of_lt_of_eq t.isLt N_0
  unfold batch place G' arr
  blk_ext! [iblk, V, idx t]
theorem blk4 (d : Fin 512) : iblk m c 4 t (ix3 b p d) = LA m c (batch t.val b) (place t.val p) d := by
  have ht := lt_of_lt_of_eq t.isLt N_0
  unfold batch place LA arr
  blk_ext! [iblk, V, idx t]
theorem blk5 (w : Fin 256) : iblk m c 5 t (ix2 0 w) = gain m c w := by
  have ht := lt_of_lt_of_eq t.isLt N_0
  unfold gain
  blk_ext! [iblk, V, idx t]
end

/-! ## What a head reads of a point's blocks -/

theorem ld_row (x : Vec Ideal S4x256x512 .bf16) (b : Fin 4) (p : Fin 256) (d : Fin 512) :
    View.ld x (rowRect b) (ix3 0 p d) = x (ix3 b p d) := by
  pointwise []
theorem ld_row' (x : Vec Ideal S4x256x512 .f32) (b : Fin 4) (p : Fin 256) (d : Fin 512) :
    View.ld x (rowRect b) (ix3 0 p d) = x (ix3 b p d) := by
  pointwise []
theorem ld_head (x : Vec Ideal S4x256x1024 .bf16) (b h : Fin 4) (p : Fin 256) (w : Fin 256) :
    View.ld x (headRect b h) (ix3 0 p w) = x (ix3 b p (valCol h w)) := by
  pointwise []
  rfl
theorem ld_chunk (x : Vec Ideal S4x256x1024 .bf16) (b h ci : Fin 4) (i : Fin 64) (w : Fin 256) :
    View.ld x (chunkRect b h ci) (ix3 0 i w) = View.ld x (headRect b h) (ix3 0 (pos ci i) w) := by
  pointwise []
  rfl
theorem ld_state (x : Vec Ideal S4x4x256x128 .f32) (b h : Fin 4) (w : Fin 256) (d : Fin 128) :
    View.ld x (stateRect b h) (ix4 0 0 w d) = x (ix4 b h w d) := by
  pointwise []
theorem ld_gain (x : Vec Ideal S1x256 .f32) (w : Fin 256) :
    View.ld x (Rect.unit ![0, 0] S1x256.size inb_S1x256_S1x256_0_0) (ix2 0 w) = x (ix2 0 w) := by
  pointwise []

end Cert.Proof.Grid
end
-- ==== Proof.Grid.lean ====
module

public import proofs.«01_k».proof.Proof.BlockPieces
public import proofs.«01_k».proof.Proof.BlockA
public import proofs.«01_k».proof.Proof.BlockB
public import proofs.«01_k».proof.Proof.BlockValue
public import proofs.«01_k».proof.Proof.Points

@[expose] public section
set_option maxRecDepth 16384

noncomputable section
namespace Cert.Proof.Grid
open Idealize.ShloMosaic Idealize.ShloMosaic.TcCoe Idealize.SL.Sem Cert.KernelIdeal Cert.KernelIdeal.Gen Cert.Proof.Spec Cert.Proof.Block

/-! ## The fold over a row of points -/

variable (m : (ℓ : Loc nD τ sig) → Buf (Elt Ideal) ℓ) (c : Dev nD)

/-! ## A point's chunks are the arrays' chunks -/

/-- The chunks of the arrays. -/
abbrev cs (b : Fin 8) (h : Fin 4) : ℕ → Chunk := chunks (Q m c) (K m c) (V' m c) (LA m c) b h

theorem chunkOf_eq (t : Fin cfg0.N) (b h ci : Fin 4) :
    chunkOf h (View.ld (iblk m c 0 t) (rowRect b)) (View.ld (iblk m c 1 t) (rowRect b)) (View.ld (iblk m c 2 t) (headRect b h))
      (View.ld (iblk m c 4 t) (rowRect b)) ci = cs m c (batch t.val b) h (4 * (t.val % 8) + ci.val) := by
  have e : ∀ i, place t.val (pos ci i) = row (Fin.ofNat 32 (4 * (t.val % 8) + ci.val)) i := fun i => by
    refine Fin.ext ?_
    show 256 * (t.val % 8) + (64 * ci.val + i.val) = 64 * ((4 * (t.val % 8) + ci.val) % 32) + i.val
    omega
  unfold chunkOf cs chunks chunk
  congr 1
  · funext i d
    exact (ld_row _ b _ _).trans ((blk0 m c t b _ _).trans (by rw [e]))
  · funext i d
    exact (ld_row _ b _ _).trans ((blk1 m c t b _ _).trans (by rw [e]))
  · funext i w
    exact (ld_head _ b h _ _).trans ((blk2 m c t b _ _).trans (by rw [e]))
  · funext i d
    exact (ld_row' _ b _ _).trans ((blk4 m c t b _ _).trans (by rw [e]))

theorem within_eq (t : Fin cfg0.N) (b h : Fin 4) (n : ℕ) (hn : n ≤ 4) :
    within h (View.ld (iblk m c 0 t) (rowRect b)) (View.ld (iblk m c 1 t) (rowRect b)) (View.ld (iblk m c 2 t) (headRect b h))
      (View.ld (iblk m c 4 t) (rowRect b)) (states (cs m c (batch t.val b) h) (4 * (t.val % 8))) n
      = states (cs m c (batch t.val b) h) (4 * (t.val % 8) + n) := by
  induction n with
  | zero => rfl
  | succ n ih =>
    rw [within, ih (by omega), ← Nat.add_assoc, states, chunkOf_eq]
    congr 3
    show n % 4 = n
    omega

section
variable (x0 x1 : Vec Ideal S4x256x512 .bf16) (x2 x3 : Vec Ideal S4x256x1024 .bf16) (x4 : Vec Ideal S4x256x512 .f32)
  (x5 : Vec Ideal S1x256 .f32) (xs : Vec Ideal S4x4x256x128 .f32) (b h : Fin 4)
  (hla : ∀ i, View.ld x4 (rowRect b) i ≠ (⊤ : EReal)) (S : State) (hS : ∀ w d, xs (ix4 b h w d) = S d w)

omit b h in
theorem st_at (b h : Fin 4) (w : Fin 256) (d : Fin 128) :
    st (F := Ideal) x1 x2 x4 xs (ix4 b h w d) = stAt (F := Ideal) x1 x2 x4 xs b h (ix4 0 0 w d) := rfl

omit b h in
theorem out_at (b h : Fin 4) (p w : Fin 256) : out (F := Ideal) x0 x1 x2 x3 x4 x5 xs (ix3 b p (valCol h w))
    = outAt (F := Ideal) x0 x1 x2 x3 x4 x5 xs b h (ix3 0 p w) := by
  have e1 : (⟨(valCol h w).val / 256, by have := (valCol h w).isLt; omega⟩ : Fin 4) = h := Fin.ext (by simp only [valCol]; omega)
  have e2 : (⟨(valCol h w).val % 256, by omega⟩ : Fin 256) = w := Fin.ext (by simp only [valCol]; omega)
  have e : out (F := Ideal) x0 x1 x2 x3 x4 x5 xs (ix3 b p (valCol h w))
      = outAt (F := Ideal) x0 x1 x2 x3 x4 x5 xs b (⟨(valCol h w).val / 256, by have := (valCol h w).isLt; omega⟩ : Fin 4)
        (ix3 0 p (⟨(valCol h w).val % 256, by omega⟩ : Fin 256)) := rfl
  rw [e, e1, e2]

include hla hS
/-- A head's state after a block, from what the block's arrays hold. -/
theorem st_block (w : Fin 256) (d : Fin 128) : st (F := Ideal) x1 x2 x4 xs (ix4 b h w d)
    = within h (View.ld x0 (rowRect b)) (View.ld x1 (rowRect b)) (View.ld x2 (headRect b h)) (View.ld x4 (rowRect b)) S 4 d w := by
  rw [st_at]
  unfold stAt stWith
  exact stHead_apply h (View.ld x0 (rowRect b)) (View.ld x1 (rowRect b)) (View.ld x2 (headRect b h)) (View.ld x4 (rowRect b)) hla
    (View.ld x2 (chunkRect b h 0)) (View.ld x2 (chunkRect b h 1)) (View.ld x2 (chunkRect b h 2)) (View.ld x2 (chunkRect b h 3))
    (ld_chunk x2 b h 0) (ld_chunk x2 b h 1) (ld_chunk x2 b h 2) (ld_chunk x2 b h 3) (View.ld xs (stateRect b h)) S
    (fun w d => (ld_state xs b h w d).trans (hS w d)) w d

/-- A head's results in a block, from what the block's arrays hold. -/
theorem out_block (ci : Fin 4) (i : Fin 64) (w : Fin 256) :
    out (F := Ideal) x0 x1 x2 x3 x4 x5 xs (ix3 b (pos ci i) (valCol h w))
    = finish ((chunkOf h (View.ld x0 (rowRect b)) (View.ld x1 (rowRect b)) (View.ld x2 (headRect b h)) (View.ld x4 (rowRect b)) ci).read
        (within h (View.ld x0 (rowRect b)) (View.ld x1 (rowRect b)) (View.ld x2 (headRect b h)) (View.ld x4 (rowRect b)) S ci.val) i)
      (x5 (ix2 0 w)) (x3 (ix3 b (pos ci i) (valCol h w))) w := by
  rw [out_at]
  unfold outAt outWith
  rw [← ld_gain x5 w, ← ld_head x3 b h]
  exact outHead_apply h (View.ld x0 (rowRect b)) (View.ld x1 (rowRect b)) (View.ld x2 (headRect b h)) (View.ld x4 (rowRect b)) hla
    (View.ld x2 (chunkRect b h 0)) (View.ld x2 (chunkRect b h 1)) (View.ld x2 (chunkRect b h 2))
    (ld_chunk x2 b h 0) (ld_chunk x2 b h 1) (ld_chunk x2 b h 2) (View.ld xs (stateRect b h)) S
    (fun w d => (ld_state xs b h w d).trans (hS w d)) _ (View.ld x3 (headRect b h)) ci i w
end

theorem finish_eq {C C' : Chunk} {S S' : State} {x x' y y' : EReal} (hC : C = C') (hS : S = S') (hx : x = x') (hy : y = y')
    (i : Fin 64) (w : Fin 256) : finish (C.read S i) x y w = finish (C'.read S' i) x' y' w := by
  subst hC hS hx hy
  rfl

section
variable (hla : ∀ i j d, LA m c i j d ≠ ⊤)
  (t : Fin cfg0.N) (xs : Vec Ideal S4x4x256x128 .f32)
  (hxs : ∀ (b h : Fin 4) (w : Fin 256) (d : Fin 128), xs (ix4 b h w d) = states (cs m c (batch t.val b) h) (4 * (t.val % 8)) d w)
include hla

theorem la_block (b : Fin 4) (i : S1x256x512.Idx) : View.ld (iblk m c 4 t) (rowRect b) i ≠ (⊤ : EReal) := by
  have e : ∀ z : Fin 1, z = 0 := fun z => Subsingleton.elim _ _
  obtain ⟨p, d, rfl⟩ : ∃ (p : Fin 256) (d : Fin 512), i = ix3 0 p d :=
    ⟨i 1, i 2, (eq_ix3 i).trans (congrArg (fun z : Fin 1 => ix3 z (i 1 : Fin 256) (i 2 : Fin 512)) (e (i 0)))⟩
  rw [ld_row', blk4]
  exact hla _ _ _

include hxs
/-- What a point leaves as states. -/
theorem st_point (b h : Fin 4) (w : Fin 256) (d : Fin 128) :
    st (F := Ideal) (iblk m c 1 t) (iblk m c 2 t) (iblk m c 4 t) xs (ix4 b h w d)
      = states (cs m c (batch t.val b) h) (4 * (t.val % 8) + 4) d w :=
  (st_block (iblk m c 0 t) (iblk m c 1 t) (iblk m c 2 t) (iblk m c 4 t) xs b h (la_block m c hla t b)
    (states (cs m c (batch t.val b) h) (4 * (t.val % 8))) (hxs b h) w d).trans
    (congrFun (congrFun (within_eq m c t b h 4 le_rfl) d) w)

/-- What a point leaves as results. -/
theorem out_point (b h ci : Fin 4) (i : Fin 64) (w : Fin 256) :
    out (F := Ideal) (iblk m c 0 t) (iblk m c 1 t) (iblk m c 2 t) (iblk m c 3 t) (iblk m c 4 t) (iblk m c 5 t) xs
      (ix3 b (pos ci i) (valCol h w))
      = attention (Q m c) (K m c) (V' m c) (G' m c) (LA m c) (gain m c) (batch t.val b) h (Fin.ofNat 32 (4 * (t.val % 8) + ci.val)) i w := by
  have hp : place t.val (pos ci i) = row (Fin.ofNat 32 (4 * (t.val % 8) + ci.val)) i := by
    refine Fin.ext ?_
    show 256 * (t.val % 8) + (64 * ci.val + i.val) = 64 * ((4 * (t.val % 8) + ci.val) % 32) + i.val
    omega
  have hn : (Fin.ofNat 32 (4 * (t.val % 8) + ci.val)).val = 4 * (t.val % 8) + ci.val := Nat.mod_eq_of_lt (by omega)
  refine (out_block (iblk m c 0 t) (iblk m c 1 t) (iblk m c 2 t) (iblk m c 3 t) (iblk m c 4 t) (iblk m c 5 t) xs b h
    (la_block m c hla t b) (states (cs m c (batch t.val b) h) (4 * (t.val % 8))) (hxs b h) ci i w).trans ?_
  unfold attention
  rw [hn]
  exact finish_eq (chunkOf_eq m c t b h ci) (within_eq m c t b h ci.val (by omega)) (blk5 m c t w)
    ((blk3 m c t b (pos ci i) (valCol h w)).trans (by rw [hp])) i w
end

/-! ## The whole grid -/

section
variable (hla : ∀ i j d, LA m c i j d ≠ ⊤)

theorem zero_state (y : S4x4x256x128.Idx) : k0_pay2 (F := Ideal) y = (0 : EReal) := by
  pointwise [k0_pay2]

/-- What a point at the start of a row of points leaves. -/
theorem point_A (t : Fin cfg0.N) (acc : Vec Ideal S4x256x1024 .bf16 × Vec Ideal S4x4x256x128 .f32) (h0 : t.val % 8 = 0) :
    Value.stAt0 m c t.val t.isLt acc
      = (out (iblk m c 0 t) (iblk m c 1 t) (iblk m c 2 t) (iblk m c 3 t) (iblk m c 4 t) (iblk m c 5 t) (k0_pay2 (F := Ideal)),
         st (iblk m c 1 t) (iblk m c 2 t) (iblk m c 4 t) (k0_pay2 (F := Ideal))) := by
  rw [Value.stAt0_A m c t acc h0, out_A, st_A]

/-- What any other point leaves. -/
theorem point_B (t : Fin cfg0.N) (acc : Vec Ideal S4x256x1024 .bf16 × Vec Ideal S4x4x256x128 .f32) (h0 : ¬t.val % 8 = 0) :
    Value.stAt0 m c t.val t.isLt acc
      = (out (iblk m c 0 t) (iblk m c 1 t) (iblk m c 2 t) (iblk m c 3 t) (iblk m c 4 t) (iblk m c 5 t) acc.2,
         st (iblk m c 1 t) (iblk m c 2 t) (iblk m c 4 t) acc.2) := by
  rw [Value.stAt0_B m c t acc h0, out_B, st_B]

theorem batch_succ (n : ℕ) (h0 : ¬(n + 1) % 8 = 0) (b : Fin 4) : batch (n + 1) b = batch n b := by
  refine Fin.ext ?_
  simp only [batch]
  omega

include hla
/-- The states after every point. -/
theorem states_point : ∀ (n : ℕ) (hn : n < cfg0.N) (b h : Fin 4) (w : Fin 256) (d : Fin 128),
    (outsAt0 m c n hn).2 (ix4 b h w d) = states (cs m c (batch n b) h) (4 * (n % 8) + 4) d w := by
  have hA : ∀ (n : ℕ) (hn : n < cfg0.N) (acc : Vec Ideal S4x256x1024 .bf16 × Vec Ideal S4x4x256x128 .f32), n % 8 = 0 →
      ∀ (b h : Fin 4) (w : Fin 256) (d : Fin 128),
        (Value.stAt0 m c n hn acc).2 (ix4 b h w d) = states (cs m c (batch n b) h) (4 * (n % 8) + 4) d w := fun n hn acc h0 b h w d => by
    rw [point_A m c ⟨n, hn⟩ acc h0]
    refine st_point m c hla ⟨n, hn⟩ _ (fun b h w d => ?_) b h w d
    dsimp only
    rw [zero_state, h0]
    rfl
  intro n
  induction n with
  | zero =>
    intro hn b h w d
    rw [Value.outsAt0_zero]
    exact hA 0 hn _ rfl b h w d
  | succ n ih =>
    intro hn b h w d
    rw [Value.outsAt0_succ]
    by_cases h0 : (n + 1) % 8 = 0
    · exact hA (n + 1) hn _ h0 b h w d
    · rw [point_B m c ⟨n + 1, hn⟩ _ h0]
      refine st_point m c hla ⟨n + 1, hn⟩ _ (fun b h w d => ?_) b h w d
      dsimp only
      rw [ih (Nat.lt_of_succ_lt hn) b h w d, batch_succ n h0 b, show 4 * ((n + 1) % 8) = 4 * (n % 8) + 4 by omega]

/-- The results of every point. -/
theorem results_point (n : ℕ) (hn : n < cfg0.N) (b h ci : Fin 4) (i : Fin 64) (w : Fin 256) :
    (outsAt0 m c n hn).1 (ix3 b (pos ci i) (valCol h w))
      = attention (Q m c) (K m c) (V' m c) (G' m c) (LA m c) (gain m c) (batch n b) h (Fin.ofNat 32 (4 * (n % 8) + ci.val)) i w := by
  have hA : ∀ (acc : Vec Ideal S4x256x1024 .bf16 × Vec Ideal S4x4x256x128 .f32), n % 8 = 0 →
        (Value.stAt0 m c n hn acc).1 (ix3 b (pos ci i) (valCol h w)) = attention (Q m c) (K m c) (V' m c) (G' m c) (LA m c) (gain m c) (batch n b) h (Fin.ofNat 32 (4 * (n % 8) + ci.val)) i w := fun acc h0 => by
    rw [point_A m c ⟨n, hn⟩ acc h0]
    refine out_point m c hla ⟨n, hn⟩ _ (fun b h w d => ?_) b h ci i w
    dsimp only
    rw [zero_state, h0]
    rfl
  match n, hn, hA with
  | 0, hn, hA =>
    rw [Value.outsAt0_zero]
    exact hA _ rfl
  | n + 1, hn, hA =>
    rw [Value.outsAt0_succ]
    by_cases h0 : (n + 1) % 8 = 0
    · exact hA _ h0
    · rw [point_B m c ⟨n + 1, hn⟩ _ h0]
      refine out_point m c hla ⟨n + 1, hn⟩ _ (fun b h w d => ?_) b h ci i w
      dsimp only
      rw [states_point m c hla n (Nat.lt_of_succ_lt hn) b h w d, batch_succ n h0 b, show 4 * ((n + 1) % 8) = 4 * (n % 8) + 4 by omega]

/-- The array the kernel leaves: the attention of the arguments. -/
theorem final (b : Fin 8) (h : Fin 4) (n : Fin 32) (i : Fin 64) (w : Fin 256) :
    (Value.G6 m c : S8x2048x1024.Idx → EReal) (ix3 b (row n i) (valCol h w))
      = attention (Q m c) (K m c) (V' m c) (G' m c) (LA m c) (gain m c) b h n i w := by
  have hp : Value.pt6Of (ix3 b (row n i) (valCol h w)) = 8 * (b.val / 4) + n.val / 4 := by
    show 8 * (b.val / 4 - 0) + 1 * ((64 * n.val + i.val) / 256 - 0) + 1 * ((256 * h.val + w.val) / 1024 - 0) = _
    omega
  have hN : Value.pt6Of (ix3 b (row n i) (valCol h w)) < cfg0.N := lt_of_lt_of_eq (by rw [hp]; omega) N_0.symm
  have hl : Value.loc6Of (ix3 b (row n i) (valCol h w)) = ix3 (⟨b.val % 4, by omega⟩ : Fin 4)
      (pos (⟨n.val % 4, by omega⟩ : Fin 4) i) (valCol h w) := by
    funext a
    match a with
    | ⟨0, _⟩ => rfl
    | ⟨1, _⟩ =>
      refine Fin.ext ?_
      show (64 * n.val + i.val) % 256 = 64 * (n.val % 4) + i.val
      omega
    | ⟨2, _⟩ =>
      refine Fin.ext ?_
      show (256 * h.val + w.val) % 1024 = 256 * h.val + w.val
      omega
  unfold Value.G6
  rw [dif_pos hN, ← Value.outsAt0_sweep m c _ hN, hl, results_point m c hla, hp]
  have hb : batch (8 * (b.val / 4) + n.val / 4) ⟨b.val % 4, by omega⟩ = b := by
    refine Fin.ext ?_
    simp only [batch]
    omega
  have hn : Fin.ofNat 32 (4 * ((8 * (b.val / 4) + n.val / 4) % 8) + n.val % 4) = n := by
    refine Fin.ext ?_
    show (4 * ((8 * (b.val / 4) + n.val / 4) % 8) + n.val % 4) % 32 = n.val
    omega
  rw [hb, hn]

end

end Cert.Proof.Grid
end
-- ==== Proof.Cumsum.lean ====
module

public import Idealize.ShloMosaic.Lib.Pointwise

@[expose] public section
set_option maxRecDepth 16384

noncomputable section
namespace Cert.Proof.Cumsum
open Idealize.ShloMosaic

/-! ## A running sum along the fourth of five axes -/

theorem foldl_add {ι : Type} (l : List ι) (f : ι → EReal) (r : EReal) : l.foldl (fun r n => r + f n) r = r + (l.map f).sum := by
  induction l generalizing r with
  | nil => simp
  | cons a l ih => rw [List.foldl_cons, ih, List.map_cons, List.sum_cons, add_assoc]

/-- The window of 64 positions along the fourth axis. -/
abbrev W : Shape := ⟨5, ![1, 1, 1, 64, 1]⟩

/-- Position `k` of the window. -/
def at_ (k : Fin 64) : W.Idx := ix5 (0 : Fin 1) (0 : Fin 1) (0 : Fin 1) k (0 : Fin 1)

theorem sum_window (f : W.Idx → EReal) : ∑ p : W.Idx, f p = ∑ k : Fin 64, f (at_ k) := by
  refine Fintype.sum_equiv ⟨fun p => (p 3 : Fin 64), at_, fun p => ?_, fun k => rfl⟩ _ _ fun p => congrArg f ?_
  all_goals
    have e : ∀ z : Fin 1, z = 0 := fun z => Subsingleton.elim _ _
    funext a
    match a with
    | ⟨0, _⟩ => first | exact (e (p 0)).symm | exact e (p 0)
    | ⟨1, _⟩ => first | exact (e (p 1)).symm | exact e (p 1)
    | ⟨2, _⟩ => first | exact (e (p 2)).symm | exact e (p 2)
    | ⟨3, _⟩ => rfl
    | ⟨4, _⟩ => first | exact (e (p 4)).symm | exact e (p 4)

/-- The terms that a window reaching back 63 positions meets are the terms up to its own. -/
theorem sum_back (i : Fin 64) (f : Fin 64 → EReal) :
    (∑ k : Fin 64, if h : 63 ≤ i.val + k.val then f ⟨i.val + k.val - 63, by omega⟩ else 0) = ∑ j : Fin 64, if j ≤ i then f j else 0 := by
  have e : ∀ k : Fin 64, (if h : 63 ≤ i.val + k.val then f ⟨i.val + k.val - 63, by omega⟩ else 0)
      = if 63 ≤ i.val + k.val then f (Fin.ofNat 64 (i.val + k.val - 63)) else 0 := fun k => by
    by_cases h : 63 ≤ i.val + k.val
    · rw [dif_pos h, if_pos h]
      refine congrArg f (Fin.ext ?_)
      show i.val + k.val - 63 = (i.val + k.val - 63) % 64
      omega
    · rw [dif_neg h, if_neg h]
  rw [Finset.sum_congr rfl fun k _ => e k, ← Finset.sum_filter, ← Finset.sum_filter]
  refine Finset.sum_bij' (fun k _ => Fin.ofNat 64 (i.val + k.val - 63)) (fun j _ => Fin.ofNat 64 (63 + j.val - i.val)) ?_ ?_ ?_ ?_ fun _ _ => rfl
  · intro k hk
    have hk := (Finset.mem_filter.mp hk).2
    refine Finset.mem_filter.mpr ⟨Finset.mem_univ _, ?_⟩
    show (i.val + k.val - 63) % 64 ≤ i.val
    omega
  · intro j hj
    have hj : j.val ≤ i.val := (Finset.mem_filter.mp hj).2
    refine Finset.mem_filter.mpr ⟨Finset.mem_univ _, ?_⟩
    show 63 ≤ i.val + (63 + j.val - i.val) % 64
    omega
  · intro k hk
    have hk := (Finset.mem_filter.mp hk).2
    refine Fin.ext ?_
    show (63 + (i.val + k.val - 63) % 64 - i.val) % 64 = k.val
    omega
  · intro j hj
    have hj : j.val ≤ i.val := (Finset.mem_filter.mp hj).2
    refine Fin.ext ?_
    show (i.val + (63 + j.val - i.val) % 64 - 63) % 64 = j.val
    omega

/-- The element that position `q` of the window of result `j` meets, the value `v` where it is outside the operand. -/
def met {s t : Shape} (window strides lo hi : Fin s.rank → ℕ) (h : s.ReduceWindows window strides lo hi t) (x : s.Idx → EReal) (v : EReal)
    (j : t.Idx) (q : (⟨s.rank, window⟩ : Shape).Idx) : EReal :=
  if hin : ∀ a, lo a ≤ (j (a.cast h.1.symm)).val * strides a + (q a).val ∧ (j (a.cast h.1.symm)).val * strides a + (q a).val - lo a < s.size a
    then x (fun a => ⟨(j (a.cast h.1.symm)).val * strides a + (q a).val - lo a, (hin a).2⟩) else v

theorem window_eq {s t : Shape} (window strides lo hi : Fin s.rank → ℕ) (h : s.ReduceWindows window strides lo hi t) (x : s.Idx → EReal) (v : EReal)
    (j : t.Idx) : Ideal.hostReduceWindowAdd window strides lo hi h x v j
      = v + ∑ q : (⟨s.rank, window⟩ : Shape).Idx, met window strides lo hi h x v j q := by
  rw [← Equiv.sum_comp (⟨s.rank, window⟩ : Shape).rowMajor.symm, Fin.sum_univ_def, ← foldl_add]
  unfold Ideal.hostReduceWindowAdd Host.reduceWindow
  dsimp only
  unfold met
  refine congrArg (fun f => List.foldl f v _) (funext fun r => funext fun n => congrArg (r + ·) ?_)
  split <;> rfl

abbrev S : Shape := ⟨5, ![8, 4, 32, 64, 128]⟩

theorem cumsum_apply {u : Shape} (x : FVec Ideal S .f32) (init : u.Idx → EReal) (h : S.ReduceWindows ![1, 1, 1, 64, 1] ![1, 1, 1, 1, 1] ![0, 0, 0, 63, 0] ![0, 0, 0, 0, 0] S)
    (hu : 0 < u.numel) (hi : init (Shape.Idx.first hu) = 0) (b : Fin 8) (hd : Fin 4) (n : Fin 32) (i : Fin 64) (d : Fin 128) :
    Host.reduceWindowAdd (F := Ideal) ![1, 1, 1, 64, 1] ![1, 1, 1, 1, 1] ![0, 0, 0, 63, 0] ![0, 0, 0, 0, 0] x init h hu (ix5 b hd n i d)
      = ∑ j : Fin 64, if j ≤ i then x (ix5 b hd n j d) else 0 := by
  refine (window_eq ![1, 1, 1, 64, 1] ![1, 1, 1, 1, 1] ![0, 0, 0, 63, 0] ![0, 0, 0, 0, 0] h x (init (Shape.Idx.first hu)) (ix5 b hd n i d)).trans ?_
  rw [hi, zero_add]
  refine (sum_window _).trans ?_
  rw [← sum_back i (fun j => x (ix5 b hd n j d))]
  refine Finset.sum_congr rfl fun k _ => ?_
  unfold met
  by_cases hk : 63 ≤ i.val + k.val
  · rw [dif_pos hk, dif_pos (fun a => ?_)]
    · refine congrArg x (funext fun a => Fin.ext ?_)
      match a with
      | ⟨0, _⟩ => show b.val * 1 + 0 - 0 = b.val; omega
      | ⟨1, _⟩ => show hd.val * 1 + 0 - 0 = hd.val; omega
      | ⟨2, _⟩ => show n.val * 1 + 0 - 0 = n.val; omega
      | ⟨3, _⟩ => show i.val * 1 + k.val - 63 = i.val + k.val - 63; omega
      | ⟨4, _⟩ => show d.val * 1 + 0 - 0 = d.val; omega
    · match a with
      | ⟨0, _⟩ => show 0 ≤ b.val * 1 + 0 ∧ b.val * 1 + 0 - 0 < 8; omega
      | ⟨1, _⟩ => show 0 ≤ hd.val * 1 + 0 ∧ hd.val * 1 + 0 - 0 < 4; omega
      | ⟨2, _⟩ => show 0 ≤ n.val * 1 + 0 ∧ n.val * 1 + 0 - 0 < 32; omega
      | ⟨3, _⟩ => show 63 ≤ i.val * 1 + k.val ∧ i.val * 1 + k.val - 63 < 64; omega
      | ⟨4, _⟩ => show 0 ≤ d.val * 1 + 0 ∧ d.val * 1 + 0 - 0 < 128; omega
  · rw [dif_neg hk, dif_neg fun hin => hk ?_]
    have h3 := (hin (3 : Fin 5)).1
    change 63 ≤ i.val * 1 + k.val at h3
    omega

end Cert.Proof.Cumsum
end
-- ==== Proof.Scan.lean ====
module

public import proofs.«01_k».proof.Proof.Gen.ReferenceIdeal.Run
public import proofs.«01_k».proof.Proof.Gen.ReferenceIdeal.Step

@[expose] public section

noncomputable section
namespace Cert.Proof.Scan
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-! ## The reference's loop, as its step iterated -/

variable {F : FTy → Type} [FloatOps F]

/-- A valuation of the loop's buffers that carries the state `s` at the head of trip `j`. -/
def Carries (W : Valuation τ sig (Elt F)) (s : State F) (j : ℕ) : Prop :=
  (W (Proc.devRef .tc main_v39_0) = s.main_v39_0 ∧ W (Proc.devRef .tc main_v39_1) = s.main_v39_1
    ∧ W (Proc.devRef .tc main_v39_2) = s.main_v39_2 ∧ W (Proc.devRef .tc main_v39_3) = s.main_v39_3)
  ∧ W (Proc.devRef .tc main_v39_4) = constantI S_ 32 (BitVec.ofNat 32 j)
  ∧ W (Proc.devRef .tc main_v39_5) = s.main_v39_5 ∧ W (Proc.devRef .tc main_v39_6) = s.main_v39_6

set_option maxRecDepth 65536 in
theorem next (W : Valuation τ sig (Elt F)) (s : State F) (j : ℕ) (h : Carries W s j) : Carries (STEP W) (step j s) (j + 1) := by
  obtain ⟨⟨h0, h1, h2, h3⟩, h4, h5, h6⟩ := h
  refine ⟨⟨(STEP_main_v39_0 W).trans h0, (STEP_main_v39_1 W).trans h1, (STEP_main_v39_2 W).trans h2, (STEP_main_v39_3 W).trans h3⟩, ?_, ?_, ?_⟩
  · rw [STEP_main_v39_4]
    unfold step_main_v39_4
    rw [h4]
    funext i
    show BitVec.ofNat 32 j + 1#32 = BitVec.ofNat 32 (j + 1)
    rw [BitVec.ofNat_add]
  · rw [STEP_main_v39_5]
    unfold step_main_v39_5
    rw [h0, h1, h4, h5]
    rfl
  · rw [STEP_main_v39_6]
    unfold step_main_v39_6
    rw [h2, h3, h4, h5, h6]
    rfl

/-- The state before the first trip. -/
abbrev start (m : (ℓ : Loc nD τ sig) → Buf (Elt F) ℓ) (c : Dev nD) : State F :=
  init (m ((c : Thread nD τ).loc main_arg0)) (m ((c : Thread nD τ).loc main_arg1)) (m ((c : Thread nD τ).loc main_arg2))
    (m ((c : Thread nD τ).loc main_arg4))

/-- The state before trip `n`. -/
def iter (s : State F) : ℕ → State F
  | 0 => s
  | n + 1 => step n (iter s n)

variable (m : (ℓ : Loc nD τ sig) → Buf (Elt F) ℓ) (c : Dev nD)

set_option maxRecDepth 65536 in
set_option maxHeartbeats 400000 in
theorem entry : Carries (entryContents preI m c) (start m c) 0 := by
  refine ⟨⟨?_, ?_, ?_, ?_⟩, ?_, ?_, ?_⟩ <;> (simp only [entryContents, afterL_cons, afterL_nil]; after_reads_simp) <;> rfl

theorem carries (n : ℕ) : Carries (STEP^[n] (entryContents preI m c)) (iter (start m c) n) n := by
  induction n with
  | zero => exact entry m c
  | succ n ih =>
    rw [Function.iterate_succ_apply']
    exact next _ _ _ ih

set_option maxRecDepth 65536 in
/-- The reference's run: its result from the state after the last trip, its arguments unchanged. -/
theorem run (ρ : Dev nD → PrngReg) : θ_run (defs (F := F)) (onTc (τ := τ) (main (F := F))) ⟨m, fun _ => 0, ρ⟩ fun r => ∀ c : Dev nD,
      r.2.mem ((c : Thread nD τ).loc main_v59) = Cert.ReferenceIdeal.Step.R_main_v59 (iter (start m c) 32)
        (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Value.run m ρ)
  obtain ⟨e, rest⟩ := h c
  refine ⟨e.trans ?_, rest⟩
  have h6 := (carries m c 32).2.2.2
  unfold out_main_v59 Cert.ReferenceIdeal.Step.R_main_v59
  rw [h6, iter_main_arg3 m c 32, iter_main_arg5 m c 32]
  rfl

end Cert.Proof.Scan
end
-- ==== Proof.RefValue.lean ====
module

public import proofs.«01_k».proof.Proof.Cumsum
public import proofs.«01_k».proof.Proof.Spec
public import proofs.«01_k».proof.Proof.Scan

@[expose] public section
set_option maxRecDepth 16384

noncomputable section
namespace Cert.Proof.Ref
open Idealize.ShloMosaic Cert.ReferenceIdeal Cert.ReferenceIdeal.Gen Cert.ReferenceIdeal.Step Cert.Proof.Spec

/-! ## What the reference computes, over the extended reals -/

variable (a0 a1 : (⟨S8x2048x512, .bf16⟩ : BufTy).Contents (Elt Ideal)) (a2 : (⟨S8x2048x1024, .bf16⟩ : BufTy).Contents (Elt Ideal))
  (a4 : (⟨S8x2048x512, .f32⟩ : BufTy).Contents (Elt Ideal))

/-- The chunk of the arguments. -/
abbrev ch (b : Fin 8) (h : Fin 4) (n : Fin 32) : Chunk := chunk (arr a0) (arr a1) (arr a2) (arr a4) b h n

variable (b : Fin 8) (h : Fin 4) (n : Fin 32) (i j : Fin 64) (d : Fin 128) (w : Fin 256)

theorem v2 : A_main_v2 (F := Ideal) a0 a1 a2 a4 (ix5 b h n i d) = (ch a0 a1 a2 a4 b h n).q i d := by
  pointwise [A_main_v2, A_main_v1, A_main_v0]
  refine congrArg₂ (fun (r : Fin 2048) (c : Fin 512) => a0 (ix3 b r c)) (Fin.ext ?_) (Fin.ext ?_) <;> (simp only [row, keyCol]; omega)
theorem v7 : A_main_v7 (F := Ideal) a0 a1 a2 a4 (ix5 b h n i d) = (ch a0 a1 a2 a4 b h n).k i d := by
  pointwise [A_main_v7, A_main_v6, A_main_v5]
  refine congrArg₂ (fun (r : Fin 2048) (c : Fin 512) => a1 (ix3 b r c)) (Fin.ext ?_) (Fin.ext ?_) <;> (simp only [row, keyCol]; omega)
theorem v10 : A_main_v10 (F := Ideal) a0 a1 a2 a4 (ix5 b h n i w) = (ch a0 a1 a2 a4 b h n).v i w := by
  pointwise [A_main_v10, A_main_v9, A_main_v8]
  refine congrArg₂ (fun (r : Fin 2048) (c : Fin 1024) => a2 (ix3 b r c)) (Fin.ext ?_) (Fin.ext ?_) <;> (simp only [row, valCol]; omega)
theorem v12 : A_main_v12 (F := Ideal) a0 a1 a2 a4 (ix5 b h n i d) = (ch a0 a1 a2 a4 b h n).la i d := by
  pointwise [A_main_v12, A_main_v11]
  refine congrArg₂ (fun (r : Fin 2048) (c : Fin 512) => a4 (ix3 b r c)) (Fin.ext ?_) (Fin.ext ?_) <;> (simp only [row, keyCol]; omega)

theorem v13 : A_main_v13 (F := Ideal) a0 a1 a2 a4 (ix5 b h n i d) = (ch a0 a1 a2 a4 b h n).cum i d := by
  unfold A_main_v13
  refine (Cumsum.cumsum_apply _ _ _ _ ?_ b h n i d).trans ?_
  · pointwise [K_main_call0_call0_v0, K_main_call0_call0_cst]
  · unfold Chunk.cum
    refine Finset.sum_congr rfl fun j _ => ?_
    rw [v12]
theorem v15 : A_main_v15 (F := Ideal) a0 a1 a2 a4 (ix5 b h n i d) = (ch a0 a1 a2 a4 b h n).qDec i d := by
  pointwise [A_main_v15, A_main_v4, A_main_v14, K_main_v3, K_main_cst]
  rw [v2, v13]
  rfl
theorem v18 : A_main_v18 (F := Ideal) a0 a1 a2 a4 (ix5 b h n i d) = (ch a0 a1 a2 a4 b h n).kInv i d := by
  pointwise [A_main_v18, A_main_v17, A_main_v16]
  rw [v7, v13]
  rfl
theorem v25 : A_main_v25 (F := Ideal) a0 a1 a2 a4 (ix4 b h n d) = (ch a0 a1 a2 a4 b h n).last d := by
  pointwise [A_main_v25, A_main_v24]
  rw [v13]
  rfl
theorem v30 : A_main_v30 (F := Ideal) a0 a1 a2 a4 (ix5 b h n i d) = (ch a0 a1 a2 a4 b h n).kEnd i d := by
  pointwise [A_main_v30, A_main_v29, A_main_v28, A_main_v27, A_main_v26]
  rw [v7, v13, v25]
  rfl
theorem v21 : A_main_v21 (F := Ideal) a0 a1 a2 a4 (ix5 b h n i j) = ∑ d : Fin 128, (ch a0 a1 a2 a4 b h n).qDec i d * (ch a0 a1 a2 a4 b h n).kInv j d := by
  pointwise [A_main_v21]
  refine Finset.sum_congr rfl fun d _ => ?_
  rw [v15, v18]
theorem mask : K_main_call2_v1 (F := Ideal) (ix5 b h n i j) = if j ≤ i then 1#1 else 0#1 := by
  pointwise [K_main_call2_v1, K_main_v20, K_main_call1_v4, K_main_call1_v2, K_main_call1_v0, K_main_call1_v1, K_main_call1_c, K_main_call1_v3, K_main_v19, K_main_c, K_main_call1_v5, K_main_call1_c_0]
  revert i j
  decide +kernel
theorem v22 : A_main_v22 (F := Ideal) a0 a1 a2 a4 (ix5 b h n i j) = (ch a0 a1 a2 a4 b h n).score i j := by
  unfold A_main_v22 Chunk.score
  rw [← v21 a0 a1 a2 a4 b h n i j]
  show (if K_main_call2_v1 (F := Ideal) (ix5 b h n i j) = 1#1 then _ else _) = _
  rw [mask]
  by_cases hij : j ≤ i
  · rw [if_pos hij, if_pos hij, if_pos rfl]
  · rw [if_neg hij, if_neg hij, if_neg (by decide)]
    pointwise [K_main_call2_v2, K_main_call2_v0, K_main_cst_0, id]
theorem v23 : A_main_v23 (F := Ideal) a0 a1 a2 a4 (ix5 b h n i w) = (ch a0 a1 a2 a4 b h n).intra i w := by
  pointwise [A_main_v23]
  refine Finset.sum_congr rfl fun j _ => ?_
  rw [v22, v10]
theorem v31 : A_main_v31 (F := Ideal) a0 a1 a2 a4 (ix5 b h n d w) = (ch a0 a1 a2 a4 b h n).kv d w := by
  pointwise [A_main_v31]
  refine Finset.sum_congr rfl fun j _ => ?_
  rw [v30, v10]
theorem v34 : A_main_v34 (F := Ideal) a0 a1 a2 a4 (ix4 n b h d) = Ideal.exp ((ch a0 a1 a2 a4 b h n).last d) := by
  pointwise [A_main_v34, A_main_v33]
  rw [v25]
theorem v35 : A_main_v35 (F := Ideal) a0 a1 a2 a4 (ix5 n b h d w) = (ch a0 a1 a2 a4 b h n).kv d w := by
  pointwise [A_main_v35]
  rw [v31]
theorem v36 : A_main_v36 (F := Ideal) a0 a1 a2 a4 (ix5 n b h i d) = (ch a0 a1 a2 a4 b h n).qDec i d := by
  pointwise [A_main_v36]
  rw [v15]
theorem v37 : A_main_v37 (F := Ideal) a0 a1 a2 a4 (ix5 n b h i w) = (ch a0 a1 a2 a4 b h n).intra i w := by
  pointwise [A_main_v37]
  rw [v23]

end Cert.Proof.Ref
end
-- ==== Proof.RefScan.lean ====
module

public import proofs.«01_k».proof.Proof.RefValue

@[expose] public section
set_option maxRecDepth 16384

noncomputable section
namespace Cert.Proof.Ref
open Idealize.ShloMosaic Cert.ReferenceIdeal Cert.ReferenceIdeal.Gen Cert.ReferenceIdeal.Step Cert.Proof.Spec Cert.Proof.Scan

/-! ## The reference's loop -/

section
variable (s : State Ideal) (j : Fin 32) (b : Fin 8) (h : Fin 4) (i : Fin 64) (d : Fin 128) (w : Fin 256)

theorem trip : (BitVec.ofNat 32 j.val).toInt = (j.val : ℤ) := by
  revert j
  decide +kernel

/-- The place that a trip's slice starts at. -/
abbrev go5 (j : ℕ) : Fin 5 → ℤ := fun k => BitVec.toInt ((![constantI S_ 32 (BitVec.ofNat 32 j), constantI S_ 32 0#32, constantI S_ 32 0#32,
  constantI S_ 32 0#32, constantI S_ 32 0#32] : Fin 5 → (⟨S_, .i32⟩ : BufTy).Contents (Elt Ideal)) k (Shape.Idx.first h_S_))
abbrev go4 (j : ℕ) : Fin 4 → ℤ := fun k => BitVec.toInt ((![constantI S_ 32 (BitVec.ofNat 32 j), constantI S_ 32 0#32, constantI S_ 32 0#32,
  constantI S_ 32 0#32] : Fin 4 → (⟨S_, .i32⟩ : BufTy).Contents (Elt Ideal)) k (Shape.Idx.first h_S_))

theorem first5 (p q : ℕ) (ht : (⟨5, ![1, 8, 4, p, q]⟩ : Shape).rank = (⟨5, ![32, 8, 4, p, q]⟩ : Shape).rank) :
    Host.clampedStart ⟨5, ![32, 8, 4, p, q]⟩ ⟨5, ![1, 8, 4, p, q]⟩ ht (go5 j.val) 0 = j.val := by
  show (min (max (BitVec.ofNat 32 j.val).toInt 0) ((32 - 1 : ℕ) : ℤ)).toNat = j.val
  rw [trip]
  omega
theorem other5 (p q : ℕ) (ht : (⟨5, ![1, 8, 4, p, q]⟩ : Shape).rank = (⟨5, ![32, 8, 4, p, q]⟩ : Shape).rank) (a : Fin 4) :
    Host.clampedStart ⟨5, ![32, 8, 4, p, q]⟩ ⟨5, ![1, 8, 4, p, q]⟩ ht (go5 j.val) a.succ = 0 := by
  match a with
  | ⟨0, _⟩ => show (min (max (0#32).toInt 0) ((8 - 8 : ℕ) : ℤ)).toNat = 0; rfl
  | ⟨1, _⟩ => show (min (max (0#32).toInt 0) ((4 - 4 : ℕ) : ℤ)).toNat = 0; rfl
  | ⟨2, _⟩ => show (min (max (0#32).toInt 0) ((p - p : ℕ) : ℤ)).toNat = 0; rw [Nat.sub_self]; rfl
  | ⟨3, _⟩ => show (min (max (0#32).toInt 0) ((q - q : ℕ) : ℤ)).toNat = 0; rw [Nat.sub_self]; rfl
theorem first4 (p : ℕ) (ht : (⟨4, ![1, 8, 4, p]⟩ : Shape).rank = (⟨4, ![32, 8, 4, p]⟩ : Shape).rank) :
    Host.clampedStart ⟨4, ![32, 8, 4, p]⟩ ⟨4, ![1, 8, 4, p]⟩ ht (go4 j.val) 0 = j.val := by
  show (min (max (BitVec.ofNat 32 j.val).toInt 0) ((32 - 1 : ℕ) : ℤ)).toNat = j.val
  rw [trip]
  omega
theorem other4 (p : ℕ) (ht : (⟨4, ![1, 8, 4, p]⟩ : Shape).rank = (⟨4, ![32, 8, 4, p]⟩ : Shape).rank) (a : Fin 3) :
    Host.clampedStart ⟨4, ![32, 8, 4, p]⟩ ⟨4, ![1, 8, 4, p]⟩ ht (go4 j.val) a.succ = 0 := by
  match a with
  | ⟨0, _⟩ => show (min (max (0#32).toInt 0) ((8 - 8 : ℕ) : ℤ)).toNat = 0; rfl
  | ⟨1, _⟩ => show (min (max (0#32).toInt 0) ((4 - 4 : ℕ) : ℤ)).toNat = 0; rfl
  | ⟨2, _⟩ => show (min (max (0#32).toInt 0) ((p - p : ℕ) : ℤ)).toNat = 0; rw [Nat.sub_self]; rfl

theorem cell5 {p q : ℕ} (x : (⟨5, ![32, 8, 4, p, q]⟩ : Shape).Idx → EReal) (j : Fin 32) (b : Fin 8) (h : Fin 4) (i : Fin p) (w : Fin q)
    {n0 n1 n2 n3 n4 : ℕ} (h0 : n0 < 32) (h1 : n1 < 8) (h2 : n2 < 4) (h3 : n3 < p) (h4 : n4 < q)
    (e0 : n0 = j.val) (e1 : n1 = b.val) (e2 : n2 = h.val) (e3 : n3 = i.val) (e4 : n4 = w.val) :
    x (ix5 ⟨n0, h0⟩ ⟨n1, h1⟩ ⟨n2, h2⟩ ⟨n3, h3⟩ ⟨n4, h4⟩) = x (ix5 j b h i w) := by
  subst e0 e1 e2 e3 e4
  rfl
theorem cell4 {p q r s : ℕ} (x : (⟨4, ![p, q, r, s]⟩ : Shape).Idx → EReal) (b : Fin p) (h : Fin q) (i : Fin r) (w : Fin s)
    {n1 n2 n3 n4 : ℕ} (h1 : n1 < p) (h2 : n2 < q) (h3 : n3 < r) (h4 : n4 < s)
    (e1 : n1 = b.val) (e2 : n2 = h.val) (e3 : n3 = i.val) (e4 : n4 = w.val) :
    x (ix4 ⟨n1, h1⟩ ⟨n2, h2⟩ ⟨n3, h3⟩ ⟨n4, h4⟩) = x (ix4 b h i w) := by
  subst e1 e2 e3 e4
  rfl

theorem plus {a b : ℕ} (h : a = 0) : a + b = b := by rw [h, zero_add]
theorem less {a b : ℕ} (h : a = 0) : b - a = b := by rw [h, Nat.sub_zero]

theorem b4_apply : b4 j.val s (ix3 b h d) = s.main_v39_0 (ix4 j b h d) := by
  pointwise [b4, b3, b0, b1, b2]
  exact cell4 s.main_v39_0 _ _ _ _ _ _ _ _ (first4 j 128 rfl) (plus (other4 j 128 rfl 0)) (plus (other4 j 128 rfl 1)) (plus (other4 j 128 rfl 2))
theorem b10_apply : b10 j.val s (ix4 b h d w) = s.main_v39_1 (ix5 j b h d w) := by
  pointwise [b10, b9, b5, b6, b7, b8]
  exact cell5 s.main_v39_1 _ _ _ _ _ _ _ _ _ _ (first5 j 128 256 rfl) (plus (other5 j 128 256 rfl 0)) (plus (other5 j 128 256 rfl 1))
    (plus (other5 j 128 256 rfl 2)) (plus (other5 j 128 256 rfl 3))
theorem b16_apply : b16 j.val s (ix4 b h i d) = s.main_v39_2 (ix5 j b h i d) := by
  pointwise [b16, b15, b11, b12, b13, b14]
  exact cell5 s.main_v39_2 _ _ _ _ _ _ _ _ _ _ (first5 j 64 128 rfl) (plus (other5 j 64 128 rfl 0)) (plus (other5 j 64 128 rfl 1))
    (plus (other5 j 64 128 rfl 2)) (plus (other5 j 64 128 rfl 3))
theorem b22_apply : b22 j.val s (ix4 b h i w) = s.main_v39_3 (ix5 j b h i w) := by
  pointwise [b22, b21, b17, b18, b19, b20]
  exact cell5 s.main_v39_3 _ _ _ _ _ _ _ _ _ _ (first5 j 64 256 rfl) (plus (other5 j 64 256 rfl 0)) (plus (other5 j 64 256 rfl 1))
    (plus (other5 j 64 256 rfl 2)) (plus (other5 j 64 256 rfl 3))
theorem b28_apply : b28 j.val s (ix4 b h d w) = b4 j.val s (ix3 b h d) * s.main_v39_5 (ix4 b h d w) + b10 j.val s (ix4 b h d w) := by
  pointwise [b28, b27, b26, b25]
theorem b24_apply : b24 j.val s (ix4 b h i w) = b22 j.val s (ix4 b h i w) + ∑ d : Fin 128, b16 j.val s (ix4 b h i d) * s.main_v39_5 (ix4 b h d w) := by
  pointwise [b24, b23]
theorem b34_apply (k : Fin 32) : b34 j.val s (ix5 k b h i w) = if k = j then b24 j.val s (ix4 b h i w) else s.main_v39_6 (ix5 k b h i w) := by
  pointwise [b34, b29, b30, b31, b32, b33]
  have f0 := first5 j 64 256 rfl
  have f1 := other5 j 64 256 rfl 0
  have f2 := other5 j 64 256 rfl 1
  have f3 := other5 j 64 256 rfl 2
  have f4 := other5 j 64 256 rfl 3
  split
  · next hin =>
    have e : k = j := Fin.ext (by
      have h0 := hin.1
      change Host.clampedStart S32x8x4x64x256 S1x8x4x64x256 rfl (go5 j.val) 0 ≤ k.val ∧ k.val < Host.clampedStart S32x8x4x64x256 S1x8x4x64x256 rfl (go5 j.val) 0 + 1 at h0
      rw [f0] at h0
      omega)
    rw [if_pos e]
    exact cell4 (b24 j.val s) _ _ _ _ _ _ _ _ (less f1) (less f2) (less f3) (less f4)
  · next hin =>
    rw [if_neg fun e => hin ?_]
    subst e
    exact ⟨⟨le_of_eq f0, lt_of_lt_of_eq (Nat.lt_succ_self _) (congrArg (· + 1) f0.symm)⟩, le_of_eq_of_le f1 (Nat.zero_le _), le_of_eq_of_le f2 (Nat.zero_le _),
      le_of_eq_of_le f3 (Nat.zero_le _), le_of_eq_of_le f4 (Nat.zero_le _)⟩
end

/-! The state and the results after `n` trips. -/

section
variable (a0 a1 : (⟨S8x2048x512, .bf16⟩ : BufTy).Contents (Elt Ideal)) (a2 : (⟨S8x2048x1024, .bf16⟩ : BufTy).Contents (Elt Ideal))
  (a4 : (⟨S8x2048x512, .f32⟩ : BufTy).Contents (Elt Ideal))

theorem kept (s : State Ideal) (n : ℕ) : (iter s n).main_v39_0 = s.main_v39_0 ∧ (iter s n).main_v39_1 = s.main_v39_1
    ∧ (iter s n).main_v39_2 = s.main_v39_2 ∧ (iter s n).main_v39_3 = s.main_v39_3 := by
  induction n with
  | zero => exact ⟨rfl, rfl, rfl, rfl⟩
  | succ n ih => exact ih

/-- The loop's state before trip `n`. -/
abbrev before (n : ℕ) : State Ideal := iter (init a0 a1 a2 a4) n

theorem state (n : ℕ) (hn : n ≤ 32) (b : Fin 8) (h : Fin 4) (d : Fin 128) (w : Fin 256) :
    (before a0 a1 a2 a4 n).main_v39_5 (ix4 b h d w) = states (chunks (arr a0) (arr a1) (arr a2) (arr a4) b h) n d w := by
  induction n with
  | zero =>
    show K_main_v32 (F := Ideal) (ix4 b h d w) = (0 : EReal)
    pointwise [K_main_v32, K_main_cst_1]
  | succ n ih =>
    have e := step_main_v39_5 n (before a0 a1 a2 a4 n)
    refine (congrFun e _).trans ?_
    refine (b28_apply (before a0 a1 a2 a4 n) (⟨n, by omega⟩ : Fin 32) b h d w).trans ?_
    rw [b4_apply, b10_apply, ih (by omega), (kept _ n).1, (kept _ n).2.1]
    have e1 := v34 a0 a1 a2 a4 b h (⟨n, by omega⟩ : Fin 32) d
    have e2 := v35 a0 a1 a2 a4 b h (⟨n, by omega⟩ : Fin 32) d w
    have en : (⟨n, by omega⟩ : Fin 32) = Fin.ofNat 32 n := Fin.ext (Nat.mod_eq_of_lt (by omega)).symm
    refine (congrArg₂ (fun x y => x * _ + y) e1 e2).trans ?_
    rw [en]
    rfl

theorem result (n : ℕ) (hn : n ≤ 32) (k : Fin 32) (hk : k.val < n) (b : Fin 8) (h : Fin 4) (i : Fin 64) (w : Fin 256) :
    (before a0 a1 a2 a4 n).main_v39_6 (ix5 k b h i w)
      = (ch a0 a1 a2 a4 b h k).read (states (chunks (arr a0) (arr a1) (arr a2) (arr a4) b h) k.val) i w := by
  induction n with
  | zero => exact absurd hk (Nat.not_lt_zero _)
  | succ n ih =>
    have e := step_main_v39_6 n (before a0 a1 a2 a4 n)
    refine (congrFun e _).trans ?_
    refine (b34_apply (before a0 a1 a2 a4 n) (⟨n, by omega⟩ : Fin 32) b h i w k).trans ?_
    by_cases he : k = (⟨n, by omega⟩ : Fin 32)
    · rw [if_pos he, ← he]
      have hkn : k.val = n := congrArg Fin.val he
      subst hkn
      refine (b24_apply _ k b h i w).trans ?_
      rw [b22_apply, (kept _ k.val).2.2.2]
      unfold Chunk.read
      refine congrArg₂ (· + ·) (v37 a0 a1 a2 a4 b h k i w) (Finset.sum_congr rfl fun d _ => ?_)
      rw [b16_apply, (kept _ k.val).2.2.1, state a0 a1 a2 a4 k.val (by omega)]
      exact congrArg (· * _) (v36 a0 a1 a2 a4 b h k i d)
    · rw [if_neg he]
      exact ih (by omega) (by have : k.val ≠ n := fun h => he (Fin.ext h); omega)
end

end Cert.Proof.Ref
end
-- ==== Proof.RefEnd.lean ====
module

public import proofs.«01_k».proof.Proof.RefScan

@[expose] public section
set_option maxRecDepth 16384

noncomputable section
namespace Cert.Proof.Ref
open Idealize.ShloMosaic Cert.ReferenceIdeal Cert.ReferenceIdeal.Gen Cert.ReferenceIdeal.Step Cert.Proof.Spec Cert.Proof.Scan

/-! ## The reference's result -/

variable (a0 a1 : (⟨S8x2048x512, .bf16⟩ : BufTy).Contents (Elt Ideal)) (a2 a3 : (⟨S8x2048x1024, .bf16⟩ : BufTy).Contents (Elt Ideal))
  (a4 : (⟨S8x2048x512, .f32⟩ : BufTy).Contents (Elt Ideal)) (a5 : (⟨S1x256, .f32⟩ : BufTy).Contents (Elt Ideal))

theorem end_apply (s : State Ideal) (b : Fin 8) (h : Fin 4) (n : Fin 32) (i : Fin 64) (w : Fin 256) :
    R_main_v59 (F := Ideal) s a3 a5 (ix3 b (row n i) (valCol h w))
      = finish (fun u => s.main_v39_6 (ix5 n b h i u)) (a5 (ix2 0 w)) (a3 (ix3 b (row n i) (valCol h w))) w := by
  have e1 : ∀ hh, (⟨(row n i).val / 64, hh⟩ : Fin 32) = n := fun _ => Fin.ext (by simp only [row]; omega)
  have e2 : ∀ hh, (⟨(row n i).val % 64, hh⟩ : Fin 64) = i := fun _ => Fin.ext (by simp only [row]; omega)
  have e3 : ∀ hh, (⟨(valCol h w).val / 256, hh⟩ : Fin 4) = h := fun _ => Fin.ext (by simp only [valCol]; omega)
  have e4 : ∀ hh, (⟨(valCol h w).val % 256, hh⟩ : Fin 256) = w := fun _ => Fin.ext (by simp only [valCol]; omega)
  pointwise [R_main_v59]
  simp only [e1, e2, e3, e4]
  rfl

theorem final (b : Fin 8) (h : Fin 4) (n : Fin 32) (i : Fin 64) (w : Fin 256) :
    R_main_v59 (F := Ideal) (before a0 a1 a2 a4 32) a3 a5 (ix3 b (row n i) (valCol h w))
      = attention (arr a0) (arr a1) (arr a2) (arr a3) (arr a4) (fun w => a5 (ix2 0 w)) b h n i w := by
  rw [end_apply]
  unfold attention
  rw [show (fun u => (before a0 a1 a2 a4 32).main_v39_6 (ix5 n b h i u)) = _ from funext fun u => result a0 a1 a2 a4 32 le_rfl n n.isLt b h i u]
  rfl

end Cert.Proof.Ref
end
-- ==== Proof.Join.lean ====
module

public import proofs.«01_k».proof.Defs
public import proofs.«01_k».proof.Proof.Grid
public import proofs.«01_k».proof.Proof.RefEnd
public import Idealize.ShloMosaic.Lib.Quiescent

@[expose] public section
set_option maxRecDepth 16384

noncomputable section
namespace Cert.Proof.Join
open Idealize.ShloMosaic Idealize.ShloMosaic.TcCoe Idealize.SL.Sem Cert.Proof.Spec

/-! ## The kernel's array and the reference's are the same -/

/-- The precondition's facts. -/
instance decays_facts : Cert.Pre_decays_below_top.Facts := ⟨by decide⟩

/-- A log decay that the precondition bounds is not the top. -/
theorem ne_top_of_bound (x : EReal) (h : Ideal.cmp .olt x (Ideal.ofBits .f32 0x7F800000#32) = 1#1) : x ≠ ⊤ := by
  rintro rfl
  rw [show Ideal.ofBits .f32 0x7F800000#32 = ⊤ by simp [Ideal.ofBits, Ideal.ieee]] at h
  simp [Ideal.cmp] at h

/-- Every index of the result is a row of a chunk and a column of a head. -/
theorem at_index (i : (⟨3, ![8, 2048, 1024]⟩ : Shape).Idx) :
    ∃ (b : Fin 8) (n : Fin 32) (p : Fin 64) (h : Fin 4) (w : Fin 256), i = ix3 b (row n p) (valCol h w) := by
  have h1 : (i 1).val < 2048 := (i 1).isLt
  have h2 : (i 2).val < 1024 := (i 2).isLt
  refine ⟨i 0, ⟨(i 1).val / 64, by omega⟩, ⟨(i 1).val % 64, by omega⟩, ⟨(i 2).val / 256, by omega⟩, ⟨(i 2).val % 256, by omega⟩, ?_⟩
  funext x
  fin_cases x
  · rfl
  · exact Fin.ext (Nat.div_add_mod _ 64).symm
  · exact Fin.ext (Nat.div_add_mod _ 256).symm

/-- The reference's result, of arrays that are the kernel's arguments, is the kernel's. -/
theorem agree (m : (ℓ : Loc Cert.KernelIdeal.nD Cert.KernelIdeal.τ Cert.KernelIdeal.sig) → Buf (Elt Ideal) ℓ) (c : Dev Cert.KernelIdeal.nD)
    (hla : ∀ i j d, Grid.LA m c i j d ≠ ⊤) :
    Cert.ReferenceIdeal.Step.R_main_v59 (F := Ideal)
        (Scan.iter (Cert.ReferenceIdeal.Step.init (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg4))) 32)
        (m ((c : Thread Cert.KernelIdeal.nD Cert.KernelIdeal.τ).loc Cert.KernelIdeal.main_arg3)) (m ((c : Thread Cert.KernelIdeal.nD Cert.KernelIdeal.τ).loc Cert.KernelIdeal.main_arg5))
      = Cert.KernelIdeal.Value.G6 m c := by
  funext i
  obtain ⟨b, n, p, h, w, rfl⟩ := at_index i
  exact (Ref.final _ _ _ _ _ _ b h n p w).trans (Grid.final m c hla b h n p w).symm

theorem algebraic : Cert.algebraic_KernelIdeal_ReferenceIdeal_pre_decays_below_top := by
  intro m g m' g' hp ha
  have hla : ∀ c i j d, Grid.LA m c i j d ≠ ⊤ := fun c i j d => ne_top_of_bound _ (congrFun (hp c) (ix3 i j d))
  refine ⟨fun c => Cert.KernelIdeal.Value.G6 m c, Cert.KernelIdeal.Value.run m g, ?_⟩
  refine (θ_run Cert.ReferenceIdeal.defs _ _).mono (fun r h c => ?_) (Scan.run m' g')
  obtain ⟨e, rest⟩ := h c
  refine ⟨e.trans ?_, rest⟩
  obtain ⟨h0, h1, h2, h3, h4, h5⟩ := ha c
  refine Eq.trans ?_ (agree m c (hla c))
  unfold Scan.start
  rw [h0, h1, h2, h3, h4, h5]

/-- The reference declares no semaphore: its run is its frame. -/
theorem reference_frame : Cert.quiescent_ReferenceIdeal := fun m g _ =>
  (θ_run Cert.ReferenceIdeal.defs _ _).mono
    (fun r h => And.intro (fun c => (h c).2) (sem_eq_zero_of_no_sems (by decide) r.2)) (Scan.run m g)

end Cert.Proof.Join
end
-- ==== Proof.ExpertsRun.lean ====
/-
  A run of the expert kernel at any tables whose experts are in range, over any float values: the tables admit the
  pipeline, each of the 136 points stores its block of the result once — the gated product of its expert where its
  tile is used, zeros where it is not — and every array ends at what the points leave, the arguments as they were.
-/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.Quiescent
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof.ExpertsRun

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the staging cells. -/
abbrev EP : Emb (UR sig nD τ) 𝕄 := emb₁

/-! ## The two conditions -/

/-- The second grid coordinate is zero. -/
theorem second_eq (i : grid0.Coords) : (i 1).val = 0 := by
  have h : (i 1).val < 1 := (i 1).isLt
  omega

theorem not_zeroed : ∀ b : BitVec 1, Scalar.cmpi .ne (Scalar.extui b : BitVec 32) 0#32 = 1#1 →
    ¬ Scalar.cmpi .ne (Scalar.extui (Scalar.andi (Scalar.xori b 1#1) (Scalar.cmpi .eq (BitVec.ofNat 32 0) 0#32)) : BitVec 32) 0#32 = 1#1 := by
  decide +kernel

theorem zeroed : ∀ b : BitVec 1, ¬ Scalar.cmpi .ne (Scalar.extui b : BitVec 32) 0#32 = 1#1 →
    Scalar.cmpi .ne (Scalar.extui (Scalar.andi (Scalar.xori b 1#1) (Scalar.cmpi .eq (BitVec.ofNat 32 0) 0#32)) : BitVec 32) 0#32 = 1#1 := by
  decide +kernel

/-- Where the tile is used, its block is not zeroed. -/
theorem cond2_of_used (i : grid0.Coords) (w : BitVec 32) (h : k0_cond1 w = 1#1) : ¬ k0_cond2 i w = 1#1 := by
  unfold k0_cond1 at h
  unfold k0_cond2
  rw [second_eq i]
  exact not_zeroed (Scalar.cmpi .sgt w 0#32) h

/-- Where the tile is not used, its block is zeroed. -/
theorem cond2_of_unused (i : grid0.Coords) (w : BitVec 32) (h : ¬ k0_cond1 w = 1#1) : k0_cond2 i w = 1#1 := by
  unfold k0_cond1 at h
  unfold k0_cond2
  rw [second_eq i]
  exact zeroed (Scalar.cmpi .sgt w 0#32) h

/-! ## The tables in range -/

/-- The experts of the tables are in range. -/
def InRange (T : S136.Idx → BitVec 32) : Prop := ∀ x, (T x).toNat < 8

/-- The block of a window of weights, from its expert and a zero. -/
theorem inside {n : Nat} {e j : Nat} (he : e < 8) (hj : j = 0) (b : Nat) (hb : n = b) :
    (e + 1) * 1 ≤ 8 ∧ (j + 1) * n ≤ b := by
  subst hj hb; omega

theorem select_zero (i : grid0.Coords) (b : BitVec 1) :
    (Scalar.select b (BitVec.ofNat 32 (i 1).val) 0#32 : BitVec 32).toNat = 0 := by
  rw [second_eq i]; revert b; decide +kernel

theorem ok_of_range (pf : pre0.Contents (Elt F)) (h : InRange (pf 0)) : ok0 pf := by
  refine ⟨fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · intro a
    fin_cases a
    · exact (inside (h _) rfl 1 rfl).1
    · exact (inside (n := 1024) (e := 0) (by decide) rfl 1024 rfl).2
    · exact (inside (n := 3584) (e := 0) (by decide) (select_zero i _) 3584 rfl).2
  · intro a
    fin_cases a
    · exact (inside (h _) rfl 1 rfl).1
    · exact (inside (n := 1024) (e := 0) (by decide) rfl 1024 rfl).2
    · exact (inside (n := 3584) (e := 0) (by decide) (select_zero i _) 3584 rfl).2
  · intro a
    fin_cases a
    · exact (inside (h _) rfl 1 rfl).1
    · exact (inside (n := 3584) (e := 0) (by decide) (select_zero i _) 3584 rfl).2
    · exact (inside (n := 1024) (e := 0) (by decide) rfl 1024 rfl).2

/-! ## What a point stores -/

abbrev rRow : Rect S256x1024 := Rect.unit (s := S256x1024) ![0, 0] S256x1024.size inb_S256x1024_S256x1024_0_0
abbrev rGate : Rect S256x1 := Rect.unit (s := S256x1) ![0, 0] S256x1.size inb_S256x1_S256x1_0_0
abbrev cA : Rect S1x1024x3584 := Rect.unit (s := S1x1024x3584) ![0, 0, 0] S1x1024x512.size inb_S1x1024x3584_S1x1024x512_0_0_0
abbrev cB : Rect S1x1024x3584 := Rect.unit (s := S1x1024x3584) ![0, 0, 512] S1x1024x512.size inb_S1x1024x3584_S1x1024x512_0_0_512
abbrev cC : Rect S1x1024x3584 := Rect.unit (s := S1x1024x3584) ![0, 0, 1024] S1x1024x768.size inb_S1x1024x3584_S1x1024x768_0_0_1024
abbrev cD : Rect S1x1024x3584 := Rect.unit (s := S1x1024x3584) ![0, 0, 1792] S1x1024x512.size inb_S1x1024x3584_S1x1024x512_0_0_1792
abbrev cE : Rect S1x1024x3584 := Rect.unit (s := S1x1024x3584) ![0, 0, 2304] S1x1024x512.size inb_S1x1024x3584_S1x1024x512_0_0_2304
abbrev cF : Rect S1x1024x3584 := Rect.unit (s := S1x1024x3584) ![0, 0, 2816] S1x1024x768.size inb_S1x1024x3584_S1x1024x768_0_0_2816
abbrev dA : Rect S1x3584x1024 := Rect.unit (s := S1x3584x1024) ![0, 0, 0] S1x512x1024.size inb_S1x3584x1024_S1x512x1024_0_0_0
abbrev dB : Rect S1x3584x1024 := Rect.unit (s := S1x3584x1024) ![0, 512, 0] S1x512x1024.size inb_S1x3584x1024_S1x512x1024_0_512_0
abbrev dC : Rect S1x3584x1024 := Rect.unit (s := S1x3584x1024) ![0, 1024, 0] S1x768x1024.size inb_S1x3584x1024_S1x768x1024_0_1024_0
abbrev dD : Rect S1x3584x1024 := Rect.unit (s := S1x3584x1024) ![0, 1792, 0] S1x512x1024.size inb_S1x3584x1024_S1x512x1024_0_1792_0
abbrev dE : Rect S1x3584x1024 := Rect.unit (s := S1x3584x1024) ![0, 2304, 0] S1x512x1024.size inb_S1x3584x1024_S1x512x1024_0_2304_0
abbrev dF : Rect S1x3584x1024 := Rect.unit (s := S1x3584x1024) ![0, 2816, 0] S1x768x1024.size inb_S1x3584x1024_S1x768x1024_0_2816_0

/-- The first three pieces of the product with the second weights, added. -/
def firstHalf (h : Vec F S256x1024 .bf16) (g u : Vec F S1x1024x3584 .bf16) (d : Vec F S1x3584x1024 .bf16) : FVec F S256x1024 .f32 :=
  k0_pay10 h (k0_pay3 h (View.ld g cB)) (k0_pay4 h (View.ld u cB))
    (k0_pay5 h (View.ld g cA) (View.ld u cA) (View.ld d dA)) (k0_pay6 h (View.ld g cC)) (k0_pay7 (View.ld u cC))
    (View.ld d dB) (View.ld d dC)

/-- Five pieces, added. -/
def fivePieces (h : Vec F S256x1024 .bf16) (g u : Vec F S1x1024x3584 .bf16) (d : Vec F S1x3584x1024 .bf16) : FVec F S256x1024 .f32 :=
  k0_pay14 h (k0_pay8 h (View.ld g cD)) (k0_pay9 h (View.ld u cD)) (firstHalf h g u d) (k0_pay11 h (View.ld g cE))
    (View.ld u cE) (View.ld d dD) (View.ld d dE)

/-- The block of a used tile: the six pieces added, scaled row by row. -/
def used (x0 : Vec F S256x1024 .bf16) (x1 : Vec F S256x1 .f32) (x2 x3 : Vec F S1x1024x3584 .bf16) (x4 : Vec F S1x3584x1024 .bf16) :
    Vec F S256x1024 .bf16 :=
  k0_pay1 (k0_pay12 (View.ld x0 rRow) (View.ld x2 cF)) (k0_pay13 (View.ld x0 rRow) (View.ld x3 cF))
    (fivePieces (View.ld x0 rRow) x2 x3 x4) (k0_pay15 (View.ld x0 rRow) (View.ld x2 cF)) (View.ld x4 dF) (View.ld x1 rGate)

/-- The block a point leaves: by the word of its tile. -/
def block (w : BitVec 32) (x0 : Vec F S256x1024 .bf16) (x1 : Vec F S256x1 .f32) (x2 x3 : Vec F S1x1024x3584 .bf16)
    (x4 : Vec F S1x3584x1024 .bf16) : Vec F S256x1024 .bf16 :=
  if k0_cond1 w = 1#1 then View.canon [⟨rRow, used x0 x1 x2 x3 x4⟩] else View.canon [⟨rRow, k0_pay2 (F := F)⟩]

theorem covers (p : Vec F S256x1024 .bf16) (y : S256x1024.Idx) :
    ∃ pc ∈ ([⟨rRow, p⟩] : List (View.Piece (Elt F) S256x1024 .bf16)), y ∈ pc.1.set :=
  View.cover_of_tiled [⟨rRow, p⟩] S256x1024.size (by rfl) y

/-- The two tables and the spare buffer, as the body is handed them. -/
abbrev tab0 : Memref sig .tc .smem S136 .i32 := Memref.whole main_arg2
abbrev tab1 : Memref sig .tc .smem S136 .i32 := Memref.whole main_arg3
abbrev spare : Memref sig .tc .vmem S8x1024 .f32 := Memref.whole cc0_scratch0

/-- The word of point `i`'s tile, as the body reads it. -/
abbrev word (T : S136.Idx → Elt F .i32) (i : grid0.Coords) : BitVec 32 :=
  View.readAt (Elt F) tab1.view
    (Rect.unit (s := S136) (k0_off1 i) S1.size (k0_off1_inb i)).toLoadRect T (Shape.Idx.first (numel1_S1.symm ▸ Nat.one_pos))

set_option maxHeartbeats 8000000 in
/-- The body at a point, from its input blocks and the table of used tiles. -/
theorem body_sound (c : Dev nD) (i : grid0.Coords)
    (arg4 : Memref sig .tc .vmem S256x1024 .bf16) (harg4 : arg4.IsWhole) (arg5 : Memref sig .tc .vmem S256x1 .f32) (harg5 : arg5.IsWhole)
    (arg6 : Memref sig .tc .vmem S1x1024x3584 .bf16) (harg6 : arg6.IsWhole) (arg7 : Memref sig .tc .vmem S1x1024x3584 .bf16) (harg7 : arg7.IsWhole)
    (arg8 : Memref sig .tc .vmem S1x3584x1024 .bf16) (harg8 : arg8.IsWhole) (arg9 : Memref sig .tc .vmem S256x1024 .bf16) (harg9 : arg9.IsWhole)
    (T : S136.Idx → Elt F .i32)
    (x0 : Vec F S256x1024 .bf16) (x1 : Vec F S256x1 .f32) (x2 x3 : Vec F S1x1024x3584 .bf16) (x4 : Vec F S1x3584x1024 .bf16)
    (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ (tab1.view.loc (c : Thread nD τ) ↦{fullShare.right} T)
        ∗ (∃ d, owns (c : Thread nD τ) arg9 fullShare d)
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4
            ∗ (tab1.view.loc (c : Thread nD τ) ↦{fullShare.right} T)
            ∗ owns (c : Thread nD τ) arg9 fullShare (block (word T i) x0 x1 x2 x3 x4)) -∗ K ⟨⟩))
      ⊢ wp frame (wpE (defs₀ (F := F)) Variants.none c none) Set.univ
          (cc0_moe_experts i tab0 (Memref.isWhole_whole _) tab1 (Memref.isWhole_whole _)
            arg4 harg4 arg5 harg5 arg6 harg6 arg7 harg7 arg8 harg8 arg9 harg9 spare (Memref.isWhole_whole _)) K := by
  have hT1 : tab1.IsWhole := Memref.isWhole_whole _
  by_cases k0_h1 : k0_cond1 (word T i) = 1#1
  · have k0_h2 := cond2_of_used i _ k0_h1
    rw [show block (word T i) x0 x1 x2 x3 x4 = View.canon [⟨rRow, used x0 x1 x2 x3 x4⟩] from if_pos k0_h1]
    unfold owns
    rw [cc0_moe_experts_eq_skeleton]; unfold cc0_moe_experts_skel
    iintro ⟨⟨%f0, %hf0, H0⟩, ⟨%f1, %hf1, H1⟩, ⟨%f2, %hf2, H2⟩, ⟨%f3, %hf3, H3⟩, ⟨%f4, %hf4, H4⟩, HT1, ⟨%d5, %f5, -, H5⟩, Hk⟩
    subst hf0 hf1 hf2 hf3 hf4
    sl_exec! (disch := first | (guard_target = k0_cond1 _ = _; exact k0_h1) | (guard_target = ¬(k0_cond2 _ _ = _); exact k0_h2))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT1]; · iexact HT1
    iexists _; isplitr
    swap; · iexact H5
    ipureintro
    refine (View.read_writes_eq_canon _ _ _ (covers _)).trans ?_
    rfl
  · have k0_h2 := cond2_of_unused i _ k0_h1
    rw [show block (word T i) x0 x1 x2 x3 x4 = View.canon [⟨rRow, k0_pay2 (F := F)⟩] from if_neg k0_h1]
    unfold owns
    rw [cc0_moe_experts_eq_skeleton]; unfold cc0_moe_experts_skel
    iintro ⟨⟨%f0, %hf0, H0⟩, ⟨%f1, %hf1, H1⟩, ⟨%f2, %hf2, H2⟩, ⟨%f3, %hf3, H3⟩, ⟨%f4, %hf4, H4⟩, HT1, ⟨%d5, %f5, -, H5⟩, Hk⟩
    subst hf0 hf1 hf2 hf3 hf4
    sl_exec! (disch := first | (guard_target = ¬(k0_cond1 _ = _); exact k0_h1) | (guard_target = k0_cond2 _ _ = _; exact k0_h2))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HT1]; · iexact HT1
    iexists _; isplitr
    swap; · iexact H5
    ipureintro
    refine (View.read_writes_eq_canon _ _ _ (covers _)).trans ?_
    rfl

/-! ## The pipeline at admissible tables -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev crd (t : Fin (cfgA a).N) : (cfgA a).grid.Coords := (cfgA a).grid.coords t

abbrev st0 (t : Fin (cfgA a).N) : Memref sig .tc .vmem S256x1024 .bf16 := spec0_0.stage ((cfgA a).slots t (0 : Fin 6))
abbrev hst0 (t : Fin (cfgA a).N) : (st0 a t).IsWhole := hstage0_0 (((cfgA a).slots t (0 : Fin 6)).cast nbuf0_0)
abbrev st1 (t : Fin (cfgA a).N) : Memref sig .tc .vmem S256x1 .f32 := spec0_1.stage ((cfgA a).slots t (1 : Fin 6))
abbrev hst1 (t : Fin (cfgA a).N) : (st1 a t).IsWhole := hstage0_1 (((cfgA a).slots t (1 : Fin 6)).cast nbuf0_1)
abbrev st2 (t : Fin (cfgA a).N) : Memref sig .tc .vmem S1x1024x3584 .bf16 := spec0_2.stage ((cfgA a).slots t (2 : Fin 6))
abbrev hst2 (t : Fin (cfgA a).N) : (st2 a t).IsWhole := hstage0_2 (((cfgA a).slots t (2 : Fin 6)).cast nbuf0_2)
abbrev st3 (t : Fin (cfgA a).N) : Memref sig .tc .vmem S1x1024x3584 .bf16 := spec0_3.stage ((cfgA a).slots t (3 : Fin 6))
abbrev hst3 (t : Fin (cfgA a).N) : (st3 a t).IsWhole := hstage0_3 (((cfgA a).slots t (3 : Fin 6)).cast nbuf0_3)
abbrev st4 (t : Fin (cfgA a).N) : Memref sig .tc .vmem S1x3584x1024 .bf16 := spec0_4.stage ((cfgA a).slots t (4 : Fin 6))
abbrev hst4 (t : Fin (cfgA a).N) : (st4 a t).IsWhole := hstage0_4 (((cfgA a).slots t (4 : Fin 6)).cast nbuf0_4)
abbrev st5 (t : Fin (cfgA a).N) : Memref sig .tc .vmem S256x1024 .bf16 := spec0_5.stage ((cfgA a).slots t (5 : Fin 6))
abbrev hst5 (t : Fin (cfgA a).N) : (st5 a t).IsWhole := hstage0_5 (((cfgA a).slots t (5 : Fin 6)).cast nbuf0_5)

variable (m : (ℓ : Loc nD τ sig) → Buf (Elt F) ℓ) (ρ : Dev nD → PrngReg)

/-- Window `w`'s block at point `t`, of its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- Between points: the spare buffer, and the body's halves of the tables. -/
def Phi (c : Dev nD) : sProp 𝕄 :=
  iprop((∃ x, spare.view.loc (c : Thread nD τ) ↦{fullShare} x) ∗ (tab0.view.loc (c : Thread nD τ) ↦{fullShare.right} a.1 0)
    ∗ (tab1.view.loc (c : Thread nD τ) ↦{fullShare.right} a.1 1))

/-- What the result's block is after point `t`. -/
def out (c : Dev nD) (t : Fin (cfgA a).N) : Vec F S256x1024 .bf16 :=
  block (word (a.1 1) (crd a t)) (iblk a m ρ c (0 : Fin 6) t) (iblk a m ρ c (1 : Fin 6) t) (iblk a m ρ c (2 : Fin 6) t)
    (iblk a m ρ c (3 : Fin 6) t) (iblk a m ρ c (4 : Fin 6) t)

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => out a m ρ c t
  Φ _ := Phi a c
  q _ := fullShare
  owed _ := 0

theorem after0 (c : Dev nD) (t : Fin (cfgA a).N) : (dats a m ρ 0 c).after (0 : Fin 6) t = iblk a m ρ c (0 : Fin 6) t := rfl
theorem after1 (c : Dev nD) (t : Fin (cfgA a).N) : (dats a m ρ 0 c).after (1 : Fin 6) t = iblk a m ρ c (1 : Fin 6) t := rfl
theorem after2 (c : Dev nD) (t : Fin (cfgA a).N) : (dats a m ρ 0 c).after (2 : Fin 6) t = iblk a m ρ c (2 : Fin 6) t := rfl
theorem after3 (c : Dev nD) (t : Fin (cfgA a).N) : (dats a m ρ 0 c).after (3 : Fin 6) t = iblk a m ρ c (3 : Fin 6) t := rfl
theorem after4 (c : Dev nD) (t : Fin (cfgA a).N) : (dats a m ρ 0 c).after (4 : Fin 6) t = iblk a m ρ c (4 : Fin 6) t := rfl
theorem after5 (c : Dev nD) (t : Fin (cfgA a).N) : (dats a m ρ 0 c).after (5 : Fin 6) t = out a m ρ c t := rfl

theorem before0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after4]; unfold Dat.blockOf iblk; rfl) t d).trans
    (by unfold Dat.fetched Dat.blockOf iblk; rfl)

theorem not_idle (i : grid0.Coords) (w : BitVec 32) : (!(k0_cond1 w == 1#1) && !(k0_cond2 i w == 1#1)) = false := by
  by_cases h : k0_cond1 w = 1#1
  · rw [h]; rfl
  · rw [cond2_of_unused i w h]; exact Bool.and_false _

/-- Every point stores its block of the result. -/
theorem stored (i : grid0.Coords) : (cfgA a).idle (5 : Fin 6) i = false := by
  rw [show (cfgA a).idle (5 : Fin 6) i = idle0 a.1 (5 : Fin 6) i from rfl]
  exact not_idle i _

/-- The body at point `t`, as the pipeline calls it. -/
abbrev bodyAt (t : Fin (cfgA a).N) : Prog (TpuEff nD τ sig (Elt F) Λ₀ .tc) PUnit :=
  cc0_moe_experts (crd a t) tab0 (Memref.isWhole_whole _) tab1 (Memref.isWhole_whole _) (st0 a t) (hst0 a t) (st1 a t) (hst1 a t)
    (st2 a t) (hst2 a t) (st3 a t) (hst3 a t) (st4 a t) (hst4 a t) (st5 a t) (hst5 a t) spare (Memref.isWhole_whole _)

set_option maxHeartbeats 4000000 in
theorem point_sound (c : Dev nD) (t : Fin (cfgA a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i5 := stored a ((cfgA a).grid.coords t)
  rewrite [i5]
  simp only [before0, before1, before2, before3, before4, after0, after1, after2, after3, after4, after5]
  rewrite [show (dats a m ρ 0 c).Φ t.succ = Phi a c from rfl, show (dats a m ρ 0 c).Φ t.castSucc = Phi a c from rfl,
    show (dats a m ρ 0 c).owesAt () t.succ = (dats a m ρ 0 c).owesAt () t.castSucc from rfl]
  unfold Phi out
  iintro ⟨⟨HS, HT0, HT1⟩, Ho, ⟨%d0, H0⟩, ⟨%d1, H1⟩, ⟨%d2, H2⟩, ⟨%d3, H3⟩, ⟨%d4, H4⟩, ⟨%d5, H5⟩⟩
  iapply (body_sound c (crd a t) (st0 a t) (hst0 a t) (st1 a t) (hst1 a t) (st2 a t) (hst2 a t) (st3 a t) (hst3 a t) (st4 a t) (hst4 a t)
    (st5 a t) (hst5 a t) (a.1 1) (iblk a m ρ c (0 : Fin 6) t) (iblk a m ρ c (1 : Fin 6) t) (iblk a m ρ c (2 : Fin 6) t)
    (iblk a m ρ c (3 : Fin 6) t) (iblk a m ρ c (4 : Fin 6) t) _)
  isplitl [H0]; · iexact H0
  isplitl [H1]; · iexact H1
  isplitl [H2]; · iexact H2
  isplitl [H3]; · iexact H3
  isplitl [H4]; · iexact H4
  isplitl [HT1]; · iexact HT1
  isplitl [H5]; · iexists _; iexact H5
  iintro ⟨H0, H1, H2, H3, H4, HT1, H5⟩
  isplitl [HS HT0 HT1]
  · isplitl [HS]; · iexact HS
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem obligation (c : Dev nD) : BodyObligation (dats a m ρ 0 c) (defs₀ (F := F)) Variants.none () Set.univ := fun t => by
  rw [bigSep_W0]
  exact point_sound a m ρ c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Phi a c from rfl]
  unfold Phi
  iintro ⟨-, ⟨HT0, HT1⟩, HS⟩
  isplitl [HS]; · iexact HS
  isplitl [HT0]; · iexact HT0
  iexact HT1

theorem leave (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a c from rfl]
  unfold Phi
  iintro ⟨HS, -, -⟩
  isplitr; · iempintro
  iexact HS

/-- Every array at what the points leave, every table as it was. -/
def Ends : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
theorem run_quiescent (hp : ∀ (c : Dev nD) j, m ((c : Thread nD τ).loc (pre0.ref j)) = a.1 j) :
    θ_run (defs (F := F)) (onTc (τ := τ) (main (F := F))) (s₀ m ρ) (fun r => Ends a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (obligation a m ρ c).loose) (hne := (launch0 (F := F)).block_pos) (harr := (launch0 (F := F)).arr_whole) (hstage := (launch0 (F := F)).stage_whole) (howed := fun _ _ => rfl)
    (u₀ := u₀ a) (hu₀ := .rfl) (V := fun c b => m ((c : Thread nD τ).loc b))
    (hmain := fun c Q => by delta main; simp only [Prog.bind_lift, Prog.pure_eq_ret]; iintro ⟨Hk, Hb⟩; iapply Hk; iexact Hb)
    (hsplit := fun c => Pipeline.arrays_split (pcs a) (dats a m ρ) 0 (launch0 (F := F)).win.arr_inj c (launch0 (F := F)).arr_whole (share_eq a m ρ c) _ _ fun _ => rfl)
    (hpf := hp) (X := fun _ => iprop(emp)) (Y := fun _ => iprop(emp)) (Z := fun _ => iprop(emp))
    (hX := fun c => by rw [unscopedRestP0_eq]; iintro -; isplitr <;> iempintro) (hin := enter a m ρ) (hout := leave a m ρ)
    (QY := fun _ _ => True) (hY := fun c s' => by iintro ⟨-, -, HSI⟩; imodintro; isplitr; · ipureintro; trivial
                                                  iexact HSI)
    (hQ := fun _ h hz => ⟨fun c => ⟨(h c).1, (h c).2.1⟩, hz⟩)

/-- The run: the arguments as they were, the result at what the points leave, every counter at zero. -/
theorem run (hp : ∀ (c : Dev nD) j, m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (∀ c : Dev nD, r.2.mem ((c.tc : Thread nD τ).loc main_v0) = (dats a m ρ 0 c).arrAt (5 : Fin 6) (cfgA a).N)
      ∧ r.2.sem = fun _ => 0) :=
  (θ_run defs _ _).mono (fun _ h => ⟨fun c => ⟨((h.1 c).1 (0 : Fin 6)).trans ((dats a m ρ 0 c).arrAt_in (0 : Fin 6) rfl _),
    ((h.1 c).1 (1 : Fin 6)).trans ((dats a m ρ 0 c).arrAt_in (1 : Fin 6) rfl _),
    ((h.1 c).2 0).trans (hp c 0).symm, ((h.1 c).2 1).trans (hp c 1).symm,
    ((h.1 c).1 (2 : Fin 6)).trans ((dats a m ρ 0 c).arrAt_in (2 : Fin 6) rfl _),
    ((h.1 c).1 (3 : Fin 6)).trans ((dats a m ρ 0 c).arrAt_in (3 : Fin 6) rfl _),
    ((h.1 c).1 (4 : Fin 6)).trans ((dats a m ρ 0 c).arrAt_in (4 : Fin 6) rfl _)⟩, fun c => (h.1 c).1 (5 : Fin 6), h.2⟩)
    (run_quiescent (F := F) a m ρ hp)

/-! ## The tables of a memory -/

/-- The tables a memory holds. -/
def tables : pre0.Contents (Elt F) := fun j => m (((0 : Dev nD) : Thread nD τ).loc (pre0.ref j))

/-- A memory whose experts are in range admits the pipeline. -/
def admits (h : InRange (tables (F := F) m 0)) : (pcfg0 (F := F)).Adm := ⟨tables m, ok_of_range (F := F) _ h⟩

theorem held (h : InRange (tables (F := F) m 0)) (c : Dev nD) (j) : m ((c : Thread nD τ).loc (pre0.ref j)) = (admits m h).1 j := by
  obtain rfl : c = 0 := Subsingleton.elim _ _
  rfl

end Cert.Proof.ExpertsRun

end
-- ==== Proof.Swiglu.lean ====
/-
  The gated product of a row: its terms, and the sum over the 3584 columns taken in six pieces.
-/
module

public import proofs.«01_k».proof.Proof.Spec

@[expose] public section
set_option maxRecDepth 16384

noncomputable section
namespace Cert.Proof.Swiglu
open Idealize.ShloMosaic

/-- One column's term: the first product through `z * logistic z`, the second product times it. -/
def gated (z u : EReal) : EReal := z * Ideal.logistic z * u

/-- The term as a quotient, as the kernel writes it. -/
theorem gated_div (z u : EReal) : Ideal.div z (1 + Ideal.exp (0 - z)) * u = gated z u := by
  rw [Spec.silu, gated]

/-- The term with its quotient written out. -/
theorem gated_one_div (z u : EReal) : z * Ideal.div 1 (1 + Ideal.exp (-z)) * u = gated z u := rfl

/-- The term of column `j`: the row against the two columns, gated, times the number of the last matrix. -/
def term (h : Fin 1024 → EReal) (g u : Fin 1024 → Fin 3584 → EReal) (d : Fin 3584 → EReal) (j : Fin 3584) : EReal :=
  gated (∑ k, h k * g k j) (∑ k, h k * u k j) * d j

/-- The gated product of the row with three matrices, at one column of the last. -/
def swiglu (h : Fin 1024 → EReal) (g u : Fin 1024 → Fin 3584 → EReal) (d : Fin 3584 → EReal) : EReal :=
  ∑ j, term h g u d j

theorem swiglu_congr {h h' : Fin 1024 → EReal} {g g' u u' : Fin 1024 → Fin 3584 → EReal} {d d' : Fin 3584 → EReal} (eh : ∀ k, h k = h' k)
    (eg : ∀ k j, g k j = g' k j) (eu : ∀ k j, u k j = u' k j) (ed : ∀ j, d j = d' j) : swiglu h g u d = swiglu h' g' u' d' := by
  obtain rfl : h = h' := funext eh
  obtain rfl : g = g' := funext fun k => funext (eg k)
  obtain rfl : u = u' := funext fun k => funext (eu k)
  obtain rfl : d = d' := funext ed
  rfl

/-- Column `j` of the piece of `n` columns that starts at column `s`. -/
def col (s n : ℕ) (hn : s + n ≤ 3584) (j : Fin n) : Fin 3584 := ⟨s + j.val, by omega⟩

/-- The sum over a piece of the columns. -/
def piece (h : Fin 1024 → EReal) (g u : Fin 1024 → Fin 3584 → EReal) (d : Fin 3584 → EReal) (s n : ℕ) (hn : s + n ≤ 3584) : EReal :=
  ∑ j : Fin n, term h g u d (col s n hn j)

/-- A sum over a piece of columns, of numbers that are the matrices' there, is that piece. -/
theorem piece_congr {h h' : Fin 1024 → EReal} {g u : Fin 1024 → Fin 3584 → EReal} {d : Fin 3584 → EReal} {s n : ℕ} {hn : s + n ≤ 3584}
    {g' u' : Fin 1024 → Fin n → EReal} {d' : Fin n → EReal} (eh : ∀ k, h' k = h k) (eg : ∀ k j, g' k j = g k (col s n hn j))
    (eu : ∀ k j, u' k j = u k (col s n hn j)) (ed : ∀ j, d' j = d (col s n hn j)) :
    ∑ j : Fin n, gated (∑ k, h' k * g' k j) (∑ k, h' k * u' k j) * d' j = piece h g u d s n hn := by
  simp only [eh, eg, eu, ed, piece, term]

/-- A sum over the first columns is the sum over fewer of them and over the piece that follows. -/
theorem sum_piece (f : Fin 3584 → EReal) (s n : ℕ) (hn : s + n ≤ 3584) :
    (∑ j : Fin (s + n), f ⟨j.val, by omega⟩) = (∑ j : Fin s, f ⟨j.val, by omega⟩) + ∑ j : Fin n, f (col s n hn j) :=
  Fin.sum_univ_add (fun j : Fin (s + n) => f ⟨j.val, by omega⟩)

/-- The gated product is the sum of its six pieces. -/
theorem swiglu_pieces (h : Fin 1024 → EReal) (g u : Fin 1024 → Fin 3584 → EReal) (d : Fin 3584 → EReal) :
    swiglu h g u d = piece h g u d 0 512 (by omega) + piece h g u d 512 512 (by omega) + piece h g u d 1024 768 (by omega)
      + piece h g u d 1792 512 (by omega) + piece h g u d 2304 512 (by omega) + piece h g u d 2816 768 (by omega) := by
  unfold swiglu piece
  have e6 := sum_piece (term h g u d) 2816 768 (by omega)
  have e5 := sum_piece (term h g u d) 2304 512 (by omega)
  have e4 := sum_piece (term h g u d) 1792 512 (by omega)
  have e3 := sum_piece (term h g u d) 1024 768 (by omega)
  have e2 := sum_piece (term h g u d) 512 512 (by omega)
  have e1 : (∑ j : Fin 512, term h g u d ⟨j.val, by omega⟩) = ∑ j : Fin 512, term h g u d (col 0 512 (by omega) j) :=
    Finset.sum_congr rfl fun j _ => congrArg (term h g u d) (Fin.ext (Nat.zero_add j.val).symm)
  refine e6.trans ?_
  refine congrArg (· + _) (e5.trans ?_)
  refine congrArg (· + _) (e4.trans ?_)
  refine congrArg (· + _) (e3.trans ?_)
  exact congrArg (· + _) (e2.trans (congrArg (· + _) e1))

end Cert.Proof.Swiglu
end
-- ==== Proof.ExpertsBlock.lean ====
/-
  What the expert kernel's stored block is at an index, over the extended reals: the gated product of the row times
  the row's gate.
-/
module

public import proofs.«01_k».proof.Proof.ExpertsRun
public import proofs.«01_k».proof.Proof.Swiglu

@[expose] public section
set_option maxRecDepth 16384

noncomputable section
namespace Cert.Proof.ExpertsBlock
open Idealize.ShloMosaic Cert.ExpertsIdeal Cert.ExpertsIdeal.Gen Cert.Proof.Swiglu Cert.Proof.ExpertsRun

/-! ## A piece of columns or rows of an expert's matrices -/

theorem ld_row (x : Vec Ideal S256x1024 .bf16) (p : Fin 256) (k : Fin 1024) : View.ld x rRow (ix2 p k) = x (ix2 p k) := by
  pointwise []
theorem ld_gate (x : Vec Ideal S256x1 .f32) (p : Fin 256) : View.ld x rGate (ix2 p 0) = x (ix2 p 0) := by
  pointwise []
theorem ld_cA (x : Vec Ideal S1x1024x3584 .bf16) (k : Fin 1024) (j : Fin 512) :
    View.ld x cA (ix3 0 k j) = x (ix3 0 k (col 0 512 (by omega) j)) := by
  pointwise []
  exact congrArg (fun z : Fin 3584 => x (ix3 0 k z)) (Fin.ext (Nat.zero_add j.val).symm)
theorem ld_dA (x : Vec Ideal S1x3584x1024 .bf16) (c : Fin 1024) (j : Fin 512) :
    View.ld x dA (ix3 0 j c) = x (ix3 0 (col 0 512 (by omega) j) c) := by
  pointwise []
  exact congrArg (fun z : Fin 3584 => x (ix3 0 z c)) (Fin.ext (Nat.zero_add j.val).symm)
theorem ld_cB (x : Vec Ideal S1x1024x3584 .bf16) (k : Fin 1024) (j : Fin 512) :
    View.ld x cB (ix3 0 k j) = x (ix3 0 k (col 512 512 (by omega) j)) := by
  pointwise []
  rfl
theorem ld_dB (x : Vec Ideal S1x3584x1024 .bf16) (c : Fin 1024) (j : Fin 512) :
    View.ld x dB (ix3 0 j c) = x (ix3 0 (col 512 512 (by omega) j) c) := by
  pointwise []
  rfl
theorem ld_cC (x : Vec Ideal S1x1024x3584 .bf16) (k : Fin 1024) (j : Fin 768) :
    View.ld x cC (ix3 0 k j) = x (ix3 0 k (col 1024 768 (by omega) j)) := by
  pointwise []
  rfl
theorem ld_dC (x : Vec Ideal S1x3584x1024 .bf16) (c : Fin 1024) (j : Fin 768) :
    View.ld x dC (ix3 0 j c) = x (ix3 0 (col 1024 768 (by omega) j) c) := by
  pointwise []
  rfl
theorem ld_cD (x : Vec Ideal S1x1024x3584 .bf16) (k : Fin 1024) (j : Fin 512) :
    View.ld x cD (ix3 0 k j) = x (ix3 0 k (col 1792 512 (by omega) j)) := by
  pointwise []
  rfl
theorem ld_dD (x : Vec Ideal S1x3584x1024 .bf16) (c : Fin 1024) (j : Fin 512) :
    View.ld x dD (ix3 0 j c) = x (ix3 0 (col 1792 512 (by omega) j) c) := by
  pointwise []
  rfl
theorem ld_cE (x : Vec Ideal S1x1024x3584 .bf16) (k : Fin 1024) (j : Fin 512) :
    View.ld x cE (ix3 0 k j) = x (ix3 0 k (col 2304 512 (by omega) j)) := by
  pointwise []
  rfl
theorem ld_dE (x : Vec Ideal S1x3584x1024 .bf16) (c : Fin 1024) (j : Fin 512) :
    View.ld x dE (ix3 0 j c) = x (ix3 0 (col 2304 512 (by omega) j) c) := by
  pointwise []
  rfl
theorem ld_cF (x : Vec Ideal S1x1024x3584 .bf16) (k : Fin 1024) (j : Fin 768) :
    View.ld x cF (ix3 0 k j) = x (ix3 0 k (col 2816 768 (by omega) j)) := by
  pointwise []
  rfl
theorem ld_dF (x : Vec Ideal S1x3584x1024 .bf16) (c : Fin 1024) (j : Fin 768) :
    View.ld x dF (ix3 0 j c) = x (ix3 0 (col 2816 768 (by omega) j) c) := by
  pointwise []
  rfl

/-! ## The products and the sums of the block -/

theorem pay5 (h : Vec Ideal S256x1024 .bf16) (g u : Vec Ideal S1x1024x512 .bf16) (d : Vec Ideal S1x512x1024 .bf16) (p : Fin 256) (c : Fin 1024) :
    k0_pay5 (F := Ideal) h g u d (ix2 p c)
      = ∑ j : Fin 512, gated (∑ k : Fin 1024, h (ix2 p k) * g (ix3 0 k j)) (∑ k : Fin 1024, h (ix2 p k) * u (ix3 0 k j)) * d (ix3 0 j c) := by
  pointwise [k0_pay5]
  simp only [gated_div]

theorem pay10 (h : Vec Ideal S256x1024 .bf16) (z u : FVec Ideal S256x512 .f32) (a : FVec Ideal S256x1024 .f32) (z' : FVec Ideal S256x768 .f32)
    (u' : FVec Ideal S1024x768 .bf16) (d : Vec Ideal S1x512x1024 .bf16) (d' : Vec Ideal S1x768x1024 .bf16) (p : Fin 256) (c : Fin 1024) :
    k0_pay10 (F := Ideal) h z u a z' u' d d' (ix2 p c)
      = a (ix2 p c) + (∑ j : Fin 512, gated (z (ix2 p j)) (u (ix2 p j)) * d (ix3 0 j c))
        + ∑ j : Fin 768, gated (z' (ix2 p j)) (∑ k : Fin 1024, h (ix2 p k) * u' (ix2 k j)) * d' (ix3 0 j c) := by
  pointwise [k0_pay10]
  simp only [gated_div]

theorem pay3 (h : Vec Ideal S256x1024 .bf16) (g : Vec Ideal S1x1024x512 .bf16) (p : Fin 256) (j : Fin 512) :
    k0_pay3 (F := Ideal) h g (ix2 p j) = ∑ k : Fin 1024, h (ix2 p k) * g (ix3 0 k j) := by
  pointwise [k0_pay3]
theorem pay4 (h : Vec Ideal S256x1024 .bf16) (g : Vec Ideal S1x1024x512 .bf16) (p : Fin 256) (j : Fin 512) :
    k0_pay4 (F := Ideal) h g (ix2 p j) = ∑ k : Fin 1024, h (ix2 p k) * g (ix3 0 k j) := by
  pointwise [k0_pay4]
theorem pay6 (h : Vec Ideal S256x1024 .bf16) (g : Vec Ideal S1x1024x768 .bf16) (p : Fin 256) (j : Fin 768) :
    k0_pay6 (F := Ideal) h g (ix2 p j) = ∑ k : Fin 1024, h (ix2 p k) * g (ix3 0 k j) := by
  pointwise [k0_pay6]
theorem pay8 (h : Vec Ideal S256x1024 .bf16) (g : Vec Ideal S1x1024x512 .bf16) (p : Fin 256) (j : Fin 512) :
    k0_pay8 (F := Ideal) h g (ix2 p j) = ∑ k : Fin 1024, h (ix2 p k) * g (ix3 0 k j) := by
  pointwise [k0_pay8]
theorem pay9 (h : Vec Ideal S256x1024 .bf16) (g : Vec Ideal S1x1024x512 .bf16) (p : Fin 256) (j : Fin 512) :
    k0_pay9 (F := Ideal) h g (ix2 p j) = ∑ k : Fin 1024, h (ix2 p k) * g (ix3 0 k j) := by
  pointwise [k0_pay9]
theorem pay11 (h : Vec Ideal S256x1024 .bf16) (g : Vec Ideal S1x1024x512 .bf16) (p : Fin 256) (j : Fin 512) :
    k0_pay11 (F := Ideal) h g (ix2 p j) = ∑ k : Fin 1024, h (ix2 p k) * g (ix3 0 k j) := by
  pointwise [k0_pay11]
theorem pay12 (h : Vec Ideal S256x1024 .bf16) (g : Vec Ideal S1x1024x768 .bf16) (p : Fin 256) (j : Fin 768) :
    k0_pay12 (F := Ideal) h g (ix2 p j) = ∑ k : Fin 1024, h (ix2 p k) * g (ix3 0 k j) := by
  pointwise [k0_pay12]
theorem pay13 (h : Vec Ideal S256x1024 .bf16) (g : Vec Ideal S1x1024x768 .bf16) (p : Fin 256) (j : Fin 768) :
    k0_pay13 (F := Ideal) h g (ix2 p j) = ∑ k : Fin 1024, h (ix2 p k) * g (ix3 0 k j) := by
  pointwise [k0_pay13]
theorem pay7 (u : Vec Ideal S1x1024x768 .bf16) (k : Fin 1024) (j : Fin 768) : k0_pay7 (F := Ideal) u (ix2 k j) = u (ix3 0 k j) := by
  pointwise [k0_pay7]

theorem pay14 (h : Vec Ideal S256x1024 .bf16) (z u : FVec Ideal S256x512 .f32) (a : FVec Ideal S256x1024 .f32) (z' : FVec Ideal S256x512 .f32)
    (u' : Vec Ideal S1x1024x512 .bf16) (d d' : Vec Ideal S1x512x1024 .bf16) (p : Fin 256) (c : Fin 1024) :
    k0_pay14 (F := Ideal) h z u a z' u' d d' (ix2 p c)
      = a (ix2 p c) + (∑ j : Fin 512, gated (z (ix2 p j)) (u (ix2 p j)) * d (ix3 0 j c))
        + ∑ j : Fin 512, gated (z' (ix2 p j)) (∑ k : Fin 1024, h (ix2 p k) * u' (ix3 0 k j)) * d' (ix3 0 j c) := by
  pointwise [k0_pay14]
  simp only [gated_div]

theorem pay1 (h : Vec Ideal S256x1024 .bf16) (g : Vec Ideal S1x1024x768 .bf16) (u : FVec Ideal S256x768 .f32) (a : FVec Ideal S256x1024 .f32)
    (d : Vec Ideal S1x768x1024 .bf16) (s : Vec Ideal S256x1 .f32) (p : Fin 256) (c : Fin 1024) :
    k0_pay1 (F := Ideal) (k0_pay12 h g) u a (k0_pay15 h g) d s (ix2 p c)
      = (a (ix2 p c) + ∑ j : Fin 768, gated (∑ k : Fin 1024, h (ix2 p k) * g (ix3 0 k j)) (u (ix2 p j)) * d (ix3 0 j c)) * s (ix2 p 0) := by
  pointwise [k0_pay1, k0_pay15]
  simp only [pay12, gated_div]

/-! ## The stored block -/

/-- A used tile's block: each row's gated product with the expert's matrices, times the row's gate. -/
theorem used_apply (x0 : Vec Ideal S256x1024 .bf16) (x1 : Vec Ideal S256x1 .f32) (x2 x3 : Vec Ideal S1x1024x3584 .bf16)
    (x4 : Vec Ideal S1x3584x1024 .bf16) (p : Fin 256) (c : Fin 1024) :
    used (F := Ideal) x0 x1 x2 x3 x4 (ix2 p c)
      = swiglu (fun k => x0 (ix2 p k)) (fun k j => x2 (ix3 0 k j)) (fun k j => x3 (ix3 0 k j)) (fun j => x4 (ix3 0 j c)) * x1 (ix2 p 0) := by
  rw [swiglu_pieces]
  unfold used fivePieces firstHalf
  rw [pay1, pay14, pay10, pay5]
  simp only [pay3, pay4, pay6, pay7, pay8, pay9, pay11, pay13]
  refine congrArg₂ (· * ·) ?_ (ld_gate x1 p)
  exact congrArg₂ (· + ·)
    (congrArg₂ (· + ·)
    (congrArg₂ (· + ·)
    (congrArg₂ (· + ·)
    (congrArg₂ (· + ·)
    (piece_congr (ld_row x0 p) (ld_cA x2) (ld_cA x3) (ld_dA x4 c))
    (piece_congr (ld_row x0 p) (ld_cB x2) (ld_cB x3) (ld_dB x4 c)))
    (piece_congr (ld_row x0 p) (ld_cC x2) (ld_cC x3) (ld_dC x4 c)))
    (piece_congr (ld_row x0 p) (ld_cD x2) (ld_cD x3) (ld_dD x4 c)))
    (piece_congr (ld_row x0 p) (ld_cE x2) (ld_cE x3) (ld_dE x4 c)))
    (piece_congr (ld_row x0 p) (ld_cF x2) (ld_cF x3) (ld_dF x4 c))

/-- An unused tile's block is zero. -/
theorem unused_apply (y : S256x1024.Idx) : k0_pay2 (F := Ideal) y = (0 : EReal) := by
  pointwise [k0_pay2]

/-- A tile is used where its table's word is positive. -/
theorem cond1_iff : ∀ b : BitVec 1, Scalar.cmpi .ne (Scalar.extui b : BitVec 32) 0#32 = 1#1 ↔ b = 1#1 := by decide +kernel

theorem used_iff (w : BitVec 32) : k0_cond1 w = 1#1 ↔ Scalar.cmpi .sgt w 0#32 = 1#1 := cond1_iff _

/-- What a point leaves, at an index. -/
theorem block_apply (w : BitVec 32) (x0 : Vec Ideal S256x1024 .bf16) (x1 : Vec Ideal S256x1 .f32) (x2 x3 : Vec Ideal S1x1024x3584 .bf16)
    (x4 : Vec Ideal S1x3584x1024 .bf16) (p : Fin 256) (c : Fin 1024) :
    block (F := Ideal) w x0 x1 x2 x3 x4 (ix2 p c)
      = if Scalar.cmpi .sgt w 0#32 = 1#1 then
          swiglu (fun k => x0 (ix2 p k)) (fun k j => x2 (ix3 0 k j)) (fun k j => x3 (ix3 0 k j)) (fun j => x4 (ix3 0 j c)) * x1 (ix2 p 0)
        else 0 := by
  have hz : (![0, 0] : Fin 2 → ℕ) = fun _ => 0 := by decide
  unfold block
  by_cases h : k0_cond1 w = 1#1
  · rw [if_pos h, if_pos ((used_iff w).mp h), View.canon_unit_zero hz, used_apply]
  · rw [if_neg h, if_neg (fun h' => h ((used_iff w).mpr h')), View.canon_unit_zero hz, unused_apply]

end Cert.Proof.ExpertsBlock
end
-- ==== Proof.ExpertsValue.lean ====
/-
  The expert kernel's result as one array: row `256 * t + p` is tile `t`'s row `p`, the gated product with the
  matrices of the tile's expert times the row's gate, or zero where the tile is unused.
-/
module

public import proofs.«01_k».proof.Proof.ExpertsBlock
public import Idealize.ShloMosaic.Lib.Pipeline.ValueKit.Point

@[expose] public section
set_option maxRecDepth 16384

noncomputable section
namespace Cert.Proof.ExpertsValue
open Idealize.ShloMosaic Idealize.ShloMosaic.TcCoe Idealize.SL.Sem
open Cert.ExpertsIdeal Cert.ExpertsIdeal.Gen Cert.Proof.Swiglu Cert.Proof.ExpertsRun Cert.Proof.ExpertsBlock

/-! ## Where a point reads and stores -/

theorem rows_at : ∀ t : Fin grid0.N, (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_5 (grid0.coords t) 0 = t.val ∧ cc0_transform_5 (grid0.coords t) 1 = 0)
    ∧ (k0_off1 (grid0.coords t) 0 = t.val) := by decide +kernel

/-- The tile of point `t`. -/
def tile (n : ℕ) (hn : n < grid0.N) : Fin 136 := ⟨n, lt_of_lt_of_eq hn N_0⟩

theorem word_index (t : Fin grid0.N) (x : S1.Idx) : (Rect.unit (s := S136) (k0_off1 (grid0.coords t)) S1.size (k0_off1_inb (grid0.coords t))).emb x
    = (ix1 (tile t.val t.isLt) : S136.Idx) := by
  funext z
  refine Fin.ext ?_
  obtain rfl : z = 0 := Subsingleton.elim _ _
  have h := (rows_at t).2.2.2
  have hx : (x 0).val < 1 := (x 0).isLt
  show k0_off1 (grid0.coords t) 0 + 1 * (x 0).val = t.val
  omega

theorem word_at (T : S136.Idx → BitVec 32) (t : Fin grid0.N) : word (F := Ideal) T (grid0.coords t) = T (ix1 (tile t.val t.isLt)) :=
  congrArg T (word_index t _)

theorem expert_at (pf : pre0.Contents (Elt Ideal)) (t : Fin grid0.N) :
    (cc0_transform_2 k0_off1_inb numel1_S1 pf (grid0.coords t) 0 = ((pf 0 : S136.Idx → BitVec 32) (ix1 (tile t.val t.isLt))).toNat
      ∧ cc0_transform_2 k0_off1_inb numel1_S1 pf (grid0.coords t) 1 = 0 ∧ cc0_transform_2 k0_off1_inb numel1_S1 pf (grid0.coords t) 2 = 0)
    ∧ (cc0_transform_3 k0_off1_inb numel1_S1 pf (grid0.coords t) 0 = ((pf 0 : S136.Idx → BitVec 32) (ix1 (tile t.val t.isLt))).toNat
      ∧ cc0_transform_3 k0_off1_inb numel1_S1 pf (grid0.coords t) 1 = 0 ∧ cc0_transform_3 k0_off1_inb numel1_S1 pf (grid0.coords t) 2 = 0)
    ∧ (cc0_transform_4 k0_off1_inb numel1_S1 pf (grid0.coords t) 0 = ((pf 0 : S136.Idx → BitVec 32) (ix1 (tile t.val t.isLt))).toNat
      ∧ cc0_transform_4 k0_off1_inb numel1_S1 pf (grid0.coords t) 1 = 0 ∧ cc0_transform_4 k0_off1_inb numel1_S1 pf (grid0.coords t) 2 = 0) := by
  have e : ((pf.at 0 (Rect.unit (s := S136) (k0_off1 (grid0.coords t)) S1.size (k0_off1_inb (grid0.coords t))) numel1_S1 : BitVec 32)).toNat
      = ((pf 0 : S136.Idx → BitVec 32) (ix1 (tile t.val t.isLt))).toNat :=
    congrArg (fun j : S136.Idx => ((pf 0 : S136.Idx → BitVec 32) j).toNat) (word_index t _)
  exact ⟨⟨e, rfl, select_zero _ _⟩, ⟨e, rfl, select_zero _ _⟩, ⟨e, select_zero _ _, rfl⟩⟩

/-! ## The blocks a point reads -/

variable (a : (pcfg0 (F := Ideal)).Adm) (m : (ℓ : Loc nD τ sig) → Buf (Elt Ideal) ℓ) (ρ : Dev nD → PrngReg) (c : Dev nD)

/-- The arrays. -/
abbrev hs : S34816x1024.Idx → EReal := m ((c : Thread nD τ).loc main_arg0)
abbrev gs : S34816x1.Idx → EReal := m ((c : Thread nD τ).loc main_arg1)
abbrev wg : S8x1024x3584.Idx → EReal := m ((c : Thread nD τ).loc main_arg4)
abbrev wu : S8x1024x3584.Idx → EReal := m ((c : Thread nD τ).loc main_arg5)
abbrev wd : S8x3584x1024.Idx → EReal := m ((c : Thread nD τ).loc main_arg6)

/-- Row `p` of tile `t`. -/
def rowOf (t : Fin 136) (p : Fin 256) : Fin 34816 := ⟨256 * t.val + p.val, by omega⟩

section
variable (t : Fin (cfgA a).N) (p : Fin 256)

theorem idx5 : ((cfgA a).win (5 : Fin 6)).index t (0 : Fin 2) = t.val ∧ ((cfgA a).win (5 : Fin 6)).index t (1 : Fin 2) = 0 := (rows_at t).2.2.1
theorem idx0 : ((cfgA a).win (0 : Fin 6)).index t (0 : Fin 2) = t.val ∧ ((cfgA a).win (0 : Fin 6)).index t (1 : Fin 2) = 0 := (rows_at t).1
theorem idx1 : ((cfgA a).win (1 : Fin 6)).index t (0 : Fin 2) = t.val ∧ ((cfgA a).win (1 : Fin 6)).index t (1 : Fin 2) = 0 := (rows_at t).2.1
theorem idx2 : ((cfgA a).win (2 : Fin 6)).index t (0 : Fin 3) = ((a.1 0 : S136.Idx → BitVec 32) (ix1 (tile t.val t.isLt))).toNat
    ∧ ((cfgA a).win (2 : Fin 6)).index t (1 : Fin 3) = 0 ∧ ((cfgA a).win (2 : Fin 6)).index t (2 : Fin 3) = 0 := (expert_at a.1 t).1
theorem idx3 : ((cfgA a).win (3 : Fin 6)).index t (0 : Fin 3) = ((a.1 0 : S136.Idx → BitVec 32) (ix1 (tile t.val t.isLt))).toNat
    ∧ ((cfgA a).win (3 : Fin 6)).index t (1 : Fin 3) = 0 ∧ ((cfgA a).win (3 : Fin 6)).index t (2 : Fin 3) = 0 := (expert_at a.1 t).2.1
theorem idx4 : ((cfgA a).win (4 : Fin 6)).index t (0 : Fin 3) = ((a.1 0 : S136.Idx → BitVec 32) (ix1 (tile t.val t.isLt))).toNat
    ∧ ((cfgA a).win (4 : Fin 6)).index t (1 : Fin 3) = 0 ∧ ((cfgA a).win (4 : Fin 6)).index t (2 : Fin 3) = 0 := (expert_at a.1 t).2.2

theorem blk0 (k : Fin 1024) : (iblk a m ρ c (0 : Fin 6) t : S256x1024.Idx → EReal) (ix2 p k) = hs m c (ix2 (rowOf (tile t.val t.isLt) p) k) := by
  refine congrArg (hs m c) (funext fun z => Fin.ext ?_)
  refine (((cfgA a).win (0 : Fin 6)).rect_emb_val t (ix2 p k) z).trans ?_
  obtain ⟨e0, e1⟩ := idx0 a t
  match z with
  | ⟨0, _⟩ => rw [show (⟨0, _⟩ : Fin 2) = 0 from rfl, e0]; show t.val * 256 + p.val = 256 * t.val + p.val; omega
  | ⟨1, _⟩ => rw [show (⟨1, _⟩ : Fin 2) = 1 from rfl, e1]; show 0 * 1024 + k.val = k.val; omega

theorem blk1 : (iblk a m ρ c (1 : Fin 6) t : S256x1.Idx → EReal) (ix2 p 0) = gs m c (ix2 (rowOf (tile t.val t.isLt) p) 0) := by
  refine congrArg (gs m c) (funext fun z => Fin.ext ?_)
  refine (((cfgA a).win (1 : Fin 6)).rect_emb_val t (ix2 p 0) z).trans ?_
  obtain ⟨e0, e1⟩ := idx1 a t
  match z with
  | ⟨0, _⟩ => rw [show (⟨0, _⟩ : Fin 2) = 0 from rfl, e0]; show t.val * 256 + p.val = 256 * t.val + p.val; omega
  | ⟨1, _⟩ => rw [show (⟨1, _⟩ : Fin 2) = 1 from rfl, e1]; rfl

variable (hT : InRange (a.1 0))

/-- The expert of a tile. -/
def expert (t : Fin 136) : Fin 8 := ⟨((a.1 0 : S136.Idx → BitVec 32) (ix1 t)).toNat, hT _⟩

theorem blk2 (k : Fin 1024) (j : Fin 3584) :
    (iblk a m ρ c (2 : Fin 6) t : (⟨3, ![1, 1024, 3584]⟩ : Shape).Idx → EReal) (ix3 0 k j) = wg m c (ix3 (expert a hT (tile t.val t.isLt)) k j) := by
  refine congrArg (wg m c) (funext fun z => Fin.ext ?_)
  refine (((cfgA a).win (2 : Fin 6)).rect_emb_val t (ix3 0 k j) z).trans ?_
  obtain ⟨e0, e1, e2⟩ := idx2 a t
  match z with
  | ⟨0, _⟩ => rw [show (⟨0, _⟩ : Fin 3) = 0 from rfl, e0]; exact (Nat.add_zero _).trans (Nat.mul_one _)
  | ⟨1, _⟩ => rw [show (⟨1, _⟩ : Fin 3) = 1 from rfl, e1]; show 0 * 1024 + k.val = k.val; omega
  | ⟨2, _⟩ => rw [show (⟨2, _⟩ : Fin 3) = 2 from rfl, e2]; show 0 * 3584 + j.val = j.val; omega

theorem blk3 (k : Fin 1024) (j : Fin 3584) :
    (iblk a m ρ c (3 : Fin 6) t : (⟨3, ![1, 1024, 3584]⟩ : Shape).Idx → EReal) (ix3 0 k j) = wu m c (ix3 (expert a hT (tile t.val t.isLt)) k j) := by
  refine congrArg (wu m c) (funext fun z => Fin.ext ?_)
  refine (((cfgA a).win (3 : Fin 6)).rect_emb_val t (ix3 0 k j) z).trans ?_
  obtain ⟨e0, e1, e2⟩ := idx3 a t
  match z with
  | ⟨0, _⟩ => rw [show (⟨0, _⟩ : Fin 3) = 0 from rfl, e0]; exact (Nat.add_zero _).trans (Nat.mul_one _)
  | ⟨1, _⟩ => rw [show (⟨1, _⟩ : Fin 3) = 1 from rfl, e1]; show 0 * 1024 + k.val = k.val; omega
  | ⟨2, _⟩ => rw [show (⟨2, _⟩ : Fin 3) = 2 from rfl, e2]; show 0 * 3584 + j.val = j.val; omega

theorem blk4 (k : Fin 3584) (j : Fin 1024) :
    (iblk a m ρ c (4 : Fin 6) t : (⟨3, ![1, 3584, 1024]⟩ : Shape).Idx → EReal) (ix3 0 k j) = wd m c (ix3 (expert a hT (tile t.val t.isLt)) k j) := by
  refine congrArg (wd m c) (funext fun z => Fin.ext ?_)
  refine (((cfgA a).win (4 : Fin 6)).rect_emb_val t (ix3 0 k j) z).trans ?_
  obtain ⟨e0, e1, e2⟩ := idx4 a t
  match z with
  | ⟨0, _⟩ => rw [show (⟨0, _⟩ : Fin 3) = 0 from rfl, e0]; exact (Nat.add_zero _).trans (Nat.mul_one _)
  | ⟨1, _⟩ => rw [show (⟨1, _⟩ : Fin 3) = 1 from rfl, e1]; show 0 * 3584 + k.val = k.val; omega
  | ⟨2, _⟩ => rw [show (⟨2, _⟩ : Fin 3) = 2 from rfl, e2]; show 0 * 1024 + j.val = j.val; omega

end

/-! ## The result -/

variable (hT : InRange (a.1 0))

/-- The number at row `p` of tile `t`. -/
def entry (t : Fin 136) (p : Fin 256) (j : Fin 1024) : EReal :=
  if Scalar.cmpi .sgt ((a.1 1 : S136.Idx → BitVec 32) (ix1 t)) 0#32 = 1#1 then
    swiglu (fun k => hs m c (ix2 (rowOf t p) k)) (fun k x => wg m c (ix3 (expert a hT t) k x)) (fun k x => wu m c (ix3 (expert a hT t) k x))
      (fun x => wd m c (ix3 (expert a hT t) x j)) * gs m c (ix2 (rowOf t p) 0)
  else 0

/-- The whole array. -/
def result : S34816x1024.Idx → EReal := fun i =>
  entry a m c hT ⟨(i 0).val / 256, by have h : (i 0).val < 34816 := (i 0).isLt; omega⟩ ⟨(i 0).val % 256, by omega⟩ (i 1)

theorem result_at (t : Fin 136) (p : Fin 256) (j : Fin 1024) : result a m c hT (ix2 (rowOf t p) j) = entry a m c hT t p j := by
  exact congrArg₂ (fun x y => entry a m c hT x y j)
    (Fin.ext (by show (256 * t.val + p.val) / 256 = t.val; omega)) (Fin.ext (by show (256 * t.val + p.val) % 256 = p.val; omega))

theorem out_at (t : Fin (cfgA a).N) (p : Fin 256) (j : Fin 1024) :
    (out a m ρ c t : S256x1024.Idx → EReal) (ix2 p j) = entry a m c hT (tile t.val t.isLt) p j := by
  unfold out entry
  refine (block_apply _ _ _ _ _ _ p j).trans ?_
  refine if_congr (iff_of_eq (congrArg (fun w : BitVec 32 => Scalar.cmpi .sgt w 0#32 = 1#1) (word_at _ t))) ?_ rfl
  exact congrArg₂ (· * ·) (swiglu_congr (blk0 a m ρ c t p) (blk2 a m ρ c t hT) (blk3 a m ρ c t hT) fun x => blk4 a m ρ c t hT x j) (blk1 a m ρ c t p)

theorem place5 (t : Fin (cfgA a).N) (p : Fin 256) (j : Fin 1024) :
    ((((cfgA a).win (5 : Fin 6)).blk t).view.emb (ix2 p j) : S34816x1024.Idx) = ix2 (rowOf (tile t.val t.isLt) p) j := by
  refine funext fun z => Fin.ext ?_
  refine (((cfgA a).win (5 : Fin 6)).rect_emb_val t (ix2 p j) z).trans ?_
  obtain ⟨e0, e1⟩ := idx5 a t
  match z with
  | ⟨0, _⟩ => rw [show (⟨0, _⟩ : Fin 2) = 0 from rfl, e0]; show t.val * 256 + p.val = 256 * t.val + p.val; omega
  | ⟨1, _⟩ => rw [show (⟨1, _⟩ : Fin 2) = 1 from rfl, e1]; show 0 * 1024 + j.val = j.val; omega

theorem flushes : ∀ t : Fin grid0.N, Pipeline.Window.flushOf grid0 true cc0_transform_5 t = true := by decide +kernel

/-- What the kernel leaves as its result. -/
theorem final : ((dats a m ρ 0 c).arrAt (5 : Fin 6) (cfgA a).N : S34816x1024.Idx → EReal) = result a m c hT := by
  refine (dats a m ρ 0 c).arrAt_eq_of_cover (5 : Fin 6) (result a m c hT) (fun t _ => ?_) (fun i => ?_)
  · funext y
    obtain ⟨p, j, rfl⟩ : ∃ (p : Fin 256) (j : Fin 1024), y = ix2 p j := ⟨y 0, y 1, eq_ix2 y⟩
    refine Eq.trans ?_ ((congrArg (result a m c hT) (place5 a t p j)).trans (result_at a m c hT _ p j)).symm
    exact out_at a m ρ c hT t p j
  · have h0 : (i 0).val < 34816 := (i 0).isLt
    refine ⟨⟨(i 0).val / 256, lt_of_lt_of_eq (by omega : (i 0).val / 256 < 136) N_0.symm⟩, flushes _, ?_⟩
    refine Finset.mem_map.mpr ⟨ix2 (⟨(i 0).val % 256, by omega⟩ : Fin 256) (i 1), Finset.mem_univ _, ?_⟩
    refine (place5 a _ _ _).trans ?_
    refine (funext fun z => ?_)
    match z with
    | ⟨0, _⟩ => exact Fin.ext (Nat.div_add_mod (i 0).val 256)
    | ⟨1, _⟩ => rfl

end Cert.Proof.ExpertsValue
end
-- ==== Proof.ExpertsRef.lean ====
/-
  The experts' reference at an index: of the eight gated products the one of the row's expert, times the row's gate,
  or zero where the row's tile is unused.
-/
module

public import proofs.«01_k».proof.Proof.Gen.ExpertsRefIdeal.Run
public import proofs.«01_k».proof.Proof.Swiglu
public import Idealize.ShloMosaic.Lib.Pipeline.ValueKit.Point

@[expose] public section
set_option maxRecDepth 16384

noncomputable section
namespace Cert.Proof.ExpertsRef
open Idealize.ShloMosaic Idealize.ShloMosaic.TcCoe Idealize.SL.Sem Cert.ExpertsRefIdeal Cert.ExpertsRefIdeal.Gen Cert.ExpertsRefIdeal.Value Cert.Proof.Swiglu

/-! ## One expert's product -/

section
variable (h : FVec Ideal S34816x1024 .f32) (g u : FVec Ideal S8x1024x3584 .f32) (d : FVec Ideal S8x3584x1024 .f32)
  (s : FVec Ideal S34816x8 .f32) (e : ℕ) (he : e < 8)

/-- The row against one expert's matrix. -/
theorem dot_apply (h1 : S8x1024x3584.Slices ![e, 0, 0] S1x1024x3584) (i : Fin 34816) (x : Fin 3584) :
    Host.dotGeneral dot_S34816x1024_S1024x3584_S34816x3584_1_0_0_1_n_n none h
        (shapeCast _ (extractStridedSlice S1x1024x3584 ![e, 0, 0] g h1) shapeCasts_S1x1024x3584_S1024x3584 : FVec Ideal S1024x3584 .f32) (ix2 i x)
      = ∑ k : Fin 1024, h (ix2 i k) * g (ix3 (⟨e, he⟩ : Fin 8) k x) := by
  pointwise []

/-- One expert's term: the row's gate at the expert, times the row's gated product with the expert's matrices. -/
theorem term_apply (h1 : S8x1024x3584.Slices ![e, 0, 0] S1x1024x3584) (h2 : S8x3584x1024.Slices ![e, 0, 0] S1x3584x1024)
    (h3 : S34816x8.Slices ![0, e] S34816x1) (i : Fin 34816) (j : Fin 1024) :
    mulf (broadcastInDim S34816x1024 ![0, 1] bcast_S34816x1_S34816x1024_0_1 (extractStridedSlice S34816x1 ![0, e] s h3))
      (Host.dotGeneral dot_S34816x3584_S3584x1024_S34816x1024_1_0_0_1_n_n none
        (mulf (mulf (Host.dotGeneral dot_S34816x1024_S1024x3584_S34816x3584_1_0_0_1_n_n none h (shapeCast _ (extractStridedSlice S1x1024x3584 ![e, 0, 0] g h1) shapeCasts_S1x1024x3584_S1024x3584 : FVec Ideal S1024x3584 .f32))
          (Host.divf (broadcastInDim S34816x3584 ![] bcast_S_S34816x3584 (constant S_ .f32 0x3F800000#32))
            (addf (broadcastInDim S34816x3584 ![] bcast_S_S34816x3584 (constant S_ .f32 0x3F800000#32))
              (Host.exp (Host.negf (Host.dotGeneral dot_S34816x1024_S1024x3584_S34816x3584_1_0_0_1_n_n none h (shapeCast _ (extractStridedSlice S1x1024x3584 ![e, 0, 0] g h1) shapeCasts_S1x1024x3584_S1024x3584 : FVec Ideal S1024x3584 .f32)))))))
          (Host.dotGeneral dot_S34816x1024_S1024x3584_S34816x3584_1_0_0_1_n_n none h (shapeCast _ (extractStridedSlice S1x1024x3584 ![e, 0, 0] u h1) shapeCasts_S1x1024x3584_S1024x3584 : FVec Ideal S1024x3584 .f32)))
        (shapeCast _ (extractStridedSlice S1x3584x1024 ![e, 0, 0] d h2) shapeCasts_S1x3584x1024_S3584x1024 : FVec Ideal S3584x1024 .f32)) (ix2 i j)
      = s (ix2 i (⟨e, he⟩ : Fin 8)) * swiglu (fun k => h (ix2 i k)) (fun k x => g (ix3 (⟨e, he⟩ : Fin 8) k x))
          (fun k x => u (ix3 (⟨e, he⟩ : Fin 8) k x)) (fun x => d (ix3 (⟨e, he⟩ : Fin 8) x j)) := by
  unfold swiglu Swiglu.term
  pointwise []
  simp only [gated_one_div]

end

/-! ## The gates -/

variable (V0 : Valuation τ sig (Elt Ideal)) (i : Fin 34816) (j : Fin 1024)

/-- The arrays. -/
abbrev hs : S34816x1024.Idx → EReal := V0 (Proc.devRef .tc main_arg0)
abbrev gs : S34816x1.Idx → EReal := V0 (Proc.devRef .tc main_arg1)
abbrev te : S136.Idx → BitVec 32 := V0 (Proc.devRef .tc main_arg2)
abbrev tv : S136.Idx → BitVec 32 := V0 (Proc.devRef .tc main_arg3)
abbrev wg : S8x1024x3584.Idx → EReal := V0 (Proc.devRef .tc main_arg4)
abbrev wu : S8x1024x3584.Idx → EReal := V0 (Proc.devRef .tc main_arg5)
abbrev wd : S8x3584x1024.Idx → EReal := V0 (Proc.devRef .tc main_arg6)

/-- The gates of every row at every expert. -/
abbrev gates : S34816x8.Idx → EReal := res_main_v19 V0

/-- The sum over the first five experts, and the whole result. -/
abbrev five : S34816x1024.Idx → EReal := res_main_v95 V0
abbrev whole : S34816x1024.Idx → EReal := val3 V0 (Proc.devRef .tc main_v141)

/-- The tile of a row. -/
def tileOf (i : Fin 34816) : Fin 136 := ⟨i.val / 256, by omega⟩

/-- The row's gate at an expert. -/
theorem gate_apply (e : Fin 8) : gates V0 (ix2 i e)
    = Scalar.select (IntOp.andi (IntOp.cmpi .eq (te V0 (ix1 (tileOf i))) (BitVec.ofNat 32 e.val)) (IntOp.cmpi .sgt (tv V0 (ix1 (tileOf i))) 0#32))
        (gs V0 (ix2 i 0)) (0 : EReal) := by
  unfold gates
  pointwise [res_main_v19, id]
  rfl

/-! ## The sum over the experts -/

/-- An expert's term. -/
def part (e : Fin 8) : EReal :=
  gates V0 (ix2 i e) * swiglu (fun k => hs V0 (ix2 i k)) (fun k x => wg V0 (ix3 e k x)) (fun k x => wu V0 (ix3 e k x))
    (fun x => wd V0 (ix3 e x j))

theorem zero_array : (broadcastInDim S34816x1024 ![] bcast_S_S34816x1024 (constant S_ .f32 0x00000000#32) : FVec Ideal S34816x1024 .f32) (ix2 i j) = (0 : EReal) := by
  pointwise []

theorem first_five : five V0 (ix2 i j)
    = 0 + part V0 i j 0 + part V0 i j 1 + part V0 i j 2 + part V0 i j 3 + part V0 i j 4 :=
  congrArg₂ (fun x y : EReal => x + y) (congrArg₂ (fun x y : EReal => x + y) (congrArg₂ (fun x y : EReal => x + y) (congrArg₂ (fun x y : EReal => x + y) (congrArg₂ (fun x y : EReal => x + y) (zero_array i j)
    (term_apply (res_main_v0 V0) (res_main_v1 V0) (res_main_v2 V0) (res_main_v3 V0) (res_main_v19 V0) 0 (by decide) _ _ _ i j))
    (term_apply (res_main_v0 V0) (res_main_v1 V0) (res_main_v2 V0) (res_main_v3 V0) (res_main_v19 V0) 1 (by decide) _ _ _ i j))
    (term_apply (res_main_v0 V0) (res_main_v1 V0) (res_main_v2 V0) (res_main_v3 V0) (res_main_v19 V0) 2 (by decide) _ _ _ i j))
    (term_apply (res_main_v0 V0) (res_main_v1 V0) (res_main_v2 V0) (res_main_v3 V0) (res_main_v19 V0) 3 (by decide) _ _ _ i j))
    (term_apply (res_main_v0 V0) (res_main_v1 V0) (res_main_v2 V0) (res_main_v3 V0) (res_main_v19 V0) 4 (by decide) _ _ _ i j)

theorem all_eight : whole V0 (ix2 i j)
    = 0 + part V0 i j 0 + part V0 i j 1 + part V0 i j 2 + part V0 i j 3 + part V0 i j 4 + part V0 i j 5 + part V0 i j 6 + part V0 i j 7 :=
  (congrFun (val3_main_v141 V0) (ix2 i j)).trans (congrArg₂ (fun x y : EReal => x + y) (congrArg₂ (fun x y : EReal => x + y) (congrArg₂ (fun x y : EReal => x + y) (first_five V0 i j)
    (term_apply (res_main_v0 V0) (res_main_v1 V0) (res_main_v2 V0) (res_main_v3 V0) (res_main_v19 V0) 5 (by decide) _ _ _ i j))
    (term_apply (res_main_v0 V0) (res_main_v1 V0) (res_main_v2 V0) (res_main_v3 V0) (res_main_v19 V0) 6 (by decide) _ _ _ i j))
    (term_apply (res_main_v0 V0) (res_main_v1 V0) (res_main_v2 V0) (res_main_v3 V0) (res_main_v19 V0) 7 (by decide) _ _ _ i j))

theorem both : ∀ a b : BitVec 1, IntOp.andi a b = 1 ↔ a = 1#1 ∧ b = 1#1 := by decide +kernel

/-- The gate is the row's number where the word is the expert and the tile is used. -/
theorem select_gate (e : Fin 8) (w v : BitVec 32) (x : EReal) :
    Scalar.select (IntOp.andi (IntOp.cmpi .eq w (BitVec.ofNat 32 e.val)) (IntOp.cmpi .sgt v 0#32)) x 0
      = if w.toNat = e.val ∧ Scalar.cmpi .sgt v 0#32 = 1#1 then x else 0 := by
  have hw : IntOp.cmpi .eq w (BitVec.ofNat 32 e.val) = 1#1 ↔ w.toNat = e.val := by
    have he : (BitVec.ofNat 32 e.val).toNat = e.val := by rw [BitVec.toNat_ofNat]; omega
    have hb : ∀ b : Bool, BitVec.ofBool b = 1#1 ↔ b = true := by decide
    unfold IntOp.cmpi
    rw [hb]
    show (w == BitVec.ofNat 32 e.val) = true ↔ _
    rw [beq_iff_eq]
    exact ⟨fun h => by rw [h, he], fun h => BitVec.eq_of_toNat_eq (h.trans he.symm)⟩
  unfold Scalar.select
  exact if_congr ((both _ _).trans (and_congr hw Iff.rfl)) rfl rfl

/-- The number at a row whose expert is in range: the expert's product times the gate where the tile is used, else zero. -/
theorem value (hr : (te V0 (ix1 (tileOf i))).toNat < 8) : whole V0 (ix2 i j)
    = if Scalar.cmpi .sgt (tv V0 (ix1 (tileOf i))) 0#32 = 1#1 then
        swiglu (fun k => hs V0 (ix2 i k)) (fun k x => wg V0 (ix3 (⟨_, hr⟩ : Fin 8) k x)) (fun k x => wu V0 (ix3 (⟨_, hr⟩ : Fin 8) k x))
          (fun x => wd V0 (ix3 (⟨_, hr⟩ : Fin 8) x j)) * gs V0 (ix2 i 0)
      else 0 := by
  have hs8 : 0 + part V0 i j 0 + part V0 i j 1 + part V0 i j 2 + part V0 i j 3 + part V0 i j 4 + part V0 i j 5 + part V0 i j 6 + part V0 i j 7
      = ∑ e : Fin 8, part V0 i j e := by rw [Fin.sum_univ_eight, zero_add]
  rw [all_eight, hs8]
  by_cases hu : Scalar.cmpi .sgt (tv V0 (ix1 (tileOf i))) 0#32 = 1#1
  · rw [if_pos hu, Finset.sum_eq_single (⟨_, hr⟩ : Fin 8)]
    · unfold part
      rw [gate_apply, select_gate, if_pos ⟨rfl, hu⟩, mul_comm]
    · intro e _ he
      unfold part
      rw [gate_apply, select_gate, if_neg (fun h => he (Fin.ext h.1.symm)), zero_mul]
    · exact fun h => absurd (Finset.mem_univ _) h
  · rw [if_neg hu]
    refine Finset.sum_eq_zero fun e _ => ?_
    unfold part
    rw [gate_apply, select_gate, if_neg (fun h => hu h.2), zero_mul]

end Cert.Proof.ExpertsRef
end
-- ==== Proof.ExpertsJoin.lean ====
/-
  The expert kernel's array is its reference's, wherever the table names experts; and the frames of the three programs.
-/
module

public import proofs.«01_k».proof.Defs
public import proofs.«01_k».proof.Proof.Gen.Experts
public import proofs.«01_k».proof.Proof.Gen.Pre_experts_in_range
public import proofs.«01_k».proof.Proof.ExpertsValue
public import proofs.«01_k».proof.Proof.ExpertsRef
public import Idealize.ShloMosaic.Lib.Quiescent

@[expose] public section
set_option maxRecDepth 16384

noncomputable section
namespace Cert.Proof.ExpertsJoin
open Idealize.ShloMosaic Idealize.ShloMosaic.TcCoe Idealize.ShloMosaic.StableHlo Idealize.SL.Sem

/-! ## The precondition -/

/-- A word that is not negative and below eight, as signed numbers, is below eight. -/
theorem below_eight (w : BitVec 32) (h : IntOp.andi (IntOp.cmpi .sge w 0#32) (IntOp.cmpi .slt w 8#32) = 1#1) : w.toNat < 8 := by
  have hb : ∀ b : Bool, BitVec.ofBool b = 1#1 ↔ b = true := by decide
  have h2 := (ExpertsRef.both _ _).mp h
  unfold IntOp.cmpi at h2
  rw [hb, hb] at h2
  obtain ⟨h0, h8⟩ := h2
  have e0 : (0#32).sle w = true := h0
  have e8 : w.slt 8#32 = true := h8
  rw [BitVec.sle_eq_decide, decide_eq_true_eq] at e0
  rw [BitVec.slt_eq_decide, decide_eq_true_eq] at e8
  have f0 : (0#32).toInt = 0 := by decide
  have f8 : (8#32).toInt = 8 := by decide
  rw [f0] at e0
  rw [f8] at e8
  have := BitVec.toInt_eq_toNat_cond w
  have hw := w.isLt
  split at this <;> omega

/-- The precondition's table names experts. -/
theorem range_of_pre {F : FTy → Type} [FloatOps F] (x0 x1 x2 x3 x4 x5 x6)
    (h : Cert.Pre_experts_in_range.fn (F := F) x0 x1 x2 x3 x4 x5 x6 = fun _ => 1#1) : ExpertsRun.InRange x2 :=
  fun i => below_eight _ (congrFun h i)

theorem range_ideal (m : (ℓ : Loc Cert.ExpertsIdeal.nD Cert.ExpertsIdeal.τ Cert.ExpertsIdeal.sig) → Buf (Elt Ideal) ℓ)
    (h : Cert.Pre_ExpertsIdeal m) : ExpertsRun.InRange (ExpertsRun.tables m 0) :=
  range_of_pre _ _ _ _ _ _ _ (h 0)

theorem range_bits (m : (ℓ : Loc Cert.ExpertsIdeal.nD Cert.ExpertsIdeal.τ Cert.ExpertsIdeal.sig) → Buf (Elt Bits) ℓ)
    (h : Cert.Pre_Experts m) : ExpertsRun.InRange (ExpertsRun.tables m 0) :=
  range_of_pre _ _ _ _ _ _ _ (h 0)

/-! ## The frames -/

theorem frame_ideal : Cert.quiescent_ExpertsIdeal := fun m g hp =>
  (θ_run Cert.ExpertsIdeal.defs _ _).mono (fun _ h => ⟨h.1, h.2.2⟩)
    (ExpertsRun.run (F := Ideal) (ExpertsRun.admits m (range_ideal m hp)) m g (ExpertsRun.held m (range_ideal m hp)))

/-! The printed program is the ideal one's text: their body tables are one, label by label. -/

section
variable (F : FTy → Type) [FloatOps F]

theorem defs₀_same : @Cert.Experts.defs₀ F _ Cert.Experts.Gen.facts = @Cert.ExpertsIdeal.defs₀ F _ Cert.ExpertsIdeal.Gen.facts := by
  unfold Cert.Experts.defs₀ Cert.ExpertsIdeal.defs₀
  refine congrArg (Defs.onTc (nD := Cert.ExpertsIdeal.nD) (τ := Cert.ExpertsIdeal.τ) (sig := Cert.ExpertsIdeal.sig)) ?_
  funext l x
  match l, x with
  | 0, (t, s) => rfl

theorem defs_same : @Cert.Experts.defs F _ Cert.Experts.Gen.facts = @Cert.ExpertsIdeal.defs F _ Cert.ExpertsIdeal.Gen.facts :=
  congrArg (Pipeline.defs (Cert.ExpertsIdeal.pcfgs (F := F))) (defs₀_same F)
end

theorem frame_bits : Cert.quiescent_Experts := fun m g hp =>
  (congrArg (fun d => θ_run d (onTc Cert.ExpertsIdeal.main) ⟨m, fun _ => 0, g⟩ _) (defs_same Bits)).mpr
    ((θ_run Cert.ExpertsIdeal.defs _ _).mono (fun _ h => ⟨h.1, h.2.2⟩)
      (ExpertsRun.run (F := Bits) (ExpertsRun.admits m (range_bits m hp)) m g (ExpertsRun.held m (range_bits m hp))))

/-- The reference declares no semaphore: its run is its frame. -/
theorem reference_frame : Cert.quiescent_ExpertsRefIdeal := fun m g _ =>
  (θ_run Cert.ExpertsRefIdeal.defs _ _).mono
    (fun r h => And.intro (fun c => (h c).2) (sem_eq_zero_of_no_sems (by decide) r.2)) (Cert.ExpertsRefIdeal.Value.run m g)

/-! ## The results -/

section
variable (m : (ℓ : Loc Cert.ExpertsIdeal.nD Cert.ExpertsIdeal.τ Cert.ExpertsIdeal.sig) → Buf (Elt Ideal) ℓ)
  (m' : (ℓ : Loc Cert.ExpertsRefIdeal.nD Cert.ExpertsRefIdeal.τ Cert.ExpertsRefIdeal.sig) → Buf (Elt Ideal) ℓ)

/-- The reference's result, of arrays that are the kernel's, is the kernel's. -/
theorem agree (hT : ExpertsRun.InRange (ExpertsRun.tables m 0)) (c : Dev Cert.ExpertsIdeal.nD)
    (h0 : ExpertsRef.hs (launchContents m' c) = ExpertsValue.hs m c) (h1 : ExpertsRef.gs (launchContents m' c) = ExpertsValue.gs m c)
    (h2 : ExpertsRef.te (launchContents m' c) = ExpertsRun.tables m 0) (h3 : ExpertsRef.tv (launchContents m' c) = ExpertsRun.tables m 1)
    (h4 : ExpertsRef.wg (launchContents m' c) = ExpertsValue.wg m c) (h5 : ExpertsRef.wu (launchContents m' c) = ExpertsValue.wu m c)
    (h6 : ExpertsRef.wd (launchContents m' c) = ExpertsValue.wd m c) :
    ExpertsRef.whole (launchContents m' c) = ExpertsValue.result (ExpertsRun.admits m hT) m c hT := by
  funext i
  obtain ⟨r, j, rfl⟩ : ∃ (r : Fin 34816) (j : Fin 1024), i = ix2 r j := ⟨i 0, i 1, eq_ix2 i⟩
  refine (ExpertsRef.value _ r j (by rw [h2]; exact hT _)).trans ?_
  simp only [h0, h1, h2, h3, h4, h5, h6]
  have e : ExpertsValue.rowOf (ExpertsRef.tileOf r) ⟨r.val % 256, Nat.mod_lt _ (by omega)⟩ = r := Fin.ext (Nat.div_add_mod r.val 256)
  refine Eq.trans ?_ (congrArg (fun r => ExpertsValue.result (ExpertsRun.admits m hT) m c hT (ix2 r j)) e)
  refine Eq.trans ?_ (ExpertsValue.result_at (ExpertsRun.admits m hT) m c hT (ExpertsRef.tileOf r) _ j).symm
  unfold ExpertsValue.entry
  rw [e]
  rfl
end

theorem algebraic : Cert.algebraic_ExpertsIdeal_ExpertsRefIdeal := by
  intro m g m' g' hp ha
  have hT := range_ideal m hp
  refine ⟨fun c => ExpertsValue.result (ExpertsRun.admits m hT) m c hT, ?_, ?_⟩
  · exact (θ_run Cert.ExpertsIdeal.defs _ _).mono
      (fun r h c => ⟨(h.2.1 c).trans (ExpertsValue.final (ExpertsRun.admits m hT) m g c hT), h.1 c⟩)
      (ExpertsRun.run (F := Ideal) (ExpertsRun.admits m hT) m g (ExpertsRun.held m hT))
  · refine (θ_run Cert.ExpertsRefIdeal.defs _ _).mono (fun r h c => ?_) (Cert.ExpertsRefIdeal.Value.run m' g')
    obtain ⟨e, rest⟩ := h c
    obtain ⟨h0, h1, h2, h3, h4, h5, h6⟩ := ha c
    obtain rfl : c = 0 := Subsingleton.elim _ _
    exact ⟨(e.trans (Cert.ExpertsRefIdeal.Value.val3_main_v141 _).symm).trans (agree m m' hT 0 h0 h1 h2 h3 h4 h5 h6), rest⟩

end Cert.Proof.ExpertsJoin
end
-- ==== Proof.FfnBlock.lean ====
/-
  What the dense feed-forward kernel's stored block is at an index, over the extended reals: the row after the mixer's
  projection, plus the gated product of its norm.
-/
module

public import proofs.«01_k».proof.Proof.Gen.FfnIdeal.Frame
public import proofs.«01_k».proof.Proof.Swiglu

@[expose] public section
set_option maxRecDepth 16384

noncomputable section
namespace Cert.Proof.FfnBlock
open Idealize.ShloMosaic Cert.FfnIdeal Cert.FfnIdeal.Gen Cert.Proof.Swiglu

/-! ## The layer on a row -/

/-- A row `x` of the stream after the mixer: its result `o` projected by `w` is added. -/
def mixed (x o : Fin 1024 → EReal) (w : Fin 1024 → Fin 1024 → EReal) (j : Fin 1024) : EReal := x j + ∑ k : Fin 1024, o k * w k j

/-- A row over the root of its mean square, times the gain. -/
def normed (r n : Fin 1024 → EReal) (k : Fin 1024) : EReal :=
  r k * Ideal.rsqrt (Ideal.div (∑ u : Fin 1024, r u * r u) (Ideal.ofBits .f32 0x44800000#32) + Ideal.ofBits .f32 0x358637BD#32) * n k

/-- The row after the dense feed-forward part, at column `c`. -/
def layer (x o : Fin 1024 → EReal) (w : Fin 1024 → Fin 1024 → EReal) (n : Fin 1024 → EReal) (g u : Fin 1024 → Fin 3584 → EReal)
    (d : Fin 3584 → Fin 1024 → EReal) (c : Fin 1024) : EReal :=
  mixed x o w c + swiglu (normed (mixed x o w) n) g u (fun j => d j c)

/-! ## Rows of a batch, one after the other -/

/-- Row `r` of the batch, counted through. -/
abbrev flat (x : (⟨3, ![8, 2048, 1024]⟩ : Shape).Idx → EReal) (r : Fin 16384) (k : Fin 1024) : EReal :=
  x (ix3 ⟨r.val / 2048, by omega⟩ ⟨r.val % 2048, by omega⟩ k)

theorem flat_cast (x : (⟨3, ![8, 2048, 1024]⟩ : Shape).Idx → EReal) (h : (⟨3, ![8, 2048, 1024]⟩ : Shape).ShapeCasts ⟨2, ![16384, 1024]⟩)
    (r : Fin 16384) (k : Fin 1024) : shapeCast ⟨2, ![16384, 1024]⟩ x h (ix2 r k) = flat x r k := by
  refine Idealize.ShloMosaic.shapeCast_apply x h (ix2 r k) _ ?_
  rw [rowMajor_val3 _ (2048 * 1024) 1024 rfl rfl, rowMajor_val2 _ 1024 rfl]
  show r.val / 2048 * (2048 * 1024) + r.val % 2048 * 1024 + k.val = r.val * 1024 + k.val
  omega

/-! ## A piece of columns or rows of the matrices -/

theorem ld_x (x : Vec Ideal S512x1024 .f32) (p : Fin 512) (k : Fin 1024) : View.ld x r0_0 (ix2 p k) = x (ix2 p k) := by
  pointwise []
theorem ld_o (x : Vec Ideal S512x1024 .bf16) (p : Fin 512) (k : Fin 1024) : View.ld x r0_0 (ix2 p k) = x (ix2 p k) := by
  pointwise []
theorem ld_w (x : Vec Ideal S1024x1024 .bf16) (p k : Fin 1024) : View.ld x r0_1 (ix2 p k) = x (ix2 p k) := by
  pointwise []
theorem ld_n (x : Vec Ideal S1x1024 .f32) (k : Fin 1024) : View.ld x r0_2 (ix2 0 k) = x (ix2 0 k) := by
  pointwise []
theorem ld_cA (x : Vec Ideal S1024x3584 .bf16) (k : Fin 1024) (j : Fin 512) :
    View.ld x r0_3 (ix2 k j) = x (ix2 k (col 0 512 (by omega) j)) := by
  pointwise []
  exact congrArg (fun z : Fin 3584 => x (ix2 k z)) (Fin.ext (Nat.zero_add j.val).symm)
theorem ld_dA (x : Vec Ideal S3584x1024 .bf16) (c : Fin 1024) (j : Fin 512) :
    View.ld x r0_5 (ix2 j c) = x (ix2 (col 0 512 (by omega) j) c) := by
  pointwise []
  exact congrArg (fun z : Fin 3584 => x (ix2 z c)) (Fin.ext (Nat.zero_add j.val).symm)
theorem ld_cB (x : Vec Ideal S1024x3584 .bf16) (k : Fin 1024) (j : Fin 512) :
    View.ld x r0_4 (ix2 k j) = x (ix2 k (col 512 512 (by omega) j)) := by
  pointwise []
  rfl
theorem ld_dB (x : Vec Ideal S3584x1024 .bf16) (c : Fin 1024) (j : Fin 512) :
    View.ld x r0_7 (ix2 j c) = x (ix2 (col 512 512 (by omega) j) c) := by
  pointwise []
  rfl
theorem ld_cC (x : Vec Ideal S1024x3584 .bf16) (k : Fin 1024) (j : Fin 768) :
    View.ld x r0_6 (ix2 k j) = x (ix2 k (col 1024 768 (by omega) j)) := by
  pointwise []
  rfl
theorem ld_dC (x : Vec Ideal S3584x1024 .bf16) (c : Fin 1024) (j : Fin 768) :
    View.ld x r0_9 (ix2 j c) = x (ix2 (col 1024 768 (by omega) j) c) := by
  pointwise []
  rfl
theorem ld_cD (x : Vec Ideal S1024x3584 .bf16) (k : Fin 1024) (j : Fin 512) :
    View.ld x r0_8 (ix2 k j) = x (ix2 k (col 1792 512 (by omega) j)) := by
  pointwise []
  rfl
theorem ld_dD (x : Vec Ideal S3584x1024 .bf16) (c : Fin 1024) (j : Fin 512) :
    View.ld x r0_11 (ix2 j c) = x (ix2 (col 1792 512 (by omega) j) c) := by
  pointwise []
  rfl
theorem ld_cE (x : Vec Ideal S1024x3584 .bf16) (k : Fin 1024) (j : Fin 512) :
    View.ld x r0_10 (ix2 k j) = x (ix2 k (col 2304 512 (by omega) j)) := by
  pointwise []
  rfl
theorem ld_dE (x : Vec Ideal S3584x1024 .bf16) (c : Fin 1024) (j : Fin 512) :
    View.ld x r0_13 (ix2 j c) = x (ix2 (col 2304 512 (by omega) j) c) := by
  pointwise []
  rfl
theorem ld_cF (x : Vec Ideal S1024x3584 .bf16) (k : Fin 1024) (j : Fin 768) :
    View.ld x r0_12 (ix2 k j) = x (ix2 k (col 2816 768 (by omega) j)) := by
  pointwise []
  rfl
theorem ld_dF (x : Vec Ideal S3584x1024 .bf16) (c : Fin 1024) (j : Fin 768) :
    View.ld x r0_14 (ix2 j c) = x (ix2 (col 2816 768 (by omega) j) c) := by
  pointwise []
  rfl

/-! ## The products and the sums of the block -/

theorem pay2 (x : Vec Ideal S512x1024 .f32) (o : Vec Ideal S512x1024 .bf16) (w : Vec Ideal S1024x1024 .bf16) (p : Fin 512) (c : Fin 1024) :
    k0_pay2 (F := Ideal) x o w (ix2 p c) = mixed (fun k => x (ix2 p k)) (fun k => o (ix2 p k)) (fun k j => w (ix2 k j)) c := by
  unfold mixed
  pointwise [k0_pay2]

theorem pay3 (x : Vec Ideal S512x1024 .f32) (o : Vec Ideal S512x1024 .bf16) (w : Vec Ideal S1024x1024 .bf16) (n : Vec Ideal S1x1024 .f32)
    (p : Fin 512) (k : Fin 1024) :
    k0_pay3 (F := Ideal) x o w n (ix2 p k)
      = normed (mixed (fun k => x (ix2 p k)) (fun k => o (ix2 p k)) (fun k j => w (ix2 k j))) (fun k => n (ix2 0 k)) k := by
  unfold normed
  simp only [← pay2]
  pointwise [k0_pay3]

theorem pay8 (h : FVec Ideal S512x1024 .bf16) (g : Vec Ideal S1024x768 .bf16) (p : Fin 512) (j : Fin 768) :
    k0_pay8 (F := Ideal) h g (ix2 p j) = ∑ k : Fin 1024, h (ix2 p k) * g (ix2 k j) := by
  pointwise [k0_pay8]
theorem pay9 (h : FVec Ideal S512x1024 .bf16) (g : Vec Ideal S1024x768 .bf16) (p : Fin 512) (j : Fin 768) :
    k0_pay9 (F := Ideal) h g (ix2 p j) = ∑ k : Fin 1024, h (ix2 p k) * g (ix2 k j) := by
  pointwise [k0_pay9]
theorem pay11 (h : FVec Ideal S512x1024 .bf16) (g : Vec Ideal S1024x512 .bf16) (p : Fin 512) (j : Fin 512) :
    k0_pay11 (F := Ideal) h g (ix2 p j) = ∑ k : Fin 1024, h (ix2 p k) * g (ix2 k j) := by
  pointwise [k0_pay11]
theorem pay12 (h : FVec Ideal S512x1024 .bf16) (g : Vec Ideal S1024x512 .bf16) (p : Fin 512) (j : Fin 512) :
    k0_pay12 (F := Ideal) h g (ix2 p j) = ∑ k : Fin 1024, h (ix2 p k) * g (ix2 k j) := by
  pointwise [k0_pay12]
theorem pay14 (h : FVec Ideal S512x1024 .bf16) (g : Vec Ideal S1024x512 .bf16) (p : Fin 512) (j : Fin 512) :
    k0_pay14 (F := Ideal) h g (ix2 p j) = ∑ k : Fin 1024, h (ix2 p k) * g (ix2 k j) := by
  pointwise [k0_pay14]
theorem pay15 (h : FVec Ideal S512x1024 .bf16) (g : Vec Ideal S1024x512 .bf16) (p : Fin 512) (j : Fin 512) :
    k0_pay15 (F := Ideal) h g (ix2 p j) = ∑ k : Fin 1024, h (ix2 p k) * g (ix2 k j) := by
  pointwise [k0_pay15]
theorem pay17 (h : FVec Ideal S512x1024 .bf16) (g : Vec Ideal S1024x768 .bf16) (p : Fin 512) (j : Fin 768) :
    k0_pay17 (F := Ideal) h g (ix2 p j) = ∑ k : Fin 1024, h (ix2 p k) * g (ix2 k j) := by
  pointwise [k0_pay17]
theorem pay18 (h : FVec Ideal S512x1024 .bf16) (g : Vec Ideal S1024x768 .bf16) (p : Fin 512) (j : Fin 768) :
    k0_pay18 (F := Ideal) h g (ix2 p j) = ∑ k : Fin 1024, h (ix2 p k) * g (ix2 k j) := by
  pointwise [k0_pay18]
theorem pay4 (x : Vec Ideal S512x1024 .f32) (o : Vec Ideal S512x1024 .bf16) (w : Vec Ideal S1024x1024 .bf16) (n : Vec Ideal S1x1024 .f32)
    (g : Vec Ideal S1024x512 .bf16) (p : Fin 512) (j : Fin 512) :
    k0_pay4 (F := Ideal) x o w n g (ix2 p j) = ∑ k : Fin 1024, k0_pay3 (F := Ideal) x o w n (ix2 p k) * g (ix2 k j) := by
  pointwise [k0_pay4]
theorem pay5 (x : Vec Ideal S512x1024 .f32) (o : Vec Ideal S512x1024 .bf16) (w : Vec Ideal S1024x1024 .bf16) (n : Vec Ideal S1x1024 .f32)
    (g : Vec Ideal S1024x512 .bf16) (p : Fin 512) (j : Fin 512) :
    k0_pay5 (F := Ideal) x o w n g (ix2 p j) = ∑ k : Fin 1024, k0_pay3 (F := Ideal) x o w n (ix2 p k) * g (ix2 k j) := by
  pointwise [k0_pay5]
theorem pay6 (x : Vec Ideal S512x1024 .f32) (o : Vec Ideal S512x1024 .bf16) (w : Vec Ideal S1024x1024 .bf16) (n : Vec Ideal S1x1024 .f32)
    (g : Vec Ideal S1024x512 .bf16) (p : Fin 512) (j : Fin 512) :
    k0_pay6 (F := Ideal) x o w n g (ix2 p j) = ∑ k : Fin 1024, k0_pay3 (F := Ideal) x o w n (ix2 p k) * g (ix2 k j) := by
  pointwise [k0_pay6]
theorem pay7 (x : Vec Ideal S512x1024 .f32) (o : Vec Ideal S512x1024 .bf16) (w : Vec Ideal S1024x1024 .bf16) (n : Vec Ideal S1x1024 .f32)
    (g : Vec Ideal S1024x512 .bf16) (p : Fin 512) (j : Fin 512) :
    k0_pay7 (F := Ideal) x o w n g (ix2 p j) = ∑ k : Fin 1024, k0_pay3 (F := Ideal) x o w n (ix2 p k) * g (ix2 k j) := by
  pointwise [k0_pay7]

theorem pay10 (z u z' u' : FVec Ideal S512x512 .f32) (d d' : Vec Ideal S512x1024 .bf16) (p : Fin 512) (c : Fin 1024) :
    k0_pay10 (F := Ideal) z u z' u' (Scalar.ofBits .f32 0x00000000#32) d d' (ix2 p c)
      = (∑ j : Fin 512, gated (z (ix2 p j)) (u (ix2 p j)) * d (ix2 j c)) + ∑ j : Fin 512, gated (z' (ix2 p j)) (u' (ix2 p j)) * d' (ix2 j c) := by
  pointwise [k0_pay10]
  simp only [gated_div]

theorem pay16 (h : FVec Ideal S512x1024 .bf16) (g : Vec Ideal S1024x768 .bf16) (u : FVec Ideal S512x768 .f32) (a : FVec Ideal S512x1024 .f32)
    (z' u' : FVec Ideal S512x512 .f32) (d : Vec Ideal S768x1024 .bf16) (d' : Vec Ideal S512x1024 .bf16) (p : Fin 512) (c : Fin 1024) :
    k0_pay16 (F := Ideal) (k0_pay8 h g) u a z' u' (k0_pay13 h g) d d' (ix2 p c)
      = a (ix2 p c) + (∑ j : Fin 768, gated (∑ k : Fin 1024, h (ix2 p k) * g (ix2 k j)) (u (ix2 p j)) * d (ix2 j c))
        + ∑ j : Fin 512, gated (z' (ix2 p j)) (u' (ix2 p j)) * d' (ix2 j c) := by
  pointwise [k0_pay16, k0_pay13]
  simp only [pay8, gated_div]

theorem pay1 (r : FVec Ideal S512x1024 .f32) (h : FVec Ideal S512x1024 .bf16) (g : Vec Ideal S1024x512 .bf16) (u : FVec Ideal S512x512 .f32)
    (a : FVec Ideal S512x1024 .f32) (z' u' : FVec Ideal S512x768 .f32) (d : Vec Ideal S512x1024 .bf16) (d' : Vec Ideal S768x1024 .bf16)
    (p : Fin 512) (c : Fin 1024) :
    k0_pay1 (F := Ideal) r (k0_pay14 h g) u a z' u' (k0_pay19 h g) (k0_pay20 (F := Ideal)) d d' (ix2 p c)
      = r (ix2 p c) + (a (ix2 p c) + (∑ j : Fin 512, gated (∑ k : Fin 1024, h (ix2 p k) * g (ix2 k j)) (u (ix2 p j)) * d (ix2 j c))
        + ∑ j : Fin 768, gated (z' (ix2 p j)) (u' (ix2 p j)) * d' (ix2 j c)) := by
  pointwise [k0_pay1, k0_pay19, k0_pay20]
  simp only [pay14, gated_div]

/-! ## The stored block -/

/-- What a point leaves, at an index: the layer on the row. -/
theorem out_apply (x0 : Vec Ideal S512x1024 .f32) (x1 : Vec Ideal S512x1024 .bf16) (x2 : Vec Ideal S1024x1024 .bf16) (x3 : Vec Ideal S1x1024 .f32)
    (x4 x5 : Vec Ideal S1024x3584 .bf16) (x6 : Vec Ideal S3584x1024 .bf16) (p : Fin 512) (c : Fin 1024) :
    out0_7 (F := Ideal) x0 x1 x2 x3 x4 x5 x6 (ix2 p c)
      = layer (fun k => x0 (ix2 p k)) (fun k => x1 (ix2 p k)) (fun k j => x2 (ix2 k j)) (fun k => x3 (ix2 0 k)) (fun k j => x4 (ix2 k j))
          (fun k j => x5 (ix2 k j)) (fun j c => x6 (ix2 j c)) c := by
  have hz : (![0, 0] : Fin 2 → ℕ) = fun _ => 0 := by decide
  unfold out0_7 k0_pay21
  rw [View.canon_unit_zero hz, pay1, pay16, pay10]
  simp only [pay4, pay5, pay6, pay7, pay9, pay11, pay12, pay15, pay17, pay18]
  have hm : mixed (fun k => View.ld x0 r0_0 (ix2 p k)) (fun k => View.ld x1 r0_0 (ix2 p k)) (fun k j => View.ld x2 r0_1 (ix2 k j))
      = mixed (fun k => x0 (ix2 p k)) (fun k => x1 (ix2 p k)) (fun k j => x2 (ix2 k j)) := by
    funext j
    exact congrArg₂ (fun x y : EReal => x + y) (ld_x x0 p j)
      (Finset.sum_congr rfl fun k _ => congrArg₂ (fun x y : EReal => x * y) (ld_o x1 p k) (ld_w x2 k j))
  have hh : ∀ k : Fin 1024, k0_pay3 (F := Ideal) (View.ld x0 r0_0) (View.ld x1 r0_0) (View.ld x2 r0_1) (View.ld x3 r0_2) (ix2 p k)
      = normed (mixed (fun k => x0 (ix2 p k)) (fun k => x1 (ix2 p k)) (fun k j => x2 (ix2 k j))) (fun k => x3 (ix2 0 k)) k := by
    intro k
    refine (pay3 _ _ _ _ p k).trans ?_
    exact congrArg₂ (fun a b => normed a b k) hm (funext fun k => ld_n x3 k)
  unfold layer
  rw [swiglu_pieces]
  refine congrArg₂ (fun x y : EReal => x + y) ((pay2 _ _ _ p c).trans (congrFun hm c)) ?_
  exact (congrArg₂ (fun x y : EReal => x + y)
      (congrArg₂ (fun x y : EReal => x + y)
      (congrArg₂ (fun x y : EReal => x + y)
      (congrArg₂ (fun x y : EReal => x + y)
      (congrArg₂ (fun x y : EReal => x + y)
      (piece_congr hh (ld_cA x4) (ld_cA x5) (ld_dA x6 c))
      (piece_congr hh (ld_cB x4) (ld_cB x5) (ld_dB x6 c)))
      (piece_congr hh (ld_cC x4) (ld_cC x5) (ld_dC x6 c)))
      (piece_congr hh (ld_cD x4) (ld_cD x5) (ld_dD x6 c)))
      (piece_congr hh (ld_cE x4) (ld_cE x5) (ld_dE x6 c)))
      (piece_congr hh (ld_cF x4) (ld_cF x5) (ld_dF x6 c)))

end Cert.Proof.FfnBlock
end
-- ==== Proof.FfnValue.lean ====
/-
  What the dense feed-forward kernel leaves as its result, over the extended reals: the layer on every row.
-/
module

public import proofs.«01_k».proof.Proof.FfnBlock
public import proofs.«01_k».proof.Proof.Gen.FfnIdeal.Value

@[expose] public section
set_option maxRecDepth 16384

noncomputable section
namespace Cert.Proof.FfnValue
open Idealize.ShloMosaic Idealize.ShloMosaic.TcCoe Cert.FfnIdeal Cert.FfnIdeal.Gen Cert.Proof.Swiglu Cert.Proof.FfnBlock

/-! ## The points' blocks -/

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = t.val ∧ win0_7.index t (1 : Fin 2) = 0 := by decide +kernel

variable (m : (ℓ : Loc nD τ sig) → Buf (Elt Ideal) ℓ) (c : Dev nD)

/-- The arrays. -/
abbrev ax : S8x2048x1024.Idx → EReal := m ((c : Thread nD τ).loc main_arg0)
abbrev ao : S8x2048x1024.Idx → EReal := m ((c : Thread nD τ).loc main_arg1)
abbrev aw : S1024x1024.Idx → EReal := m ((c : Thread nD τ).loc main_arg2)
abbrev an : S1x1024.Idx → EReal := m ((c : Thread nD τ).loc main_arg3)
abbrev ag : S1024x3584.Idx → EReal := m ((c : Thread nD τ).loc main_arg4)
abbrev au : S1024x3584.Idx → EReal := m ((c : Thread nD τ).loc main_arg5)
abbrev ad : S3584x1024.Idx → EReal := m ((c : Thread nD τ).loc main_arg6)

/-! The arrays the call is given: rows of the batch one after the other, and the weights as they are. -/

theorem V0 (r : Fin 16384) (k : Fin 1024) : (V m c main_v0 : S16384x1024.Idx → EReal) (ix2 r k) = flat (ax m c) r k := by
  have e : V m c main_v0 = shapeCast S16384x1024 (m ((c : Thread nD τ).loc main_arg0)) shapeCasts_S8x2048x1024_S16384x1024 := by
    unfold V
    after_results_simp <;> rfl
  rw [e]
  exact flat_cast _ _ r k
theorem V1 (r : Fin 16384) (k : Fin 1024) : (V m c main_v1 : S16384x1024.Idx → EReal) (ix2 r k) = flat (ao m c) r k := by
  have e : V m c main_v1 = shapeCast S16384x1024 (m ((c : Thread nD τ).loc main_arg1)) shapeCasts_S8x2048x1024_S16384x1024 := by
    unfold V
    after_results_simp <;> rfl
  rw [e]
  exact flat_cast _ _ r k
theorem V2 : (V m c main_v2 : S1024x1024.Idx → EReal) = aw m c := by
  unfold V
  after_results_simp <;> rfl
theorem V3 : (V m c main_v3 : S1024x3584.Idx → EReal) = ag m c := by
  unfold V
  after_results_simp <;> rfl
theorem V4 : (V m c main_v4 : S1024x3584.Idx → EReal) = au m c := by
  unfold V
  after_results_simp <;> rfl
theorem V5 : (V m c main_v5 : S3584x1024.Idx → EReal) = ad m c := by
  unfold V
  after_results_simp <;> rfl

/-- Row `p` of point `t`. -/
def rowOf (t : Fin 32) (p : Fin 512) : Fin 16384 := ⟨512 * t.val + p.val, by omega⟩
/-- A point of the call, as a number below 32. -/
def point (t : Fin cfg0.N) : Fin 32 := ⟨t.val, lt_of_lt_of_eq t.isLt (by decide +kernel : grid0.N = 32)⟩

section
variable (t : Fin cfg0.N) (p : Fin 512)

theorem blk0 (k : Fin 1024) : (iblk m c 0 t : S512x1024.Idx → EReal) (ix2 p k) = flat (ax m c) (rowOf (point t) p) k := by
  refine Eq.trans ?_ (V0 m c (rowOf (point t) p) k)
  refine congrArg (V m c main_v0 : S16384x1024.Idx → EReal) (funext fun z => Fin.ext ?_)
  refine ((cfg0.win 0).rect_emb_val t (ix2 p k) z).trans ?_
  obtain ⟨e0, e1⟩ := idx0 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + k.val) e1).trans ?_
    show 0 * 1024 + k.val = k.val; omega
theorem blk1 (k : Fin 1024) : (iblk m c 1 t : S512x1024.Idx → EReal) (ix2 p k) = flat (ao m c) (rowOf (point t) p) k := by
  refine Eq.trans ?_ (V1 m c (rowOf (point t) p) k)
  refine congrArg (V m c main_v1 : S16384x1024.Idx → EReal) (funext fun z => Fin.ext ?_)
  refine ((cfg0.win 1).rect_emb_val t (ix2 p k) z).trans ?_
  obtain ⟨e0, e1⟩ := idx1 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + k.val) e1).trans ?_
    show 0 * 1024 + k.val = k.val; omega
theorem blk2 (k : Fin 1024) (j : Fin 1024) : (iblk m c 2 t : S1024x1024.Idx → EReal) (ix2 k j) = aw m c (ix2 k j) := by
  refine Eq.trans ?_ (congrFun (V2 m c) (ix2 k j))
  refine congrArg (V m c main_v2 : S1024x1024.Idx → EReal) (funext fun z => Fin.ext ?_)
  refine ((cfg0.win 2).rect_emb_val t (ix2 k j) z).trans ?_
  obtain ⟨e0, e1⟩ := idx2 t
  match z with
  | ⟨0, _⟩ =>
    refine (congrArg (fun i : ℕ => i * 1024 + k.val) e0).trans ?_
    show 0 * 1024 + k.val = k.val; omega
  | ⟨1, _⟩ =>
    refine (congrArg (fun i : ℕ => i * 1024 + j.val) e1).trans ?_
    show 0 * 1024 + j.val = j.val; omega
theorem blk4 (k : Fin 1024) (j : Fin 3584) : (iblk m c 4 t : S1024x3584.Idx → EReal) (ix2 k j) = ag m c (ix2 k j) := by
  refine Eq.trans ?_ (congrFun (V3 m c) (ix2 k j))
  refine congrArg (V m c main_v3 : S1024x3584.Idx → EReal) (funext fun z => Fin.ext ?_)
  refine ((cfg0.win 4).rect_emb_val t (ix2 k j) z).trans ?_
  obtain ⟨e0, e1⟩ := idx4 t
  match z with
  | ⟨0, _⟩ =>
    refine (congrArg (fun i : ℕ => i * 1024 + k.val) e0).trans ?_
    show 0 * 1024 + k.val = k.val; omega
  | ⟨1, _⟩ =>
    refine (congrArg (fun i : ℕ => i * 3584 + j.val) e1).trans ?_
    show 0 * 3584 + j.val = j.val; omega
theorem blk5 (k : Fin 1024) (j : Fin 3584) : (iblk m c 5 t : S1024x3584.Idx → EReal) (ix2 k j) = au m c (ix2 k j) := by
  refine Eq.trans ?_ (congrFun (V4 m c) (ix2 k j))
  refine congrArg (V m c main_v4 : S1024x3584.Idx → EReal) (funext fun z => Fin.ext ?_)
  refine ((cfg0.win 5).rect_emb_val t (ix2 k j) z).trans ?_
  obtain ⟨e0, e1⟩ := idx5 t
  match z with
  | ⟨0, _⟩ =>
    refine (congrArg (fun i : ℕ => i * 1024 + k.val) e0).trans ?_
    show 0 * 1024 + k.val = k.val; omega
  | ⟨1, _⟩ =>
    refine (congrArg (fun i : ℕ => i * 3584 + j.val) e1).trans ?_
    show 0 * 3584 + j.val = j.val; omega
theorem blk6 (k : Fin 3584) (j : Fin 1024) : (iblk m c 6 t : S3584x1024.Idx → EReal) (ix2 k j) = ad m c (ix2 k j) := by
  refine Eq.trans ?_ (congrFun (V5 m c) (ix2 k j))
  refine congrArg (V m c main_v5 : S3584x1024.Idx → EReal) (funext fun z => Fin.ext ?_)
  refine ((cfg0.win 6).rect_emb_val t (ix2 k j) z).trans ?_
  obtain ⟨e0, e1⟩ := idx6 t
  match z with
  | ⟨0, _⟩ =>
    refine (congrArg (fun i : ℕ => i * 3584 + k.val) e0).trans ?_
    show 0 * 3584 + k.val = k.val; omega
  | ⟨1, _⟩ =>
    refine (congrArg (fun i : ℕ => i * 1024 + j.val) e1).trans ?_
    show 0 * 1024 + j.val = j.val; omega
theorem blk3 (k : Fin 1) (j : Fin 1024) : (iblk m c 3 t : S1x1024.Idx → EReal) (ix2 k j) = an m c (ix2 k j) := by
  refine Eq.trans ?_ (congrFun (V_main_arg3 m c) (ix2 k j))
  refine congrArg (V m c main_arg3 : S1x1024.Idx → EReal) (funext fun z => Fin.ext ?_)
  refine ((cfg0.win 3).rect_emb_val t (ix2 k j) z).trans ?_
  obtain ⟨e0, e1⟩ := idx3 t
  match z with
  | ⟨0, _⟩ =>
    refine (congrArg (fun i : ℕ => i * 1 + k.val) e0).trans ?_
    show 0 * 1 + k.val = k.val; omega
  | ⟨1, _⟩ =>
    refine (congrArg (fun i : ℕ => i * 1024 + j.val) e1).trans ?_
    show 0 * 1024 + j.val = j.val; omega

theorem place7 (j : Fin 1024) : (((cfg0.win 7).blk t).view.emb (ix2 p j) : S16384x1024.Idx) = ix2 (rowOf (point t) p) j := by
  refine funext fun z => Fin.ext ?_
  refine ((cfg0.win 7).rect_emb_val t (ix2 p j) z).trans ?_
  obtain ⟨e0, e1⟩ := idx7 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + j.val) e1).trans ?_
    show 0 * 1024 + j.val = j.val; omega
end

/-! ## The result -/

/-- The layer on every row of the batch. -/
def result (x o : S8x2048x1024.Idx → EReal) (w : S1024x1024.Idx → EReal) (n : S1x1024.Idx → EReal) (g u : S1024x3584.Idx → EReal)
    (d : S3584x1024.Idx → EReal) : S16384x1024.Idx → EReal := fun i =>
  layer (flat x (i 0)) (flat o (i 0)) (fun k j => w (ix2 k j)) (fun k => n (ix2 0 k)) (fun k j => g (ix2 k j)) (fun k j => u (ix2 k j))
    (fun j c => d (ix2 j c)) (i 1)

theorem out_at (t : Fin cfg0.N) (p : Fin 512) (j : Fin 1024) :
    (out0_7 (F := Ideal) (iblk m c 0 t) (iblk m c 1 t) (iblk m c 2 t) (iblk m c 3 t) (iblk m c 4 t) (iblk m c 5 t) (iblk m c 6 t) : S512x1024.Idx → EReal) (ix2 p j)
      = result (ax m c) (ao m c) (aw m c) (an m c) (ag m c) (au m c) (ad m c) (ix2 (rowOf (point t) p) j) := by
  refine (out_apply _ _ _ _ _ _ _ p j).trans ?_
  have h0 := funext (blk0 m c t p)
  have h1 := funext (blk1 m c t p)
  have h2 := funext fun k => funext (blk2 m c t k)
  have h3 := funext (blk3 m c t 0)
  have h4 := funext fun k => funext (blk4 m c t k)
  have h5 := funext fun k => funext (blk5 m c t k)
  have h6 := funext fun k => funext (blk6 m c t k)
  exact congr (congr (congr (congr (congr (congr (congr (congrArg layer h0) h1) h2) h3) h4) h5) h6) rfl

/-- What the kernel leaves as its result. -/
theorem final : ((dats m 0 c).arrAt 7 cfg0.N : S16384x1024.Idx → EReal)
    = result (ax m c) (ao m c) (aw m c) (an m c) (ag m c) (au m c) (ad m c) := by
  refine (dats m 0 c).arrAt_eq_of_cover 7 (result (ax m c) (ao m c) (aw m c) (an m c) (ag m c) (au m c) (ad m c)) (fun t _ => ?_) (fun i => ?_)
  · refine (Cert.FfnIdeal.Value.flushed7 m c t).trans ?_
    funext y
    obtain ⟨p, j, rfl⟩ : ∃ (p : Fin 512) (j : Fin 1024), y = ix2 p j := ⟨y 0, y 1, eq_ix2 y⟩
    exact (out_at m c t p j).trans (congrArg (result (ax m c) (ao m c) (aw m c) (an m c) (ag m c) (au m c) (ad m c)) (place7 t p j)).symm
  · have h0 : (i 0).val < 16384 := (i 0).isLt
    refine ⟨⟨(i 0).val / 512, lt_of_lt_of_eq (by omega : (i 0).val / 512 < 32) (by decide +kernel : 32 = grid0.N)⟩, flush0_7 _, ?_⟩
    refine Finset.mem_map.mpr ⟨ix2 (⟨(i 0).val % 512, by omega⟩ : Fin 512) (i 1), Finset.mem_univ _, ?_⟩
    refine (place7 _ _ _).trans ?_
    refine (funext fun z => ?_)
    match z with
    | ⟨0, _⟩ => exact Fin.ext (Nat.div_add_mod (i 0).val 512)
    | ⟨1, _⟩ => rfl

end Cert.Proof.FfnValue
end
-- ==== Proof.FfnRef.lean ====
/-
  The dense feed-forward part's reference at an index: the layer on the row, of its one formula over the whole batch.
-/
module

public import proofs.«01_k».proof.Proof.Gen.FfnRefIdeal.Run
public import proofs.«01_k».proof.Proof.FfnBlock

@[expose] public section
set_option maxRecDepth 16384

noncomputable section
namespace Cert.Proof.FfnRef
open Idealize.ShloMosaic Idealize.ShloMosaic.TcCoe Idealize.SL.Sem Cert.FfnRefIdeal Cert.FfnRefIdeal.Gen Cert.FfnRefIdeal.Value Cert.Proof.Swiglu Cert.Proof.FfnBlock

/-! ## The parts, at any arrays -/

/-- The batch after the mixer's projection. -/
def mixedA (x : FVec Ideal S8x2048x1024 .f32) (o : FVec Ideal S8x2048x1024 .bf16) (w : FVec Ideal S1024x1024 .f32) : FVec Ideal S8x2048x1024 .f32 :=
  addf x (Host.dotGeneral dot_S8x2048x1024_S1024x1024_S8x2048x1024_2_0_01_1_n_n none (extf .f32 o bitsLt_bf16_f32) w)

/-- Its norm, times the gain. -/
def normedA (r : FVec Ideal S8x2048x1024 .f32) (n : FVec Ideal S1x1024 .f32) : FVec Ideal S8x2048x1024 .f32 :=
  mulf (mulf r (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf r r) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ n shapeCasts_S1x1024_S1024 : FVec Ideal S1024 .f32)))

/-- The rows against a matrix of columns of the hidden dimension. -/
def upA (h : FVec Ideal S8x2048x1024 .f32) (g : FVec Ideal S1024x3584 .f32) : FVec Ideal S8x2048x3584 .f32 :=
  Host.dotGeneral dot_S8x2048x1024_S1024x3584_S8x2048x3584_2_0_01_1_n_n none h g

/-- One product of the rows, gated by the other, at the hidden dimension. -/
def gatedA (z u : FVec Ideal S8x2048x3584 .f32) : FVec Ideal S8x2048x3584 .f32 :=
  mulf (mulf z (Host.divf (broadcastInDim S8x2048x3584 ![] bcast_S_S8x2048x3584 (constant S_ .f32 0x3F800000#32)) (addf (broadcastInDim S8x2048x3584 ![] bcast_S_S8x2048x3584 (constant S_ .f32 0x3F800000#32)) (Host.exp (Host.negf z))))) u

/-- The gated products projected back. -/
def downA (z : FVec Ideal S8x2048x3584 .f32) (d : FVec Ideal S3584x1024 .f32) : FVec Ideal S8x2048x1024 .f32 :=
  Host.dotGeneral dot_S8x2048x3584_S3584x1024_S8x2048x1024_2_0_01_1_n_n none z d

section
variable (b : Fin 8) (s : Fin 2048)

theorem mixedA_apply (x : FVec Ideal S8x2048x1024 .f32) (o : FVec Ideal S8x2048x1024 .bf16) (w : FVec Ideal S1024x1024 .f32) (j : Fin 1024) :
    mixedA x o w (ix3 b s j) = mixed (fun k => x (ix3 b s k)) (fun k => o (ix3 b s k)) (fun k j => w (ix2 k j)) j := by
  unfold mixed
  pointwise [mixedA]

theorem normedA_apply (r : FVec Ideal S8x2048x1024 .f32) (n : FVec Ideal S1x1024 .f32) (k : Fin 1024) :
    normedA r n (ix3 b s k) = normed (fun k => r (ix3 b s k)) (fun k => n (ix2 0 k)) k := by
  unfold normed
  pointwise [normedA]

theorem upA_apply (h : FVec Ideal S8x2048x1024 .f32) (g : FVec Ideal S1024x3584 .f32) (j : Fin 3584) :
    upA h g (ix3 b s j) = ∑ k : Fin 1024, h (ix3 b s k) * g (ix2 k j) := by
  pointwise [upA]

theorem gatedA_apply (z u : FVec Ideal S8x2048x3584 .f32) (j : Fin 3584) :
    gatedA z u (ix3 b s j) = gated (z (ix3 b s j)) (u (ix3 b s j)) := by
  pointwise [gatedA]
  exact gated_one_div _ _

theorem downA_apply (z : FVec Ideal S8x2048x3584 .f32) (d : FVec Ideal S3584x1024 .f32) (c : Fin 1024) :
    downA z d (ix3 b s c) = ∑ j : Fin 3584, z (ix3 b s j) * d (ix2 j c) := by
  pointwise [downA]

/-- The layer over the batch is the layer on each row. -/
theorem layerA_apply (x : FVec Ideal S8x2048x1024 .f32) (o : FVec Ideal S8x2048x1024 .bf16) (w : FVec Ideal S1024x1024 .f32)
    (n : FVec Ideal S1x1024 .f32) (g u : FVec Ideal S1024x3584 .f32) (d : FVec Ideal S3584x1024 .f32) (c : Fin 1024) :
    addf (mixedA x o w) (downA (gatedA (upA (normedA (mixedA x o w) n) g) (upA (normedA (mixedA x o w) n) u)) d) (ix3 b s c)
      = layer (fun k => x (ix3 b s k)) (fun k => o (ix3 b s k)) (fun k j => w (ix2 k j)) (fun k => n (ix2 0 k)) (fun k j => g (ix2 k j))
          (fun k j => u (ix2 k j)) (fun j c => d (ix2 j c)) c := by
  unfold layer swiglu Swiglu.term
  have hr : (fun k => mixedA x o w (ix3 b s k)) = mixed (fun k => x (ix3 b s k)) (fun k => o (ix3 b s k)) (fun k j => w (ix2 k j)) :=
    funext (mixedA_apply b s x o w)
  have hn : ∀ k, normedA (mixedA x o w) n (ix3 b s k)
      = normed (mixed (fun k => x (ix3 b s k)) (fun k => o (ix3 b s k)) (fun k j => w (ix2 k j))) (fun k => n (ix2 0 k)) k := fun k =>
    (normedA_apply b s _ n k).trans (congrArg (fun r => normed r (fun k => n (ix2 0 k)) k) hr)
  refine congrArg₂ (fun x y : EReal => x + y) (mixedA_apply b s x o w c) ((downA_apply b s _ d c).trans ?_)
  refine Finset.sum_congr rfl fun j _ => congrArg (fun y : EReal => y * d (ix2 j c)) ?_
  refine (gatedA_apply b s _ _ j).trans (congrArg₂ gated ((upA_apply b s _ g j).trans ?_) ((upA_apply b s _ u j).trans ?_))
  · exact Finset.sum_congr rfl fun k _ => congrArg (fun y : EReal => y * g (ix2 k j)) (hn k)
  · exact Finset.sum_congr rfl fun k _ => congrArg (fun y : EReal => y * u (ix2 k j)) (hn k)
end

/-! ## The reference's array -/

section
variable (m : (ℓ : Loc nD τ sig) → Buf (Elt Ideal) ℓ) (c : Dev nD)

abbrev rx : S8x2048x1024.Idx → EReal := m ((c.tc : Thread nD τ).loc main_arg0)
abbrev ro : S8x2048x1024.Idx → EReal := m ((c.tc : Thread nD τ).loc main_arg1)
abbrev rv : S1024x1024.Idx → EReal := m ((c.tc : Thread nD τ).loc main_arg2)
abbrev rn : S1x1024.Idx → EReal := m ((c.tc : Thread nD τ).loc main_arg3)
abbrev rg : S1024x3584.Idx → EReal := m ((c.tc : Thread nD τ).loc main_arg4)
abbrev ru : S1024x3584.Idx → EReal := m ((c.tc : Thread nD τ).loc main_arg5)
abbrev rd : S3584x1024.Idx → EReal := m ((c.tc : Thread nD τ).loc main_arg6)

theorem value (r : Fin 16384) (j : Fin 1024) : (res_main_v23 m c : S16384x1024.Idx → EReal) (ix2 r j)
    = layer (flat (rx m c) r) (flat (ro m c) r) (fun k j => rv m c (ix2 k j)) (fun k => rn m c (ix2 0 k)) (fun k j => rg m c (ix2 k j))
        (fun k j => ru m c (ix2 k j)) (fun j k => rd m c (ix2 j k)) j :=
  (flat_cast (addf (mixedA (rx m c) (ro m c) (rv m c)) (downA (gatedA (upA (normedA (mixedA (rx m c) (ro m c) (rv m c)) (rn m c)) (rg m c)) (upA (normedA (mixedA (rx m c) (ro m c) (rv m c)) (rn m c)) (ru m c))) (rd m c))) _ r j).trans
    (layerA_apply _ _ (rx m c) (ro m c) (rv m c) (rn m c) (rg m c) (ru m c) (rd m c) j)
end

end Cert.Proof.FfnRef
end
-- ==== Proof.FfnJoin.lean ====
/-
  The dense feed-forward kernel's array is its reference's; and the reference's frame.
-/
module

public import proofs.«01_k».proof.Defs
public import proofs.«01_k».proof.Proof.Gen.Ffn
public import proofs.«01_k».proof.Proof.FfnValue
public import proofs.«01_k».proof.Proof.FfnRef
public import Idealize.ShloMosaic.Lib.Quiescent

@[expose] public section
set_option maxRecDepth 16384

noncomputable section
namespace Cert.Proof.FfnJoin
open Idealize.ShloMosaic Idealize.ShloMosaic.TcCoe Idealize.SL.Sem

/-- The reference declares no semaphore: its run is its frame. -/
theorem reference_frame : Cert.quiescent_FfnRefIdeal := fun m g _ =>
  (θ_run Cert.FfnRefIdeal.defs _ _).mono
    (fun r h => And.intro (fun c => (h c).2) (sem_eq_zero_of_no_sems (by decide) r.2)) (Cert.FfnRefIdeal.Value.run m g)

section
variable (m : (ℓ : Loc Cert.FfnIdeal.nD Cert.FfnIdeal.τ Cert.FfnIdeal.sig) → Buf (Elt Ideal) ℓ)
  (m' : (ℓ : Loc Cert.FfnRefIdeal.nD Cert.FfnRefIdeal.τ Cert.FfnRefIdeal.sig) → Buf (Elt Ideal) ℓ)

/-- The kernel's result. -/
abbrev both (c : Dev Cert.FfnIdeal.nD) : Cert.FfnIdeal.S16384x1024.Idx → EReal :=
  FfnValue.result (FfnValue.ax m c) (FfnValue.ao m c) (FfnValue.aw m c) (FfnValue.an m c) (FfnValue.ag m c) (FfnValue.au m c) (FfnValue.ad m c)

/-- The reference's result, of arrays that are the kernel's, is the kernel's. -/
theorem agree (c : Dev Cert.FfnIdeal.nD)
    (h0 : FfnRef.rx m' c = FfnValue.ax m c) (h1 : FfnRef.ro m' c = FfnValue.ao m c) (h2 : FfnRef.rv m' c = FfnValue.aw m c)
    (h3 : FfnRef.rn m' c = FfnValue.an m c) (h4 : FfnRef.rg m' c = FfnValue.ag m c) (h5 : FfnRef.ru m' c = FfnValue.au m c)
    (h6 : FfnRef.rd m' c = FfnValue.ad m c) :
    (Cert.FfnRefIdeal.Value.res_main_v23 m' c : Cert.FfnRefIdeal.S16384x1024.Idx → EReal) = both m c := by
  funext i
  obtain ⟨r, j, rfl⟩ : ∃ (r : Fin 16384) (j : Fin 1024), i = ix2 r j := ⟨i 0, i 1, eq_ix2 i⟩
  refine (FfnRef.value m' c r j).trans ?_
  rw [h0, h1, h2, h3, h4, h5, h6]
  rfl
end

theorem algebraic : Cert.algebraic_FfnIdeal_FfnRefIdeal := by
  intro m g m' g' _ ha
  refine ⟨fun c => both m c, ?_, ?_⟩
  · exact (θ_run Cert.FfnIdeal.defs _ _).mono
      (fun r h c => ⟨(h c).1.trans (FfnValue.final m c), (h c).2⟩) (Cert.FfnIdeal.Value.run_blocks m g)
  · refine (θ_run Cert.FfnRefIdeal.defs _ _).mono (fun r h c => ?_) (Cert.FfnRefIdeal.Value.run m' g')
    obtain ⟨h0, h1, h2, h3, h4, h5, h6⟩ := ha c
    exact ⟨(h c).1.trans (agree m m' c h0 h1 h2 h3 h4 h5 h6), (h c).2⟩

end Cert.Proof.FfnJoin
end
-- ==== Proof.QkvBlock.lean ====
/-
  What the three blocks of the queries, keys and values' kernel are at an index, over the extended reals: the row's norm
  against a column, and for queries and keys the norm of that over each head of 128 columns.
-/
module

public import proofs.«01_k».proof.Proof.Gen.QkvIdeal.Frame
public import proofs.«01_k».proof.Proof.BlockPieces
public import proofs.«01_k».proof.Proof.FfnBlock

@[expose] public section
set_option maxRecDepth 16384

noncomputable section
namespace Cert.Proof.QkvBlock
open Idealize.ShloMosaic Cert.QkvIdeal Cert.QkvIdeal.Gen
open Cert.Proof.FfnBlock (normed flat flat_cast)

/-! ## The projections of a row -/

/-- Column `c` of the part `s` of the matrix. -/
abbrev part (s : Fin 3) (c : Fin 1024) : Fin 3072 := ⟨1024 * s.val + c.val, by omega⟩
/-- Column `j` of head `h`. -/
abbrev lane (h : Fin 8) (j : Fin 128) : Fin 1024 := ⟨128 * h.val + j.val, by omega⟩

/-- The row's norm against a column of the part. -/
def proj (x n : Fin 1024 → EReal) (w : Fin 1024 → Fin 3072 → EReal) (s : Fin 3) (c : Fin 1024) : EReal :=
  ∑ k : Fin 1024, normed x n k * w k (part s c)

/-- A head's numbers over the root of their mean square, times the gain. -/
def headNorm (a n : Fin 128 → EReal) (j : Fin 128) : EReal :=
  a j * Ideal.rsqrt (Ideal.div (∑ u : Fin 128, a u * a u) (Ideal.ofBits .f32 0x43000000#32) + Ideal.ofBits .f32 0x358637BD#32) * n j

/-- The norm over the heads of a row, at a column. -/
def heads (a : Fin 1024 → EReal) (n : Fin 128 → EReal) (c : Fin 1024) : EReal :=
  headNorm (fun u => a (lane ⟨c.val / 128, by omega⟩ u)) n ⟨c.val % 128, by omega⟩

/-- The scale of the queries. -/
abbrev scale : EReal := Ideal.ofBits .f32 0x3E0293EE#32

/-! ## The head's norm, as the program has it for each head -/

section
variable (g : Vec Ideal S1x128 .f32) (a : FVec Ideal S512x1024 .f32) (p : Fin 512) (j : Fin 128)

theorem lane_zero (j : Fin 128) : lane 0 j = ⟨j.val, by omega⟩ := Fin.ext (by show 128 * 0 + j.val = j.val; omega)

theorem q0 (x : Vec Ideal S512x1024 .f32) (n : Vec Ideal S1x1024 .f32) (w : Vec Ideal S1024x1024 .bf16) :
    k0_pay9 (F := Ideal) (k0_pay7 x n g w) (k0_pay8 (F := Ideal)) (ix2 p j)
      = headNorm (fun u => k0_pay5 (F := Ideal) x n w (ix2 p (lane 0 u))) (fun u => g (ix2 0 u)) j * scale := by
  unfold headNorm
  simp only [lane_zero]
  pointwise [k0_pay9, k0_pay7, k0_pay8]
theorem q1 : k0_pay11 (F := Ideal) g a (ix2 p j) = headNorm (fun u => a (ix2 p (lane 1 u))) (fun u => g (ix2 0 u)) j * scale := by
  unfold headNorm
  pointwise [k0_pay11]
  rfl
theorem q2 : k0_pay15 (F := Ideal) g a (ix2 p j) = headNorm (fun u => a (ix2 p (lane 2 u))) (fun u => g (ix2 0 u)) j * scale := by
  unfold headNorm
  pointwise [k0_pay15]
  rfl
theorem q3 : k0_pay19 (F := Ideal) g (k0_pay17 a) (k0_pay18 a) (ix2 p j) = headNorm (fun u => a (ix2 p (lane 3 u))) (fun u => g (ix2 0 u)) j * scale := by
  unfold headNorm
  pointwise [k0_pay19, k0_pay17, k0_pay18]
  rfl
theorem q4 : k0_pay23 (F := Ideal) (k0_pay21 g a) (k0_pay22 (F := Ideal)) (ix2 p j) = headNorm (fun u => a (ix2 p (lane 4 u))) (fun u => g (ix2 0 u)) j * scale := by
  unfold headNorm
  pointwise [k0_pay23, k0_pay21, k0_pay22]
  rfl
theorem q5 : k0_pay25 (F := Ideal) g a (ix2 p j) = headNorm (fun u => a (ix2 p (lane 5 u))) (fun u => g (ix2 0 u)) j * scale := by
  unfold headNorm
  pointwise [k0_pay25]
  rfl
theorem q6 : k0_pay29 (F := Ideal) g a (ix2 p j) = headNorm (fun u => a (ix2 p (lane 6 u))) (fun u => g (ix2 0 u)) j * scale := by
  unfold headNorm
  pointwise [k0_pay29]
  rfl
theorem q7 : k0_pay1 (F := Ideal) g (k0_pay31 a) (k0_pay32 a) (ix2 p j) = headNorm (fun u => a (ix2 p (lane 7 u))) (fun u => g (ix2 0 u)) j * scale := by
  unfold headNorm
  pointwise [k0_pay1, k0_pay31, k0_pay32]
  rfl
theorem k0 : k0_pay10 (F := Ideal) g a (ix2 p j) = headNorm (fun u => a (ix2 p (lane 0 u))) (fun u => g (ix2 0 u)) j := by
  unfold headNorm
  simp only [lane_zero]
  pointwise [k0_pay10]
theorem k1 : k0_pay14 (F := Ideal) g (k0_pay12 a) (k0_pay13 a) (Scalar.ofBits .f32 0x358637BD#32) (ix2 p j) = headNorm (fun u => a (ix2 p (lane 1 u))) (fun u => g (ix2 0 u)) j := by
  unfold headNorm
  pointwise [k0_pay14, k0_pay12, k0_pay13]
  rfl
theorem k2 : k0_pay16 (F := Ideal) g a (ix2 p j) = headNorm (fun u => a (ix2 p (lane 2 u))) (fun u => g (ix2 0 u)) j := by
  unfold headNorm
  pointwise [k0_pay16]
  rfl
theorem k3 : k0_pay20 (F := Ideal) g a (ix2 p j) = headNorm (fun u => a (ix2 p (lane 3 u))) (fun u => g (ix2 0 u)) j := by
  unfold headNorm
  pointwise [k0_pay20]
  rfl
theorem k4 : k0_pay24 (F := Ideal) g a (ix2 p j) = headNorm (fun u => a (ix2 p (lane 4 u))) (fun u => g (ix2 0 u)) j := by
  unfold headNorm
  pointwise [k0_pay24]
  rfl
theorem k5 : k0_pay28 (F := Ideal) g (k0_pay26 a) (k0_pay27 a) (Scalar.ofBits .f32 0x358637BD#32) (ix2 p j) = headNorm (fun u => a (ix2 p (lane 5 u))) (fun u => g (ix2 0 u)) j := by
  unfold headNorm
  pointwise [k0_pay28, k0_pay26, k0_pay27]
  rfl
theorem k6 : k0_pay30 (F := Ideal) g a (ix2 p j) = headNorm (fun u => a (ix2 p (lane 6 u))) (fun u => g (ix2 0 u)) j := by
  unfold headNorm
  pointwise [k0_pay30]
  rfl
theorem k7 : k0_pay2 (F := Ideal) g a (ix2 p j) = headNorm (fun u => a (ix2 p (lane 7 u))) (fun u => g (ix2 0 u)) j := by
  unfold headNorm
  pointwise [k0_pay2]
  rfl
end

/-! ## The projections, as the program has them -/

section
variable (x0 : Vec Ideal S512x1024 .f32) (x1 : Vec Ideal S1x1024 .f32) (x2 : Vec Ideal S1024x3072 .bf16) (x3 x4 : Vec Ideal S1x128 .f32)
  (p : Fin 512) (c : Fin 1024)

theorem ld_x (k : Fin 1024) : View.ld x0 r0_0 (ix2 p k) = x0 (ix2 p k) := by
  pointwise []
theorem ld_n (k : Fin 1024) : View.ld x1 r0_1 (ix2 0 k) = x1 (ix2 0 k) := by
  pointwise []
theorem ld_g (k : Fin 128) : View.ld x3 r0_2 (ix2 0 k) = x3 (ix2 0 k) := by
  pointwise []
theorem ld_w0 (k : Fin 1024) : View.ld x2 r0_3 (ix2 k c) = x2 (ix2 k (part 0 c)) := by
  pointwise []
  exact congrArg (fun z : Fin 3072 => x2 (ix2 k z)) (Fin.ext (by show c.val = 1024 * 0 + c.val; omega))
theorem ld_w1 (k : Fin 1024) : View.ld x2 r0_4 (ix2 k c) = x2 (ix2 k (part 1 c)) := by
  pointwise []
  rfl
theorem ld_w2 (k : Fin 1024) : View.ld x2 r0_13 (ix2 k c) = x2 (ix2 k (part 2 c)) := by
  pointwise []
  rfl

theorem pay4 (x : Vec Ideal S512x1024 .f32) (n : Vec Ideal S1x1024 .f32) (k : Fin 1024) :
    k0_pay4 (F := Ideal) x n (ix2 p k) = normed (fun k => x (ix2 p k)) (fun k => n (ix2 0 k)) k := by
  unfold normed
  pointwise [k0_pay4]
theorem pay5 (x : Vec Ideal S512x1024 .f32) (n : Vec Ideal S1x1024 .f32) (w : Vec Ideal S1024x1024 .bf16) :
    k0_pay5 (F := Ideal) x n w (ix2 p c) = ∑ k : Fin 1024, k0_pay4 (F := Ideal) x n (ix2 p k) * w (ix2 k c) := by
  pointwise [k0_pay5]
theorem pay6 (x : Vec Ideal S512x1024 .f32) (n : Vec Ideal S1x1024 .f32) (w : Vec Ideal S1024x1024 .bf16) :
    k0_pay6 (F := Ideal) x n w (ix2 p c) = ∑ k : Fin 1024, k0_pay4 (F := Ideal) x n (ix2 p k) * w (ix2 k c) := by
  pointwise [k0_pay6]
theorem pay3 (h : FVec Ideal S512x1024 .bf16) (w : Vec Ideal S1024x1024 .bf16) :
    k0_pay3 (F := Ideal) h w (ix2 p c) = ∑ k : Fin 1024, h (ix2 p k) * w (ix2 k c) := by
  pointwise [k0_pay3]

/-- The row's norm. -/
theorem row_norm (k : Fin 1024) : k0_pay4 (F := Ideal) (View.ld x0 r0_0) (View.ld x1 r0_1) (ix2 p k)
    = normed (fun k => x0 (ix2 p k)) (fun k => x1 (ix2 0 k)) k :=
  (pay4 p _ _ k).trans (congrArg₂ (fun a b => normed a b k) (funext (ld_x x0 p)) (funext (ld_n x1)))

/-- A part's projection of the row of the block. -/
abbrev rowProj (s : Fin 3) : Fin 1024 → EReal := proj (fun k => x0 (ix2 p k)) (fun k => x1 (ix2 0 k)) (fun k j => x2 (ix2 k j)) s

theorem proj0 : k0_pay5 (F := Ideal) (View.ld x0 r0_0) (View.ld x1 r0_1) (View.ld x2 r0_3) (ix2 p c) = rowProj x0 x1 x2 p 0 c :=
  (pay5 p c _ _ _).trans (Finset.sum_congr rfl fun k _ => congrArg₂ (fun x y : EReal => x * y) (row_norm x0 x1 p k) (ld_w0 x2 c k))
theorem proj1 : k0_pay6 (F := Ideal) (View.ld x0 r0_0) (View.ld x1 r0_1) (View.ld x2 r0_4) (ix2 p c) = rowProj x0 x1 x2 p 1 c :=
  (pay6 p c _ _ _).trans (Finset.sum_congr rfl fun k _ => congrArg₂ (fun x y : EReal => x * y) (row_norm x0 x1 p k) (ld_w1 x2 c k))
theorem proj2 : k0_pay3 (F := Ideal) (k0_pay4 (View.ld x0 r0_0) (View.ld x1 r0_1)) (View.ld x2 r0_13) (ix2 p c) = rowProj x0 x1 x2 p 2 c :=
  (pay3 p c _ _).trans (Finset.sum_congr rfl fun k _ => congrArg₂ (fun x y : EReal => x * y) (row_norm x0 x1 p k) (ld_w2 x2 c k))
end

/-! ## The blocks -/

/-- A head's columns of a block. -/
theorem lane_emb (o : ℕ) (h : Fin 8) (ho : o = 128 * h.val) (inb : ∀ a, (![0, o] : Fin 2 → ℕ) a + S512x128.size a ≤ S512x1024.size a)
    (p : Fin 512) (j : Fin 128) : (Rect.unit (s := S512x1024) ![0, o] S512x128.size inb).emb (ix2 p j) = ix2 p (lane h j) := by
  subst ho
  refine funext fun z => Fin.ext ?_
  match z with
  | ⟨0, _⟩ => show 0 + 1 * p.val = p.val; omega
  | ⟨1, _⟩ => show 128 * h.val + 1 * j.val = 128 * h.val + j.val; omega

theorem heads_lane (a : Fin 1024 → EReal) (n : Fin 128 → EReal) (h : Fin 8) (j : Fin 128) :
    heads a n (lane h j) = headNorm (fun u => a (lane h u)) n j := by
  unfold heads
  have e1 : (⟨(lane h j).val / 128, by have := (lane h j).isLt; omega⟩ : Fin 8) = h := Fin.ext (by show (128 * h.val + j.val) / 128 = h.val; omega)
  have e2 : (⟨(lane h j).val % 128, by omega⟩ : Fin 128) = j := Fin.ext (by show (128 * h.val + j.val) % 128 = j.val; omega)
  rw [e1, e2]

section
variable (x0 : Vec Ideal S512x1024 .f32) (x1 : Vec Ideal S1x1024 .f32) (x2 : Vec Ideal S1024x3072 .bf16) (x3 x4 : Vec Ideal S1x128 .f32)

/-- The block of the queries, of the keys and of the values. -/
def qBlock : S512x1024.Idx → EReal := fun i => heads (rowProj x0 x1 x2 (i 0) 0) (fun u => x3 (ix2 0 u)) (i 1) * scale
def kBlock : S512x1024.Idx → EReal := fun i => heads (rowProj x0 x1 x2 (i 0) 1) (fun u => x4 (ix2 0 u)) (i 1)
def vBlock : S512x1024.Idx → EReal := fun i => rowProj x0 x1 x2 (i 0) 2 (i 1)

theorem q_piece (h : Fin 8) (o : ℕ) (ho : o = 128 * h.val) (inb : ∀ a, (![0, o] : Fin 2 → ℕ) a + S512x128.size a ≤ S512x1024.size a)
    (w : S512x128.Idx → EReal)
    (hw : ∀ p j, w (ix2 p j) = headNorm (fun u => k0_pay5 (F := Ideal) (View.ld x0 r0_0) (View.ld x1 r0_1) (View.ld x2 r0_3) (ix2 p (lane h u)))
      (fun u => View.ld x3 r0_2 (ix2 0 u)) j * scale) (x : S512x128.Idx) :
    w x = qBlock x0 x1 x2 x3 ((Rect.unit (s := S512x1024) ![0, o] S512x128.size inb).emb x) := by
  obtain ⟨p, j, rfl⟩ : ∃ (p : Fin 512) (j : Fin 128), x = ix2 p j := ⟨x 0, x 1, eq_ix2 x⟩
  rw [lane_emb o h ho inb p j]
  refine (hw p j).trans (congrArg (fun y : EReal => y * scale) ?_)
  refine Eq.trans ?_ (heads_lane (rowProj x0 x1 x2 p 0) (fun u => x3 (ix2 0 u)) h j).symm
  exact congrArg₂ (fun a b => headNorm a b j) (funext fun u => proj0 x0 x1 x2 p _) (funext (ld_g x3))

theorem k_piece (h : Fin 8) (o : ℕ) (ho : o = 128 * h.val) (inb : ∀ a, (![0, o] : Fin 2 → ℕ) a + S512x128.size a ≤ S512x1024.size a)
    (w : S512x128.Idx → EReal)
    (hw : ∀ p j, w (ix2 p j) = headNorm (fun u => k0_pay6 (F := Ideal) (View.ld x0 r0_0) (View.ld x1 r0_1) (View.ld x2 r0_4) (ix2 p (lane h u)))
      (fun u => View.ld x4 r0_2 (ix2 0 u)) j) (x : S512x128.Idx) :
    w x = kBlock x0 x1 x2 x4 ((Rect.unit (s := S512x1024) ![0, o] S512x128.size inb).emb x) := by
  obtain ⟨p, j, rfl⟩ : ∃ (p : Fin 512) (j : Fin 128), x = ix2 p j := ⟨x 0, x 1, eq_ix2 x⟩
  rw [lane_emb o h ho inb p j]
  refine (hw p j).trans ?_
  refine Eq.trans ?_ (heads_lane (rowProj x0 x1 x2 p 1) (fun u => x4 (ix2 0 u)) h j).symm
  exact congrArg₂ (fun a b => headNorm a b j) (funext fun u => proj1 x0 x1 x2 p _) (funext (ld_g x4))

theorem q_out : (out0_5 (F := Ideal) x0 x1 x2 x3 x4 : S512x1024.Idx → EReal) = qBlock x0 x1 x2 x3 := by
  funext y
  unfold out0_5
  refine Block.canon_first (qBlock x0 x1 x2 x3) [] _ ?_ y (cover0_5 (F := Ideal) _ _ _ _ _ _ _ _ y)
  refine List.forall_mem_cons.mpr ⟨q_piece x0 x1 x2 x3 7 896 rfl inb_S512x1024_S512x128_0_896 _ (q7 _ _), ?_⟩
  refine List.forall_mem_cons.mpr ⟨q_piece x0 x1 x2 x3 6 768 rfl inb_S512x1024_S512x128_0_768 _ (q6 _ _), ?_⟩
  refine List.forall_mem_cons.mpr ⟨q_piece x0 x1 x2 x3 5 640 rfl inb_S512x1024_S512x128_0_640 _ (q5 _ _), ?_⟩
  refine List.forall_mem_cons.mpr ⟨q_piece x0 x1 x2 x3 4 512 rfl inb_S512x1024_S512x128_0_512 _ (q4 _ _), ?_⟩
  refine List.forall_mem_cons.mpr ⟨q_piece x0 x1 x2 x3 3 384 rfl inb_S512x1024_S512x128_0_384 _ (q3 _ _), ?_⟩
  refine List.forall_mem_cons.mpr ⟨q_piece x0 x1 x2 x3 2 256 rfl inb_S512x1024_S512x128_0_256 _ (q2 _ _), ?_⟩
  refine List.forall_mem_cons.mpr ⟨q_piece x0 x1 x2 x3 1 128 rfl inb_S512x1024_S512x128_0_128 _ (q1 _ _), ?_⟩
  refine List.forall_mem_cons.mpr ⟨q_piece x0 x1 x2 x3 0 0 rfl inb_S512x1024_S512x128_0_0 _ (fun p j => q0 _ p j _ _ _), ?_⟩
  exact fun _ h => absurd h List.not_mem_nil

theorem k_out : (out0_6 (F := Ideal) x0 x1 x2 x3 x4 : S512x1024.Idx → EReal) = kBlock x0 x1 x2 x4 := by
  funext y
  unfold out0_6
  refine Block.canon_first (kBlock x0 x1 x2 x4) [] _ ?_ y (cover0_6 (F := Ideal) _ _ _ _ _ _ _ _ y)
  refine List.forall_mem_cons.mpr ⟨k_piece x0 x1 x2 x4 7 896 rfl inb_S512x1024_S512x128_0_896 _ (k7 _ _), ?_⟩
  refine List.forall_mem_cons.mpr ⟨k_piece x0 x1 x2 x4 6 768 rfl inb_S512x1024_S512x128_0_768 _ (k6 _ _), ?_⟩
  refine List.forall_mem_cons.mpr ⟨k_piece x0 x1 x2 x4 5 640 rfl inb_S512x1024_S512x128_0_640 _ (k5 _ _), ?_⟩
  refine List.forall_mem_cons.mpr ⟨k_piece x0 x1 x2 x4 4 512 rfl inb_S512x1024_S512x128_0_512 _ (k4 _ _), ?_⟩
  refine List.forall_mem_cons.mpr ⟨k_piece x0 x1 x2 x4 3 384 rfl inb_S512x1024_S512x128_0_384 _ (k3 _ _), ?_⟩
  refine List.forall_mem_cons.mpr ⟨k_piece x0 x1 x2 x4 2 256 rfl inb_S512x1024_S512x128_0_256 _ (k2 _ _), ?_⟩
  refine List.forall_mem_cons.mpr ⟨k_piece x0 x1 x2 x4 1 128 rfl inb_S512x1024_S512x128_0_128 _ (k1 _ _), ?_⟩
  refine List.forall_mem_cons.mpr ⟨k_piece x0 x1 x2 x4 0 0 rfl inb_S512x1024_S512x128_0_0 _ (k0 _ _), ?_⟩
  exact fun _ h => absurd h List.not_mem_nil

theorem v_out : (out0_7 (F := Ideal) x0 x1 x2 x3 x4 : S512x1024.Idx → EReal) = vBlock x0 x1 x2 := by
  have hz : (![0, 0] : Fin 2 → ℕ) = fun _ => 0 := by decide
  funext y
  obtain ⟨p, c, rfl⟩ : ∃ (p : Fin 512) (c : Fin 1024), y = ix2 p c := ⟨y 0, y 1, eq_ix2 y⟩
  unfold out0_7
  rw [View.canon_unit_zero hz]
  exact proj2 x0 x1 x2 p c
end

end Cert.Proof.QkvBlock
end
-- ==== Proof.QkvValue.lean ====
/-
  What the queries, keys and values' kernel leaves as its three results, over the extended reals: the blocks' values on
  every row.
-/
module

public import proofs.«01_k».proof.Proof.QkvBlock
public import proofs.«01_k».proof.Proof.Gen.QkvIdeal.Value

@[expose] public section
set_option maxRecDepth 16384

noncomputable section
namespace Cert.Proof.QkvValue
open Idealize.ShloMosaic Idealize.ShloMosaic.TcCoe Cert.QkvIdeal Cert.QkvIdeal.Gen Cert.Proof.QkvBlock
open Cert.Proof.FfnBlock (flat flat_cast)

/-! ## The points' blocks -/

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel

variable (m : (ℓ : Loc nD τ sig) → Buf (Elt Ideal) ℓ) (c : Dev nD)

/-- The arrays. -/
abbrev ax : S8x2048x1024.Idx → EReal := m ((c : Thread nD τ).loc main_arg0)
abbrev an : S1x1024.Idx → EReal := m ((c : Thread nD τ).loc main_arg1)
abbrev aw : S1024x3072.Idx → EReal := m ((c : Thread nD τ).loc main_arg2)
abbrev aq : S1x128.Idx → EReal := m ((c : Thread nD τ).loc main_arg3)
abbrev ak : S1x128.Idx → EReal := m ((c : Thread nD τ).loc main_arg4)

/-! The arrays the call is given: rows of the batch one after the other, and the weights as they are. -/

theorem V0 (r : Fin 16384) (k : Fin 1024) : (V m c main_v0 : S16384x1024.Idx → EReal) (ix2 r k) = flat (ax m c) r k := by
  have e : V m c main_v0 = shapeCast S16384x1024 (m ((c : Thread nD τ).loc main_arg0)) shapeCasts_S8x2048x1024_S16384x1024 := by
    unfold V
    after_results_simp <;> rfl
  rw [e]
  exact flat_cast _ _ r k
theorem V2 : (V m c main_v1 : S1024x3072.Idx → EReal) = aw m c := by
  unfold V
  after_results_simp <;> rfl

/-- Row `p` of point `t`. -/
def rowOf (t : Fin 32) (p : Fin 512) : Fin 16384 := ⟨512 * t.val + p.val, by omega⟩
/-- A point of the call, as a number below 32. -/
def point (t : Fin cfg0.N) : Fin 32 := ⟨t.val, lt_of_lt_of_eq t.isLt (by decide +kernel : grid0.N = 32)⟩

section
variable (t : Fin cfg0.N) (p : Fin 512)

theorem blk0 (k : Fin 1024) : (iblk m c 0 t : S512x1024.Idx → EReal) (ix2 p k) = flat (ax m c) (rowOf (point t) p) k := by
  refine Eq.trans ?_ (V0 m c (rowOf (point t) p) k)
  refine congrArg (V m c main_v0 : S16384x1024.Idx → EReal) (funext fun z => Fin.ext ?_)
  refine ((cfg0.win 0).rect_emb_val t (ix2 p k) z).trans ?_
  obtain ⟨e0, e1⟩ := idx0 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + k.val) e1).trans ?_
    show 0 * 1024 + k.val = k.val; omega
theorem blk1 (k : Fin 1) (j : Fin 1024) : (iblk m c 1 t : S1x1024.Idx → EReal) (ix2 k j) = an m c (ix2 k j) := by
  refine Eq.trans ?_ (congrFun (V_main_arg1 m c) (ix2 k j))
  refine congrArg (V m c main_arg1 : S1x1024.Idx → EReal) (funext fun z => Fin.ext ?_)
  refine ((cfg0.win 1).rect_emb_val t (ix2 k j) z).trans ?_
  obtain ⟨e0, e1⟩ := idx1 t
  match z with
  | ⟨0, _⟩ =>
    refine (congrArg (fun i : ℕ => i * 1 + k.val) e0).trans ?_
    show 0 * 1 + k.val = k.val; omega
  | ⟨1, _⟩ =>
    refine (congrArg (fun i : ℕ => i * 1024 + j.val) e1).trans ?_
    show 0 * 1024 + j.val = j.val; omega
theorem blk2 (k : Fin 1024) (j : Fin 3072) : (iblk m c 2 t : S1024x3072.Idx → EReal) (ix2 k j) = aw m c (ix2 k j) := by
  refine Eq.trans ?_ (congrFun (V2 m c) (ix2 k j))
  refine congrArg (V m c main_v1 : S1024x3072.Idx → EReal) (funext fun z => Fin.ext ?_)
  refine ((cfg0.win 2).rect_emb_val t (ix2 k j) z).trans ?_
  obtain ⟨e0, e1⟩ := idx2 t
  match z with
  | ⟨0, _⟩ =>
    refine (congrArg (fun i : ℕ => i * 1024 + k.val) e0).trans ?_
    show 0 * 1024 + k.val = k.val; omega
  | ⟨1, _⟩ =>
    refine (congrArg (fun i : ℕ => i * 3072 + j.val) e1).trans ?_
    show 0 * 3072 + j.val = j.val; omega
theorem blk3 (k : Fin 1) (j : Fin 128) : (iblk m c 3 t : S1x128.Idx → EReal) (ix2 k j) = aq m c (ix2 k j) := by
  refine Eq.trans ?_ (congrFun (V_main_arg3 m c) (ix2 k j))
  refine congrArg (V m c main_arg3 : S1x128.Idx → EReal) (funext fun z => Fin.ext ?_)
  refine ((cfg0.win 3).rect_emb_val t (ix2 k j) z).trans ?_
  obtain ⟨e0, e1⟩ := idx3 t
  match z with
  | ⟨0, _⟩ =>
    refine (congrArg (fun i : ℕ => i * 1 + k.val) e0).trans ?_
    show 0 * 1 + k.val = k.val; omega
  | ⟨1, _⟩ =>
    refine (congrArg (fun i : ℕ => i * 128 + j.val) e1).trans ?_
    show 0 * 128 + j.val = j.val; omega
theorem blk4 (k : Fin 1) (j : Fin 128) : (iblk m c 4 t : S1x128.Idx → EReal) (ix2 k j) = ak m c (ix2 k j) := by
  refine Eq.trans ?_ (congrFun (V_main_arg4 m c) (ix2 k j))
  refine congrArg (V m c main_arg4 : S1x128.Idx → EReal) (funext fun z => Fin.ext ?_)
  refine ((cfg0.win 4).rect_emb_val t (ix2 k j) z).trans ?_
  obtain ⟨e0, e1⟩ := idx4 t
  match z with
  | ⟨0, _⟩ =>
    refine (congrArg (fun i : ℕ => i * 1 + k.val) e0).trans ?_
    show 0 * 1 + k.val = k.val; omega
  | ⟨1, _⟩ =>
    refine (congrArg (fun i : ℕ => i * 128 + j.val) e1).trans ?_
    show 0 * 128 + j.val = j.val; omega

theorem place5 (j : Fin 1024) : (((cfg0.win 5).blk t).view.emb (ix2 p j) : S16384x1024.Idx) = ix2 (rowOf (point t) p) j := by
  refine funext fun z => Fin.ext ?_
  refine ((cfg0.win 5).rect_emb_val t (ix2 p j) z).trans ?_
  obtain ⟨e0, e1⟩ := idx5 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + j.val) e1).trans ?_
    show 0 * 1024 + j.val = j.val; omega
theorem place6 (j : Fin 1024) : (((cfg0.win 6).blk t).view.emb (ix2 p j) : S16384x1024.Idx) = ix2 (rowOf (point t) p) j := by
  refine funext fun z => Fin.ext ?_
  refine ((cfg0.win 6).rect_emb_val t (ix2 p j) z).trans ?_
  obtain ⟨e0, e1⟩ := idx6 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + j.val) e1).trans ?_
    show 0 * 1024 + j.val = j.val; omega
theorem place7 (j : Fin 1024) : (((cfg0.win 7).blk t).view.emb (ix2 p j) : S16384x1024.Idx) = ix2 (rowOf (point t) p) j := by
  refine funext fun z => Fin.ext ?_
  refine ((cfg0.win 7).rect_emb_val t (ix2 p j) z).trans ?_
  obtain ⟨e0, e1⟩ := idx7 t
  match z with
  | ⟨0, _⟩ =>
    refine (congrArg (fun i : ℕ => i * 512 + p.val) e0).trans ?_
    show t.val * 512 + p.val = 512 * t.val + p.val; omega
  | ⟨1, _⟩ =>
    refine (congrArg (fun i : ℕ => i * 1024 + j.val) e1).trans ?_
    show 0 * 1024 + j.val = j.val; omega
end

/-! ## The results -/

section
variable (x : S8x2048x1024.Idx → EReal) (n : S1x1024.Idx → EReal) (w : S1024x3072.Idx → EReal) (g : S1x128.Idx → EReal)

/-- A part's projection of a row of the batch. -/
abbrev rowOfPart (r : Fin 16384) (s : Fin 3) : Fin 1024 → EReal := proj (flat x r) (fun k => n (ix2 0 k)) (fun k j => w (ix2 k j)) s

/-- The queries, the keys and the values of every row. -/
def queries : S16384x1024.Idx → EReal := fun i => heads (rowOfPart x n w (i 0) 0) (fun u => g (ix2 0 u)) (i 1) * scale
def keys : S16384x1024.Idx → EReal := fun i => heads (rowOfPart x n w (i 0) 1) (fun u => g (ix2 0 u)) (i 1)
def values : S16384x1024.Idx → EReal := fun i => rowOfPart x n w (i 0) 2 (i 1)
end

theorem row_at (t : Fin cfg0.N) (p : Fin 512) (s : Fin 3) :
    rowProj (iblk m c 0 t) (iblk m c 1 t) (iblk m c 2 t) p s = rowOfPart (ax m c) (an m c) (aw m c) (rowOf (point t) p) s :=
  congr (congr (congr (congrArg proj (funext (blk0 m c t p))) (funext (blk1 m c t 0))) (funext fun k => funext (blk2 m c t k))) rfl

theorem q_at (t : Fin cfg0.N) (p : Fin 512) (j : Fin 1024) :
    qBlock (iblk m c 0 t) (iblk m c 1 t) (iblk m c 2 t) (iblk m c 3 t) (ix2 p j) = queries (ax m c) (an m c) (aw m c) (aq m c) (ix2 (rowOf (point t) p) j) :=
  congrArg (fun y : EReal => y * scale) (congrArg₂ (fun a b => heads a b j) (row_at m c t p 0) (funext (blk3 m c t 0)))
theorem k_at (t : Fin cfg0.N) (p : Fin 512) (j : Fin 1024) :
    kBlock (iblk m c 0 t) (iblk m c 1 t) (iblk m c 2 t) (iblk m c 4 t) (ix2 p j) = keys (ax m c) (an m c) (aw m c) (ak m c) (ix2 (rowOf (point t) p) j) :=
  congrArg₂ (fun a b => heads a b j) (row_at m c t p 1) (funext (blk4 m c t 0))
theorem v_at (t : Fin cfg0.N) (p : Fin 512) (j : Fin 1024) :
    vBlock (iblk m c 0 t) (iblk m c 1 t) (iblk m c 2 t) (ix2 p j) = values (ax m c) (an m c) (aw m c) (ix2 (rowOf (point t) p) j) :=
  congrFun (row_at m c t p 2) j

/-- What the kernel leaves as the queries. -/
theorem final5 : ((dats m 0 c).arrAt 5 cfg0.N : S16384x1024.Idx → EReal) = queries (ax m c) (an m c) (aw m c) (aq m c) := by
  refine (dats m 0 c).arrAt_eq_of_cover 5 (queries (ax m c) (an m c) (aw m c) (aq m c)) (fun t _ => ?_) (fun i => ?_)
  · refine (Cert.QkvIdeal.Value.flushed5 m c t).trans ?_
    funext y
    obtain ⟨p, j, rfl⟩ : ∃ (p : Fin 512) (j : Fin 1024), y = ix2 p j := ⟨y 0, y 1, eq_ix2 y⟩
    refine (congrFun (q_out (iblk m c 0 t) (iblk m c 1 t) (iblk m c 2 t) (iblk m c 3 t) (iblk m c 4 t)) (ix2 p j)).trans ?_
    exact (q_at m c t p j).trans (congrArg (queries (ax m c) (an m c) (aw m c) (aq m c)) (place5 t p j)).symm
  · have h0 : (i 0).val < 16384 := (i 0).isLt
    refine ⟨⟨(i 0).val / 512, lt_of_lt_of_eq (by omega : (i 0).val / 512 < 32) (by decide +kernel : 32 = grid0.N)⟩, flush0_5 _, ?_⟩
    refine Finset.mem_map.mpr ⟨ix2 (⟨(i 0).val % 512, by omega⟩ : Fin 512) (i 1), Finset.mem_univ _, ?_⟩
    refine (place5 _ _ _).trans ?_
    refine (funext fun z => ?_)
    match z with
    | ⟨0, _⟩ => exact Fin.ext (Nat.div_add_mod (i 0).val 512)
    | ⟨1, _⟩ => rfl

/-- What the kernel leaves as the keys. -/
theorem final6 : ((dats m 0 c).arrAt 6 cfg0.N : S16384x1024.Idx → EReal) = keys (ax m c) (an m c) (aw m c) (ak m c) := by
  refine (dats m 0 c).arrAt_eq_of_cover 6 (keys (ax m c) (an m c) (aw m c) (ak m c)) (fun t _ => ?_) (fun i => ?_)
  · refine (Cert.QkvIdeal.Value.flushed6 m c t).trans ?_
    funext y
    obtain ⟨p, j, rfl⟩ : ∃ (p : Fin 512) (j : Fin 1024), y = ix2 p j := ⟨y 0, y 1, eq_ix2 y⟩
    refine (congrFun (k_out (iblk m c 0 t) (iblk m c 1 t) (iblk m c 2 t) (iblk m c 3 t) (iblk m c 4 t)) (ix2 p j)).trans ?_
    exact (k_at m c t p j).trans (congrArg (keys (ax m c) (an m c) (aw m c) (ak m c)) (place6 t p j)).symm
  · have h0 : (i 0).val < 16384 := (i 0).isLt
    refine ⟨⟨(i 0).val / 512, lt_of_lt_of_eq (by omega : (i 0).val / 512 < 32) (by decide +kernel : 32 = grid0.N)⟩, flush0_6 _, ?_⟩
    refine Finset.mem_map.mpr ⟨ix2 (⟨(i 0).val % 512, by omega⟩ : Fin 512) (i 1), Finset.mem_univ _, ?_⟩
    refine (place6 _ _ _).trans ?_
    refine (funext fun z => ?_)
    match z with
    | ⟨0, _⟩ => exact Fin.ext (Nat.div_add_mod (i 0).val 512)
    | ⟨1, _⟩ => rfl

/-- What the kernel leaves as the values. -/
theorem final7 : ((dats m 0 c).arrAt 7 cfg0.N : S16384x1024.Idx → EReal) = values (ax m c) (an m c) (aw m c) := by
  refine (dats m 0 c).arrAt_eq_of_cover 7 (values (ax m c) (an m c) (aw m c)) (fun t _ => ?_) (fun i => ?_)
  · refine (Cert.QkvIdeal.Value.flushed7 m c t).trans ?_
    funext y
    obtain ⟨p, j, rfl⟩ : ∃ (p : Fin 512) (j : Fin 1024), y = ix2 p j := ⟨y 0, y 1, eq_ix2 y⟩
    refine (congrFun (v_out (iblk m c 0 t) (iblk m c 1 t) (iblk m c 2 t) (iblk m c 3 t) (iblk m c 4 t)) (ix2 p j)).trans ?_
    exact (v_at m c t p j).trans (congrArg (values (ax m c) (an m c) (aw m c)) (place7 t p j)).symm
  · have h0 : (i 0).val < 16384 := (i 0).isLt
    refine ⟨⟨(i 0).val / 512, lt_of_lt_of_eq (by omega : (i 0).val / 512 < 32) (by decide +kernel : 32 = grid0.N)⟩, flush0_7 _, ?_⟩
    refine Finset.mem_map.mpr ⟨ix2 (⟨(i 0).val % 512, by omega⟩ : Fin 512) (i 1), Finset.mem_univ _, ?_⟩
    refine (place7 _ _ _).trans ?_
    refine (funext fun z => ?_)
    match z with
    | ⟨0, _⟩ => exact Fin.ext (Nat.div_add_mod (i 0).val 512)
    | ⟨1, _⟩ => rfl

end Cert.Proof.QkvValue
end
-- ==== Proof.QkvRef.lean ====
/-
  The reference of the queries, keys and values at an index: its one formula over the whole batch is the blocks' values
  on each row.
-/
module

public import proofs.«01_k».proof.Proof.Gen.QkvRefIdeal.Run
public import proofs.«01_k».proof.Proof.QkvBlock

@[expose] public section
set_option maxRecDepth 16384

noncomputable section
namespace Cert.Proof.QkvRef
open Idealize.ShloMosaic Cert.QkvRefIdeal Cert.QkvRefIdeal.Gen Cert.Proof.QkvBlock
open Cert.Proof.FfnBlock (normed flat flat_cast)

/-! ## The parts, at any arrays -/

/-- The batch's norm, times the gain. -/
def normedA (x : FVec Ideal S8x2048x1024 .f32) (n : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ n shapeCasts_S1x1024_S1024 : FVec Ideal S1024 .f32)))

/-- The rows against the three parts of the matrix. -/
def allA (h : FVec Ideal S8x2048x1024 .f32) (w : FVec Ideal S1024x3072 .f32) : FVec Ideal S8x2048x3072 .f32 :=
  Host.dotGeneral dot_S8x2048x1024_S1024x3072_S8x2048x3072_2_0_01_1_n_n none h w

/-- The norm over each head, times the gain. -/
def headsA (t : FVec Ideal S8x2048x8x128 .f32) (g : FVec Ideal S1x128 .f32) : FVec Ideal S8x2048x8x128 .f32 :=
  mulf (mulf t (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf t t) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast _ g shapeCasts_S1x128_S128 : FVec Ideal S128 .f32)))

/-- The scale of the queries, everywhere. -/
def scaledA (t : FVec Ideal S8x2048x8x128 .f32) : FVec Ideal S8x2048x8x128 .f32 :=
  mulf t (broadcastInDim S8x2048x8x128 ![] bcast_S_S8x2048x8x128 (constant S_ .f32 0x3E0293EE#32))

section
variable (b : Fin 8) (s : Fin 2048)

theorem normedA_apply (x : FVec Ideal S8x2048x1024 .f32) (n : FVec Ideal S1x1024 .f32) (k : Fin 1024) :
    normedA x n (ix3 b s k) = normed (fun k => x (ix3 b s k)) (fun k => n (ix2 0 k)) k := by
  unfold normed
  pointwise [normedA]

theorem allA_apply (h : FVec Ideal S8x2048x1024 .f32) (w : FVec Ideal S1024x3072 .f32) (j : Fin 3072) :
    allA h w (ix3 b s j) = ∑ k : Fin 1024, h (ix3 b s k) * w (ix2 k j) := by
  pointwise [allA]

theorem headsA_apply (t : FVec Ideal S8x2048x8x128 .f32) (g : FVec Ideal S1x128 .f32) (h : Fin 8) (j : Fin 128) :
    headsA t g (ix4 b s h j) = headNorm (fun u => t (ix4 b s h u)) (fun u => g (ix2 0 u)) j := by
  unfold headNorm
  pointwise [headsA]

theorem scaledA_apply (t : FVec Ideal S8x2048x8x128 .f32) (h : Fin 8) (j : Fin 128) : scaledA t (ix4 b s h j) = t (ix4 b s h j) * scale := by
  pointwise [scaledA]

/-- A part of the columns. -/
theorem part_apply (y : FVec Ideal S8x2048x3072 .f32) (i : Fin 3) (o : ℕ) (ho : o = 1024 * i.val) (hs : S8x2048x3072.Slices ![0, 0, o] S8x2048x1024) (c : Fin 1024) :
    extractStridedSlice S8x2048x1024 ![0, 0, o] y hs (ix3 b s c) = y (ix3 b s (part i c)) := by
  subst ho
  refine congrArg y (funext fun z => Fin.ext ?_)
  match z with
  | ⟨0, _⟩ => exact Nat.zero_add _
  | ⟨1, _⟩ => exact Nat.zero_add _
  | ⟨2, _⟩ => rfl

/-- The columns of a head, after the split of the columns into heads. -/
theorem split_apply (y : FVec Ideal S8x2048x1024 .f32) (hc : S8x2048x1024.ShapeCasts S8x2048x8x128) (h : Fin 8) (j : Fin 128) :
    (shapeCast S8x2048x8x128 y hc : FVec Ideal S8x2048x8x128 .f32) (ix4 b s h j) = y (ix3 b s (lane h j)) := by
  refine Idealize.ShloMosaic.shapeCast_apply y hc (ix4 b s h j) _ ?_
  rw [rowMajor_val3 _ (2048 * 1024) 1024 rfl rfl, rowMajor_val4 _ (2048 * (8 * 128)) (8 * 128) 128 rfl rfl rfl]
  show b.val * (2048 * 1024) + s.val * 1024 + (128 * h.val + j.val) = b.val * (2048 * (8 * 128)) + s.val * (8 * 128) + h.val * 128 + j.val
  omega
end

/-- The heads joined again, as rows. -/
theorem join_apply (y : FVec Ideal S8x2048x8x128 .f32) (hc : S8x2048x8x128.ShapeCasts S16384x1024) (r : Fin 16384) (c : Fin 1024) :
    (shapeCast S16384x1024 y hc : FVec Ideal S16384x1024 .f32) (ix2 r c)
      = y (ix4 ⟨r.val / 2048, by omega⟩ ⟨r.val % 2048, by omega⟩ ⟨c.val / 128, by omega⟩ ⟨c.val % 128, by omega⟩) := by
  refine Idealize.ShloMosaic.shapeCast_apply y hc (ix2 r c) _ ?_
  rw [rowMajor_val2 _ 1024 rfl, rowMajor_val4 _ (2048 * (8 * 128)) (8 * 128) 128 rfl rfl rfl]
  show r.val / 2048 * (2048 * (8 * 128)) + r.val % 2048 * (8 * 128) + c.val / 128 * 128 + c.val % 128 = r.val * 1024 + c.val
  omega

/-! ## The reference's arrays -/

section
variable (x : FVec Ideal S8x2048x1024 .f32) (n : FVec Ideal S1x1024 .f32) (w : FVec Ideal S1024x3072 .f32) (g : FVec Ideal S1x128 .f32)
  (r : Fin 16384) (c : Fin 1024)

/-- A part's projection of a row of the batch. -/
abbrev rowOfPart (s : Fin 3) : Fin 1024 → EReal := proj (flat x r) (fun k => n (ix2 0 k)) (fun k j => w (ix2 k j)) s

/-- A part of the projections of the batch. -/
def partA (o : ℕ) (hs : S8x2048x3072.Slices ![0, 0, o] S8x2048x1024) : FVec Ideal S8x2048x1024 .f32 :=
  extractStridedSlice S8x2048x1024 ![0, 0, o] (allA (normedA x n) w) hs

theorem partA_apply (i : Fin 3) (o : ℕ) (ho : o = 1024 * i.val) (hs : S8x2048x3072.Slices ![0, 0, o] S8x2048x1024) :
    partA x n w o hs (ix3 (⟨r.val / 2048, by omega⟩ : Fin 8) (⟨r.val % 2048, by omega⟩ : Fin 2048) c) = rowOfPart x n w r i c :=
  (part_apply _ _ _ i o ho hs c).trans ((allA_apply _ _ _ w _).trans
    (Finset.sum_congr rfl fun k _ => congrArg (fun y : EReal => y * w (ix2 k (part i c))) (normedA_apply _ _ x n k)))

/-- The norm over the heads of a part, at a row and a column. -/
theorem heads_at (i : Fin 3) (o : ℕ) (ho : o = 1024 * i.val) (hs : S8x2048x3072.Slices ![0, 0, o] S8x2048x1024) (hc : S8x2048x1024.ShapeCasts S8x2048x8x128) :
    headsA (shapeCast S8x2048x8x128 (partA x n w o hs) hc) g
        (ix4 (⟨r.val / 2048, by omega⟩ : Fin 8) (⟨r.val % 2048, by omega⟩ : Fin 2048) (⟨c.val / 128, by omega⟩ : Fin 8) (⟨c.val % 128, by omega⟩ : Fin 128))
      = heads (rowOfPart x n w r i) (fun u => g (ix2 0 u)) c :=
  (headsA_apply _ _ _ g _ _).trans (congrArg (fun a => headNorm a (fun u => g (ix2 0 u)) _)
    (funext fun u => (split_apply _ _ _ hc _ u).trans (partA_apply x n w r _ i o ho hs)))

theorem queries (hs : S8x2048x3072.Slices ![0, 0, 0] S8x2048x1024) (hc : S8x2048x1024.ShapeCasts S8x2048x8x128) (hd : S8x2048x8x128.ShapeCasts S16384x1024) :
    (shapeCast S16384x1024 (scaledA (headsA (shapeCast S8x2048x8x128 (partA x n w 0 hs) hc) g)) hd : FVec Ideal S16384x1024 .f32) (ix2 r c)
      = heads (rowOfPart x n w r 0) (fun u => g (ix2 0 u)) c * scale :=
  (join_apply _ hd r c).trans ((scaledA_apply _ _ _ _ _).trans (congrArg (fun y : EReal => y * scale) (heads_at x n w g r c 0 0 rfl hs hc)))

theorem keys (hs : S8x2048x3072.Slices ![0, 0, 1024] S8x2048x1024) (hc : S8x2048x1024.ShapeCasts S8x2048x8x128) (hd : S8x2048x8x128.ShapeCasts S16384x1024) :
    (shapeCast S16384x1024 (headsA (shapeCast S8x2048x8x128 (partA x n w 1024 hs) hc) g) hd : FVec Ideal S16384x1024 .f32) (ix2 r c)
      = heads (rowOfPart x n w r 1) (fun u => g (ix2 0 u)) c :=
  (join_apply _ hd r c).trans (heads_at x n w g r c 1 1024 rfl hs hc)

theorem values (hs : S8x2048x3072.Slices ![0, 0, 2048] S8x2048x1024) (hd : S8x2048x1024.ShapeCasts S16384x1024) :
    (shapeCast S16384x1024 (partA x n w 2048 hs) hd : FVec Ideal S16384x1024 .f32) (ix2 r c) = rowOfPart x n w r 2 c :=
  (flat_cast _ hd r c).trans (partA_apply x n w r c 2 2048 rfl hs)
end

end Cert.Proof.QkvRef
end
-- ==== Proof.QkvJoin.lean ====
/-
  The queries', keys' and values' arrays of the kernel are its reference's; and the reference's frame.
-/
module

public import proofs.«01_k».proof.Defs
public import proofs.«01_k».proof.Proof.Gen.Qkv
public import proofs.«01_k».proof.Proof.QkvValue
public import proofs.«01_k».proof.Proof.QkvRef
public import Idealize.ShloMosaic.Lib.Quiescent

@[expose] public section
set_option maxRecDepth 16384

noncomputable section
namespace Cert.Proof.QkvJoin
open Idealize.ShloMosaic Idealize.ShloMosaic.TcCoe Idealize.SL.Sem

/-- The reference declares no semaphore: its run is its frame. -/
theorem reference_frame : Cert.quiescent_QkvRefIdeal := fun m g _ =>
  (θ_run Cert.QkvRefIdeal.defs _ _).mono
    (fun r h => And.intro (fun c => (h c).2.2.2) (sem_eq_zero_of_no_sems (by decide) r.2)) (Cert.QkvRefIdeal.Value.run m g)

/-- Two arrays of rows are one when they are at each row and column. -/
theorem ext_rows {a b : Cert.QkvIdeal.S16384x1024.Idx → EReal} (h : ∀ (r : Fin 16384) (j : Fin 1024), a (ix2 r j) = b (ix2 r j)) : a = b :=
  funext fun i => (congrArg a (eq_ix2 i)).trans ((h (i 0) (i 1)).trans (congrArg b (eq_ix2 i)).symm)

section
variable (m : (ℓ : Loc Cert.QkvRefIdeal.nD Cert.QkvRefIdeal.τ Cert.QkvRefIdeal.sig) → Buf (Elt Ideal) ℓ) (c : Dev Cert.QkvRefIdeal.nD)

/-- The reference's arrays. -/
abbrev rx : Cert.QkvRefIdeal.S8x2048x1024.Idx → EReal := m ((c.tc : Thread Cert.QkvRefIdeal.nD Cert.QkvRefIdeal.τ).loc Cert.QkvRefIdeal.main_arg0)
abbrev rn : Cert.QkvRefIdeal.S1x1024.Idx → EReal := m ((c.tc : Thread Cert.QkvRefIdeal.nD Cert.QkvRefIdeal.τ).loc Cert.QkvRefIdeal.main_arg1)
abbrev rm : Cert.QkvRefIdeal.S1024x3072.Idx → EReal := m ((c.tc : Thread Cert.QkvRefIdeal.nD Cert.QkvRefIdeal.τ).loc Cert.QkvRefIdeal.main_arg2)
abbrev rq : Cert.QkvRefIdeal.S1x128.Idx → EReal := m ((c.tc : Thread Cert.QkvRefIdeal.nD Cert.QkvRefIdeal.τ).loc Cert.QkvRefIdeal.main_arg3)
abbrev rk : Cert.QkvRefIdeal.S1x128.Idx → EReal := m ((c.tc : Thread Cert.QkvRefIdeal.nD Cert.QkvRefIdeal.τ).loc Cert.QkvRefIdeal.main_arg4)
end

theorem algebraic : Cert.algebraic_QkvIdeal_QkvRefIdeal := by
  intro m g m' g' _ ha
  refine ⟨fun c => QkvValue.queries (QkvValue.ax m c) (QkvValue.an m c) (QkvValue.aw m c) (QkvValue.aq m c),
    fun c => QkvValue.keys (QkvValue.ax m c) (QkvValue.an m c) (QkvValue.aw m c) (QkvValue.ak m c),
    fun c => QkvValue.values (QkvValue.ax m c) (QkvValue.an m c) (QkvValue.aw m c), ?_, ?_⟩
  · exact (θ_run Cert.QkvIdeal.defs _ _).mono
      (fun r h c => ⟨(h c).1.trans (QkvValue.final5 m c), (h c).2.1.trans (QkvValue.final6 m c), (h c).2.2.1.trans (QkvValue.final7 m c), (h c).2.2.2⟩)
      (Cert.QkvIdeal.Value.run_blocks m g)
  · refine (θ_run Cert.QkvRefIdeal.defs _ _).mono (fun r h c => ?_) (Cert.QkvRefIdeal.Value.run m' g')
    obtain ⟨g0, g1, g2, g3, g4⟩ := ha c
    have h0 : rx m' c = QkvValue.ax m c := g0
    have h1 : rn m' c = QkvValue.an m c := g1
    have h2 : rm m' c = QkvValue.aw m c := g2
    have h3 : rq m' c = QkvValue.aq m c := g3
    have h4 : rk m' c = QkvValue.ak m c := g4
    obtain ⟨e0, e1, e2, rest⟩ := h c
    refine ⟨e0.trans (ext_rows fun r j => (QkvRef.queries (rx m' c) (rn m' c) (rm m' c) (rq m' c) r j
        Cert.QkvRefIdeal.Gen.slices_S8x2048x3072_S8x2048x1024_0_0_0 Cert.QkvRefIdeal.Gen.shapeCasts_S8x2048x1024_S8x2048x8x128 Cert.QkvRefIdeal.Gen.shapeCasts_S8x2048x8x128_S16384x1024).trans ?_),
      e1.trans (ext_rows fun r j => (QkvRef.keys (rx m' c) (rn m' c) (rm m' c) (rk m' c) r j
        Cert.QkvRefIdeal.Gen.slices_S8x2048x3072_S8x2048x1024_0_0_1024 Cert.QkvRefIdeal.Gen.shapeCasts_S8x2048x1024_S8x2048x8x128 Cert.QkvRefIdeal.Gen.shapeCasts_S8x2048x8x128_S16384x1024).trans ?_),
      e2.trans (ext_rows fun r j => (QkvRef.values (rx m' c) (rn m' c) (rm m' c) r j
        Cert.QkvRefIdeal.Gen.slices_S8x2048x3072_S8x2048x1024_0_0_2048 Cert.QkvRefIdeal.Gen.shapeCasts_S8x2048x1024_S16384x1024).trans ?_), rest⟩
    · rw [h0, h1, h2, h3]; rfl
    · rw [h0, h1, h2, h4]; rfl
    · rw [h0, h1, h2]; rfl

end Cert.Proof.QkvJoin
end
-- ==== Proof.InprojPieces.lean ====
/-
  What the projection kernel of the linear attention stores at a point, in each of its three cases, as the printed
  expressions of what the point reads: the first point, the even points after it, and the odd points.
-/
module

public import proofs.«01_k».proof.Proof.Gen.InprojIdeal.Frame
public import proofs.«01_k».proof.Proof.BlockPieces

@[expose] public section
set_option maxRecDepth 16384

noncomputable section
namespace Cert.Proof.InprojPieces
open Idealize.ShloMosaic Idealize.SL.Sem Cert.InprojIdeal Cert.InprojIdeal.Gen
variable {F : FTy → Type} [FloatOps F]

theorem zz : (![0, 0] : Fin 2 → ℕ) = fun _ => 0 := by decide
theorem zzz : (![0, 0, 0] : Fin 3 → ℕ) = fun _ => 0 := by decide

/-! ## The columns of the matrix, and the two halves of the rows' buffer -/

section
variable (w : Vec F S1024x3088 .bf16) (s : Vec F S2x512x1024 .bf16)
abbrev wq : Vec F S1024x512 .bf16 := View.ld w (Rect.unit (s := S1024x3088) ![0, 0] S1024x512.size inb_S1024x3088_S1024x512_0_0)
abbrev wk : Vec F S1024x512 .bf16 := View.ld w (Rect.unit (s := S1024x3088) ![0, 512] S1024x512.size inb_S1024x3088_S1024x512_0_512)
abbrev wv : Vec F S1024x1024 .bf16 := View.ld w (Rect.unit (s := S1024x3088) ![0, 1024] S1024x1024.size inb_S1024x3088_S1024x1024_0_1024)
abbrev wg : Vec F S1024x1024 .bf16 := View.ld w (Rect.unit (s := S1024x3088) ![0, 2048] S1024x1024.size inb_S1024x3088_S1024x1024_0_2048)
abbrev wa : Vec F S1024x16 .bf16 := View.ld w (Rect.unit (s := S1024x3088) ![0, 3072] S1024x16.size inb_S1024x3088_S1024x16_0_3072)
abbrev half0 : Vec F S1x512x1024 .bf16 := View.ld s (Rect.unit (s := S2x512x1024) ![0, 0, 0] S1x512x1024.size inb_S2x512x1024_S1x512x1024_0_0_0)
abbrev half1 : Vec F S1x512x1024 .bf16 := View.ld s (Rect.unit (s := S2x512x1024) ![1, 0, 0] S1x512x1024.size inb_S2x512x1024_S1x512x1024_1_0_0)
end

/-! ## Loads of whole blocks -/

theorem ld_x (x : Vec F S512x1024 .f32) : View.ld x (Rect.unit (s := S512x1024) ![0, 0] ![512, 1024] inb_S512x1024_S512x1024_0_0) = x :=
  View.ld_unit_zero zz _ x
theorem ld_n (x : Vec F S1x1024 .f32) : View.ld x (Rect.unit (s := S1x1024) ![0, 0] ![1, 1024] inb_S1x1024_S1x1024_0_0) = x :=
  View.ld_unit_zero zz _ x
theorem ld_w (x : Vec F S1x1024x3088 .f32) :
    View.ld x (Rect.unit (s := S1x1024x3088) ![0, 0, 0] ![1, 1024, 3088] inb_S1x1024x3088_S1x1024x3088_0_0_0) = x :=
  View.ld_unit_zero zzz _ x
theorem ld_a (x : Vec F S16x512 .f32) : View.ld x (Rect.unit (s := S16x512) ![0, 0] ![16, 512] inb_S16x512_S16x512_0_0) = x :=
  View.ld_unit_zero zz _ x
theorem ld_b (x : Vec F S1x512 .f32) : View.ld x (Rect.unit (s := S1x512) ![0, 0] ![1, 512] inb_S1x512_S1x512_0_0) = x :=
  View.ld_unit_zero zz _ x

/-- A load of what a store of the whole matrix left. -/
theorem readCov_w (v : View sig .tc .vmem S1024x3088 .bf16) (w : Vec F S1024x3088 .bf16) (r : Rect S1024x3088) :
    v.readCov [(⟨Rect.unit (s := S1024x3088) ![0, 0] S1024x3088.size inb_S1024x3088_S1024x3088_0_0, w⟩ : View.Piece (Elt F) S1024x3088 .bf16)]
      r.toLoadRect = View.ld w r := by
  rw [View.readCov_eq_canon', View.canon_unit_zero zz]

/-! ## The first point -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024x3088 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S1024x3088 .bf16) (harg12 : arg12.IsWhole) (arg13 : Memref sig .tc .vmem S2x512x1024 .bf16) (harg13 : arg13.IsWhole) (hc0 : cond0_0 i) (hc1 : cond0_1 i) (hc2 : ¬cond0_2 i)
    (x0 : Vec F S512x1024 .f32) (x1 : Vec F S512x1024 .f32) (x2 : Vec F S1x1024 .f32) (x3 : Vec F S1x1024x3088 .f32) (x4 : Vec F S16x512 .f32) (x5 : Vec F S1x512 .f32)
theorem outA6 : out0_A_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay8 (k0_pay3 (k0_pay2 x1 x2)) (wq (k0_pay1 x3)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz, View.readCov_cons_toLoadRect, readCov_w]
  simp only [ld_x, ld_n, ld_w, ld_a, ld_b]
theorem outA7 : out0_A_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay9 (k0_pay3 (k0_pay2 x1 x2)) (wk (k0_pay1 x3)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz, View.readCov_cons_toLoadRect, readCov_w]
  simp only [ld_x, ld_n, ld_w, ld_a, ld_b]
theorem outA8 : out0_A_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay10 (k0_pay3 (k0_pay2 x1 x2)) (wv (k0_pay1 x3)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz, View.readCov_cons_toLoadRect, readCov_w]
  simp only [ld_x, ld_n, ld_w, ld_a, ld_b]
theorem outA9 : out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay11 (k0_pay3 (k0_pay2 x1 x2)) (wg (k0_pay1 x3)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz, View.readCov_cons_toLoadRect, readCov_w]
  simp only [ld_x, ld_n, ld_w, ld_a, ld_b]
theorem outA10 : out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay7 (k0_pay5 (k0_pay2 x1 x2) (wa (k0_pay1 x3)) x4) (k0_pay6 x5) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz, View.readCov_cons_toLoadRect, readCov_w]
  simp only [ld_x, ld_n, ld_w, ld_a, ld_b]
theorem soutA0 : sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = k0_pay1 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
  simp only [ld_w]
theorem soutA1 : sout0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 = View.canon [⟨Rect.unit (s := S2x512x1024) ![1, 0, 0] S1x512x1024.size inb_S2x512x1024_S1x512x1024_1_0_0, k0_pay4 x0 x2⟩, ⟨Rect.unit (s := S2x512x1024) ![0, 0, 0] S1x512x1024.size inb_S2x512x1024_S1x512x1024_0_0_0, k0_pay2 x1 x2⟩] := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5)]
  unfold kernelRun0_A
  dsimp only
  sl_unfold_words
  simp only [View.readAt_eq_ld, harg1.read_unread, harg2.read_unread, harg3.read_unread, harg4.read_unread, harg5.read_unread, harg6.read_unread, harg12.read_unread, harg13.read_unread]
  simp only [ld_x, ld_n]
end

/-! ## An even point after the first -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024x3088 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S1024x3088 .bf16) (harg12 : arg12.IsWhole) (arg13 : Memref sig .tc .vmem S2x512x1024 .bf16) (harg13 : arg13.IsWhole) (hc0 : ¬cond0_0 i) (hc1 : cond0_1 i) (hc2 : ¬cond0_2 i)
    (x0 : Vec F S512x1024 .f32) (x1 : Vec F S512x1024 .f32) (x2 : Vec F S1x1024 .f32) (x3 : Vec F S1x1024x3088 .f32) (x4 : Vec F S16x512 .f32) (x5 : Vec F S1x512 .f32) (xs0 : Vec F S1024x3088 .bf16) (xs1 : Vec F S2x512x1024 .bf16)
theorem outC6 : out0_C_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay8 (k0_pay3 (half0 xs1)) (wq xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_C
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outC7 : out0_C_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay9 (k0_pay3 (half0 xs1)) (wk xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_C
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outC8 : out0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay10 (k0_pay3 (half0 xs1)) (wv xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_C
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outC9 : out0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay11 (k0_pay3 (half0 xs1)) (wg xs0) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_C
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outC10 : out0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay7 (k0_pay5 (half0 xs1) (wa xs0) x4) (k0_pay6 x5) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_C
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
  simp only [ld_x, ld_n, ld_w, ld_a, ld_b]
theorem soutC1 : sout0_C_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = arg13.view.read (Elt F) (arg13.view.writes (Elt F) (harg13.unread xs1) [⟨Rect.unit (s := S2x512x1024) ![1, 0, 0] S1x512x1024.size inb_S2x512x1024_S1x512x1024_1_0_0, k0_pay4 x0 x2⟩]) := by
  unfold sout0_C_1 kernelRun0_C
  dsimp only
  sl_unfold_words
  simp only [View.readAt_eq_ld, harg1.read_unread, harg2.read_unread, harg3.read_unread, harg4.read_unread, harg5.read_unread, harg6.read_unread, harg12.read_unread, harg13.read_unread]
  simp only [ld_x, ld_n]
end

/-! ## An odd point -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024x3088 .f32) (harg4 : arg4.IsWhole) (arg5 : Memref sig .tc .vmem S16x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x512 .f32) (harg11 : arg11.IsWhole) (arg12 : Memref sig .tc .vmem S1024x3088 .bf16) (harg12 : arg12.IsWhole) (arg13 : Memref sig .tc .vmem S2x512x1024 .bf16) (harg13 : arg13.IsWhole) (hc0 : ¬cond0_0 i) (hc1 : ¬cond0_1 i) (hc2 : cond0_2 i)
    (x0 : Vec F S512x1024 .f32) (x1 : Vec F S512x1024 .f32) (x2 : Vec F S1x1024 .f32) (x3 : Vec F S1x1024x3088 .f32) (x4 : Vec F S16x512 .f32) (x5 : Vec F S1x512 .f32) (xs0 : Vec F S1024x3088 .bf16) (xs1 : Vec F S2x512x1024 .bf16)
theorem outB6 : out0_B_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay17 (k0_pay12 (half1 xs1)) (wq xs0) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outB7 : out0_B_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay18 (k0_pay12 (half1 xs1)) (wk xs0) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outB8 : out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay19 (k0_pay12 (half1 xs1)) (wv xs0) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outB9 : out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay20 (k0_pay12 (half1 xs1)) (wg xs0) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
theorem outB10 : out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = k0_pay16 (k0_pay14 (half1 xs1) (wa xs0) x4) (k0_pay15 x5) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1)]
  unfold kernelRun0_B
  dsimp only
  sl_unfold_words
  simp only [View.readAt_eq_ld, harg1.read_unread, harg2.read_unread, harg3.read_unread, harg4.read_unread, harg5.read_unread, harg6.read_unread, harg12.read_unread, harg13.read_unread]
  rw [View.canon_unit_zero zz]
  simp only [ld_x, ld_n, ld_w, ld_a, ld_b]
theorem soutB1 : sout0_B_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 xs0 xs1 = arg13.view.read (Elt F) (arg13.view.writes (Elt F) (harg13.unread xs1) [⟨Rect.unit (s := S2x512x1024) ![0, 0, 0] S1x512x1024.size inb_S2x512x1024_S1x512x1024_0_0_0, k0_pay13 x0 x2⟩]) := by
  unfold sout0_B_1 kernelRun0_B
  dsimp only
  sl_unfold_words
  simp only [View.readAt_eq_ld, harg1.read_unread, harg2.read_unread, harg3.read_unread, harg4.read_unread, harg5.read_unread, harg6.read_unread, harg12.read_unread, harg13.read_unread]
  simp only [ld_x, ld_n]
end

end Cert.Proof.InprojPieces
end
-- ==== Proof.InprojBlock.lean ====
/-
  What the projection kernel of the linear attention computes at a point, index by index over the extended reals: the row's
  norm, its products with the columns of the matrix, and the log decay of the narrow columns' second product.
-/
module

public import proofs.«01_k».proof.Proof.InprojPieces
public import proofs.«01_k».proof.Proof.FfnBlock

@[expose] public section
set_option maxRecDepth 16384

noncomputable section
namespace Cert.Proof.InprojBlock
open Idealize.ShloMosaic Cert.InprojIdeal Cert.InprojIdeal.Gen Cert.Proof.InprojPieces
open Cert.Proof.FfnBlock (normed flat flat_cast)

/-! ## The two texts of a point's work are one -/

theorem same12 : @k0_pay12 = @k0_pay3 := rfl
theorem same13 : @k0_pay13 = @k0_pay4 := rfl
theorem same14 : @k0_pay14 = @k0_pay5 := rfl
theorem same15 : @k0_pay15 = @k0_pay6 := rfl
theorem same16 : @k0_pay16 = @k0_pay7 := rfl
theorem same17 : @k0_pay17 = @k0_pay8 := rfl
theorem same18 : @k0_pay18 = @k0_pay9 := rfl
theorem same19 : @k0_pay19 = @k0_pay10 := rfl
theorem same20 : @k0_pay20 = @k0_pay11 := rfl

/-! ## The rows' norm -/

section
variable (x : Vec Ideal S512x1024 .f32) (n : Vec Ideal S1x1024 .f32) (p : Fin 512)

theorem pay2 (k : Fin 1024) : k0_pay2 (F := Ideal) x n (ix3 0 p k) = normed (fun k => x (ix2 p k)) (fun k => n (ix2 0 k)) k := by
  unfold normed
  pointwise [k0_pay2]
theorem pay4 (k : Fin 1024) : k0_pay4 (F := Ideal) x n (ix3 0 p k) = normed (fun k => x (ix2 p k)) (fun k => n (ix2 0 k)) k := by
  unfold normed
  pointwise [k0_pay4]
theorem pay3 (v : Vec Ideal S1x512x1024 .bf16) (k : Fin 1024) : k0_pay3 (F := Ideal) v (ix2 p k) = v (ix3 0 p k) := by
  pointwise [k0_pay3]
theorem pay1 (w : Vec Ideal S1x1024x3088 .f32) (k : Fin 1024) (j : Fin 3088) : k0_pay1 (F := Ideal) w (ix2 k j) = w (ix3 0 k j) := by
  pointwise [k0_pay1]
end

/-! ## The wide products -/

section
variable (h : FVec Ideal S512x1024 .bf16) (p : Fin 512)
theorem pay8 (w : Vec Ideal S1024x512 .bf16) (c : Fin 512) : k0_pay8 (F := Ideal) h w (ix2 p c) = ∑ k : Fin 1024, h (ix2 p k) * w (ix2 k c) := by
  pointwise [k0_pay8]
theorem pay9 (w : Vec Ideal S1024x512 .bf16) (c : Fin 512) : k0_pay9 (F := Ideal) h w (ix2 p c) = ∑ k : Fin 1024, h (ix2 p k) * w (ix2 k c) := by
  pointwise [k0_pay9]
theorem pay10 (w : Vec Ideal S1024x1024 .bf16) (c : Fin 1024) : k0_pay10 (F := Ideal) h w (ix2 p c) = ∑ k : Fin 1024, h (ix2 p k) * w (ix2 k c) := by
  pointwise [k0_pay10]
theorem pay11 (w : Vec Ideal S1024x1024 .bf16) (c : Fin 1024) : k0_pay11 (F := Ideal) h w (ix2 p c) = ∑ k : Fin 1024, h (ix2 p k) * w (ix2 k c) := by
  pointwise [k0_pay11]
end

/-! ## The log decay -/

/-- The smaller of `z` and nothing, less the log of one plus the exponential of minus `z`'s size; a sixteenth of it. -/
def logDecay (z : EReal) : EReal :=
  Ideal.div (min z 0 - Ideal.log (1 + Ideal.exp (0 - max z (-z)))) (Ideal.ofBits .f32 0x41800000#32)

/-- The product of sixteen numbers with a column, of each number's two pieces: what remains of a number after its first
piece is taken off is its second. -/
def splitSum (a w : Fin 16 → EReal) : EReal :=
  ∑ x : Fin 48, (if h : x.val < 16 then a ⟨x.val, h⟩ else if h : x.val - 16 < 16 then a ⟨x.val - 16, h⟩ - a ⟨x.val - 16, h⟩ else a ⟨x.val - 16 - 16, by omega⟩)
    * (if h : x.val < 16 then w ⟨x.val, h⟩ else if h : x.val - 16 < 16 then w ⟨x.val - 16, h⟩ else w ⟨x.val - 16 - 16, by omega⟩ - w ⟨x.val - 16 - 16, by omega⟩)

theorem pay7 (z b : FVec Ideal S512x512 .f32) (p c : Fin 512) : k0_pay7 (F := Ideal) z b (ix2 p c) = logDecay (z (ix2 p c) + b (ix2 p c)) := by
  unfold logDecay
  pointwise [k0_pay7]
  rfl
theorem pay6 (b : Vec Ideal S1x512 .f32) (p c : Fin 512) : k0_pay6 (F := Ideal) b (ix2 p c) = b (ix2 0 c) := by
  pointwise [k0_pay6]
theorem pay5 (v : Vec Ideal S1x512x1024 .bf16) (a : Vec Ideal S1024x16 .bf16) (w : Vec Ideal S16x512 .f32) (p c : Fin 512) :
    k0_pay5 (F := Ideal) v a w (ix2 p c) = splitSum (fun r => ∑ k : Fin 1024, k0_pay3 (F := Ideal) v (ix2 p k) * a (ix2 k r)) (fun r => w (ix2 r c)) := by
  unfold splitSum
  pointwise [k0_pay5]

/-! ## Columns of the matrix and halves of the buffer -/

section
variable (w : Vec Ideal S1024x3088 .bf16) (s : Vec Ideal S2x512x1024 .bf16)
/-- Column `c` after `o` columns. -/
abbrev colAt (o : ℕ) {n : ℕ} (h : o + n ≤ 3088) (c : Fin n) : Fin 3088 := ⟨o + c.val, by omega⟩
theorem wq_apply (k : Fin 1024) (c : Fin 512) : wq w (ix2 k c) = w (ix2 k (colAt 0 (by omega) c)) := by
  unfold wq
  pointwise []
  exact congrArg (fun z : Fin 3088 => w (ix2 k z)) (Fin.ext (Nat.zero_add c.val).symm)
theorem wk_apply (k : Fin 1024) (c : Fin 512) : wk w (ix2 k c) = w (ix2 k (colAt 512 (by omega) c)) := by
  unfold wk
  pointwise []
theorem wv_apply (k : Fin 1024) (c : Fin 1024) : wv w (ix2 k c) = w (ix2 k (colAt 1024 (by omega) c)) := by
  unfold wv
  pointwise []
theorem wg_apply (k : Fin 1024) (c : Fin 1024) : wg w (ix2 k c) = w (ix2 k (colAt 2048 (by omega) c)) := by
  unfold wg
  pointwise []
theorem wa_apply (k : Fin 1024) (c : Fin 16) : wa w (ix2 k c) = w (ix2 k (colAt 3072 (by omega) c)) := by
  unfold wa
  pointwise []
theorem half0_apply (p : Fin 512) (k : Fin 1024) : half0 s (ix3 0 p k) = s (ix3 0 p k) := by
  unfold half0
  pointwise []
theorem half1_apply (p : Fin 512) (k : Fin 1024) : half1 s (ix3 0 p k) = s (ix3 1 p k) := by
  unfold half1
  pointwise []
end

/-! ## A point's results, from its rows and the matrix -/

/-- A row `h` against column `j` of the matrix. -/
abbrev against (h : Fin 1024 → EReal) (w : Fin 1024 → Fin 3088 → EReal) (j : Fin 3088) : EReal := ∑ k : Fin 1024, h k * w k j

section
variable (v : Vec Ideal S1x512x1024 .bf16) (w : Vec Ideal S1024x3088 .bf16) (a : Vec Ideal S16x512 .f32) (b : Vec Ideal S1x512 .f32) (p : Fin 512)

theorem q_at (c : Fin 512) : k0_pay8 (F := Ideal) (k0_pay3 v) (wq w) (ix2 p c)
    = against (fun k => v (ix3 0 p k)) (fun k j => w (ix2 k j)) (colAt 0 (by omega) c) :=
  (pay8 _ p _ c).trans (Finset.sum_congr rfl fun k _ => congrArg₂ (fun x y : EReal => x * y) (pay3 p v k) (wq_apply w k c))
theorem k_at (c : Fin 512) : k0_pay9 (F := Ideal) (k0_pay3 v) (wk w) (ix2 p c)
    = against (fun k => v (ix3 0 p k)) (fun k j => w (ix2 k j)) (colAt 512 (by omega) c) :=
  (pay9 _ p _ c).trans (Finset.sum_congr rfl fun k _ => congrArg₂ (fun x y : EReal => x * y) (pay3 p v k) (wk_apply w k c))
theorem v_at (c : Fin 1024) : k0_pay10 (F := Ideal) (k0_pay3 v) (wv w) (ix2 p c)
    = against (fun k => v (ix3 0 p k)) (fun k j => w (ix2 k j)) (colAt 1024 (by omega) c) :=
  (pay10 _ p _ c).trans (Finset.sum_congr rfl fun k _ => congrArg₂ (fun x y : EReal => x * y) (pay3 p v k) (wv_apply w k c))
theorem g_at (c : Fin 1024) : k0_pay11 (F := Ideal) (k0_pay3 v) (wg w) (ix2 p c)
    = against (fun k => v (ix3 0 p k)) (fun k j => w (ix2 k j)) (colAt 2048 (by omega) c) :=
  (pay11 _ p _ c).trans (Finset.sum_congr rfl fun k _ => congrArg₂ (fun x y : EReal => x * y) (pay3 p v k) (wg_apply w k c))
theorem a_at (c : Fin 512) : k0_pay7 (F := Ideal) (k0_pay5 v (wa w) a) (k0_pay6 b) (ix2 p c)
    = logDecay (splitSum (fun r => against (fun k => v (ix3 0 p k)) (fun k j => w (ix2 k j)) (colAt 3072 (by omega) r)) (fun r => a (ix2 r c)) + b (ix2 0 c)) := by
  refine (pay7 _ _ p c).trans (congrArg logDecay (congrArg₂ (fun x y : EReal => x + y) ((pay5 v _ a p c).trans ?_) (pay6 b p c)))
  refine congrArg (fun z => splitSum z (fun r => a (ix2 r c))) (funext fun r => ?_)
  exact Finset.sum_congr rfl fun k _ => congrArg₂ (fun x y : EReal => x * y) (pay3 p v k) (wa_apply w k r)
end

/-! ## The rows' buffer after a point -/

section
variable (s : Vec Ideal S2x512x1024 .bf16) (u u' : Vec Ideal S1x512x1024 .bf16) (p : Fin 512) (k : Fin 1024)

theorem slot_emb (o : ℕ) (h : Fin 2) (ho : o = h.val) (inb : ∀ a, (![o, 0, 0] : Fin 3 → ℕ) a + S1x512x1024.size a ≤ S2x512x1024.size a) :
    (Rect.unit (s := S2x512x1024) ![o, 0, 0] S1x512x1024.size inb).emb (ix3 0 p k) = ix3 h p k := by
  subst ho
  refine funext fun z => Fin.ext ?_
  match z with
  | ⟨0, _⟩ => show h.val + 1 * 0 = h.val; omega
  | ⟨1, _⟩ => show 0 + 1 * p.val = p.val; omega
  | ⟨2, _⟩ => show 0 + 1 * k.val = k.val; omega

theorem first_slot : View.canon [(⟨Rect.unit (s := S2x512x1024) ![1, 0, 0] S1x512x1024.size inb_S2x512x1024_S1x512x1024_1_0_0, u⟩ : View.Piece (Elt Ideal) S2x512x1024 .bf16),
    ⟨Rect.unit (s := S2x512x1024) ![0, 0, 0] S1x512x1024.size inb_S2x512x1024_S1x512x1024_0_0_0, u'⟩] (ix3 1 p k) = u (ix3 0 p k) :=
  (congrArg _ (slot_emb p k 1 1 rfl inb_S2x512x1024_S1x512x1024_1_0_0).symm).trans (View.canon_cons_emb _ _ _ _)

theorem later_slot (o : ℕ) (h : Fin 2) (ho : o = h.val) (inb : ∀ a, (![o, 0, 0] : Fin 3 → ℕ) a + S1x512x1024.size a ≤ S2x512x1024.size a)
    (m : Memref sig .tc .vmem S2x512x1024 .bf16) (f : m.view.ty.Contents (Elt Ideal)) :
    m.view.read (Elt Ideal) (m.view.writes (Elt Ideal) f [(⟨Rect.unit (s := S2x512x1024) ![o, 0, 0] S1x512x1024.size inb, u⟩ : View.Piece (Elt Ideal) S2x512x1024 .bf16)]) (ix3 h p k)
      = u (ix3 0 p k) :=
  (congrArg _ (slot_emb p k o h ho inb).symm).trans (View.read_writes_cons_emb _ _ _ _ _ _)
end

end Cert.Proof.InprojBlock
end
-- ==== Proof.InprojValue.lean ====
/-
  What the projection kernel of the linear attention leaves as its five results, over the extended reals: each point keeps
  the matrix and the next block's rows for the points after it, and computes its own block's results from what the point
  before it left.
-/
module

public import proofs.«01_k».proof.Proof.InprojBlock
public import proofs.«01_k».proof.Proof.Gen.InprojIdeal.Frame
public import Idealize.ShloMosaic.Lib.Pipeline.Value

@[expose] public section
set_option maxRecDepth 16384

noncomputable section
namespace Cert.Proof.InprojValue
open Idealize.ShloMosaic Idealize.ShloMosaic.TcCoe Idealize.SL.Sem Cert.InprojIdeal Cert.InprojIdeal.Gen Cert.Proof.InprojBlock Cert.Proof.InprojPieces
open Cert.Proof.FfnBlock (normed flat flat_cast)

/-! ## The points' blocks -/

theorem idx0 : ∀ t : Fin grid0.N, win0_0.index t (0 : Fin 2) = min (t.val + 1) 31 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 3) = 0 ∧ win0_3.index t (1 : Fin 3) = 0 ∧ win0_3.index t (2 : Fin 3) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel

variable (m : (ℓ : Loc nD τ sig) → Buf (Elt Ideal) ℓ) (c : Dev nD)

/-- The arrays. -/
abbrev ax : S8x2048x1024.Idx → EReal := m ((c : Thread nD τ).loc main_arg0)
abbrev an : S1x1024.Idx → EReal := m ((c : Thread nD τ).loc main_arg1)
abbrev aw : S1x1024x3088.Idx → EReal := m ((c : Thread nD τ).loc main_arg2)
abbrev ag : S1x16x512.Idx → EReal := m ((c : Thread nD τ).loc main_arg3)
abbrev ab : S1x512.Idx → EReal := m ((c : Thread nD τ).loc main_arg4)

/-! The arrays the call is given: rows of the batch one after the other, and the weights as they are. -/

theorem V0 (r : Fin 16384) (k : Fin 1024) : (V m c main_v0 : S16384x1024.Idx → EReal) (ix2 r k) = flat (ax m c) r k := by
  have e : V m c main_v0 = shapeCast S16384x1024 (m ((c : Thread nD τ).loc main_arg0)) shapeCasts_S8x2048x1024_S16384x1024 := by
    unfold V
    after_results_simp <;> rfl
  rw [e]
  exact flat_cast _ _ r k
theorem V1 (r : Fin 16) (j : Fin 512) : (V m c main_v1 : S16x512.Idx → EReal) (ix2 r j) = ag m c (ix3 0 r j) := by
  have e : V m c main_v1 = shapeCast S16x512 (m ((c : Thread nD τ).loc main_arg3)) shapeCasts_S1x16x512_S16x512 := by
    unfold V
    after_results_simp <;> rfl
  rw [e]
  refine Idealize.ShloMosaic.shapeCast_apply (ag m c) _ (ix2 r j) _ ?_
  rw [rowMajor_val3 _ (16 * 512) 512 rfl rfl, rowMajor_val2 _ 512 rfl]
  show 0 * (16 * 512) + r.val * 512 + j.val = r.val * 512 + j.val
  omega

/-- Row `p` of block `t`. -/
def rowOf (t : ℕ) (p : Fin 512) : Fin 16384 := ⟨512 * (t % 32) + p.val, by omega⟩

section
variable (t : Fin cfg0.N) (p : Fin 512)

theorem blk0 (k : Fin 1024) : (iblk m c 0 t : S512x1024.Idx → EReal) (ix2 p k) = flat (ax m c) (rowOf (min (t.val + 1) 31) p) k := by
  refine Eq.trans ?_ (V0 m c (rowOf (min (t.val + 1) 31) p) k)
  refine congrArg (V m c main_v0 : S16384x1024.Idx → EReal) (funext fun z => Fin.ext ?_)
  refine ((cfg0.win 0).rect_emb_val t (ix2 p k) z).trans ?_
  obtain ⟨e0, e1⟩ := idx0 t
  match z with
  | ⟨0, _⟩ =>
    refine (congrArg (fun i : ℕ => i * 512 + p.val) e0).trans ?_
    show min (t.val + 1) 31 * 512 + p.val = 512 * (min (t.val + 1) 31 % 32) + p.val; omega
  | ⟨1, _⟩ =>
    refine (congrArg (fun i : ℕ => i * 1024 + k.val) e1).trans ?_
    show 0 * 1024 + k.val = k.val; omega
theorem blk1 (k : Fin 1024) : (iblk m c 1 t : S512x1024.Idx → EReal) (ix2 p k) = flat (ax m c) (rowOf 0 p) k := by
  refine Eq.trans ?_ (V0 m c (rowOf 0 p) k)
  refine congrArg (V m c main_v0 : S16384x1024.Idx → EReal) (funext fun z => Fin.ext ?_)
  refine ((cfg0.win 1).rect_emb_val t (ix2 p k) z).trans ?_
  obtain ⟨e0, e1⟩ := idx1 t
  match z with
  | ⟨0, _⟩ =>
    refine (congrArg (fun i : ℕ => i * 512 + p.val) e0).trans ?_
    show 0 * 512 + p.val = 512 * (0 % 32) + p.val; omega
  | ⟨1, _⟩ =>
    refine (congrArg (fun i : ℕ => i * 1024 + k.val) e1).trans ?_
    show 0 * 1024 + k.val = k.val; omega
theorem blk2 (k : Fin 1) (j : Fin 1024) : (iblk m c 2 t : S1x1024.Idx → EReal) (ix2 k j) = an m c (ix2 k j) := by
  refine Eq.trans ?_ (congrFun (V_main_arg1 m c) (ix2 k j))
  refine congrArg (V m c main_arg1 : S1x1024.Idx → EReal) (funext fun z => Fin.ext ?_)
  refine ((cfg0.win 2).rect_emb_val t (ix2 k j) z).trans ?_
  obtain ⟨e0, e1⟩ := idx2 t
  match z with
  | ⟨0, _⟩ =>
    refine (congrArg (fun i : ℕ => i * 1 + k.val) e0).trans ?_
    show 0 * 1 + k.val = k.val; omega
  | ⟨1, _⟩ =>
    refine (congrArg (fun i : ℕ => i * 1024 + j.val) e1).trans ?_
    show 0 * 1024 + j.val = j.val; omega
theorem blk3 (k : Fin 1024) (j : Fin 3088) : (iblk m c 3 t : S1x1024x3088.Idx → EReal) (ix3 0 k j) = aw m c (ix3 0 k j) := by
  refine Eq.trans ?_ (congrFun (V_main_arg2 m c) (ix3 0 k j))
  refine congrArg (V m c main_arg2 : S1x1024x3088.Idx → EReal) (funext fun z => Fin.ext ?_)
  refine ((cfg0.win 3).rect_emb_val t (ix3 0 k j) z).trans ?_
  obtain ⟨e0, e1, e2⟩ := idx3 t
  match z with
  | ⟨0, _⟩ =>
    refine (congrArg (fun i : ℕ => i * 1 + 0) e0).trans ?_
    show 0 * 1 + 0 = 0; omega
  | ⟨1, _⟩ =>
    refine (congrArg (fun i : ℕ => i * 1024 + k.val) e1).trans ?_
    show 0 * 1024 + k.val = k.val; omega
  | ⟨2, _⟩ =>
    refine (congrArg (fun i : ℕ => i * 3088 + j.val) e2).trans ?_
    show 0 * 3088 + j.val = j.val; omega
theorem blk4 (k : Fin 16) (j : Fin 512) : (iblk m c 4 t : S16x512.Idx → EReal) (ix2 k j) = ag m c (ix3 0 k j) := by
  refine Eq.trans ?_ (V1 m c k j)
  refine congrArg (V m c main_v1 : S16x512.Idx → EReal) (funext fun z => Fin.ext ?_)
  refine ((cfg0.win 4).rect_emb_val t (ix2 k j) z).trans ?_
  obtain ⟨e0, e1⟩ := idx4 t
  match z with
  | ⟨0, _⟩ =>
    refine (congrArg (fun i : ℕ => i * 16 + k.val) e0).trans ?_
    show 0 * 16 + k.val = k.val; omega
  | ⟨1, _⟩ =>
    refine (congrArg (fun i : ℕ => i * 512 + j.val) e1).trans ?_
    show 0 * 512 + j.val = j.val; omega
theorem blk5 (k : Fin 1) (j : Fin 512) : (iblk m c 5 t : S1x512.Idx → EReal) (ix2 k j) = ab m c (ix2 k j) := by
  refine Eq.trans ?_ (congrFun (V_main_arg4 m c) (ix2 k j))
  refine congrArg (V m c main_arg4 : S1x512.Idx → EReal) (funext fun z => Fin.ext ?_)
  refine ((cfg0.win 5).rect_emb_val t (ix2 k j) z).trans ?_
  obtain ⟨e0, e1⟩ := idx5 t
  match z with
  | ⟨0, _⟩ =>
    refine (congrArg (fun i : ℕ => i * 1 + k.val) e0).trans ?_
    show 0 * 1 + k.val = k.val; omega
  | ⟨1, _⟩ =>
    refine (congrArg (fun i : ℕ => i * 512 + j.val) e1).trans ?_
    show 0 * 512 + j.val = j.val; omega
end

/-! ## The results -/

section
variable (x : S8x2048x1024.Idx → EReal) (n : S1x1024.Idx → EReal) (w : S1x1024x3088.Idx → EReal) (g : S1x16x512.Idx → EReal) (b : S1x512.Idx → EReal)

/-- The norm of a row of the batch. -/
abbrev rowNorm (r : Fin 16384) : Fin 1024 → EReal := normed (flat x r) (fun k => n (ix2 0 k))
/-- It against the columns after the first `o`. -/
abbrev part (o : ℕ) {l : ℕ} (h : o + l ≤ 3088) (r : Fin 16384) (j : Fin l) : EReal :=
  against (rowNorm x n r) (fun k j => w (ix3 0 k j)) (colAt o h j)

/-- The queries, the keys, the values, the gates and the log decays of every row. -/
def queries : S16384x512.Idx → EReal := fun i => part x n w 0 (l := 512) (by decide) (i 0) (i 1)
def keys : S16384x512.Idx → EReal := fun i => part x n w 512 (l := 512) (by decide) (i 0) (i 1)
def values : S16384x1024.Idx → EReal := fun i => part x n w 1024 (l := 1024) (by decide) (i 0) (i 1)
def gates : S16384x1024.Idx → EReal := fun i => part x n w 2048 (l := 1024) (by decide) (i 0) (i 1)
def decays : S16384x512.Idx → EReal := fun i =>
  logDecay (splitSum (part x n w 3072 (by decide) (i 0)) (fun r => g (ix3 0 r (i 1 : Fin 512))) + b (ix2 0 (i 1 : Fin 512)))
end

/-! ## What each point leaves -/

/-- A point's five results, and the two buffers it leaves. -/
abbrev Left : Type := Vec Ideal S512x512 .bf16 × Vec Ideal S512x512 .bf16 × Vec Ideal S512x1024 .bf16 × Vec Ideal S512x1024 .bf16
  × Vec Ideal S512x512 .f32 × Vec Ideal S1024x3088 .bf16 × Vec Ideal S2x512x1024 .bf16

/-- The half of the rows' buffer that block `t` is kept in. -/
def half (t : ℕ) : Fin 2 := ⟨t % 2, by omega⟩

/-- The buffers hold the matrix and the next block's rows. -/
structure Kept (t : ℕ) (s0 : Vec Ideal S1024x3088 .bf16) (s1 : Vec Ideal S2x512x1024 .bf16) : Prop where
  matrix : ∀ (k : Fin 1024) (j : Fin 3088), s0 (ix2 k j) = aw m c (ix3 0 k j)
  next : ∀ (p : Fin 512) (k : Fin 1024), s1 (ix3 (half (t + 1)) p k) = rowNorm (ax m c) (an m c) (rowOf (min (t + 1) 31) p) k

/-- What point `t` leaves: its block's results, and the buffers for the points after it. -/
structure Good (t : ℕ) (o : Left) : Prop where
  q : ∀ p j : Fin 512, o.1 (ix2 p j) = queries (ax m c) (an m c) (aw m c) (ix2 (rowOf t p) j)
  k : ∀ p j : Fin 512, o.2.1 (ix2 p j) = keys (ax m c) (an m c) (aw m c) (ix2 (rowOf t p) j)
  v : ∀ (p : Fin 512) (j : Fin 1024), o.2.2.1 (ix2 p j) = values (ax m c) (an m c) (aw m c) (ix2 (rowOf t p) j)
  g : ∀ (p : Fin 512) (j : Fin 1024), o.2.2.2.1 (ix2 p j) = gates (ax m c) (an m c) (aw m c) (ix2 (rowOf t p) j)
  a : ∀ p j : Fin 512, o.2.2.2.2.1 (ix2 p j) = decays (ax m c) (an m c) (aw m c) (ag m c) (ab m c) (ix2 (rowOf t p) j)
  kept : Kept m c t o.2.2.2.2.2.1 o.2.2.2.2.2.2

/-- The results of a block from its rows and the matrix. -/
theorem good_of (t : Fin cfg0.N) (v : Vec Ideal S1x512x1024 .bf16) (w : Vec Ideal S1024x3088 .bf16) (s0 : Vec Ideal S1024x3088 .bf16) (s1 : Vec Ideal S2x512x1024 .bf16)
    (hv : ∀ (p : Fin 512) (k : Fin 1024), v (ix3 0 p k) = rowNorm (ax m c) (an m c) (rowOf t.val p) k)
    (hw : ∀ (k : Fin 1024) (j : Fin 3088), w (ix2 k j) = aw m c (ix3 0 k j)) (hs : Kept m c t.val s0 s1) :
    Good m c t.val (k0_pay8 (F := Ideal) (k0_pay3 v) (wq w), k0_pay9 (F := Ideal) (k0_pay3 v) (wk w), k0_pay10 (F := Ideal) (k0_pay3 v) (wv w),
      k0_pay11 (F := Ideal) (k0_pay3 v) (wg w), k0_pay7 (F := Ideal) (k0_pay5 v (wa w) (iblk m c 4 t)) (k0_pay6 (iblk m c 5 t)), s0, s1) := by
  have e : ∀ (p : Fin 512) (j : Fin 3088), against (fun k => v (ix3 0 p k)) (fun k j => w (ix2 k j)) j
      = against (rowNorm (ax m c) (an m c) (rowOf t.val p)) (fun k j => aw m c (ix3 0 k j)) j := fun p j =>
    Finset.sum_congr rfl fun k _ => congrArg₂ (fun x y : EReal => x * y) (hv p k) (hw k j)
  refine ⟨fun p j => (q_at v w p j).trans (e p _), fun p j => (k_at v w p j).trans (e p _), fun p j => (v_at v w p j).trans (e p _),
    fun p j => (g_at v w p j).trans (e p _), fun p j => (a_at v w _ _ p j).trans ?_, hs⟩
  exact congrArg logDecay (congrArg₂ (fun x y : EReal => x + y)
    (congrArg₂ splitSum (funext fun r => e p _) (funext fun r => blk4 m c t r j)) (blk5 m c t 0 j))

/-- The rows of the block after point `t`, as the point computes them. -/
theorem next_rows (t : Fin cfg0.N) (p : Fin 512) (k : Fin 1024) :
    k0_pay4 (F := Ideal) (iblk m c 0 t) (iblk m c 2 t) (ix3 0 p k) = rowNorm (ax m c) (an m c) (rowOf (min (t.val + 1) 31) p) k :=
  (pay4 _ _ p k).trans (congrArg₂ (fun a b => normed a b k) (funext fun k => blk0 m c t p k) (funext fun k => blk2 m c t 0 k))
theorem first_rows (t : Fin cfg0.N) (p : Fin 512) (k : Fin 1024) :
    k0_pay2 (F := Ideal) (iblk m c 1 t) (iblk m c 2 t) (ix3 0 p k) = rowNorm (ax m c) (an m c) (rowOf 0 p) k :=
  (pay2 _ _ p k).trans (congrArg₂ (fun a b => normed a b k) (funext fun k => blk1 m c t p k) (funext fun k => blk2 m c t 0 k))
theorem matrix (t : Fin cfg0.N) (k : Fin 1024) (j : Fin 3088) : k0_pay1 (F := Ideal) (iblk m c 3 t) (ix2 k j) = aw m c (ix3 0 k j) :=
  (pay1 _ k j).trans (blk3 m c t k j)

theorem points : cfg0.N = 32 := N_0

theorem good_first (t : Fin cfg0.N) (h : t.val = 0) : Good m c t.val (outsAt0 m c t.val t.isLt) := by
  rw [outsAt0_A m c t (by omega) (by omega) (by omega)]
  simp only [outA6, outA7, outA8, outA9, outA10, soutA0, soutA1]
  refine good_of m c t _ _ _ _ (fun p k => (first_rows m c t p k).trans ?_) (matrix m c t)
    ⟨matrix m c t, fun p k => Eq.trans ?_ (next_rows m c t p k)⟩
  · rw [h]
  · have e : half (t.val + 1) = 1 := Fin.ext (by show (t.val + 1) % 2 = 1; omega)
    rw [e]
    exact first_slot _ _ p k

/-- What a point leaves, from its block's rows and the matrix. -/
abbrev later (t : Fin cfg0.N) (v : Vec Ideal S1x512x1024 .bf16) (w : Vec Ideal S1024x3088 .bf16) (s1 : Vec Ideal S2x512x1024 .bf16) : Left :=
  (k0_pay8 (F := Ideal) (k0_pay3 v) (wq w), k0_pay9 (F := Ideal) (k0_pay3 v) (wk w), k0_pay10 (F := Ideal) (k0_pay3 v) (wv w),
      k0_pay11 (F := Ideal) (k0_pay3 v) (wg w), k0_pay7 (F := Ideal) (k0_pay5 v (wa w) (iblk m c 4 t)) (k0_pay6 (iblk m c 5 t)), w, s1)

theorem outs_even (t : Fin cfg0.N) (h0 : ¬ t.val % 32 = 0) (h1 : t.val % 2 = 0) (h2 : ¬ t.val % 2 = 1) (acc : Left)
    (ha : outsAt0 m c (t.val - 1) (Nat.lt_of_le_of_lt (Nat.sub_le _ _) t.isLt) = acc) :
    outsAt0 m c t.val t.isLt = later m c t (half0 acc.2.2.2.2.2.2) acc.2.2.2.2.2.1
      (scM0_1.view.read (Elt Ideal) (scM0_1.view.writes (Elt Ideal) ((Memref.isWhole_whole _).unread acc.2.2.2.2.2.2)
        [(⟨Rect.unit (s := S2x512x1024) ![1, 0, 0] S1x512x1024.size inb_S2x512x1024_S1x512x1024_1_0_0, k0_pay4 (iblk m c 0 t) (iblk m c 2 t)⟩ : View.Piece (Elt Ideal) S2x512x1024 .bf16)])) := by
  subst ha
  refine (outsAt0_C m c t h0 h1 h2).trans ?_
  exact congr (congrArg Prod.mk (outC6 ..)) (congr (congrArg Prod.mk (outC7 ..)) (congr (congrArg Prod.mk (outC8 ..))
    (congr (congrArg Prod.mk (outC9 ..)) (congr (congrArg Prod.mk (outC10 ..)) (congr (congrArg Prod.mk rfl) (soutC1 ..))))))

theorem outs_odd (t : Fin cfg0.N) (h0 : ¬ t.val % 32 = 0) (h1 : ¬ t.val % 2 = 0) (h2 : t.val % 2 = 1) (acc : Left)
    (ha : outsAt0 m c (t.val - 1) (Nat.lt_of_le_of_lt (Nat.sub_le _ _) t.isLt) = acc) :
    outsAt0 m c t.val t.isLt = later m c t (half1 acc.2.2.2.2.2.2) acc.2.2.2.2.2.1
      (scM0_1.view.read (Elt Ideal) (scM0_1.view.writes (Elt Ideal) ((Memref.isWhole_whole _).unread acc.2.2.2.2.2.2)
        [(⟨Rect.unit (s := S2x512x1024) ![0, 0, 0] S1x512x1024.size inb_S2x512x1024_S1x512x1024_0_0_0, k0_pay4 (iblk m c 0 t) (iblk m c 2 t)⟩ : View.Piece (Elt Ideal) S2x512x1024 .bf16)])) := by
  subst ha
  refine (outsAt0_B m c t h0 h1 h2).trans ?_
  exact congr (congrArg Prod.mk (outB6 ..)) (congr (congrArg Prod.mk (outB7 ..)) (congr (congrArg Prod.mk (outB8 ..))
    (congr (congrArg Prod.mk (outB9 ..)) (congr (congrArg Prod.mk (outB10 ..)) (congr (congrArg Prod.mk rfl) (soutB1 ..))))))

theorem good_even (t : Fin cfg0.N) (h0 : t.val ≠ 0) (h1 : t.val % 2 = 0) (acc : Left)
    (ha : outsAt0 m c (t.val - 1) (Nat.lt_of_le_of_lt (Nat.sub_le _ _) t.isLt) = acc)
    (hk : Kept m c (t.val - 1) acc.2.2.2.2.2.1 acc.2.2.2.2.2.2) : Good m c t.val (outsAt0 m c t.val t.isLt) := by
  have hN := lt_of_lt_of_eq t.isLt points
  refine Eq.mpr (congrArg (Good m c t.val) (outs_even m c t (by omega) h1 (by omega) acc ha)) ?_
  have eh : half (t.val - 1 + 1) = 0 := Fin.ext (by show (t.val - 1 + 1) % 2 = 0; omega)
  have eh' : half (t.val + 1) = 1 := Fin.ext (by show (t.val + 1) % 2 = 1; omega)
  have er : min (t.val - 1 + 1) 31 = t.val := by omega
  have hn := hk.next
  rw [eh, er] at hn
  refine good_of m c t _ _ _ _ (fun p k => (half0_apply _ p k).trans (hn p k)) hk.matrix
    ⟨hk.matrix, fun p k => Eq.trans ?_ (next_rows m c t p k)⟩
  rw [eh']
  exact later_slot _ p k 1 1 rfl _ _ _

theorem good_odd (t : Fin cfg0.N) (h0 : t.val ≠ 0) (h1 : t.val % 2 = 1) (acc : Left)
    (ha : outsAt0 m c (t.val - 1) (Nat.lt_of_le_of_lt (Nat.sub_le _ _) t.isLt) = acc)
    (hk : Kept m c (t.val - 1) acc.2.2.2.2.2.1 acc.2.2.2.2.2.2) : Good m c t.val (outsAt0 m c t.val t.isLt) := by
  have hN := lt_of_lt_of_eq t.isLt points
  refine Eq.mpr (congrArg (Good m c t.val) (outs_odd m c t (by omega) (by omega) h1 acc ha)) ?_
  have eh : half (t.val - 1 + 1) = 1 := Fin.ext (by show (t.val - 1 + 1) % 2 = 1; omega)
  have eh' : half (t.val + 1) = 0 := Fin.ext (by show (t.val + 1) % 2 = 0; omega)
  have er : min (t.val - 1 + 1) 31 = t.val := by omega
  have hn := hk.next
  rw [eh, er] at hn
  refine good_of m c t _ _ _ _ (fun p k => (half1_apply _ p k).trans (hn p k)) hk.matrix
    ⟨hk.matrix, fun p k => Eq.trans ?_ (next_rows m c t p k)⟩
  rw [eh']
  exact later_slot _ p k 0 0 rfl _ _ _

theorem good : ∀ (n : ℕ) (hn : n < cfg0.N), Good m c n (outsAt0 m c n hn)
  | 0, hn => good_first m c ⟨0, hn⟩ rfl
  | n + 1, hn => by
    have hk := (good n (Nat.lt_of_succ_lt hn)).kept
    rcases Nat.mod_two_eq_zero_or_one (n + 1) with h | h
    · exact good_even m c ⟨n + 1, hn⟩ (Nat.succ_ne_zero n) h _ rfl hk
    · exact good_odd m c ⟨n + 1, hn⟩ (Nat.succ_ne_zero n) h _ rfl hk

/-! ## The results' arrays -/

theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel
theorem idx8 : ∀ t : Fin grid0.N, win0_8.index t (0 : Fin 2) = t.val ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = t.val ∧ win0_10.index t (1 : Fin 2) = 0 := by decide +kernel

theorem place6 (t : Fin cfg0.N) (p : Fin 512) (j : Fin 512) : ((cfg0.win 6).blk t).view.emb (ix2 p j) = (ix2 (rowOf t.val p) j : S16384x512.Idx) := by
  have hN := lt_of_lt_of_eq t.isLt points
  refine funext fun z => Fin.ext ?_
  refine ((cfg0.win 6).rect_emb_val t (ix2 p j) z).trans ?_
  obtain ⟨e0, e1⟩ := idx6 t
  match z with
  | ⟨0, _⟩ =>
    refine (congrArg (fun i : ℕ => i * 512 + p.val) e0).trans ?_
    show t.val * 512 + p.val = 512 * (t.val % 32) + p.val; omega
  | ⟨1, _⟩ =>
    refine (congrArg (fun i : ℕ => i * 512 + j.val) e1).trans ?_
    show 0 * 512 + j.val = j.val; omega

/-- What the kernel leaves as the queries. -/
theorem final6 : ((dats m 0 c).arrAt 6 cfg0.N : S16384x512.Idx → EReal) = queries (ax m c) (an m c) (aw m c) := by
  refine (dats m 0 c).arrAt_eq_of_cover 6 (queries (ax m c) (an m c) (aw m c)) (fun t _ => ?_) (fun i => ?_)
  · refine (congrArg ((cfg0.win 6).cut (grid0.coords t)) (after0_6 m c t)).trans ?_
    funext y
    obtain ⟨p, j, rfl⟩ : ∃ (p : Fin 512) (j : Fin 512), y = ix2 p j := ⟨y 0, y 1, eq_ix2 y⟩
    exact ((good m c t.val t.isLt).q p j).trans (congrArg (queries (ax m c) (an m c) (aw m c)) (place6 t p j)).symm
  · have h0 : (i 0).val < 16384 := (i 0).isLt
    refine ⟨⟨(i 0).val / 512, lt_of_lt_of_eq (by omega : (i 0).val / 512 < 32) points.symm⟩, flush0_6 _, ?_⟩
    refine Finset.mem_map.mpr ⟨ix2 (⟨(i 0).val % 512, by omega⟩ : Fin 512) (i 1), Finset.mem_univ _, ?_⟩
    refine (place6 _ _ _).trans ?_
    refine (funext fun z => ?_)
    match z with
    | ⟨0, _⟩ => exact Fin.ext (by show 512 * ((i 0).val / 512 % 32) + (i 0).val % 512 = (i 0).val; omega)
    | ⟨1, _⟩ => rfl

theorem place7 (t : Fin cfg0.N) (p : Fin 512) (j : Fin 512) : ((cfg0.win 7).blk t).view.emb (ix2 p j) = (ix2 (rowOf t.val p) j : S16384x512.Idx) := by
  have hN := lt_of_lt_of_eq t.isLt points
  refine funext fun z => Fin.ext ?_
  refine ((cfg0.win 7).rect_emb_val t (ix2 p j) z).trans ?_
  obtain ⟨e0, e1⟩ := idx7 t
  match z with
  | ⟨0, _⟩ =>
    refine (congrArg (fun i : ℕ => i * 512 + p.val) e0).trans ?_
    show t.val * 512 + p.val = 512 * (t.val % 32) + p.val; omega
  | ⟨1, _⟩ =>
    refine (congrArg (fun i : ℕ => i * 512 + j.val) e1).trans ?_
    show 0 * 512 + j.val = j.val; omega

/-- What the kernel leaves as the keys. -/
theorem final7 : ((dats m 0 c).arrAt 7 cfg0.N : S16384x512.Idx → EReal) = keys (ax m c) (an m c) (aw m c) := by
  refine (dats m 0 c).arrAt_eq_of_cover 7 (keys (ax m c) (an m c) (aw m c)) (fun t _ => ?_) (fun i => ?_)
  · refine (congrArg ((cfg0.win 7).cut (grid0.coords t)) (after0_7 m c t)).trans ?_
    funext y
    obtain ⟨p, j, rfl⟩ : ∃ (p : Fin 512) (j : Fin 512), y = ix2 p j := ⟨y 0, y 1, eq_ix2 y⟩
    exact ((good m c t.val t.isLt).k p j).trans (congrArg (keys (ax m c) (an m c) (aw m c)) (place7 t p j)).symm
  · have h0 : (i 0).val < 16384 := (i 0).isLt
    refine ⟨⟨(i 0).val / 512, lt_of_lt_of_eq (by omega : (i 0).val / 512 < 32) points.symm⟩, flush0_7 _, ?_⟩
    refine Finset.mem_map.mpr ⟨ix2 (⟨(i 0).val % 512, by omega⟩ : Fin 512) (i 1), Finset.mem_univ _, ?_⟩
    refine (place7 _ _ _).trans ?_
    refine (funext fun z => ?_)
    match z with
    | ⟨0, _⟩ => exact Fin.ext (by show 512 * ((i 0).val / 512 % 32) + (i 0).val % 512 = (i 0).val; omega)
    | ⟨1, _⟩ => rfl

theorem place8 (t : Fin cfg0.N) (p : Fin 512) (j : Fin 1024) : ((cfg0.win 8).blk t).view.emb (ix2 p j) = (ix2 (rowOf t.val p) j : S16384x1024.Idx) := by
  have hN := lt_of_lt_of_eq t.isLt points
  refine funext fun z => Fin.ext ?_
  refine ((cfg0.win 8).rect_emb_val t (ix2 p j) z).trans ?_
  obtain ⟨e0, e1⟩ := idx8 t
  match z with
  | ⟨0, _⟩ =>
    refine (congrArg (fun i : ℕ => i * 512 + p.val) e0).trans ?_
    show t.val * 512 + p.val = 512 * (t.val % 32) + p.val; omega
  | ⟨1, _⟩ =>
    refine (congrArg (fun i : ℕ => i * 1024 + j.val) e1).trans ?_
    show 0 * 1024 + j.val = j.val; omega

/-- What the kernel leaves as the values. -/
theorem final8 : ((dats m 0 c).arrAt 8 cfg0.N : S16384x1024.Idx → EReal) = values (ax m c) (an m c) (aw m c) := by
  refine (dats m 0 c).arrAt_eq_of_cover 8 (values (ax m c) (an m c) (aw m c)) (fun t _ => ?_) (fun i => ?_)
  · refine (congrArg ((cfg0.win 8).cut (grid0.coords t)) (after0_8 m c t)).trans ?_
    funext y
    obtain ⟨p, j, rfl⟩ : ∃ (p : Fin 512) (j : Fin 1024), y = ix2 p j := ⟨y 0, y 1, eq_ix2 y⟩
    exact ((good m c t.val t.isLt).v p j).trans (congrArg (values (ax m c) (an m c) (aw m c)) (place8 t p j)).symm
  · have h0 : (i 0).val < 16384 := (i 0).isLt
    refine ⟨⟨(i 0).val / 512, lt_of_lt_of_eq (by omega : (i 0).val / 512 < 32) points.symm⟩, flush0_8 _, ?_⟩
    refine Finset.mem_map.mpr ⟨ix2 (⟨(i 0).val % 512, by omega⟩ : Fin 512) (i 1), Finset.mem_univ _, ?_⟩
    refine (place8 _ _ _).trans ?_
    refine (funext fun z => ?_)
    match z with
    | ⟨0, _⟩ => exact Fin.ext (by show 512 * ((i 0).val / 512 % 32) + (i 0).val % 512 = (i 0).val; omega)
    | ⟨1, _⟩ => rfl

theorem place9 (t : Fin cfg0.N) (p : Fin 512) (j : Fin 1024) : ((cfg0.win 9).blk t).view.emb (ix2 p j) = (ix2 (rowOf t.val p) j : S16384x1024.Idx) := by
  have hN := lt_of_lt_of_eq t.isLt points
  refine funext fun z => Fin.ext ?_
  refine ((cfg0.win 9).rect_emb_val t (ix2 p j) z).trans ?_
  obtain ⟨e0, e1⟩ := idx9 t
  match z with
  | ⟨0, _⟩ =>
    refine (congrArg (fun i : ℕ => i * 512 + p.val) e0).trans ?_
    show t.val * 512 + p.val = 512 * (t.val % 32) + p.val; omega
  | ⟨1, _⟩ =>
    refine (congrArg (fun i : ℕ => i * 1024 + j.val) e1).trans ?_
    show 0 * 1024 + j.val = j.val; omega

/-- What the kernel leaves as the gates. -/
theorem final9 : ((dats m 0 c).arrAt 9 cfg0.N : S16384x1024.Idx → EReal) = gates (ax m c) (an m c) (aw m c) := by
  refine (dats m 0 c).arrAt_eq_of_cover 9 (gates (ax m c) (an m c) (aw m c)) (fun t _ => ?_) (fun i => ?_)
  · refine (congrArg ((cfg0.win 9).cut (grid0.coords t)) (after0_9 m c t)).trans ?_
    funext y
    obtain ⟨p, j, rfl⟩ : ∃ (p : Fin 512) (j : Fin 1024), y = ix2 p j := ⟨y 0, y 1, eq_ix2 y⟩
    exact ((good m c t.val t.isLt).g p j).trans (congrArg (gates (ax m c) (an m c) (aw m c)) (place9 t p j)).symm
  · have h0 : (i 0).val < 16384 := (i 0).isLt
    refine ⟨⟨(i 0).val / 512, lt_of_lt_of_eq (by omega : (i 0).val / 512 < 32) points.symm⟩, flush0_9 _, ?_⟩
    refine Finset.mem_map.mpr ⟨ix2 (⟨(i 0).val % 512, by omega⟩ : Fin 512) (i 1), Finset.mem_univ _, ?_⟩
    refine (place9 _ _ _).trans ?_
    refine (funext fun z => ?_)
    match z with
    | ⟨0, _⟩ => exact Fin.ext (by show 512 * ((i 0).val / 512 % 32) + (i 0).val % 512 = (i 0).val; omega)
    | ⟨1, _⟩ => rfl

theorem place10 (t : Fin cfg0.N) (p : Fin 512) (j : Fin 512) : ((cfg0.win 10).blk t).view.emb (ix2 p j) = (ix2 (rowOf t.val p) j : S16384x512.Idx) := by
  have hN := lt_of_lt_of_eq t.isLt points
  refine funext fun z => Fin.ext ?_
  refine ((cfg0.win 10).rect_emb_val t (ix2 p j) z).trans ?_
  obtain ⟨e0, e1⟩ := idx10 t
  match z with
  | ⟨0, _⟩ =>
    refine (congrArg (fun i : ℕ => i * 512 + p.val) e0).trans ?_
    show t.val * 512 + p.val = 512 * (t.val % 32) + p.val; omega
  | ⟨1, _⟩ =>
    refine (congrArg (fun i : ℕ => i * 512 + j.val) e1).trans ?_
    show 0 * 512 + j.val = j.val; omega

/-- What the kernel leaves as the log decays. -/
theorem final10 : ((dats m 0 c).arrAt 10 cfg0.N : S16384x512.Idx → EReal) = decays (ax m c) (an m c) (aw m c) (ag m c) (ab m c) := by
  refine (dats m 0 c).arrAt_eq_of_cover 10 (decays (ax m c) (an m c) (aw m c) (ag m c) (ab m c)) (fun t _ => ?_) (fun i => ?_)
  · refine (congrArg ((cfg0.win 10).cut (grid0.coords t)) (after0_10 m c t)).trans ?_
    funext y
    obtain ⟨p, j, rfl⟩ : ∃ (p : Fin 512) (j : Fin 512), y = ix2 p j := ⟨y 0, y 1, eq_ix2 y⟩
    exact ((good m c t.val t.isLt).a p j).trans (congrArg (decays (ax m c) (an m c) (aw m c) (ag m c) (ab m c)) (place10 t p j)).symm
  · have h0 : (i 0).val < 16384 := (i 0).isLt
    refine ⟨⟨(i 0).val / 512, lt_of_lt_of_eq (by omega : (i 0).val / 512 < 32) points.symm⟩, flush0_10 _, ?_⟩
    refine Finset.mem_map.mpr ⟨ix2 (⟨(i 0).val % 512, by omega⟩ : Fin 512) (i 1), Finset.mem_univ _, ?_⟩
    refine (place10 _ _ _).trans ?_
    refine (funext fun z => ?_)
    match z with
    | ⟨0, _⟩ => exact Fin.ext (by show 512 * ((i 0).val / 512 % 32) + (i 0).val % 512 = (i 0).val; omega)
    | ⟨1, _⟩ => rfl

/-- The kernel's run: its five results are these arrays, and its arguments are as they were. -/
theorem run (ρ : Dev nD → PrngReg) : θ_run defs (onTc (τ := τ) (main (F := Ideal))) ⟨m, fun _ => 0, ρ⟩ fun r => ∀ c : Dev nD,
      r.2.mem ((c : Thread nD τ).loc main_v2_0) = queries (ax m c) (an m c) (aw m c)
      ∧ r.2.mem ((c : Thread nD τ).loc main_v2_1) = keys (ax m c) (an m c) (aw m c)
      ∧ r.2.mem ((c : Thread nD τ).loc main_v2_2) = values (ax m c) (an m c) (aw m c)
      ∧ r.2.mem ((c : Thread nD τ).loc main_v2_3) = gates (ax m c) (an m c) (aw m c)
      ∧ r.2.mem ((c : Thread nD τ).loc main_v2_4) = decays (ax m c) (an m c) (aw m c) (ag m c) (ab m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 6).trans (final6 m c), ((h c).1 7).trans (final7 m c), ((h c).1 8).trans (final8 m c), ((h c).1 9).trans (final9 m c), ((h c).1 10).trans (final10 m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c)))⟩)
    (run_main m ρ)

end Cert.Proof.InprojValue
end
-- ==== Proof.InprojRef.lean ====
/-
  The reference of the linear attention's projections at a row and a column: its one formula over the whole batch is the
  blocks' values on each row.
-/
module

public import proofs.«01_k».proof.Proof.Gen.InprojRefIdeal.Run
public import proofs.«01_k».proof.Proof.FfnBlock

@[expose] public section
set_option maxRecDepth 16384

noncomputable section
namespace Cert.Proof.InprojRef
open Idealize.ShloMosaic Cert.InprojRefIdeal Cert.InprojRefIdeal.Gen
open Cert.Proof.FfnBlock (normed flat flat_cast)

/-! ## The parts, at any arrays -/

/-- The batch's norm, times the gain. -/
def normedA (x : FVec Ideal S8x2048x1024 .f32) (n : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ n shapeCasts_S1x1024_S1024 : FVec Ideal S1024 .f32)))

/-- The rows against the matrix. -/
def allA (h : FVec Ideal S8x2048x1024 .f32) (w : FVec Ideal S1x1024x3088 .f32) : FVec Ideal S8x2048x3088 .f32 :=
  Host.dotGeneral dot_S8x2048x1024_S1024x3088_S8x2048x3088_2_0_01_1_n_n none h (shapeCast _ w shapeCasts_S1x1024x3088_S1024x3088)

/-- The narrow columns against the second matrix, and the bias. -/
def biasedA (a : FVec Ideal S8x2048x16 .f32) (g : FVec Ideal S1x16x512 .f32) (d : FVec Ideal S1x512 .f32) : FVec Ideal S8x2048x512 .f32 :=
  addf (Host.dotGeneral dot_S8x2048x16_S16x512_S8x2048x512_2_0_01_1_n_n none a (shapeCast _ g shapeCasts_S1x16x512_S16x512))
    (broadcastInDim S8x2048x512 ![0, 1, 2] bcast_S1x1x512_S8x2048x512_0_1_2 (broadcastInDim S1x1x512 ![2] bcast_S512_S1x1x512_2 (shapeCast _ d shapeCasts_S1x512_S512 : FVec Ideal S512 .f32)))

/-- Minus the softplus of minus `z`, a sixteenth of it. -/
def decayA (z : FVec Ideal S8x2048x512 .f32) : FVec Ideal S8x2048x512 .f32 :=
  Host.divf (Host.negf (select (cmpf .une (subf (Host.negf z) (broadcastInDim S8x2048x512 ![] bcast_S_S8x2048x512 (constant S_ .f32 0x00000000#32))) (subf (Host.negf z) (broadcastInDim S8x2048x512 ![] bcast_S_S8x2048x512 (constant S_ .f32 0x00000000#32))))
    (addf (Host.negf z) (broadcastInDim S8x2048x512 ![] bcast_S_S8x2048x512 (constant S_ .f32 0x00000000#32)))
    (addf (maximumf (Host.negf z) (broadcastInDim S8x2048x512 ![] bcast_S_S8x2048x512 (constant S_ .f32 0x00000000#32)))
      (Host.log1p (Host.exp (Host.negf (Host.absf (subf (Host.negf z) (broadcastInDim S8x2048x512 ![] bcast_S_S8x2048x512 (constant S_ .f32 0x00000000#32))))))))))
    (broadcastInDim S8x2048x512 ![] bcast_S_S8x2048x512 (constant S_ .f32 0x41800000#32))

/-- The same of one number. -/
def softDecay (z : EReal) : EReal :=
  Ideal.div (-(max (-z) 0 + Ideal.log (1 + Ideal.exp (-(max (-z) (-(-z))))))) (Ideal.ofBits .f32 0x41800000#32)

/-- The reference's log decays are these parts. -/
theorem decays_parts (m : (ℓ : Loc nD τ sig) → Buf (Elt Ideal) ℓ) (c : Dev nD) :
    Value.res_main_v38 m c = shapeCast _ (decayA (biasedA (extractStridedSlice S8x2048x16 ![0, 0, 3072]
      (allA (normedA (m ((c.tc : Thread nD τ).loc main_arg0)) (m ((c.tc : Thread nD τ).loc main_arg1))) (m ((c.tc : Thread nD τ).loc main_arg2))) slices_S8x2048x3088_S8x2048x16_0_0_3072)
      (m ((c.tc : Thread nD τ).loc main_arg3)) (m ((c.tc : Thread nD τ).loc main_arg4)))) shapeCasts_S8x2048x512_S16384x512 := rfl

section
variable (b : Fin 8) (s : Fin 2048)

theorem normedA_apply (x : FVec Ideal S8x2048x1024 .f32) (n : FVec Ideal S1x1024 .f32) (k : Fin 1024) :
    normedA x n (ix3 b s k) = normed (fun k => x (ix3 b s k)) (fun k => n (ix2 0 k)) k := by
  unfold normed
  pointwise [normedA]

theorem allA_apply (h : FVec Ideal S8x2048x1024 .f32) (w : FVec Ideal S1x1024x3088 .f32) (j : Fin 3088) :
    allA h w (ix3 b s j) = ∑ k : Fin 1024, h (ix3 b s k) * w (ix3 0 k j) := by
  pointwise [allA]

theorem biasedA_apply (a : FVec Ideal S8x2048x16 .f32) (g : FVec Ideal S1x16x512 .f32) (d : FVec Ideal S1x512 .f32) (j : Fin 512) :
    biasedA a g d (ix3 b s j) = ∑ r : Fin 16, a (ix3 b s r) * g (ix3 0 r j) + d (ix2 0 j) := by
  pointwise [biasedA]

theorem decayA_apply (z : FVec Ideal S8x2048x512 .f32) (j : Fin 512) : decayA z (ix3 b s j) = softDecay (z (ix3 b s j)) := by
  unfold softDecay
  pointwise [decayA]
  rw [if_neg (fun h => h rfl)]
  rfl

/-- The columns after the first `o`. -/
theorem cols_apply (y : FVec Ideal S8x2048x3088 .f32) {l : ℕ} (o : ℕ) (h : o + l ≤ 3088) (hs : S8x2048x3088.Slices ![0, 0, o] ⟨3, ![8, 2048, l]⟩) (j : Fin l) :
    extractStridedSlice ⟨3, ![8, 2048, l]⟩ ![0, 0, o] y hs (ix3 b s j) = y (ix3 b s (⟨o + j.val, by omega⟩ : Fin 3088)) := by
  refine congrArg y (funext fun z => Fin.ext ?_)
  match z with
  | ⟨0, _⟩ => exact Nat.zero_add _
  | ⟨1, _⟩ => exact Nat.zero_add _
  | ⟨2, _⟩ => rfl
end

/-- The batch's rows one after the other. -/
theorem rows_apply {l : ℕ} (y : FVec Ideal ⟨3, ![8, 2048, l]⟩ .f32) (hc : (⟨3, ![8, 2048, l]⟩ : Shape).ShapeCasts ⟨2, ![16384, l]⟩) (r : Fin 16384) (j : Fin l) :
    (shapeCast ⟨2, ![16384, l]⟩ y hc : FVec Ideal ⟨2, ![16384, l]⟩ .f32) (ix2 r j) = y (ix3 ⟨r.val / 2048, by omega⟩ ⟨r.val % 2048, by omega⟩ j) := by
  refine Idealize.ShloMosaic.shapeCast_apply y hc (ix2 r j) _ ?_
  rw [rowMajor_val2 _ l rfl, rowMajor_val3 _ (2048 * l) l rfl rfl]
  show r.val / 2048 * (2048 * l) + r.val % 2048 * l + j.val = r.val * l + j.val
  rw [← Nat.mul_assoc, ← Nat.add_mul, Nat.div_add_mod']

/-! ## The reference's arrays -/

section
variable (x : FVec Ideal S8x2048x1024 .f32) (n : FVec Ideal S1x1024 .f32) (w : FVec Ideal S1x1024x3088 .f32) (r : Fin 16384)

/-- The norm of a row of the batch against the columns after the first `o`. -/
abbrev part (o : ℕ) {l : ℕ} (h : o + l ≤ 3088) (j : Fin l) : EReal :=
  ∑ k : Fin 1024, normed (flat x r) (fun k => n (ix2 0 k)) k * w (ix3 0 k (⟨o + j.val, by omega⟩ : Fin 3088))

theorem all_at (j : Fin 3088) : allA (normedA x n) w (ix3 ⟨r.val / 2048, by omega⟩ ⟨r.val % 2048, by omega⟩ j)
    = ∑ k : Fin 1024, normed (flat x r) (fun k => n (ix2 0 k)) k * w (ix3 0 k j) :=
  (allA_apply _ _ _ w j).trans (Finset.sum_congr rfl fun k _ => congrArg (fun y : EReal => y * w (ix3 0 k j)) (normedA_apply _ _ x n k))

/-- A part of the columns, as rows. -/
theorem part_at {l : ℕ} (o : ℕ) (h : o + l ≤ 3088) (hs : S8x2048x3088.Slices ![0, 0, o] ⟨3, ![8, 2048, l]⟩)
    (hc : (⟨3, ![8, 2048, l]⟩ : Shape).ShapeCasts ⟨2, ![16384, l]⟩) (hb : FTy.bits .bf16 < FTy.bits .f32) (j : Fin l) :
    truncf .bf16 (shapeCast ⟨2, ![16384, l]⟩ (extractStridedSlice ⟨3, ![8, 2048, l]⟩ ![0, 0, o] (allA (normedA x n) w) hs) hc : FVec Ideal ⟨2, ![16384, l]⟩ .f32) hb (ix2 r j)
      = part x n w r o h j :=
  (rows_apply _ hc r j).trans ((cols_apply _ _ _ o h hs j).trans (all_at x n w r _))

/-- The log decays, as rows. -/
theorem decay_at (g : FVec Ideal S1x16x512 .f32) (d : FVec Ideal S1x512 .f32) (hs : S8x2048x3088.Slices ![0, 0, 3072] S8x2048x16)
    (hc : S8x2048x512.ShapeCasts S16384x512) (j : Fin 512) :
    (shapeCast S16384x512 (decayA (biasedA (extractStridedSlice S8x2048x16 ![0, 0, 3072] (allA (normedA x n) w) hs) g d)) hc : FVec Ideal S16384x512 .f32) (ix2 r j)
      = softDecay (∑ u : Fin 16, part x n w r 3072 (by decide) u * g (ix3 0 u j) + d (ix2 0 j)) := by
  refine (rows_apply _ hc r j).trans ((decayA_apply _ _ _ j).trans (congrArg softDecay ((biasedA_apply _ _ _ g d j).trans ?_)))
  refine congrArg (fun y : EReal => y + d (ix2 0 j)) (Finset.sum_congr rfl fun u _ => congrArg (fun y : EReal => y * g (ix3 0 u j)) ?_)
  exact (cols_apply _ _ _ 3072 (by decide) hs u).trans (all_at x n w r _)
end

end Cert.Proof.InprojRef
end
-- ==== Proof.InprojMath.lean ====
/-
  The log decay of a product kept as two pieces each is that of the product, when the numbers are finite; and the two ways
  to write minus a softplus.
-/
module

public import proofs.«01_k».proof.Proof.InprojBlock

@[expose] public section

noncomputable section
namespace Cert.Proof.InprojMath
open Idealize.ShloMosaic Cert.Proof.InprojBlock
open Cert.Proof.FfnBlock (normed)

/-- A finite number. -/
def Finite (x : EReal) : Prop := ∃ r : ℝ, x = (r : EReal)

theorem Finite.mul {x y : EReal} (hx : Finite x) (hy : Finite y) : Finite (x * y) := by
  obtain ⟨a, rfl⟩ := hx
  obtain ⟨b, rfl⟩ := hy
  exact ⟨a * b, (EReal.coe_mul a b).symm⟩

theorem sum_coe {n : ℕ} (f : Fin n → ℝ) : ∑ k, (f k : EReal) = ((∑ k, f k : ℝ) : EReal) := by
  induction n with
  | zero => rfl
  | succ n ih => rw [Fin.sum_univ_succ, Fin.sum_univ_succ, EReal.coe_add, ih]

theorem Finite.sum {n : ℕ} (f : Fin n → EReal) (h : ∀ k, Finite (f k)) : Finite (∑ k, f k) := by
  choose g hg using h
  exact ⟨∑ k, g k, (Finset.sum_congr rfl fun k _ => hg k).trans (sum_coe g)⟩

theorem Finite.sub_self {x : EReal} (h : Finite x) : x - x = 0 := by
  obtain ⟨a, rfl⟩ := h
  rw [← EReal.coe_sub, _root_.sub_self, EReal.coe_zero]

/-! ## The product of the pieces -/

/-- Finite numbers lose nothing to their second piece: the product of the pieces is the product. -/
theorem splitSum_eq (a w : Fin 16 → EReal) (ha : ∀ r, Finite (a r)) (hw : ∀ r, Finite (w r)) : splitSum a w = ∑ r, a r * w r := by
  have h2 : ∀ f : Fin 48 → EReal, ∑ x, f x = (∑ r : Fin 16, f ⟨r.val, by omega⟩) + ((∑ r : Fin 16, f ⟨16 + r.val, by omega⟩) + ∑ r : Fin 16, f ⟨32 + r.val, by omega⟩) := by
    intro f
    refine (Fin.sum_univ_add (a := 16) (b := 32) f).trans (congrArg₂ (fun x y : EReal => x + y) rfl ?_)
    refine (Fin.sum_univ_add (a := 16) (b := 16) (fun i => f (Fin.natAdd 16 i))).trans (congrArg₂ (fun x y : EReal => x + y) rfl ?_)
    exact Finset.sum_congr rfl fun r _ => congrArg f (Fin.ext (by show 16 + (16 + r.val) = 32 + r.val; omega))
  unfold splitSum
  rw [h2]
  have e1 : ∀ r : Fin 16, ¬ (16 + r.val < 16) := fun r => by omega
  have e2 : ∀ r : Fin 16, 16 + r.val - 16 < 16 := fun r => by omega
  have e3 : ∀ r : Fin 16, ¬ (32 + r.val < 16) := fun r => by omega
  have e4 : ∀ r : Fin 16, ¬ (32 + r.val - 16 < 16) := fun r => by omega
  have z2 : ∀ r : Fin 16, a r - a r = 0 := fun r => (ha r).sub_self
  have z3 : ∀ r : Fin 16, w r - w r = 0 := fun r => (hw r).sub_self
  simp only [dif_neg (e1 _), dif_pos (e2 _), dif_neg (e3 _), dif_neg (e4 _), z2, z3, zero_mul, mul_zero, Finset.sum_const_zero, add_zero, Fin.is_lt, dite_true, Fin.eta]

/-! ## The norm of a row is finite -/

theorem sq_nonneg (x : EReal) : 0 ≤ x * x := by
  induction x with
  | bot => simp
  | top => simp
  | coe r => rw [← EReal.coe_mul]; exact_mod_cast mul_self_nonneg r

theorem bits_1024 : Ideal.ofBits .f32 0x44800000#32 = ((1024 : ℝ) : EReal) := by
  simp [Ideal.ofBits, Ideal.ieee]
  norm_num
  rw [← EReal.coe_mul]
  norm_num
theorem bits_eps : ∃ e : ℝ, 0 < e ∧ Ideal.ofBits .f32 0x358637BD#32 = (e : EReal) := by
  refine ⟨_, ?_, by simp [Ideal.ofBits, Ideal.ieee]; rfl⟩
  norm_num

/-- Whatever the row, its norm times a finite gain is finite: a row that is not finite has no bounded mean square, and one over its root is zero. -/
theorem normed_finite (r n : Fin 1024 → EReal) (hn : ∀ k, Finite (n k)) (k : Fin 1024) : Finite (normed r n k) := by
  unfold normed
  refine Finite.mul ?_ (hn k)
  obtain ⟨e, he, hb⟩ := bits_eps
  rw [hb, bits_1024]
  by_cases h : ∀ u, Finite (r u)
  · choose g hg using h
    have hs : ∑ u, r u * r u = ((∑ u, g u * g u : ℝ) : EReal) :=
      (Finset.sum_congr rfl fun u _ => by rw [hg u, ← EReal.coe_mul]).trans (sum_coe _)
    have h0 : (0 : ℝ) ≤ ∑ u, g u * g u := Finset.sum_nonneg fun u _ => mul_self_nonneg _
    refine Finite.mul ⟨g k, hg k⟩ ?_
    rw [hs]
    have hd : Ideal.div ((∑ u, g u * g u : ℝ) : EReal) ((1024 : ℝ) : EReal) + (e : EReal) = (((∑ u, g u * g u) * (1024 : ℝ)⁻¹ + e : ℝ) : EReal) := by
      unfold Ideal.div
      rw [if_neg (by norm_num), ← EReal.coe_inv, ← EReal.coe_mul, ← EReal.coe_add]
    have hp : 0 < (∑ u, g u * g u) * (1024 : ℝ)⁻¹ + e := by positivity
    rw [hd]
    refine ⟨(Real.sqrt ((∑ u, g u * g u) * (1024 : ℝ)⁻¹ + e))⁻¹, ?_⟩
    show (if _ < (0 : ℝ) then (⊥ : EReal) else if _ = (0 : ℝ) then ⊤ else _) = _
    rw [if_neg (not_lt.mpr hp.le), if_neg hp.ne']
  · push Not at h
    obtain ⟨u, hu⟩ := h
    have ht : r u * r u = ⊤ := by
      generalize r u = y at hu
      induction y with
      | bot => simp
      | top => simp
      | coe t => exact absurd ⟨t, rfl⟩ hu
    have hs : ∑ u, r u * r u = ⊤ := top_le_iff.mp (ht ▸ Finset.single_le_sum (f := fun u => r u * r u) (fun v _ => sq_nonneg (r v)) (Finset.mem_univ u))
    have hd : Ideal.div ⊤ ((1024 : ℝ) : EReal) + (e : EReal) = ⊤ := by
      unfold Ideal.div
      rw [if_neg (by norm_num), ← EReal.coe_inv, EReal.top_mul_coe_of_pos (by norm_num), EReal.top_add_coe]
    rw [hs, hd]
    exact ⟨0, mul_zero _⟩

/-! ## The two log decays -/

/-- The log of one plus the exponential of a number that is not positive is finite. -/
theorem log_finite (x : EReal) (h : x ≤ 0) : Finite (Ideal.log (1 + Ideal.exp x)) := by
  induction x with
  | bot => exact ⟨Real.log 1, by
      show Ideal.log (1 + 0) = _
      rw [add_zero, ← EReal.coe_one]
      exact if_neg (by norm_num)⟩
  | top => exact absurd h (by simp)
  | coe r =>
    refine ⟨Real.log (1 + Real.exp r), ?_⟩
    show Ideal.log (1 + ((Real.exp r : ℝ) : EReal)) = _
    rw [← EReal.coe_one, ← EReal.coe_add]
    exact if_neg (not_le.mpr (by positivity))

/-- The log of the logistic of `z` is minus the softplus of minus `z`. -/
theorem logDecay_eq (z : EReal) : logDecay z
    = Ideal.div (-(max (-z) 0 + Ideal.log (1 + Ideal.exp (-(max (-z) (-(-z))))))) (Ideal.ofBits .f32 0x41800000#32) := by
  unfold logDecay
  refine congrArg (fun y => Ideal.div y (Ideal.ofBits .f32 0x41800000#32)) ?_
  have e1 : (0 : EReal) - max z (-z) = -(max (-z) (-(-z))) := by rw [zero_sub, neg_neg, max_comm]
  rw [e1]
  have h0 : -(max (-z) (-(-z))) ≤ 0 := by
    rw [EReal.neg_le, neg_zero, neg_neg]
    rcases le_total 0 z with h | h
    · exact le_max_of_le_right h
    · exact le_max_of_le_left (EReal.le_neg.mpr (by rwa [neg_zero]))
  obtain ⟨l, hl⟩ := log_finite _ h0
  rw [hl, EReal.neg_add (Or.inr (EReal.coe_ne_top l)) (Or.inr (EReal.coe_ne_bot l))]
  refine congrArg (fun y : EReal => y - (l : EReal)) ?_
  rcases le_total 0 z with h | h
  · rw [min_eq_right h, max_eq_right (EReal.neg_le.mpr (by rwa [neg_zero])), neg_zero]
  · rw [min_eq_left h, max_eq_left (EReal.le_neg.mpr (by rwa [neg_zero])), neg_neg]

end Cert.Proof.InprojMath
end
-- ==== Proof.InprojJoin.lean ====
/-
  The projections' and log decays' arrays of the linear attention's kernel are its reference's; and the reference's frame.
-/
module

public import proofs.«01_k».proof.Defs
public import proofs.«01_k».proof.Proof.Gen.Inproj
public import proofs.«01_k».proof.Proof.Gen.Pre_decay_weights_finite
public import proofs.«01_k».proof.Proof.InprojValue
public import proofs.«01_k».proof.Proof.InprojRef
public import proofs.«01_k».proof.Proof.InprojMath
public import Idealize.ShloMosaic.Lib.ReduceAll
public import Idealize.ShloMosaic.Lib.Quiescent

@[expose] public section
set_option maxRecDepth 16384

noncomputable section
namespace Cert.Proof.InprojJoin
open Idealize.ShloMosaic Idealize.ShloMosaic.TcCoe Idealize.SL.Sem Cert.Proof.InprojMath

/-- The reference declares no semaphore: its run is its frame. -/
theorem reference_frame : Cert.quiescent_InprojRefIdeal := fun m g _ =>
  (θ_run Cert.InprojRefIdeal.defs _ _).mono
    (fun r h => And.intro (fun c => (h c).2.2.2.2.2) (sem_eq_zero_of_no_sems (by decide) r.2)) (Cert.InprojRefIdeal.Value.run m g)

/-! ## What the precondition says -/

theorem both (a b : BitVec 1) (h : IntOp.andi a b = 1#1) : a = 1#1 ∧ b = 1#1 := by
  revert a b
  decide

/-- A number whose size is bounded is finite. -/
theorem finite_of_bound (x : EReal) (h : Ideal.cmp .olt (max x (-x)) (Ideal.ofBits .f32 0x7F800000#32) = 1#1) : Finite x := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

section
open Cert.Pre_decay_weights_finite
variable (x : S8x2048x1024.Idx → EReal) (n : S1x1024.Idx → EReal) (w : S1x1024x3088.Idx → EReal) (g : S1x16x512.Idx → EReal) (b : S1x512.Idx → EReal)
  (h : fn (F := Ideal) x n w g b = (fun _ => 1#1))
include h

theorem three : Host.reduce IntOp.andi (cmpf (F := Ideal) (φ := .f32) .olt (Host.absf (F := Ideal) (φ := .f32) n) (broadcastInDim S1x1024 ![] Facts.bcast_S_S1x1024 (constant S_ .f32 0x7F800000#32))) (constantI S_ 1 1#1) Facts.reducesTo_S1x1024_S_d0_1 Facts.h_S_ ix0 = 1#1
    ∧ Host.reduce IntOp.andi (cmpf (F := Ideal) (φ := .f32) .olt (Host.absf (F := Ideal) (φ := .f32) (extractStridedSlice S1x1024x16 ![0, 0, 3072] w Facts.slices_S1x1024x3088_S1x1024x16_0_0_3072)) (broadcastInDim S1x1024x16 ![] Facts.bcast_S_S1x1024x16 (constant S_ .f32 0x7F800000#32))) (constantI S_ 1 1#1) Facts.reducesTo_S1x1024x16_S_d0_1_2 Facts.h_S_ ix0 = 1#1
    ∧ Host.reduce IntOp.andi (cmpf (F := Ideal) (φ := .f32) .olt (Host.absf (F := Ideal) (φ := .f32) g) (broadcastInDim S1x16x512 ![] Facts.bcast_S_S1x16x512 (constant S_ .f32 0x7F800000#32))) (constantI S_ 1 1#1) Facts.reducesTo_S1x16x512_S_d0_1_2 Facts.h_S_ ix0 = 1#1 := by
  obtain ⟨h1, h3⟩ := both _ _ (congrFun h ix0)
  obtain ⟨h1, h2⟩ := both _ _ h1
  exact ⟨h1, h2, h3⟩

theorem gain_finite (k : Fin 1024) : Finite (n (ix2 0 k)) :=
  finite_of_bound _ (Host.reduce_andi_all _ _ _ _ ix0 (three x n w g b h).1 (ix2 0 k))
theorem cols_finite (k : Fin 1024) (u : Fin 16) : Finite (w (ix3 0 k (⟨3072 + u.val, by omega⟩ : Fin 3088))) := by
  have e := finite_of_bound _ (Host.reduce_andi_all _ _ _ _ ix0 (three x n w g b h).2.1 (ix3 0 k u))
  refine Eq.mp (congrArg InprojMath.Finite (congrArg w (funext fun z => Fin.ext ?_))) e
  match z with
  | ⟨0, _⟩ => rfl
  | ⟨1, _⟩ => exact Nat.zero_add _
  | ⟨2, _⟩ => rfl
theorem second_finite (u : Fin 16) (j : Fin 512) : Finite (g (ix3 0 u j)) :=
  finite_of_bound _ (Host.reduce_andi_all _ _ _ _ ix0 (three x n w g b h).2.2 (ix3 0 u j))

/-- The kernel's log decay is the reference's. -/
theorem decay_eq (r : Fin 16384) (j : Fin 512) : InprojValue.decays x n w g b (ix2 r j)
    = InprojRef.softDecay (∑ u : Fin 16, InprojRef.part x n w r 3072 (by decide) u * g (ix3 0 u j) + b (ix2 0 j)) := by
  refine (logDecay_eq _).trans (congrArg InprojRef.softDecay (congrArg (fun y : EReal => y + b (ix2 0 j)) ?_))
  exact splitSum_eq _ _ (fun u => Finite.sum _ fun k => Finite.mul (normed_finite _ _ (gain_finite x n w g b h) k) (cols_finite x n w g b h k u))
    (fun u => second_finite x n w g b h u j)
end

/-! ## The arrays -/

/-- Two arrays of rows are one when they are at each row and column. -/
theorem ext_rows {l : ℕ} {a b : (⟨2, ![16384, l]⟩ : Shape).Idx → EReal} (h : ∀ (r : Fin 16384) (j : Fin l), a (ix2 r j) = b (ix2 r j)) : a = b :=
  funext fun i => (congrArg a (eq_ix2 i)).trans ((h (i 0) (i 1)).trans (congrArg b (eq_ix2 i)).symm)

section
variable (m : (ℓ : Loc Cert.InprojRefIdeal.nD Cert.InprojRefIdeal.τ Cert.InprojRefIdeal.sig) → Buf (Elt Ideal) ℓ) (c : Dev Cert.InprojRefIdeal.nD)

/-- The reference's arrays. -/
abbrev rx : Cert.InprojRefIdeal.S8x2048x1024.Idx → EReal := m ((c.tc : Thread Cert.InprojRefIdeal.nD Cert.InprojRefIdeal.τ).loc Cert.InprojRefIdeal.main_arg0)
abbrev rn : Cert.InprojRefIdeal.S1x1024.Idx → EReal := m ((c.tc : Thread Cert.InprojRefIdeal.nD Cert.InprojRefIdeal.τ).loc Cert.InprojRefIdeal.main_arg1)
abbrev rm : Cert.InprojRefIdeal.S1x1024x3088.Idx → EReal := m ((c.tc : Thread Cert.InprojRefIdeal.nD Cert.InprojRefIdeal.τ).loc Cert.InprojRefIdeal.main_arg2)
abbrev rg : Cert.InprojRefIdeal.S1x16x512.Idx → EReal := m ((c.tc : Thread Cert.InprojRefIdeal.nD Cert.InprojRefIdeal.τ).loc Cert.InprojRefIdeal.main_arg3)
abbrev rb : Cert.InprojRefIdeal.S1x512.Idx → EReal := m ((c.tc : Thread Cert.InprojRefIdeal.nD Cert.InprojRefIdeal.τ).loc Cert.InprojRefIdeal.main_arg4)
end

theorem algebraic : Cert.algebraic_InprojIdeal_InprojRefIdeal_pre_decay_weights_finite := by
  intro m g m' g' hp ha
  refine ⟨fun c => InprojValue.queries (InprojValue.ax m c) (InprojValue.an m c) (InprojValue.aw m c),
    fun c => InprojValue.keys (InprojValue.ax m c) (InprojValue.an m c) (InprojValue.aw m c),
    fun c => InprojValue.values (InprojValue.ax m c) (InprojValue.an m c) (InprojValue.aw m c),
    fun c => InprojValue.gates (InprojValue.ax m c) (InprojValue.an m c) (InprojValue.aw m c),
    fun c => InprojValue.decays (InprojValue.ax m c) (InprojValue.an m c) (InprojValue.aw m c) (InprojValue.ag m c) (InprojValue.ab m c),
    InprojValue.run m g, ?_⟩
  refine (θ_run Cert.InprojRefIdeal.defs _ _).mono (fun r h c => ?_) (Cert.InprojRefIdeal.Value.run m' g')
  obtain ⟨g0, g1, g2, g3, g4⟩ := ha c
  have h0 : rx m' c = InprojValue.ax m c := g0
  have h1 : rn m' c = InprojValue.an m c := g1
  have h2 : rm m' c = InprojValue.aw m c := g2
  have h3 : rg m' c = InprojValue.ag m c := g3
  have h4 : rb m' c = InprojValue.ab m c := g4
  obtain ⟨e0, e1, e2, e3, e4, rest⟩ := h c
  refine ⟨e0.trans (ext_rows (l := 512) fun r j => (InprojRef.part_at (rx m' c) (rn m' c) (rm m' c) r 0 (by decide)
      Cert.InprojRefIdeal.Gen.slices_S8x2048x3088_S8x2048x512_0_0_0 Cert.InprojRefIdeal.Gen.shapeCasts_S8x2048x512_S16384x512 Cert.InprojRefIdeal.Gen.bitsLt_bf16_f32 j).trans ?_),
    e1.trans (ext_rows (l := 512) fun r j => (InprojRef.part_at (rx m' c) (rn m' c) (rm m' c) r 512 (by decide)
      Cert.InprojRefIdeal.Gen.slices_S8x2048x3088_S8x2048x512_0_0_512 Cert.InprojRefIdeal.Gen.shapeCasts_S8x2048x512_S16384x512 Cert.InprojRefIdeal.Gen.bitsLt_bf16_f32 j).trans ?_),
    e2.trans (ext_rows (l := 1024) fun r j => (InprojRef.part_at (rx m' c) (rn m' c) (rm m' c) r 1024 (by decide)
      Cert.InprojRefIdeal.Gen.slices_S8x2048x3088_S8x2048x1024_0_0_1024 Cert.InprojRefIdeal.Gen.shapeCasts_S8x2048x1024_S16384x1024 Cert.InprojRefIdeal.Gen.bitsLt_bf16_f32 j).trans ?_),
    e3.trans (ext_rows (l := 1024) fun r j => (InprojRef.part_at (rx m' c) (rn m' c) (rm m' c) r 2048 (by decide)
      Cert.InprojRefIdeal.Gen.slices_S8x2048x3088_S8x2048x1024_0_0_2048 Cert.InprojRefIdeal.Gen.shapeCasts_S8x2048x1024_S16384x1024 Cert.InprojRefIdeal.Gen.bitsLt_bf16_f32 j).trans ?_),
    e4.trans ((InprojRef.decays_parts m' c).trans (ext_rows (l := 512) fun r j => (InprojRef.decay_at (rx m' c) (rn m' c) (rm m' c) r (rg m' c) (rb m' c)
      Cert.InprojRefIdeal.Gen.slices_S8x2048x3088_S8x2048x16_0_0_3072 Cert.InprojRefIdeal.Gen.shapeCasts_S8x2048x512_S16384x512 j).trans ?_)), rest⟩
  · rw [h0, h1, h2]; rfl
  · rw [h0, h1, h2]; rfl
  · rw [h0, h1, h2]; rfl
  · rw [h0, h1, h2]; rfl
  · rw [h0, h1, h2, h3, h4]
    exact (decay_eq _ _ _ _ _ (hp c) r j).symm

end Cert.Proof.InprojJoin
end
-- ==== Proof.RouterPieces.lean ====
/-
  What the router's kernel stores as its first two results at a point, in each of its two cases, as the printed expressions
  of what the point reads: the stream after the attention's projection, and its norm.
-/
module

public import proofs.«01_k».proof.Proof.Gen.RouterIdeal.Frame
public import Idealize.ShloMosaic.Lib.Pipeline.Value

@[expose] public section
set_option maxRecDepth 16384

noncomputable section
namespace Cert.Proof.RouterPieces
open Idealize.ShloMosaic Idealize.SL.Sem Cert.RouterIdeal Cert.RouterIdeal.Gen
variable {F : FTy → Type} [FloatOps F]

theorem zz : (![0, 0] : Fin 2 → ℕ) = fun _ => 0 := by decide

/-! ## Loads of whole blocks -/

theorem ld_x (x : Vec F S1024x1024 .f32) : View.ld x (Rect.unit (s := S1024x1024) ![0, 0] ![1024, 1024] inb_S1024x1024_S1024x1024_0_0) = x :=
  View.ld_unit_zero zz _ x
theorem ld_o (x : Vec F S1024x1024 .bf16) : View.ld x (Rect.unit (s := S1024x1024) ![0, 0] ![1024, 1024] inb_S1024x1024_S1024x1024_0_0) = x :=
  View.ld_unit_zero zz _ x
theorem ld_n (x : Vec F S1x1024 .f32) : View.ld x (Rect.unit (s := S1x1024) ![0, 0] ![1, 1024] inb_S1x1024_S1x1024_0_0) = x :=
  View.ld_unit_zero zz _ x

/-! ## The first point -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : cond0_0 i)
    (x0 : Vec F S1024x1024 .f32) (x1 : Vec F S1024x1024 .bf16) (x2 : Vec F S1024x1024 .bf16) (x3 : Vec F S1x1024 .f32) (x4 : Vec F S32x1024 .bf16)
theorem outA5 : out0_A_5 c i arg1 harg1 arg2 harg2 arg3 harg3 arg4 harg4 arg5 harg5 arg6 harg6 arg7 harg7 arg8 harg8 arg9 harg9 arg10 harg10 arg11 harg11 arg12 harg12 hc0 x0 x1 x2 x3 x4 = k0_pay7 x0 x1 x2 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread]
  rw [View.canon_unit_zero zz]
  simp only [ld_x, ld_o, ld_n]
theorem outA6 : out0_A_6 c i arg1 harg1 arg2 harg2 arg3 harg3 arg4 harg4 arg5 harg5 arg6 harg6 arg7 harg7 arg8 harg8 arg9 harg9 arg10 harg10 arg11 harg11 arg12 harg12 hc0 x0 x1 x2 x3 x4 = k0_pay9 x0 x1 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread]
  rw [View.canon_unit_zero zz]
  simp only [ld_x, ld_o, ld_n]
end

/-! ## The points after it -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : ¬cond0_0 i)
    (x0 : Vec F S1024x1024 .f32) (x1 : Vec F S1024x1024 .bf16) (x2 : Vec F S1024x1024 .bf16) (x3 : Vec F S1x1024 .f32) (x4 : Vec F S32x1024 .bf16) (xs0 : Vec F S16x128 .f32) (xs1 : Vec F S128x128 .bf16)
theorem outB5 : out0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay7 x0 x1 x2 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  unfold kernelRun0_B
  dsimp only
  sl_unfold_words
  simp only [View.readAt_eq_ld, harg1.read_unread, harg2.read_unread, harg3.read_unread, harg4.read_unread]
  rw [View.canon_unit_zero zz]
  simp only [ld_x, ld_o, ld_n]
theorem outB6 : out0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = k0_pay9 x0 x1 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  unfold kernelRun0_B
  dsimp only
  sl_unfold_words
  simp only [View.readAt_eq_ld, harg1.read_unread, harg2.read_unread, harg3.read_unread, harg4.read_unread]
  rw [View.canon_unit_zero zz]
  simp only [ld_x, ld_o, ld_n]
end

end Cert.Proof.RouterPieces
end
-- ==== Proof.RouterValue.lean ====
/-
  What the router's kernel leaves as its first two results, over the extended reals: on every row, the stream after the
  attention's projection, and its norm.
-/
module

public import proofs.«01_k».proof.Proof.RouterPieces
public import proofs.«01_k».proof.Proof.FfnBlock
public import proofs.«01_k».proof.Proof.Gen.RouterIdeal.Value

@[expose] public section
set_option maxRecDepth 16384

noncomputable section
namespace Cert.Proof.RouterValue
open Idealize.ShloMosaic Idealize.ShloMosaic.TcCoe Idealize.SL.Sem Cert.RouterIdeal Cert.RouterIdeal.Gen Cert.Proof.RouterPieces
open Cert.Proof.FfnBlock (mixed normed flat flat_cast)

/-! ## The stored blocks at an index -/

section
variable (x : Vec Ideal S1024x1024 .f32) (o w : Vec Ideal S1024x1024 .bf16) (n : Vec Ideal S1x1024 .f32) (p k : Fin 1024)

theorem pay7 : k0_pay7 (F := Ideal) x o w (ix2 p k) = mixed (fun k => x (ix2 p k)) (fun k => o (ix2 p k)) (fun k j => w (ix2 k j)) k := by
  unfold mixed
  pointwise [k0_pay7]

theorem pay9 : k0_pay9 (F := Ideal) x o w n (ix2 p k)
    = normed (mixed (fun k => x (ix2 p k)) (fun k => o (ix2 p k)) (fun k j => w (ix2 k j))) (fun k => n (ix2 0 k)) k := by
  unfold normed
  simp only [← pay7]
  pointwise [k0_pay9, k0_pay8]
end

/-! ## The points' blocks -/

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel

variable (m : (ℓ : Loc nD τ sig) → Buf (Elt Ideal) ℓ) (c : Dev nD)

/-- The arrays. -/
abbrev ax : S8x2048x1024.Idx → EReal := m ((c : Thread nD τ).loc main_arg0)
abbrev ao : S16384x1024.Idx → EReal := m ((c : Thread nD τ).loc main_arg1)
abbrev aw : S1024x1024.Idx → EReal := m ((c : Thread nD τ).loc main_arg2)
abbrev an : S1x1024.Idx → EReal := m ((c : Thread nD τ).loc main_arg3)

/-! The arrays the call is given: rows of the batch one after the other, and the weights as they are. -/

theorem V0 (r : Fin 16384) (k : Fin 1024) : (V m c main_v0 : S16384x1024.Idx → EReal) (ix2 r k) = flat (ax m c) r k := by
  have e : V m c main_v0 = shapeCast S16384x1024 (m ((c : Thread nD τ).loc main_arg0)) shapeCasts_S8x2048x1024_S16384x1024 := by
    unfold V
    simp only [hostOps0, hostOps0_1, hostOps0_2, hostOps0_3, hostOps0_4, List.flatten_cons, List.flatten_nil, List.append_nil,
      List.cons_append, List.nil_append]
    after_results_simp <;> rfl
  rw [e]
  exact flat_cast _ _ r k
theorem V2 : (V m c main_v1 : S1024x1024.Idx → EReal) = aw m c := by
  unfold V
  simp only [hostOps0, hostOps0_1, hostOps0_2, hostOps0_3, hostOps0_4, List.flatten_cons, List.flatten_nil, List.append_nil,
    List.cons_append, List.nil_append]
  after_results_simp <;> rfl

/-- Row `p` of point `t`. -/
def rowOf (t : Fin 16) (p : Fin 1024) : Fin 16384 := ⟨1024 * t.val + p.val, by omega⟩
/-- A point of the call, as a number below 16. -/
def point (t : Fin cfg0.N) : Fin 16 := ⟨t.val, lt_of_lt_of_eq t.isLt (by decide +kernel : grid0.N = 16)⟩

section
variable (t : Fin cfg0.N) (p : Fin 1024)

theorem blk0 (k : Fin 1024) : (iblk m c 0 t : S1024x1024.Idx → EReal) (ix2 p k) = flat (ax m c) (rowOf (point t) p) k := by
  refine Eq.trans ?_ (V0 m c (rowOf (point t) p) k)
  refine congrArg (V m c main_v0 : S16384x1024.Idx → EReal) (funext fun z => Fin.ext ?_)
  refine ((cfg0.win 0).rect_emb_val t (ix2 p k) z).trans ?_
  obtain ⟨e0, e1⟩ := idx0 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + k.val) e1).trans ?_
    show 0 * 1024 + k.val = k.val; omega
theorem blk1 (k : Fin 1024) : (iblk m c 1 t : S1024x1024.Idx → EReal) (ix2 p k) = ao m c (ix2 (rowOf (point t) p) k) := by
  refine Eq.trans ?_ (congrFun (V_main_arg1 m c) (ix2 (rowOf (point t) p) k))
  refine congrArg (V m c main_arg1 : S16384x1024.Idx → EReal) (funext fun z => Fin.ext ?_)
  refine ((cfg0.win 1).rect_emb_val t (ix2 p k) z).trans ?_
  obtain ⟨e0, e1⟩ := idx1 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + k.val) e1).trans ?_
    show 0 * 1024 + k.val = k.val; omega
theorem blk2 (k j : Fin 1024) : (iblk m c 2 t : S1024x1024.Idx → EReal) (ix2 k j) = aw m c (ix2 k j) := by
  refine Eq.trans ?_ (congrFun (V2 m c) (ix2 k j))
  refine congrArg (V m c main_v1 : S1024x1024.Idx → EReal) (funext fun z => Fin.ext ?_)
  refine ((cfg0.win 2).rect_emb_val t (ix2 k j) z).trans ?_
  obtain ⟨e0, e1⟩ := idx2 t
  match z with
  | ⟨0, _⟩ =>
    refine (congrArg (fun i : ℕ => i * 1024 + k.val) e0).trans ?_
    show 0 * 1024 + k.val = k.val; omega
  | ⟨1, _⟩ =>
    refine (congrArg (fun i : ℕ => i * 1024 + j.val) e1).trans ?_
    show 0 * 1024 + j.val = j.val; omega
theorem blk3 (k : Fin 1) (j : Fin 1024) : (iblk m c 3 t : S1x1024.Idx → EReal) (ix2 k j) = an m c (ix2 k j) := by
  refine Eq.trans ?_ (congrFun (V_main_arg3 m c) (ix2 k j))
  refine congrArg (V m c main_arg3 : S1x1024.Idx → EReal) (funext fun z => Fin.ext ?_)
  refine ((cfg0.win 3).rect_emb_val t (ix2 k j) z).trans ?_
  obtain ⟨e0, e1⟩ := idx3 t
  match z with
  | ⟨0, _⟩ =>
    refine (congrArg (fun i : ℕ => i * 1 + k.val) e0).trans ?_
    show 0 * 1 + k.val = k.val; omega
  | ⟨1, _⟩ =>
    refine (congrArg (fun i : ℕ => i * 1024 + j.val) e1).trans ?_
    show 0 * 1024 + j.val = j.val; omega

theorem place5 (j : Fin 1024) : (((cfg0.win 5).blk t).view.emb (ix2 p j) : S16384x1024.Idx) = ix2 (rowOf (point t) p) j := by
  refine funext fun z => Fin.ext ?_
  refine ((cfg0.win 5).rect_emb_val t (ix2 p j) z).trans ?_
  obtain ⟨e0, e1⟩ := idx5 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + j.val) e1).trans ?_
    show 0 * 1024 + j.val = j.val; omega

theorem place6 (j : Fin 1024) : (((cfg0.win 6).blk t).view.emb (ix2 p j) : S16384x1024.Idx) = ix2 (rowOf (point t) p) j := by
  refine funext fun z => Fin.ext ?_
  refine ((cfg0.win 6).rect_emb_val t (ix2 p j) z).trans ?_
  obtain ⟨e0, e1⟩ := idx6 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + j.val) e1).trans ?_
    show 0 * 1024 + j.val = j.val; omega
end

/-! ## The results -/

section
variable (x : S8x2048x1024.Idx → EReal) (o : S16384x1024.Idx → EReal) (w : S1024x1024.Idx → EReal) (n : S1x1024.Idx → EReal)

/-- A row of the stream after the attention's projection. -/
abbrev mixedRow (r : Fin 16384) : Fin 1024 → EReal := mixed (flat x r) (fun k => o (ix2 r k)) (fun k j => w (ix2 k j))

/-- The stream, and its norm, of every row. -/
def stream : S16384x1024.Idx → EReal := fun i => mixedRow x o w (i 0) (i 1)
def norms : S16384x1024.Idx → EReal := fun i => normed (mixedRow x o w (i 0)) (fun k => n (ix2 0 k)) (i 1)
end

theorem row_at (t : Fin cfg0.N) (p : Fin 1024) :
    mixed (fun k => (iblk m c 0 t : S1024x1024.Idx → EReal) (ix2 p k)) (fun k => (iblk m c 1 t : S1024x1024.Idx → EReal) (ix2 p k))
      (fun k j => (iblk m c 2 t : S1024x1024.Idx → EReal) (ix2 k j)) = mixedRow (ax m c) (ao m c) (aw m c) (rowOf (point t) p) :=
  congr (congr (congrArg mixed (funext (blk0 m c t p))) (funext (blk1 m c t p))) (funext fun k => funext (blk2 m c t k))

theorem stream_at (t : Fin cfg0.N) (p j : Fin 1024) :
    k0_pay7 (F := Ideal) (iblk m c 0 t) (iblk m c 1 t) (iblk m c 2 t) (ix2 p j) = stream (ax m c) (ao m c) (aw m c) (ix2 (rowOf (point t) p) j) :=
  (pay7 _ _ _ p j).trans (congrFun (row_at m c t p) j)
theorem norms_at (t : Fin cfg0.N) (p j : Fin 1024) :
    k0_pay9 (F := Ideal) (iblk m c 0 t) (iblk m c 1 t) (iblk m c 2 t) (iblk m c 3 t) (ix2 p j)
      = norms (ax m c) (ao m c) (aw m c) (an m c) (ix2 (rowOf (point t) p) j) :=
  (pay9 _ _ _ _ p j).trans (congrArg₂ (fun a b => normed a b j) (row_at m c t p) (funext (blk3 m c t 0)))

/-- What a point writes back, in either case. -/
theorem back5 (t : Fin cfg0.N) :
    (dats m 0 c).flushed 5 t = (cfg0.win 5).cut (grid0.coords t) (k0_pay7 (F := Ideal) (iblk m c 0 t) (iblk m c 1 t) (iblk m c 2 t)) := by
  by_cases h : t.val % 16 = 0
  · exact (Cert.RouterIdeal.Value.flushed5_A m c t h).trans (congrArg ((cfg0.win 5).cut (grid0.coords t)) (outA5 ..))
  · exact (Cert.RouterIdeal.Value.flushed5_B m c t h).trans (congrArg ((cfg0.win 5).cut (grid0.coords t)) (outB5 ..))
theorem back6 (t : Fin cfg0.N) :
    (dats m 0 c).flushed 6 t = (cfg0.win 6).cut (grid0.coords t) (k0_pay9 (F := Ideal) (iblk m c 0 t) (iblk m c 1 t) (iblk m c 2 t) (iblk m c 3 t)) := by
  by_cases h : t.val % 16 = 0
  · exact (Cert.RouterIdeal.Value.flushed6_A m c t h).trans (congrArg ((cfg0.win 6).cut (grid0.coords t)) (outA6 ..))
  · exact (Cert.RouterIdeal.Value.flushed6_B m c t h).trans (congrArg ((cfg0.win 6).cut (grid0.coords t)) (outB6 ..))

/-- What the kernel leaves as the stream. -/
theorem final5 : ((dats m 0 c).arrAt 5 cfg0.N : S16384x1024.Idx → EReal) = stream (ax m c) (ao m c) (aw m c) := by
  refine (dats m 0 c).arrAt_eq_of_cover 5 (stream (ax m c) (ao m c) (aw m c)) (fun t _ => ?_) (fun i => ?_)
  · refine (back5 m c t).trans ?_
    funext y
    obtain ⟨p, j, rfl⟩ : ∃ (p : Fin 1024) (j : Fin 1024), y = ix2 p j := ⟨y 0, y 1, eq_ix2 y⟩
    exact (stream_at m c t p j).trans (congrArg (stream (ax m c) (ao m c) (aw m c)) (place5 t p j)).symm
  · have h0 : (i 0).val < 16384 := (i 0).isLt
    refine ⟨⟨(i 0).val / 1024, lt_of_lt_of_eq (by omega : (i 0).val / 1024 < 16) (by decide +kernel : 16 = grid0.N)⟩, flush0_5 _, ?_⟩
    refine Finset.mem_map.mpr ⟨ix2 (⟨(i 0).val % 1024, by omega⟩ : Fin 1024) (i 1), Finset.mem_univ _, ?_⟩
    refine (place5 _ _ _).trans ?_
    refine (funext fun z => ?_)
    match z with
    | ⟨0, _⟩ => exact Fin.ext (Nat.div_add_mod (i 0).val 1024)
    | ⟨1, _⟩ => rfl

/-- What the kernel leaves as the norms. -/
theorem final6 : ((dats m 0 c).arrAt 6 cfg0.N : S16384x1024.Idx → EReal) = norms (ax m c) (ao m c) (aw m c) (an m c) := by
  refine (dats m 0 c).arrAt_eq_of_cover 6 (norms (ax m c) (ao m c) (aw m c) (an m c)) (fun t _ => ?_) (fun i => ?_)
  · refine (back6 m c t).trans ?_
    funext y
    obtain ⟨p, j, rfl⟩ : ∃ (p : Fin 1024) (j : Fin 1024), y = ix2 p j := ⟨y 0, y 1, eq_ix2 y⟩
    exact (norms_at m c t p j).trans (congrArg (norms (ax m c) (ao m c) (aw m c) (an m c)) (place6 t p j)).symm
  · have h0 : (i 0).val < 16384 := (i 0).isLt
    refine ⟨⟨(i 0).val / 1024, lt_of_lt_of_eq (by omega : (i 0).val / 1024 < 16) (by decide +kernel : 16 = grid0.N)⟩, flush0_6 _, ?_⟩
    refine Finset.mem_map.mpr ⟨ix2 (⟨(i 0).val % 1024, by omega⟩ : Fin 1024) (i 1), Finset.mem_univ _, ?_⟩
    refine (place6 _ _ _).trans ?_
    refine (funext fun z => ?_)
    match z with
    | ⟨0, _⟩ => exact Fin.ext (Nat.div_add_mod (i 0).val 1024)
    | ⟨1, _⟩ => rfl

end Cert.Proof.RouterValue
end
-- ==== Proof.RouterRef.lean ====
/-
  The reference of the router's first two results at an index: the stream after the attention's projection and its norm, of
  formulas over the whole batch.
-/
module

public import proofs.«01_k».proof.Proof.Gen.RouterRefIdeal.Run
public import proofs.«01_k».proof.Proof.FfnBlock

@[expose] public section
set_option maxRecDepth 16384

noncomputable section
namespace Cert.Proof.RouterRef
open Idealize.ShloMosaic Idealize.ShloMosaic.TcCoe Idealize.SL.Sem Cert.RouterRefIdeal Cert.RouterRefIdeal.Gen Cert.Proof.FfnBlock

/-- Rows counted through, read as rows of a batch. -/
theorem batch_cast (o : S16384x1024.Idx → EReal) (h : S16384x1024.ShapeCasts S8x2048x1024) (b : Fin 8) (s : Fin 2048) (k : Fin 1024) :
    shapeCast S8x2048x1024 o h (ix3 b s k) = o (ix2 (⟨2048 * b.val + s.val, by omega⟩ : Fin 16384) k) := by
  refine Idealize.ShloMosaic.shapeCast_apply o h (ix3 b s k) _ ?_
  rw [rowMajor_val3 _ (2048 * 1024) 1024 rfl rfl, rowMajor_val2 _ 1024 rfl]
  show (2048 * b.val + s.val) * 1024 + k.val = b.val * (2048 * 1024) + s.val * 1024 + k.val
  omega

/-- The batch after the attention's projection. -/
def mixedA (x : FVec Ideal S8x2048x1024 .f32) (o : FVec Ideal S8x2048x1024 .bf16) (w : FVec Ideal S1024x1024 .f32) : FVec Ideal S8x2048x1024 .f32 :=
  addf x (Host.dotGeneral dot_S8x2048x1024_S1024x1024_S8x2048x1024_2_0_01_1_n_n none (extf .f32 o bitsLt_bf16_f32) w)

/-- Its norm, times the gain. -/
def normedA (r : FVec Ideal S8x2048x1024 .f32) (n : FVec Ideal S1x1024 .f32) : FVec Ideal S8x2048x1024 .f32 :=
  mulf (mulf r (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf r r) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ n shapeCasts_S1x1024_S1024 : FVec Ideal S1024 .f32)))

section
variable (x : FVec Ideal S8x2048x1024 .f32) (o : S16384x1024.Idx → EReal) (w : FVec Ideal S1024x1024 .f32) (n : FVec Ideal S1x1024 .f32)
  (h : S16384x1024.ShapeCasts S8x2048x1024) (h' : S8x2048x1024.ShapeCasts S16384x1024)

theorem mixedA_apply (o : FVec Ideal S8x2048x1024 .bf16) (b : Fin 8) (s : Fin 2048) (j : Fin 1024) :
    mixedA x o w (ix3 b s j) = mixed (fun k => x (ix3 b s k)) (fun k => o (ix3 b s k)) (fun k j => w (ix2 k j)) j := by
  unfold mixed
  pointwise [mixedA]

theorem normedA_apply (r : FVec Ideal S8x2048x1024 .f32) (b : Fin 8) (s : Fin 2048) (k : Fin 1024) :
    normedA r n (ix3 b s k) = normed (fun k => r (ix3 b s k)) (fun k => n (ix2 0 k)) k := by
  unfold normed
  pointwise [normedA]

/-- A row of the projected attention's rows, read in the batch and counted through. -/
theorem row_at (r : Fin 16384) (k : Fin 1024) : flat (shapeCast S8x2048x1024 o h) r k = o (ix2 r k) :=
  (batch_cast o h _ _ k).trans (congrArg (fun z : Fin 16384 => o (ix2 z k)) (Fin.ext (Nat.div_add_mod r.val 2048)))

/-- The row of the stream. -/
theorem mixed_row (r : Fin 16384) : flat (mixedA x (shapeCast S8x2048x1024 o h) w) r
    = mixed (flat x r) (fun k => o (ix2 r k)) (fun k j => w (ix2 k j)) :=
  funext fun j => (mixedA_apply x w _ _ _ j).trans (congrArg (fun a => mixed (flat x r) a (fun k j => w (ix2 k j)) j) (funext (row_at o h r)))

/-- The stream of the reference. -/
theorem stream (r : Fin 16384) (j : Fin 1024) : shapeCast S16384x1024 (mixedA x (shapeCast S8x2048x1024 o h) w) h' (ix2 r j)
    = mixed (flat x r) (fun k => o (ix2 r k)) (fun k j => w (ix2 k j)) j :=
  (flat_cast _ h' r j).trans (congrFun (mixed_row x o w h r) j)

/-- The norms of the reference. -/
theorem norms (r : Fin 16384) (j : Fin 1024) :
    (truncf .bf16 (shapeCast S16384x1024 (normedA (mixedA x (shapeCast S8x2048x1024 o h) w) n) h' : FVec Ideal S16384x1024 .f32) bitsLt_bf16_f32
      : S16384x1024.Idx → EReal) (ix2 r j)
    = normed (mixed (flat x r) (fun k => o (ix2 r k)) (fun k j => w (ix2 k j))) (fun k => n (ix2 0 k)) j :=
  (flat_cast _ h' r j).trans ((normedA_apply n _ _ _ j).trans (congrArg (fun a => normed a (fun k => n (ix2 0 k)) j) (mixed_row x o w h r)))
end

end Cert.Proof.RouterRef
end
-- ==== Proof.RouterJoin.lean ====
/-
  The stream and the norms of the router's kernel are its reference's; and the reference's frame.
-/
module

public import proofs.«01_k».proof.Defs
public import proofs.«01_k».proof.Proof.Gen.Router
public import proofs.«01_k».proof.Proof.RouterValue
public import proofs.«01_k».proof.Proof.RouterRef
public import Idealize.ShloMosaic.Lib.Quiescent

@[expose] public section
set_option maxRecDepth 16384

noncomputable section
namespace Cert.Proof.RouterJoin
open Idealize.ShloMosaic Idealize.ShloMosaic.TcCoe Idealize.SL.Sem

/-- The reference declares no semaphore: its run is its frame. -/
theorem reference_frame : Cert.quiescent_RouterRefIdeal := fun m g _ =>
  (θ_run Cert.RouterRefIdeal.defs _ _).mono
    (fun r h => And.intro (fun c => (h c).2.2) (sem_eq_zero_of_no_sems (by decide) r.2)) (Cert.RouterRefIdeal.Value.run m g)

/-- Two arrays of rows are one when they are at each row and column. -/
theorem ext_rows {a b : Cert.RouterIdeal.S16384x1024.Idx → EReal} (h : ∀ (r : Fin 16384) (j : Fin 1024), a (ix2 r j) = b (ix2 r j)) : a = b :=
  funext fun i => (congrArg a (eq_ix2 i)).trans ((h (i 0) (i 1)).trans (congrArg b (eq_ix2 i)).symm)

section
variable (m : (ℓ : Loc Cert.RouterRefIdeal.nD Cert.RouterRefIdeal.τ Cert.RouterRefIdeal.sig) → Buf (Elt Ideal) ℓ) (c : Dev Cert.RouterRefIdeal.nD)

/-- The reference's arrays. -/
abbrev rx : Cert.RouterRefIdeal.S8x2048x1024.Idx → EReal := m ((c.tc : Thread Cert.RouterRefIdeal.nD Cert.RouterRefIdeal.τ).loc Cert.RouterRefIdeal.main_arg0)
abbrev ro : Cert.RouterRefIdeal.S16384x1024.Idx → EReal := m ((c.tc : Thread Cert.RouterRefIdeal.nD Cert.RouterRefIdeal.τ).loc Cert.RouterRefIdeal.main_arg1)
abbrev rm : Cert.RouterRefIdeal.S1024x1024.Idx → EReal := m ((c.tc : Thread Cert.RouterRefIdeal.nD Cert.RouterRefIdeal.τ).loc Cert.RouterRefIdeal.main_arg2)
abbrev rn : Cert.RouterRefIdeal.S1x1024.Idx → EReal := m ((c.tc : Thread Cert.RouterRefIdeal.nD Cert.RouterRefIdeal.τ).loc Cert.RouterRefIdeal.main_arg3)
end

theorem algebraic : Cert.algebraic_RouterIdeal_RouterRefIdeal := by
  intro m g m' g' _ ha
  refine ⟨fun c => RouterValue.stream (RouterValue.ax m c) (RouterValue.ao m c) (RouterValue.aw m c),
    fun c => RouterValue.norms (RouterValue.ax m c) (RouterValue.ao m c) (RouterValue.aw m c) (RouterValue.an m c), ?_, ?_⟩
  · exact (θ_run Cert.RouterIdeal.defs _ _).mono
      (fun r h c => ⟨(h c).1.trans (RouterValue.final5 m c), (h c).2.1.trans (RouterValue.final6 m c), (h c).2.2.2.2.2⟩)
      (Cert.RouterIdeal.Value.run_blocks m g)
  · refine (θ_run Cert.RouterRefIdeal.defs _ _).mono (fun r h c => ?_) (Cert.RouterRefIdeal.Value.run m' g')
    obtain ⟨g0, g1, g2, g3, -⟩ := ha c
    have h0 : rx m' c = RouterValue.ax m c := g0
    have h1 : ro m' c = RouterValue.ao m c := g1
    have h2 : rm m' c = RouterValue.aw m c := g2
    have h3 : rn m' c = RouterValue.an m c := g3
    obtain ⟨e0, e1, rest⟩ := h c
    refine ⟨e0.trans (ext_rows fun r j => (RouterRef.stream (rx m' c) (ro m' c) (rm m' c)
        Cert.RouterRefIdeal.Gen.shapeCasts_S16384x1024_S8x2048x1024 Cert.RouterRefIdeal.Gen.shapeCasts_S8x2048x1024_S16384x1024 r j).trans ?_),
      e1.trans (ext_rows fun r j => (RouterRef.norms (rx m' c) (ro m' c) (rm m' c) (rn m' c)
        Cert.RouterRefIdeal.Gen.shapeCasts_S16384x1024_S8x2048x1024 Cert.RouterRefIdeal.Gen.shapeCasts_S8x2048x1024_S16384x1024 r j).trans ?_), rest⟩
    · rw [h0, h1, h2]; rfl
    · rw [h0, h1, h2, h3]; rfl

end Cert.Proof.RouterJoin
end
-- ==== Proof.RoutingPieces.lean ====
/-
  What the router's kernel stores as its counts at a point, in each of its two cases, as the printed expression of what the
  point reads.
-/
module

public import proofs.«01_k».proof.Proof.Gen.RoutingIdeal.Frame
public import Idealize.ShloMosaic.Lib.Pipeline.Value

@[expose] public section
set_option maxRecDepth 16384

noncomputable section
namespace Cert.Proof.RoutingPieces
open Idealize.ShloMosaic Idealize.SL.Sem Cert.RoutingIdeal Cert.RoutingIdeal.Gen
variable {F : FTy → Type} [FloatOps F]

theorem zz : (![0, 0] : Fin 2 → ℕ) = fun _ => 0 := by decide

/-! ## Loads of whole blocks -/

theorem ld_x (x : Vec F S1024x1024 .f32) : View.ld x (Rect.unit (s := S1024x1024) ![0, 0] ![1024, 1024] inb_S1024x1024_S1024x1024_0_0) = x :=
  View.ld_unit_zero zz _ x
theorem ld_o (x : Vec F S1024x1024 .bf16) : View.ld x (Rect.unit (s := S1024x1024) ![0, 0] ![1024, 1024] inb_S1024x1024_S1024x1024_0_0) = x :=
  View.ld_unit_zero zz _ x
theorem ld_n (x : Vec F S1x1024 .f32) : View.ld x (Rect.unit (s := S1x1024) ![0, 0] ![1, 1024] inb_S1x1024_S1x1024_0_0) = x :=
  View.ld_unit_zero zz _ x

theorem ld_r (x : Vec F S32x1024 .bf16) : View.ld x (Rect.unit (s := S32x1024) ![0, 0] ![32, 1024] inb_S32x1024_S32x1024_0_0) = x :=
  View.ld_unit_zero zz _ x

/-- The stored counts, of the blocks read. -/
def block (x0 : Vec F S1024x1024 .f32) (x1 x2 : Vec F S1024x1024 .bf16) (x3 : Vec F S1x1024 .f32) (x4 : Vec F S32x1024 .bf16) : FVec F S8x128 .f32 :=
  k0_pay26 (k0_pay23 (k0_pay10 x0 x1 x2 x3) (k0_pay11 x4) (k0_pay12 x0 x1 x2 x3 x4)) (iota .tc S8x1024 32 [0] iota_S8x1024_d0_w32)
    (iota .tc S8x1024 32 [1] iota_S8x1024_d1_w32) 128#32 k0_pay24 k0_pay25

/-! ## The first point -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : cond0_0 i)
    (x0 : Vec F S1024x1024 .f32) (x1 : Vec F S1024x1024 .bf16) (x2 : Vec F S1024x1024 .bf16) (x3 : Vec F S1x1024 .f32) (x4 : Vec F S32x1024 .bf16)
theorem outA9 : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 = block x0 x1 x2 x3 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread]
  rw [View.canon_unit_zero zz]
  simp only [ld_x, ld_o, ld_n, ld_r]
  rfl
end

/-! ## The points after it -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : ¬cond0_0 i)
    (x0 : Vec F S1024x1024 .f32) (x1 : Vec F S1024x1024 .bf16) (x2 : Vec F S1024x1024 .bf16) (x3 : Vec F S1x1024 .f32) (x4 : Vec F S32x1024 .bf16) (xs0 : Vec F S16x128 .f32) (xs1 : Vec F S128x128 .bf16)
theorem outB9 : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = block x0 x1 x2 x3 x4 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  unfold kernelRun0_B
  dsimp only
  sl_unfold_words
  simp only [View.readAt_eq_ld, harg1.read_unread, harg2.read_unread, harg3.read_unread, harg4.read_unread, harg5.read_unread]
  rw [View.canon_unit_zero zz]
  simp only [ld_x, ld_o, ld_n, ld_r]
  rfl
end

end Cert.Proof.RoutingPieces
end
-- ==== Proof.RoutingPick.lean ====
/-
  The two greatest of eight extended reals, the lower place first among equals: as a stable sort puts them first, and as
  they are found among sixteen by the least place that attains the maximum, twice.
-/
module

public import Idealize.ShloMosaic.Lib.SortPrefix
public import proofs.«01_k».proof.Proof.InprojMath

@[expose] public section

noncomputable section
namespace Cert.Proof.RoutingPick
open Idealize.ShloMosaic Cert.Proof.InprojMath

/-! ## The order of the places -/

/-- Place `k` comes before `k'`: its number is greater, or it is the same at a lower place. -/
def ahead (l : Fin 8 → EReal) (k k' : Fin 8) : Bool := decide (l k' < l k) || (decide (l k = l k') && decide (k < k'))

theorem ahead_total (l : Fin 8 → EReal) : StrictTotalBefore (ahead l) :=
  StrictTotalBefore.of_key_then_position (fun a b : EReal => decide (b < a)) l (fun a => by simp)
    (fun a b c h1 h2 => decide_eq_true (lt_trans (of_decide_eq_true h2) (of_decide_eq_true h1)))
    (fun a b => by
      rcases lt_trichotomy a b with h | h | h
      · exact Or.inr (Or.inr (decide_eq_true h))
      · exact Or.inr (Or.inl h)
      · exact Or.inl (decide_eq_true h))

theorem ahead_iff (l : Fin 8 → EReal) (k k' : Fin 8) : ahead l k k' = true ↔ l k' < l k ∨ (l k = l k' ∧ k < k') := by
  simp [ahead]

/-- The first and the second place. -/
def first (l : Fin 8 → EReal) : Fin 8 := sortedFrom (ahead l) 0
def second (l : Fin 8 → EReal) : Fin 8 := sortedFrom (ahead l) 1

theorem sorted_ahead (l : Fin 8 → EReal) (i j : Fin 8) (h : i < j) : ahead l (sortedFrom (ahead l) i) (sortedFrom (ahead l) j) = true := by
  have hB := ahead_total l
  have hn := sortedFrom_noInversion (ahead l) (ahead l) (fun a b => hB.asymm a b) (fun _ _ h => h) (fun a b c h1 h2 => by
    cases hac : ahead l a c
    · rfl
    · exfalso
      have hab : a ≠ b := fun e => by subst e; rw [hac] at h2; exact absurd h2 (by decide)
      have hba := (hB.total a b hab).resolve_left (by rw [h1]; decide)
      have := hB.trans b a c hba hac
      rw [h2] at this
      exact absurd this (by decide)) i j h
  refine (hB.total _ _ fun e => absurd (sortedFrom_injective _ e) (ne_of_lt h)).resolve_right ?_
  rw [hn]
  decide

theorem first_ahead (l : Fin 8 → EReal) (e : Fin 8) (h : e ≠ first l) : ahead l (first l) e = true := by
  obtain ⟨j, rfl⟩ := sortedFrom_surjective (ahead l) e
  exact sorted_ahead l 0 j (Fin.pos_of_ne_zero fun hj => h (by rw [hj]; rfl))

theorem second_ahead (l : Fin 8 → EReal) (e : Fin 8) (h : e ≠ first l) (h' : e ≠ second l) : ahead l (second l) e = true := by
  obtain ⟨j, rfl⟩ := sortedFrom_surjective (ahead l) e
  refine sorted_ahead l 1 j ?_
  have h0 : j ≠ 0 := fun hj => h (by rw [hj]; rfl)
  have h1 : j ≠ 1 := fun hj => h' (by rw [hj]; rfl)
  omega

theorem first_ne_second (l : Fin 8 → EReal) : first l ≠ second l := fun e => absurd (sortedFrom_injective _ e) (by decide)

/-! ## The stable sort by the numbers alone -/

theorem pairwise_lt_finRange (n : ℕ) : (List.finRange n).Pairwise (· < ·) := List.pairwise_lt_finRange n

/-- On a list of places in order, a stable sort leaves equal numbers in the places' order. -/
theorem stableSort_places (R : Fin 8 → Fin 8 → Bool) (l : Fin 8 → EReal) (hR : ∀ a b, R a b = decide (l b < l a))
    (m : List (Fin 8)) (hm : m.Pairwise (· < ·)) : stableSort R m = stableSort (ahead l) m := by
  induction m with
  | nil => rfl
  | cons a m ih =>
    rw [List.pairwise_cons] at hm
    show insertBefore R a (stableSort R m) = insertBefore (ahead l) a (stableSort (ahead l) m)
    rw [ih hm.2]
    refine insertBefore_congr _ _ a _ fun b hb => ?_
    have hab : a < b := hm.1 b ((perm_stableSort _ m).mem_iff.mp hb)
    rw [hR]
    have : ¬ b < a := not_lt.mpr hab.le
    simp [ahead, this]

theorem sortedFrom_places (R : Fin 8 → Fin 8 → Bool) (l : Fin 8 → EReal) (hR : ∀ a b, R a b = decide (l b < l a)) :
    sortedFrom R = sortedFrom (ahead l) := by
  funext k
  unfold sortedFrom
  rw [List.get_of_eq (show sortPositions 8 R = sortPositions 8 (ahead l) from stableSort_places R l hR _ (pairwise_lt_finRange 8))]
  rfl

/-! ## The least place that attains the maximum -/

theorem toInt_minsi (x y : BitVec 32) : (IntOp.minsi x y).toInt = min x.toInt y.toInt := by
  simp only [IntOp.minsi, BitVec.slt, decide_eq_true_eq]
  split_ifs with h <;> omega

/-- The least place of sixteen with a property, as the kernel finds it. -/
def least (P : Fin 16 → Prop) [DecidablePred P] : BitVec 32 :=
  (Finset.univ : Finset (Fin 16)).fold IntOp.minsi 2147483647#32 fun e => if P e then BitVec.ofNat 32 e.val else 16#32

theorem toInt_place : ∀ e : Fin 16, (BitVec.ofNat 32 e.val).toInt = (e.val : ℤ) := by decide +kernel

theorem least_eq (P : Fin 16 → Prop) [DecidablePred P] (a : Fin 16) (ha : P a) (hl : ∀ e, P e → a ≤ e) : least P = BitVec.ofNat 32 a.val := by
  refine BitVec.eq_of_toInt_eq ?_
  unfold least
  rw [← Finset.fold_hom (op := IntOp.minsi) (op' := min) (m := BitVec.toInt) toInt_minsi]
  rw [toInt_place a]
  refine le_antisymm ((Finset.fold_min_le _).mpr (Or.inr ⟨a, Finset.mem_univ a, ?_⟩)) ((Finset.le_fold_min _).mpr ⟨?_, fun e _ => ?_⟩)
  · rw [if_pos ha, toInt_place a]
  · have := a.isLt
    rw [show (2147483647#32 : BitVec 32).toInt = 2147483647 by decide]
    omega
  · by_cases h : P e
    · rw [if_pos h, toInt_place e]
      exact_mod_cast hl e h
    · rw [if_neg h]
      have := a.isLt
      rw [show (16#32 : BitVec 32).toInt = 16 by decide]
      omega

/-- The greatest of sixteen, and the least place that attains it. -/
def top (x : Fin 16 → EReal) : EReal := (Finset.univ : Finset (Fin 16)).fold max ⊥ x
def pick (x : Fin 16 → EReal) : BitVec 32 := least fun e => x e = top x

theorem top_eq (x : Fin 16 → EReal) (a : Fin 16) (h : ∀ e, x e ≤ x a) : top x = x a :=
  le_antisymm ((Finset.fold_max_le _).mpr ⟨bot_le, fun e _ => h e⟩) ((Finset.le_fold_max _).mpr (Or.inr ⟨a, Finset.mem_univ a, le_rfl⟩))

theorem pick_eq (x : Fin 16 → EReal) (a : Fin 16) (h : ∀ e, x e ≤ x a) (hl : ∀ e, x e = x a → a ≤ e) : pick x = BitVec.ofNat 32 a.val :=
  least_eq _ a (top_eq x a h).symm fun e he => hl e (he.trans (top_eq x a h))

/-! ## The two picks of a column -/

/-- Eight numbers and eight least ones. -/
def padded (l : Fin 8 → EReal) (e : Fin 16) : EReal := if h : e.val < 8 then l ⟨e.val, h⟩ else ⊥
/-- The column without the place picked. -/
def rest (x : Fin 16 → EReal) (e : Fin 16) : EReal := if BitVec.ofNat 32 e.val = pick x then ⊥ else x e

/-- A place of eight among the sixteen. -/
abbrev up (e : Fin 8) : Fin 16 := ⟨e.val, by omega⟩

theorem padded_up (l : Fin 8 → EReal) (e : Fin 8) : padded l (up e) = l e := dif_pos e.isLt

theorem place_inj : ∀ e a : Fin 16, BitVec.ofNat 32 e.val = BitVec.ofNat 32 a.val ↔ e = a := by decide +kernel

theorem pick_first (l : Fin 8 → EReal) : pick (padded l) = BitVec.ofNat 32 (first l).val := by
  refine pick_eq (padded l) (up (first l)) (fun e => ?_) fun e he => ?_
  · rw [padded_up]
    unfold padded
    split_ifs with h
    · by_cases hf : (⟨e.val, h⟩ : Fin 8) = first l
      · rw [hf]
      · rcases (ahead_iff l _ _).mp (first_ahead l _ hf) with h1 | h1
        · exact h1.le
        · exact h1.1.ge
    · exact bot_le
  · rw [padded_up] at he
    show (first l).val ≤ e.val
    by_cases h : e.val < 8
    · unfold padded at he
      rw [dif_pos h] at he
      by_cases hf : (⟨e.val, h⟩ : Fin 8) = first l
      · rw [← hf]
      · rcases (ahead_iff l _ _).mp (first_ahead l _ hf) with h1 | h1
        · exact absurd he (ne_of_lt h1)
        · exact le_of_lt (Fin.lt_def.mp h1.2)
    · have := (first l).isLt
      omega

theorem rest_padded (l : Fin 8 → EReal) (e : Fin 16) : rest (padded l) e = if e = up (first l) then ⊥ else padded l e := by
  unfold rest
  rw [pick_first]
  exact if_congr (place_inj e (up (first l))) rfl rfl

theorem pick_second (l : Fin 8 → EReal) (hl : ∀ e, Finite (l e)) : pick (rest (padded l)) = BitVec.ofNat 32 (second l).val := by
  have hs : rest (padded l) (up (second l)) = l (second l) := by
    rw [rest_padded, if_neg, padded_up]
    intro e
    exact first_ne_second l (Fin.ext (congrArg Fin.val e).symm)
  have hb : l (second l) ≠ ⊥ := by
    obtain ⟨r, hr⟩ := hl (second l)
    rw [hr]
    exact EReal.coe_ne_bot r
  have other : ∀ (e : Fin 16) (h : e.val < 8), e ≠ up (first l) → (⟨e.val, h⟩ : Fin 8) ≠ first l := fun e h hn he =>
    hn (Fin.ext (congrArg (fun z : Fin 8 => z.val) he))
  refine pick_eq (rest (padded l)) (up (second l)) (fun e => ?_) fun e he => ?_
  · rw [hs, rest_padded]
    split_ifs with hn
    · exact bot_le
    · unfold padded
      split_ifs with h
      · by_cases hf : (⟨e.val, h⟩ : Fin 8) = second l
        · rw [hf]
        · rcases (ahead_iff l _ _).mp (second_ahead l _ (other e h hn) hf) with h1 | h1
          · exact h1.le
          · exact h1.1.ge
      · exact bot_le
  · rw [hs, rest_padded] at he
    show (second l).val ≤ e.val
    split_ifs at he with hn
    · exact absurd he.symm hb
    · by_cases h : e.val < 8
      · unfold padded at he
        rw [dif_pos h] at he
        by_cases hf : (⟨e.val, h⟩ : Fin 8) = second l
        · rw [← hf]
        · rcases (ahead_iff l _ _).mp (second_ahead l _ (other e h hn) hf) with h1 | h1
          · exact absurd he (ne_of_lt h1)
          · exact le_of_lt (Fin.lt_def.mp h1.2)
      · have := (second l).isLt
        omega

/-- One at the two places, zero elsewhere. -/
def chosen (l : Fin 8 → EReal) (e : Fin 8) : EReal := if e = first l ∨ e = second l then 1 else 0

end Cert.Proof.RoutingPick
end
-- ==== Proof.RoutingBlock.lean ====
/-
  What the router's kernel stores as its counts at an index, over the extended reals: for a block of 128 tokens and an
  expert, how many of the tokens choose it.
-/
module

public import proofs.«01_k».proof.Proof.Gen.RoutingIdeal.Frame
public import proofs.«01_k».proof.Proof.RoutingPick
public import Idealize.ShloMosaic.Lib.Pointwise

@[expose] public section
set_option maxRecDepth 16384

noncomputable section
namespace Cert.Proof.RoutingBlock
open Idealize.ShloMosaic Cert.RoutingIdeal Cert.RoutingIdeal.Gen Cert.Proof.RoutingPick

theorem bits_bot : Ideal.ofBits .f32 0xFF800000#32 = ⊥ := by simp [Ideal.ofBits, Ideal.ieee]

theorem cmpi_eq (x y : BitVec 32) : IntOp.cmpi .eq x y = BitVec.ofBool (decide (x = y)) := rfl

theorem or_choice (a b : Prop) [Decidable a] [Decidable b] :
    Scalar.select (IntOp.ori (BitVec.ofBool (decide a)) (BitVec.ofBool (decide b))) (1 : EReal) 0 = if a ∨ b then 1 else 0 := by
  by_cases ha : a <;> by_cases hb : b <;> simp [ha, hb, IntOp.ori, Scalar.select]

/-! ## The two reductions over the experts -/

theorem max_rows (x : FVec Ideal S16x1024 .f32) (p : Fin 1024) :
    shapeCast S1x1024 (multiReduction .maximumf [0] S1024 x 0xFF800000#32 reduces_S16x1024_S1024 (.inl rfl) rfl) shapeCasts_S1024_S1x1024 (ix2 0 p)
      = top fun e => x (ix2 e p) := by
  refine (Idealize.ShloMosaic.shapeCast_apply _ shapeCasts_S1024_S1x1024 (ix2 0 p) (ix1 p) ?_).trans ?_
  · rw [rowMajor_val2 _ 1024 rfl, rowMajor_val1]
    show p.val = 0 * 1024 + p.val
    omega
  · refine (Ideal.multiReduction_maximumf_single x 0xFF800000#32 reduces_S16x1024_S1024 (.inl rfl) rfl (ix1 p)).trans ?_
    show (Finset.univ : Finset (Fin 16)).fold max (Ideal.ofBits .f32 0xFF800000#32) _ = (Finset.univ : Finset (Fin 16)).fold max ⊥ _
    rw [bits_bot]
    refine congrArg (fun f : Fin 16 → EReal => (Finset.univ : Finset (Fin 16)).fold max ⊥ f) (funext fun e => congrArg x (funext fun z => ?_))
    match z with
    | ⟨0, _⟩ => rfl
    | ⟨1, _⟩ => rfl

theorem min_rows (x : IVec S16x1024 32) (p : Fin 1024) :
    shapeCast S1x1024 (multiReductionI .minsi [0] S1024 x 2147483647#32 reduces_S16x1024_S1024 rfl) shapeCasts_S1024_S1x1024 (ix2 0 p)
      = (Finset.univ : Finset (Fin 16)).fold IntOp.minsi 2147483647#32 fun e => x (ix2 e p) := by
  refine (Idealize.ShloMosaic.shapeCast_apply _ shapeCasts_S1024_S1x1024 (ix2 0 p) (ix1 p) ?_).trans ?_
  · rw [rowMajor_val2 _ 1024 rfl, rowMajor_val1]
    show p.val = 0 * 1024 + p.val
    omega
  · refine (multiReductionI_eq_fold .minsi x 2147483647#32 reduces_S16x1024_S1024 rfl (ix1 p)).trans ?_
    refine (reduces_S16x1024_S1024.fold_filter_drop_single IntOp.minsi 2147483647#32 x (ix1 p)).trans ?_
    refine congrArg (fun f : Fin 16 → BitVec 32 => (Finset.univ : Finset (Fin 16)).fold IntOp.minsi 2147483647#32 f) (funext fun e => congrArg x (funext fun z => ?_))
    match z with
    | ⟨0, _⟩ => rfl
    | ⟨1, _⟩ => rfl

/-! ## A column of the logits and its two picks -/

section
variable (v27 : FVec Ideal S1024x1024 .bf16) (v30 : FVec Ideal S32x1024 .bf16) (v34 : FVec Ideal S16x1024 .f32) (p : Fin 1024)

theorem pay13 (e : Fin 16) : k0_pay13 (F := Ideal) v27 v30 v34 (ix2 e p)
    = if e.val < 8 then v34 (ix2 e p) + ∑ k : Fin 1024, v30 (ix2 (⟨e.val, by omega⟩ : Fin 32) k) * v27 (ix2 p k) else ⊥ := by
  have h : ∀ e : Fin 16, IntOp.cmpi .slt (BitVec.ofNat 32 e.val) 8#32 = BitVec.ofBool (decide (e.val < 8)) := by decide +kernel
  pointwise [k0_pay13, bits_bot, h]

/-- The column of a token. -/
def col : Fin 16 → EReal := fun e => k0_pay13 (F := Ideal) v27 v30 v34 (ix2 e p)

theorem pay14 : k0_pay14 (F := Ideal) v27 v30 v34 (ix2 0 p) = top (col v27 v30 v34 p) := max_rows _ p
theorem pay15 : k0_pay15 (F := Ideal) v27 v30 v34 (ix2 0 p) = pick (col v27 v30 v34 p) := by
  refine (min_rows _ p).trans ?_
  unfold pick least
  refine congrArg (fun f : Fin 16 → BitVec 32 => (Finset.univ : Finset (Fin 16)).fold IntOp.minsi 2147483647#32 f) (funext fun e => ?_)
  rw [← pay14]
  unfold col
  pointwise []
theorem pay16 (e : Fin 16) : k0_pay16 (F := Ideal) v27 v30 v34 (ix2 e p) = BitVec.ofBool (decide (BitVec.ofNat 32 e.val = pick (col v27 v30 v34 p))) := by
  rw [← pay15]
  pointwise [k0_pay16]
  exact cmpi_eq _ _
theorem pay17 (e : Fin 16) : k0_pay17 (F := Ideal) v27 v30 v34 (ix2 e p) = rest (col v27 v30 v34 p) e := by
  unfold rest
  pointwise [k0_pay17, pay16, bits_bot]
  rfl
theorem pay18 : k0_pay18 (F := Ideal) v27 v30 v34 (ix2 0 p) = top (rest (col v27 v30 v34 p)) :=
  (max_rows _ p).trans (congrArg top (funext fun e => pay17 v27 v30 v34 p e))
theorem pay19 : k0_pay19 (F := Ideal) v27 v30 v34 (ix2 0 p) = pick (rest (col v27 v30 v34 p)) := by
  refine (min_rows _ p).trans ?_
  unfold pick least
  refine congrArg (fun f : Fin 16 → BitVec 32 => (Finset.univ : Finset (Fin 16)).fold IntOp.minsi 2147483647#32 f) (funext fun e => ?_)
  refine Eq.trans ?_ (if_congr (congrArg₂ (fun a b : EReal => a = b) (pay17 v27 v30 v34 p e) (pay18 v27 v30 v34 p)).to_iff rfl rfl)
  pointwise []
theorem pay20 (e : Fin 16) : k0_pay20 (F := Ideal) v27 v30 v34 (ix2 e p) = BitVec.ofBool (decide (BitVec.ofNat 32 e.val = pick (rest (col v27 v30 v34 p)))) := by
  rw [← pay19]
  pointwise [k0_pay20]
  exact cmpi_eq _ _
theorem pay23 (e : Fin 16) : k0_pay23 (F := Ideal) v27 v30 v34 (ix2 e p)
    = if BitVec.ofNat 32 e.val = pick (col v27 v30 v34 p) ∨ BitVec.ofNat 32 e.val = pick (rest (col v27 v30 v34 p)) then 1 else 0 := by
  pointwise [k0_pay23, pay16, pay20]
  exact or_choice _ _

/-- When the column is eight finite numbers and eight least ones, its picks are the two greatest. -/
theorem pay23_chosen (l : Fin 8 → EReal) (hl : ∀ e, InprojMath.Finite (l e)) (hc : col v27 v30 v34 p = padded l) (e : Fin 16) :
    k0_pay23 (F := Ideal) v27 v30 v34 (ix2 e p) = if h : e.val < 8 then chosen l ⟨e.val, h⟩ else 0 := by
  rw [pay23, hc, pick_first, pick_second l hl]
  have h1 : BitVec.ofNat 32 e.val = BitVec.ofNat 32 (first l).val ↔ e.val = (first l).val :=
    (place_inj e (up (first l))).trans Fin.ext_iff
  have h2 : BitVec.ofNat 32 e.val = BitVec.ofNat 32 (second l).val ↔ e.val = (second l).val :=
    (place_inj e (up (second l))).trans Fin.ext_iff
  simp only [h1, h2]
  split_ifs with h h' h'
  · exact (if_pos (h.imp (fun a => Fin.ext a) (fun a => Fin.ext a))).symm
  · have := (first l).isLt
    have := (second l).isLt
    omega
  · exact (if_neg fun a => h (a.imp (fun a => congrArg (fun z : Fin 8 => z.val) a) (fun a => congrArg (fun z : Fin 8 => z.val) a))).symm
  · rfl
end

/-! ## The counts of a block -/

/-- A token's place in its block's row, as the kernel's words find it. -/
theorem block_word : ∀ x : Fin 1024,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 128#32 0#32))
            (Scalar.extui (Scalar.cmpi CmpIPredicate.slt 128#32 0#32))))
        (IntOp.cmpi CmpIPredicate.ne (IntOp.remsi ArithUnit.vector (BitVec.ofNat 32 x.val) 128#32) 0#32))
      (IntOp.subi (IntOp.divsi ArithUnit.vector (BitVec.ofNat 32 x.val) 128#32) 1#32)
      (IntOp.divsi ArithUnit.vector (BitVec.ofNat 32 x.val) 128#32) = BitVec.ofNat 32 (x.val / 128) := by decide +kernel

theorem word_eq : ∀ b q : Fin 8, BitVec.setWidth 32 (IntOp.cmpi CmpIPredicate.eq (BitVec.ofNat 32 b.val) (BitVec.ofNat 32 q.val))
    = if q.val = b.val then 1#32 else 0#32 := by decide +kernel

theorem indicator (b q : Fin 8) : (FloatOps.sitofp FTy.f32
    (BitVec.setWidth 32 (IntOp.cmpi CmpIPredicate.eq (BitVec.ofNat 32 b.val) (BitVec.ofNat 32 q.val))) : Ideal .f32)
    = ((if q.val = b.val then 1 else 0 : EReal)) := by
  rw [word_eq]
  show (((if q.val = b.val then 1#32 else 0#32 : BitVec 32).toInt : ℝ) : EReal) = _
  split_ifs <;> simp

theorem pay26 (v73 : FVec Ideal S16x1024 .bf16) (b : Fin 8) (j : Fin 128) :
    k0_pay26 (F := Ideal) v73 (iota .tc S8x1024 32 [0] iota_S8x1024_d0_w32) (iota .tc S8x1024 32 [1] iota_S8x1024_d1_w32) 128#32 k0_pay24 k0_pay25 (ix2 b j)
      = if h : j.val < 16 then ∑ p : Fin 1024, (if p.val / 128 = b.val then 1 else 0) * v73 (ix2 (⟨j.val, h⟩ : Fin 16) p) else 0 := by
  pointwise [k0_pay26, k0_pay24, k0_pay25]
  split_ifs
  · refine Finset.sum_congr rfl fun p _ => congrArg (fun a : EReal => a * v73 (ix2 _ p)) ?_
    rw [block_word p]
    exact indicator b ⟨p.val / 128, by omega⟩
  · rfl

/-- The tokens of a row of the block, of all the block's tokens. -/
theorem sum_row (b : Fin 8) (f : Fin 1024 → EReal) :
    ∑ p : Fin 1024, (if p.val / 128 = b.val then 1 else 0) * f p = ∑ q : Fin 128, f ⟨128 * b.val + q.val, by omega⟩ := by
  refine (Fintype.sum_equiv (finProdFinEquiv (m := 8) (n := 128)).symm _
    (fun z : Fin 8 × Fin 128 => (if z.1 = b then 1 else 0 : EReal) * f ⟨128 * z.1.val + z.2.val, by omega⟩) fun p => ?_).trans ?_
  · obtain ⟨⟨z, q⟩, rfl⟩ := (finProdFinEquiv (m := 8) (n := 128)).surjective p
    rw [Equiv.symm_apply_apply]
    have hv : (finProdFinEquiv (m := 8) (n := 128) (z, q)).val = 128 * z.val + q.val := by
      show q.val + 128 * z.val = 128 * z.val + q.val
      omega
    have hf : finProdFinEquiv (m := 8) (n := 128) (z, q) = (⟨128 * z.val + q.val, by omega⟩ : Fin 1024) := Fin.ext hv
    refine congrArg₂ (fun u v : EReal => u * v) (if_congr ?_ rfl rfl) (congrArg f hf)
    rw [Fin.ext_iff, hv]
    show (128 * z.val + q.val) / 128 = b.val ↔ z.val = b.val
    omega
  · rw [Fintype.sum_prod_type]
    rw [Finset.sum_eq_single b (fun z _ hz => ?_) (fun h => absurd (Finset.mem_univ b) h)]
    · exact Finset.sum_congr rfl fun q _ => by rw [if_pos rfl, one_mul]
    · exact Finset.sum_eq_zero fun q _ => by rw [if_neg hz, zero_mul]

end Cert.Proof.RoutingBlock
end
-- ==== Proof.RoutingValue.lean ====
/-
  What the router's kernel leaves as its first two results, over the extended reals: on every row, the stream after the
  attention's projection, and its norm.
-/
module

public import proofs.«01_k».proof.Proof.RoutingPieces
public import proofs.«01_k».proof.Proof.RoutingBlock
public import proofs.«01_k».proof.Proof.FfnBlock
public import proofs.«01_k».proof.Proof.Gen.RoutingIdeal.Value

@[expose] public section
set_option maxRecDepth 16384

noncomputable section
namespace Cert.Proof.RoutingValue
open Idealize.ShloMosaic Idealize.ShloMosaic.TcCoe Idealize.SL.Sem Cert.RoutingIdeal Cert.RoutingIdeal.Gen Cert.Proof.RoutingPieces
open Cert.Proof.FfnBlock (mixed normed flat flat_cast)
open Cert.Proof.RoutingPick Cert.Proof.InprojMath

/-! ## The stored blocks at an index -/

section
variable (x : Vec Ideal S1024x1024 .f32) (o w : Vec Ideal S1024x1024 .bf16) (n : Vec Ideal S1x1024 .f32) (p k : Fin 1024)

theorem pay7 : k0_pay7 (F := Ideal) x o w (ix2 p k) = mixed (fun k => x (ix2 p k)) (fun k => o (ix2 p k)) (fun k j => w (ix2 k j)) k := by
  unfold mixed
  pointwise [k0_pay7]

theorem pay9 : k0_pay9 (F := Ideal) x o w n (ix2 p k)
    = normed (mixed (fun k => x (ix2 p k)) (fun k => o (ix2 p k)) (fun k j => w (ix2 k j))) (fun k => n (ix2 0 k)) k := by
  unfold normed
  simp only [← pay7]
  pointwise [k0_pay9, k0_pay8]
end

/-! ## The points' blocks -/

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx9 : ∀ t : Fin grid0.N, win0_9.index t (0 : Fin 2) = t.val ∧ win0_9.index t (1 : Fin 2) = 0 := by decide +kernel

variable (m : (ℓ : Loc nD τ sig) → Buf (Elt Ideal) ℓ) (c : Dev nD)

/-- The arrays. -/
abbrev ax : S8x2048x1024.Idx → EReal := m ((c : Thread nD τ).loc main_arg0)
abbrev ao : S16384x1024.Idx → EReal := m ((c : Thread nD τ).loc main_arg1)
abbrev aw : S1024x1024.Idx → EReal := m ((c : Thread nD τ).loc main_arg2)
abbrev an : S1x1024.Idx → EReal := m ((c : Thread nD τ).loc main_arg3)
abbrev ar : S1024x8.Idx → EReal := m ((c : Thread nD τ).loc main_arg4)

/-! The arrays the call is given: rows of the batch one after the other, and the weights as they are. -/

theorem V0 (r : Fin 16384) (k : Fin 1024) : (V m c main_v0 : S16384x1024.Idx → EReal) (ix2 r k) = flat (ax m c) r k := by
  have e : V m c main_v0 = shapeCast S16384x1024 (m ((c : Thread nD τ).loc main_arg0)) shapeCasts_S8x2048x1024_S16384x1024 := by
    unfold V
    simp only [hostOps0, hostOps0_1, hostOps0_2, hostOps0_3, hostOps0_4, List.flatten_cons, List.flatten_nil, List.append_nil,
      List.cons_append, List.nil_append]
    after_results_simp <;> rfl
  rw [e]
  exact flat_cast _ _ r k
theorem V2 : (V m c main_v1 : S1024x1024.Idx → EReal) = aw m c := by
  unfold V
  simp only [hostOps0, hostOps0_1, hostOps0_2, hostOps0_3, hostOps0_4, List.flatten_cons, List.flatten_nil, List.append_nil,
    List.cons_append, List.nil_append]
  after_results_simp <;> rfl

/-! The router's weights, by expert, and what is left of them beside their own value. -/

theorem V4 : V m c main_v10 = concatenate S32x1024 0
    [⟨S16x1024, pad S16x1024 ![0, 0] ![8, 0] ![0, 0] (truncf (F := Ideal) .bf16 (transpose S8x1024 [1, 0] (ar m c) transposes_S1024x8_S8x1024_1_0 : FVec Ideal S8x1024 .f32) bitsLt_bf16_f32)
        (sitofp (F := Ideal) .bf16 (constantI S_ 32 0#32)) pads_S8x1024_S16x1024_080_000 h_S_⟩,
      ⟨S16x1024, pad S16x1024 ![0, 0] ![8, 0] ![0, 0] (truncf (F := Ideal) .bf16 (subf (F := Ideal) (φ := .f32) (transpose S8x1024 [1, 0] (ar m c) transposes_S1024x8_S8x1024_1_0)
          (extf (F := Ideal) .f32 (truncf (F := Ideal) .bf16 (transpose S8x1024 [1, 0] (ar m c) transposes_S1024x8_S8x1024_1_0 : FVec Ideal S8x1024 .f32) bitsLt_bf16_f32) bitsLt_bf16_f32)) bitsLt_bf16_f32)
        (sitofp (F := Ideal) .bf16 (constantI S_ 32 0#32)) pads_S8x1024_S16x1024_080_000 h_S_⟩] concatenates_S16x1024_S16x1024_S32x1024_d0 := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.unary, StableHlo.TRef.toBuf, StableHlo.TRef.ofBuf, cast_eq]
  after_results_simp <;> rfl

theorem weight_at (e : Fin 8) (k : Fin 1024) : (V m c main_v10 : S32x1024.Idx → EReal) (ix2 (⟨e.val, by omega⟩ : Fin 32) k) = ar m c (ix2 k e) := by
  rw [V4]
  pointwise []
  exact dif_pos (by omega)
theorem left_at (e : Fin 8) (k : Fin 1024) :
    (V m c main_v10 : S32x1024.Idx → EReal) (ix2 (⟨16 + e.val, by omega⟩ : Fin 32) k) = ar m c (ix2 k e) - ar m c (ix2 k e) := by
  rw [V4]
  pointwise []

/-- Row `p` of point `t`. -/
def rowOf (t : Fin 16) (p : Fin 1024) : Fin 16384 := ⟨1024 * t.val + p.val, by omega⟩
/-- A point of the call, as a number below 16. -/
def point (t : Fin cfg0.N) : Fin 16 := ⟨t.val, lt_of_lt_of_eq t.isLt (by decide +kernel : grid0.N = 16)⟩

section
variable (t : Fin cfg0.N) (p : Fin 1024)

theorem blk0 (k : Fin 1024) : (iblk m c 0 t : S1024x1024.Idx → EReal) (ix2 p k) = flat (ax m c) (rowOf (point t) p) k := by
  refine Eq.trans ?_ (V0 m c (rowOf (point t) p) k)
  refine congrArg (V m c main_v0 : S16384x1024.Idx → EReal) (funext fun z => Fin.ext ?_)
  refine ((cfg0.win 0).rect_emb_val t (ix2 p k) z).trans ?_
  obtain ⟨e0, e1⟩ := idx0 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + k.val) e1).trans ?_
    show 0 * 1024 + k.val = k.val; omega
theorem blk1 (k : Fin 1024) : (iblk m c 1 t : S1024x1024.Idx → EReal) (ix2 p k) = ao m c (ix2 (rowOf (point t) p) k) := by
  refine Eq.trans ?_ (congrFun (V_main_arg1 m c) (ix2 (rowOf (point t) p) k))
  refine congrArg (V m c main_arg1 : S16384x1024.Idx → EReal) (funext fun z => Fin.ext ?_)
  refine ((cfg0.win 1).rect_emb_val t (ix2 p k) z).trans ?_
  obtain ⟨e0, e1⟩ := idx1 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 1024 + k.val) e1).trans ?_
    show 0 * 1024 + k.val = k.val; omega
theorem blk2 (k j : Fin 1024) : (iblk m c 2 t : S1024x1024.Idx → EReal) (ix2 k j) = aw m c (ix2 k j) := by
  refine Eq.trans ?_ (congrFun (V2 m c) (ix2 k j))
  refine congrArg (V m c main_v1 : S1024x1024.Idx → EReal) (funext fun z => Fin.ext ?_)
  refine ((cfg0.win 2).rect_emb_val t (ix2 k j) z).trans ?_
  obtain ⟨e0, e1⟩ := idx2 t
  match z with
  | ⟨0, _⟩ =>
    refine (congrArg (fun i : ℕ => i * 1024 + k.val) e0).trans ?_
    show 0 * 1024 + k.val = k.val; omega
  | ⟨1, _⟩ =>
    refine (congrArg (fun i : ℕ => i * 1024 + j.val) e1).trans ?_
    show 0 * 1024 + j.val = j.val; omega
theorem blk3 (k : Fin 1) (j : Fin 1024) : (iblk m c 3 t : S1x1024.Idx → EReal) (ix2 k j) = an m c (ix2 k j) := by
  refine Eq.trans ?_ (congrFun (V_main_arg3 m c) (ix2 k j))
  refine congrArg (V m c main_arg3 : S1x1024.Idx → EReal) (funext fun z => Fin.ext ?_)
  refine ((cfg0.win 3).rect_emb_val t (ix2 k j) z).trans ?_
  obtain ⟨e0, e1⟩ := idx3 t
  match z with
  | ⟨0, _⟩ =>
    refine (congrArg (fun i : ℕ => i * 1 + k.val) e0).trans ?_
    show 0 * 1 + k.val = k.val; omega
  | ⟨1, _⟩ =>
    refine (congrArg (fun i : ℕ => i * 1024 + j.val) e1).trans ?_
    show 0 * 1024 + j.val = j.val; omega

theorem blk4 (e : Fin 32) (k : Fin 1024) : (iblk m c 4 t : S32x1024.Idx → EReal) (ix2 e k) = (V m c main_v10 : S32x1024.Idx → EReal) (ix2 e k) := by
  refine congrArg (V m c main_v10 : S32x1024.Idx → EReal) (funext fun z => Fin.ext ?_)
  refine ((cfg0.win 4).rect_emb_val t (ix2 e k) z).trans ?_
  obtain ⟨e0, e1⟩ := idx4 t
  match z with
  | ⟨0, _⟩ =>
    refine (congrArg (fun i : ℕ => i * 32 + e.val) e0).trans ?_
    show 0 * 32 + e.val = e.val; omega
  | ⟨1, _⟩ =>
    refine (congrArg (fun i : ℕ => i * 1024 + k.val) e1).trans ?_
    show 0 * 1024 + k.val = k.val; omega

theorem place9 (b : Fin 8) (j : Fin 128) : (((cfg0.win 9).blk t).view.emb (ix2 b j) : S128x128.Idx) = ix2 (⟨8 * (point t).val + b.val, by omega⟩ : Fin 128) j := by
  refine funext fun z => Fin.ext ?_
  refine ((cfg0.win 9).rect_emb_val t (ix2 b j) z).trans ?_
  obtain ⟨e0, e1⟩ := idx9 t
  match z with
  | ⟨0, _⟩ =>
    refine (congrArg (fun i : ℕ => i * 8 + b.val) e0).trans ?_
    show t.val * 8 + b.val = 8 * t.val + b.val; omega
  | ⟨1, _⟩ =>
    refine (congrArg (fun i : ℕ => i * 128 + j.val) e1).trans ?_
    show 0 * 128 + j.val = j.val; omega
end

/-! ## The results -/

/-- Row `q` of block `b`. -/
def blockRow (b : Fin 128) (q : Fin 128) : Fin 16384 := ⟨128 * b.val + q.val, by omega⟩

section
variable (x : S8x2048x1024.Idx → EReal) (o : S16384x1024.Idx → EReal) (w : S1024x1024.Idx → EReal) (n : S1x1024.Idx → EReal)
  (g : S1024x8.Idx → EReal)

/-- A row of the stream after the attention's projection. -/
abbrev mixedRow (r : Fin 16384) : Fin 1024 → EReal := mixed (flat x r) (fun k => o (ix2 r k)) (fun k j => w (ix2 k j))

/-- The norm of a row, and the experts' logits of it. -/
abbrev normRow (r : Fin 16384) : Fin 1024 → EReal := normed (mixedRow x o w r) (fun k => n (ix2 0 k))
def logits (r : Fin 16384) (e : Fin 8) : EReal := ∑ k : Fin 1024, normRow x o w n r k * g (ix2 k e)

/-- For every block of 128 rows and every expert, how many of the rows choose it. -/
def counts : S128x128.Idx → EReal := fun i =>
  if h : (i 1).val < 8 then ∑ q : Fin 128, chosen (logits x o w n g (blockRow (i 0) q)) ⟨(i 1).val, h⟩ else 0
end

theorem row_at (t : Fin cfg0.N) (p : Fin 1024) :
    mixed (fun k => (iblk m c 0 t : S1024x1024.Idx → EReal) (ix2 p k)) (fun k => (iblk m c 1 t : S1024x1024.Idx → EReal) (ix2 p k))
      (fun k j => (iblk m c 2 t : S1024x1024.Idx → EReal) (ix2 k j)) = mixedRow (ax m c) (ao m c) (aw m c) (rowOf (point t) p) :=
  congr (congr (congrArg mixed (funext (blk0 m c t p))) (funext (blk1 m c t p))) (funext fun k => funext (blk2 m c t k))

theorem norm_at (t : Fin cfg0.N) (p k : Fin 1024) :
    k0_pay9 (F := Ideal) (iblk m c 0 t) (iblk m c 1 t) (iblk m c 2 t) (iblk m c 3 t) (ix2 p k)
      = normRow (ax m c) (ao m c) (aw m c) (an m c) (rowOf (point t) p) k :=
  (pay9 _ _ _ _ p k).trans (congrArg₂ (fun a b => normed a b k) (row_at m c t p) (funext (blk3 m c t 0)))

section
variable (x : Vec Ideal S1024x1024 .f32) (o w : Vec Ideal S1024x1024 .bf16) (n : Vec Ideal S1x1024 .f32) (u : Vec Ideal S32x1024 .bf16)
theorem pay10 (p k : Fin 1024) : k0_pay10 (F := Ideal) x o w n (ix2 p k) = k0_pay9 (F := Ideal) x o w n (ix2 p k) - k0_pay9 (F := Ideal) x o w n (ix2 p k) := by
  pointwise [k0_pay10]
  rfl
theorem pay11 (e : Fin 32) (k : Fin 1024) : k0_pay11 (F := Ideal) u (ix2 e k) = u (ix2 e k) := by
  pointwise [k0_pay11]
theorem pay12 (e : Fin 16) (p : Fin 1024) : k0_pay12 (F := Ideal) x o w n u (ix2 e p)
    = (∑ k : Fin 1024, u (ix2 (⟨e.val, by omega⟩ : Fin 32) k) * k0_pay9 (F := Ideal) x o w n (ix2 p k))
      + ∑ k : Fin 1024, u (ix2 (⟨16 + e.val, by omega⟩ : Fin 32) k) * k0_pay9 (F := Ideal) x o w n (ix2 p k) := by
  pointwise [k0_pay12, pay11]
end

/-! ## The counts -/

section
variable (hn : ∀ k, Finite (an m c (ix2 0 k))) (hg : ∀ k e, Finite (ar m c (ix2 k e)))

include hn in
theorem norm_finite (r : Fin 16384) (k : Fin 1024) : Finite (normRow (ax m c) (ao m c) (aw m c) (an m c) r k) := normed_finite _ _ hn k
include hn hg in
theorem logits_finite (r : Fin 16384) (e : Fin 8) : Finite (logits (ax m c) (ao m c) (aw m c) (an m c) (ar m c) r e) :=
  Finite.sum _ fun k => Finite.mul (norm_finite m c hn r k) (hg k e)

/-- What the kernel picks from. -/
abbrev pickedFrom (t : Fin cfg0.N) (p : Fin 1024) : Fin 16 → EReal :=
  RoutingBlock.col (k0_pay10 (F := Ideal) (iblk m c 0 t) (iblk m c 1 t) (iblk m c 2 t) (iblk m c 3 t)) (k0_pay11 (F := Ideal) (iblk m c 4 t))
    (k0_pay12 (F := Ideal) (iblk m c 0 t) (iblk m c 1 t) (iblk m c 2 t) (iblk m c 3 t) (iblk m c 4 t)) p

include hn hg in
/-- It is the row's logits: the second pieces of the norm and of the weights are zero. -/
theorem picked_from (t : Fin cfg0.N) (p : Fin 1024) :
    pickedFrom m c t p = padded (logits (ax m c) (ao m c) (aw m c) (an m c) (ar m c) (rowOf (point t) p)) := by
  funext e
  refine (RoutingBlock.pay13 _ _ _ p e).trans ?_
  unfold padded
  split_ifs with h
  · have hw : ∀ k, (iblk m c 4 t : S32x1024.Idx → EReal) (ix2 (⟨e.val, by omega⟩ : Fin 32) k) = ar m c (ix2 k ⟨e.val, h⟩) := fun k =>
      (blk4 m c t _ k).trans (weight_at m c ⟨e.val, h⟩ k)
    have hz : ∀ k, (iblk m c 4 t : S32x1024.Idx → EReal) (ix2 (⟨16 + e.val, by omega⟩ : Fin 32) k) = (0 : EReal) := fun k =>
      (blk4 m c t _ k).trans ((left_at m c ⟨e.val, h⟩ k).trans (hg k _).sub_self)
    refine (congrArg₂ (fun a b : EReal => a + b) ((pay12 _ _ _ _ _ e p).trans (congrArg₂ (fun a b : EReal => a + b)
      (Finset.sum_congr rfl fun k _ => ?_) (Finset.sum_eq_zero fun k _ => ?_))) (Finset.sum_eq_zero fun k _ => ?_)).trans ((add_zero _).trans (add_zero _))
    · exact (congrArg₂ (fun a b : EReal => a * b) (hw k) (norm_at m c t p k)).trans (mul_comm _ _)
    · exact (congrArg (fun a : EReal => a * _) (hz k)).trans (zero_mul _)
    · refine (congrArg (fun a : EReal => _ * a) ((pay10 _ _ _ _ p k).trans ?_)).trans (mul_zero _)
      rw [norm_at]
      exact (norm_finite m c hn _ k).sub_self
  · rfl

include hn hg in
theorem counts_at (t : Fin cfg0.N) (b : Fin 8) (j : Fin 128) :
    block (F := Ideal) (iblk m c 0 t) (iblk m c 1 t) (iblk m c 2 t) (iblk m c 3 t) (iblk m c 4 t) (ix2 b j)
      = counts (ax m c) (ao m c) (aw m c) (an m c) (ar m c) (ix2 (⟨8 * (point t).val + b.val, by omega⟩ : Fin 128) j) := by
  have hp : ∀ (p : Fin 1024) (e : Fin 16), k0_pay23 (F := Ideal) (k0_pay10 (F := Ideal) (iblk m c 0 t) (iblk m c 1 t) (iblk m c 2 t) (iblk m c 3 t))
      (k0_pay11 (F := Ideal) (iblk m c 4 t)) (k0_pay12 (F := Ideal) (iblk m c 0 t) (iblk m c 1 t) (iblk m c 2 t) (iblk m c 3 t) (iblk m c 4 t)) (ix2 e p)
      = if h : e.val < 8 then chosen (logits (ax m c) (ao m c) (aw m c) (an m c) (ar m c) (rowOf (point t) p)) ⟨e.val, h⟩ else 0 := fun p e =>
    RoutingBlock.pay23_chosen _ _ _ p _ (logits_finite m c hn hg _) (picked_from m c hn hg t p) e
  refine (RoutingBlock.pay26 _ b j).trans ?_
  show _ = if h : j.val < 8 then _ else _
  by_cases h : j.val < 8
  · rw [dif_pos (by omega : j.val < 16), dif_pos h]
    refine (Finset.sum_congr rfl fun p _ => congrArg (fun a : EReal => _ * a) ((hp p _).trans (dif_pos h))).trans ?_
    refine (RoutingBlock.sum_row b _).trans (Finset.sum_congr rfl fun q _ => ?_)
    refine congrArg (fun r => chosen (logits (ax m c) (ao m c) (aw m c) (an m c) (ar m c) r) ⟨j.val, h⟩) (Fin.ext ?_)
    show 1024 * (point t).val + (128 * b.val + q.val) = 128 * (8 * (point t).val + b.val) + q.val
    omega
  · rw [dif_neg h]
    split_ifs with h'
    · exact Finset.sum_eq_zero fun p _ => (congrArg (fun a : EReal => _ * a) ((hp p _).trans (dif_neg h))).trans (mul_zero _)
    · rfl

/-- What a point writes back, in either case. -/
theorem back9 (t : Fin cfg0.N) : (dats m 0 c).flushed 9 t
    = (cfg0.win 9).cut (grid0.coords t) (block (F := Ideal) (iblk m c 0 t) (iblk m c 1 t) (iblk m c 2 t) (iblk m c 3 t) (iblk m c 4 t)) := by
  by_cases h : t.val % 16 = 0
  · exact (Cert.RoutingIdeal.Value.flushed9_A m c t h).trans (congrArg ((cfg0.win 9).cut (grid0.coords t)) (outA9 ..))
  · exact (Cert.RoutingIdeal.Value.flushed9_B m c t h).trans (congrArg ((cfg0.win 9).cut (grid0.coords t)) (outB9 ..))

include hn hg in
/-- What the kernel leaves as the counts. -/
theorem final9 : ((dats m 0 c).arrAt 9 cfg0.N : S128x128.Idx → EReal) = counts (ax m c) (ao m c) (aw m c) (an m c) (ar m c) := by
  refine (dats m 0 c).arrAt_eq_of_cover 9 (counts (ax m c) (ao m c) (aw m c) (an m c) (ar m c)) (fun t _ => ?_) (fun i => ?_)
  · refine (back9 m c t).trans ?_
    funext y
    obtain ⟨b, j, rfl⟩ : ∃ (b : Fin 8) (j : Fin 128), y = ix2 b j := ⟨y 0, y 1, eq_ix2 y⟩
    exact (counts_at m c hn hg t b j).trans (congrArg (counts (ax m c) (ao m c) (aw m c) (an m c) (ar m c)) (place9 t b j)).symm
  · have h0 : (i 0).val < 128 := (i 0).isLt
    refine ⟨⟨(i 0).val / 8, lt_of_lt_of_eq (by omega : (i 0).val / 8 < 16) (by decide +kernel : 16 = grid0.N)⟩, flush0_9 _, ?_⟩
    refine Finset.mem_map.mpr ⟨ix2 (⟨(i 0).val % 8, by omega⟩ : Fin 8) (i 1), Finset.mem_univ _, ?_⟩
    refine (place9 _ _ _).trans ?_
    refine (funext fun z => ?_)
    match z with
    | ⟨0, _⟩ => exact Fin.ext (Nat.div_add_mod (i 0).val 8)
    | ⟨1, _⟩ => rfl
end

end Cert.Proof.RoutingValue
end
-- ==== Proof.RoutingRef.lean ====
/-
  The reference of the router's counts at an index: the two greatest logits of every row, each marked one, and the marks
  added over blocks of 128 rows.
-/
module

public import proofs.«01_k».proof.Proof.Gen.RoutingRefIdeal.Run
public import proofs.«01_k».proof.Proof.RoutingPick
public import proofs.«01_k».proof.Proof.FfnBlock

@[expose] public section
set_option maxRecDepth 16384

noncomputable section
namespace Cert.Proof.RoutingRef
open Idealize.ShloMosaic Idealize.ShloMosaic.TcCoe Idealize.SL.Sem Cert.RoutingRefIdeal Cert.RoutingRefIdeal.Gen Cert.Proof.FfnBlock
open Cert.Proof.RoutingPick

/-- Rows counted through, read as rows of a batch. -/
theorem batch_cast (o : S16384x1024.Idx → EReal) (h : S16384x1024.ShapeCasts S8x2048x1024) (b : Fin 8) (s : Fin 2048) (k : Fin 1024) :
    shapeCast S8x2048x1024 o h (ix3 b s k) = o (ix2 (⟨2048 * b.val + s.val, by omega⟩ : Fin 16384) k) := by
  refine Idealize.ShloMosaic.shapeCast_apply o h (ix3 b s k) _ ?_
  rw [rowMajor_val3 _ (2048 * 1024) 1024 rfl rfl, rowMajor_val2 _ 1024 rfl]
  show (2048 * b.val + s.val) * 1024 + k.val = b.val * (2048 * 1024) + s.val * 1024 + k.val
  omega

/-- The batch after the attention's projection. -/
def mixedA (x : FVec Ideal S8x2048x1024 .f32) (o : FVec Ideal S8x2048x1024 .bf16) (w : FVec Ideal S1024x1024 .f32) : FVec Ideal S8x2048x1024 .f32 :=
  addf x (Host.dotGeneral dot_S8x2048x1024_S1024x1024_S8x2048x1024_2_0_01_1_n_n none (extf .f32 o bitsLt_bf16_f32) w)

/-- Its norm, times the gain. -/
def normedA (r : FVec Ideal S8x2048x1024 .f32) (n : FVec Ideal S1x1024 .f32) : FVec Ideal S8x2048x1024 .f32 :=
  mulf (mulf r (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf r r) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ n shapeCasts_S1x1024_S1024 : FVec Ideal S1024 .f32)))

section
variable (x : FVec Ideal S8x2048x1024 .f32) (o : S16384x1024.Idx → EReal) (w : FVec Ideal S1024x1024 .f32) (n : FVec Ideal S1x1024 .f32)
  (h : S16384x1024.ShapeCasts S8x2048x1024) (h' : S8x2048x1024.ShapeCasts S16384x1024)

theorem mixedA_apply (o : FVec Ideal S8x2048x1024 .bf16) (b : Fin 8) (s : Fin 2048) (j : Fin 1024) :
    mixedA x o w (ix3 b s j) = mixed (fun k => x (ix3 b s k)) (fun k => o (ix3 b s k)) (fun k j => w (ix2 k j)) j := by
  unfold mixed
  pointwise [mixedA]

theorem normedA_apply (r : FVec Ideal S8x2048x1024 .f32) (b : Fin 8) (s : Fin 2048) (k : Fin 1024) :
    normedA r n (ix3 b s k) = normed (fun k => r (ix3 b s k)) (fun k => n (ix2 0 k)) k := by
  unfold normed
  pointwise [normedA]

/-- A row of the projected attention's rows, read in the batch and counted through. -/
theorem row_at (r : Fin 16384) (k : Fin 1024) : flat (shapeCast S8x2048x1024 o h) r k = o (ix2 r k) :=
  (batch_cast o h _ _ k).trans (congrArg (fun z : Fin 16384 => o (ix2 z k)) (Fin.ext (Nat.div_add_mod r.val 2048)))

/-- The row of the stream. -/
theorem mixed_row (r : Fin 16384) : flat (mixedA x (shapeCast S8x2048x1024 o h) w) r
    = mixed (flat x r) (fun k => o (ix2 r k)) (fun k j => w (ix2 k j)) :=
  funext fun j => (mixedA_apply x w _ _ _ j).trans (congrArg (fun a => mixed (flat x r) a (fun k j => w (ix2 k j)) j) (funext (row_at o h r)))

end

/-! ## The logits and the choice -/

/-- The experts' logits of a batch of norms. -/
def logitsA (h : FVec Ideal S8x2048x1024 .f32) (g : FVec Ideal S1024x8 .f32) : FVec Ideal S8x2048x8 .f32 :=
  Host.dotGeneral dot_S8x2048x1024_S1024x8_S8x2048x8_2_0_01_1_n_n none h g

theorem logitsA_apply (h : FVec Ideal S8x2048x1024 .f32) (g : FVec Ideal S1024x8 .f32) (b : Fin 8) (s : Fin 2048) (e : Fin 8) :
    logitsA h g (ix3 b s e) = ∑ k : Fin 1024, h (ix3 b s k) * g (ix2 k e) := by
  pointwise [logitsA]

/-- The places of the two greatest. -/
def placesA (l : FVec Ideal S8x2048x8 .f32) : IVec S8x2048x2 32 :=
  (Host.topK S8x2048x2 2 (FloatOps.cmpfTotal .gt) l sliceFits_S8x2048x8_S8x2048x2).2

/-- Along the experts, an index of the batch is its row with another expert. -/
theorem along_at (b : Fin 8) (s : Fin 2048) (j k : Fin 8) : (ix3 b s j : S8x2048x8.Idx).along 2 k = ix3 b s k := funext fun z => by
  match z with
  | ⟨0, _⟩ => rfl
  | ⟨1, _⟩ => rfl
  | ⟨2, _⟩ => rfl

theorem sort_at (l : FVec Ideal S8x2048x8 .f32) (j : S8x2048x8.Idx) :
    (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).2 j
      = BitVec.ofNat 32 (sortedFrom (fun k k' : Fin 8 => Ideal.cmp .ogt (l (j.along 2 k)) (l (j.along 2 k')) == 1#1) (j 2)).val := by
  show BitVec.ofNat 32 (Function.update j 2 (sortedFrom (fun k k' : Fin 8 => Ideal.cmp .ogt (l (j.along 2 k)) (l (j.along 2 k')) == 1#1) (j 2)) 2).val = _
  rw [Function.update_self]
  rfl

theorem placesA_apply (l : FVec Ideal S8x2048x8 .f32) (b : Fin 8) (s : Fin 2048) (i : Fin 2) :
    placesA l (ix3 b s i) = BitVec.ofNat 32 (sortedFrom (ahead fun e => l (ix3 b s e)) (⟨i.val, by omega⟩ : Fin 8)).val := by
  have hs := sortedFrom_places (fun k k' => Ideal.cmp .ogt (l (ix3 b s k)) (l (ix3 b s k')) == 1#1) (fun e => l (ix3 b s e)) (fun k k' => by
    show (BitVec.ofBool (decide (l (ix3 b s k') < l (ix3 b s k))) == 1#1) = _
    by_cases h : l (ix3 b s k') < l (ix3 b s k) <;> simp [h])
  have hp : placesA l (ix3 b s i) = (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).2 (ix3 b s (⟨i.val, by omega⟩ : Fin 8)) := by
    refine congrArg (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).2 (funext fun z => Fin.ext ?_)
    match z with
    | ⟨0, _⟩ => exact Nat.zero_add _
    | ⟨1, _⟩ => exact Nat.zero_add _
    | ⟨2, _⟩ => exact Nat.zero_add _
  rw [hp, sort_at]
  simp only [along_at]
  rw [hs]
  rfl

/-- One at the two places, zero elsewhere. -/
def chosenA (p : IVec S8x2048x2 32) : FVec Ideal S8x2048x8 .f32 :=
  Host.reduceAdd (uitofp (F := Ideal) .f32 (cmpi .eq (broadcastInDim S8x2048x2x8 ![0, 1, 2, 3] bcast_S8x2048x2x1_S8x2048x2x8_0_1_2_3 (broadcastInDim S8x2048x2x1 ![0, 1, 2] bcast_S8x2048x2_S8x2048x2x1_0_1_2 p))
    (broadcastInDim S8x2048x2x8 ![0, 1, 2, 3] bcast_S1x1x1x8_S8x2048x2x8_0_1_2_3 (iotaInDim S1x1x1x8 32 3)))) (constant S_ .f32 0x00000000#32) reducesTo_S8x2048x2x8_S8x2048x8_d2 h_S_

theorem chosenA_apply (p : IVec S8x2048x2 32) (b : Fin 8) (s : Fin 2048) (e : Fin 8) :
    chosenA p (ix3 b s e) = (if p (ix3 b s 0) = BitVec.ofNat 32 e.val then 1 else 0) + (if p (ix3 b s 1) = BitVec.ofNat 32 e.val then 1 else 0) := by
  have h : ∀ x y : BitVec 32, (FloatOps.uitofp FTy.f32 (IntOp.cmpi .eq x y) : Ideal .f32) = (if x = y then 1 else 0 : EReal) := fun x y => by
    show (((BitVec.ofBool (decide (x = y))).toNat : ℝ) : EReal) = _
    by_cases hxy : x = y <;> simp [hxy]
  pointwise [chosenA]
  rw [Fin.sum_univ_two, h, h]

/-- The marks of a row's logits are at the two it chooses. -/
theorem chosen_at (l : FVec Ideal S8x2048x8 .f32) (b : Fin 8) (s : Fin 2048) (e : Fin 8) :
    chosenA (placesA l) (ix3 b s e) = chosen (fun e => l (ix3 b s e)) e := by
  have inj : ∀ x y : Fin 8, BitVec.ofNat 32 x.val = BitVec.ofNat 32 y.val ↔ y = x := by decide +kernel
  rw [chosenA_apply, placesA_apply, placesA_apply]
  show (if BitVec.ofNat 32 (first fun e => l (ix3 b s e)).val = _ then _ else _) + (if BitVec.ofNat 32 (second fun e => l (ix3 b s e)).val = _ then _ else _) = _
  have hne := first_ne_second fun e => l (ix3 b s e)
  unfold chosen
  simp only [inj]
  by_cases h1 : e = first fun e => l (ix3 b s e)
  · have h2 : ¬ e = second fun e => l (ix3 b s e) := fun h => hne (h1.symm.trans h)
    rw [if_pos h1, if_neg h2, if_pos (Or.inl h1), add_zero]
  · by_cases h2 : e = second fun e => l (ix3 b s e)
    · rw [if_neg h1, if_pos h2, if_pos (Or.inr h2), zero_add]
    · rw [if_neg h1, if_neg h2, if_neg (fun h => h.elim h1 h2), add_zero]

/-- Their counts per block of 128 rows, padded to 128 columns. -/
def countsA (c : FVec Ideal S8x2048x8 .f32) (h : S8x2048x8.ShapeCasts S128x128x8) : FVec Ideal S128x128 .f32 :=
  pad S128x128 ![0, 0] ![0, 120] ![0, 0] (Host.reduceAdd (shapeCast S128x128x8 c h) (constant S_ .f32 0x00000000#32) reducesTo_S128x128x8_S128x8_d1 h_S_)
    (sitofp (F := Ideal) .f32 (constantI S_ 32 0#32)) pads_S128x8_S128x128_000_01200 h_S_

theorem countsA_apply (c : FVec Ideal S8x2048x8 .f32) (h : S8x2048x8.ShapeCasts S128x128x8) (b j : Fin 128) :
    countsA c h (ix2 b j) = if hj : j.val < 8 then
      ∑ q : Fin 128, c (ix3 (⟨b.val / 16, by omega⟩ : Fin 8) (⟨b.val % 16 * 128 + q.val, by omega⟩ : Fin 2048) (⟨j.val, hj⟩ : Fin 8)) else 0 := by
  have hz : (FloatOps.sitofp FTy.f32 0#32 : Ideal .f32) = (0 : EReal) := by
    show (((0#32 : BitVec 32).toInt : ℝ) : EReal) = 0
    simp
  pointwise [countsA, hz]

/-- The reference's counts: of the rows of a block, those that choose the expert. -/
theorem counts (x : FVec Ideal S8x2048x1024 .f32) (o : S16384x1024.Idx → EReal) (w : FVec Ideal S1024x1024 .f32) (n : FVec Ideal S1x1024 .f32)
    (g : FVec Ideal S1024x8 .f32) (h : S16384x1024.ShapeCasts S8x2048x1024) (h' : S8x2048x8.ShapeCasts S128x128x8) (b j : Fin 128) :
    countsA (chosenA (placesA (logitsA (normedA (mixedA x (shapeCast S8x2048x1024 o h) w) n) g))) h' (ix2 b j)
      = if hj : j.val < 8 then ∑ q : Fin 128, chosen (fun e => ∑ k : Fin 1024,
          normed (mixed (flat x ⟨128 * b.val + q.val, by omega⟩) (fun k => o (ix2 (⟨128 * b.val + q.val, by omega⟩ : Fin 16384) k)) (fun k j => w (ix2 k j)))
            (fun k => n (ix2 0 k)) k * g (ix2 k e)) ⟨j.val, hj⟩ else 0 := by
  rw [countsA_apply]
  split_ifs with hj
  · refine Finset.sum_congr rfl fun q _ => ?_
    rw [chosen_at]
    refine congrArg (fun f => chosen f ⟨j.val, hj⟩) (funext fun e => (logitsA_apply _ g _ _ e).trans (Finset.sum_congr rfl fun k _ => ?_))
    refine congrArg (fun a : EReal => a * g (ix2 k e)) ?_
    refine Eq.trans ?_ ((normedA_apply n (mixedA x (shapeCast S8x2048x1024 o h) w) (⟨(128 * b.val + q.val) / 2048, by omega⟩ : Fin 8)
      (⟨(128 * b.val + q.val) % 2048, by omega⟩ : Fin 2048) k).trans
      (congrArg (fun a => normed a (fun k => n (ix2 0 k)) k) (mixed_row x o w h ⟨128 * b.val + q.val, by omega⟩)))
    refine congrArg₂ (fun (a : Fin 8) (s : Fin 2048) => normedA (mixedA x (shapeCast S8x2048x1024 o h) w) n (ix3 a s k)) (Fin.ext ?_) (Fin.ext ?_)
    · show b.val / 16 = (128 * b.val + q.val) / 2048; omega
    · show b.val % 16 * 128 + q.val = (128 * b.val + q.val) % 2048; omega
  · rfl

end Cert.Proof.RoutingRef
end
-- ==== Proof.RankPieces.lean ====
/-
  What the router's kernel stores of each token at a point, in each of its two cases: a place and a gate for each of its two
  experts, laid out by token and by field; and what it carries from point to point, the experts' counts so far and the mask of
  the tokens before a token.
-/
module

public import proofs.«01_k».proof.Proof.RoutingPieces
public import Idealize.ShloMosaic.Lib.Pointwise

@[expose] public section
set_option maxRecDepth 16384

noncomputable section
namespace Cert.Proof.RankPieces
open Idealize.ShloMosaic Idealize.SL.Sem Cert.RoutingIdeal Cert.RoutingIdeal.Gen Cert.Proof.RoutingPieces
variable {F : FTy → Type} [FloatOps F]

theorem ld_c (x : Vec F S16x128 .f32) : View.ld x (Rect.unit (s := S16x128) ![0, 0] ![16, 128] inb_S16x128_S16x128_0_0) = x :=
  View.ld_unit_zero zz _ x
theorem ld_m (x : Vec F S128x128 .bf16) : View.ld x (Rect.unit (s := S128x128) ![0, 0] ![128, 128] inb_S128x128_S128x128_0_0) = x :=
  View.ld_unit_zero zz _ x

/-- A load of what a store of the whole left. -/
theorem readCov_c (v : View sig .tc .vmem S16x128 .f32) (w : Vec F S16x128 .f32) (r : Rect S16x128) :
    v.readCov [(⟨Rect.unit (s := S16x128) ![0, 0] ![16, 128] inb_S16x128_S16x128_0_0, w⟩ : View.Piece (Elt F) S16x128 .f32)] r.toLoadRect = View.ld w r := by
  rw [View.readCov_eq_canon']
  exact congrArg (fun z => View.ld z r) (View.canon_unit_zero zz _ _)
theorem readCov_m (v : View sig .tc .vmem S128x128 .bf16) (w : Vec F S128x128 .bf16) (r : Rect S128x128) :
    v.readCov [(⟨Rect.unit (s := S128x128) ![0, 0] ![128, 128] inb_S128x128_S128x128_0_0, w⟩ : View.Piece (Elt F) S128x128 .bf16)] r.toLoadRect = View.ld w r := by
  rw [View.readCov_eq_canon']
  exact congrArg (fun z => View.ld z r) (View.canon_unit_zero zz _ _)

/-! ## The stored values, of the marks, the counts so far and the mask -/

section
variable (k : FVec F S16x1024 .bf16) (s : FVec F S16x128 .f32) (t : FVec F S128x128 .bf16)

/-- How many tokens before a token choose an expert. -/
def before : FVec F S16x1024 .f32 :=
  k0_pay50 k (k0_pay28 k s t) (k0_pay31 (k0_pay29 k s) (k0_pay30 k) t (constant S16x128 .f32 0x00000000#32)) (k0_pay34 k (k0_pay29 k s) (k0_pay30 k) t)
    (k0_pay37 k (k0_pay29 k s) (k0_pay30 k) t) (k0_pay40 k (k0_pay29 k s) (k0_pay30 k) t) (k0_pay41 k (k0_pay29 k s) (k0_pay30 k))
    (k0_pay43 k (k0_pay29 k s) (k0_pay30 k) t) (k0_pay44 k) t t

/-- The counts after the point. -/
def after : FVec F S16x128 .f32 := k0_pay49 k (k0_pay41 k (k0_pay29 k s) (k0_pay30 k)) (k0_pay44 k)
end

section
variable (a : FVec F S1024x1024 .bf16) (b : FVec F S32x1024 .bf16) (l : FVec F S16x1024 .f32) (s : FVec F S16x128 .f32) (t : FVec F S128x128 .bf16)

/-- The two places and the two gates of the point's tokens. -/
def field (n : Fin 4) : FVec F S1x1024 .f32 :=
  match n with
  | 0 => k0_pay52 (k0_pay15 a b l) (k0_pay16 a b l) (k0_pay23 a b l) (k0_pay28 (k0_pay23 a b l) s t) (k0_pay31 (k0_pay29 (k0_pay23 a b l) s) (k0_pay30 (k0_pay23 a b l)) t (constant S16x128 .f32 0x00000000#32))
      (k0_pay34 (k0_pay23 a b l) (k0_pay29 (k0_pay23 a b l) s) (k0_pay30 (k0_pay23 a b l)) t) (k0_pay37 (k0_pay23 a b l) (k0_pay29 (k0_pay23 a b l) s) (k0_pay30 (k0_pay23 a b l)) t)
      (k0_pay40 (k0_pay23 a b l) (k0_pay29 (k0_pay23 a b l) s) (k0_pay30 (k0_pay23 a b l)) t) (k0_pay41 (k0_pay23 a b l) (k0_pay29 (k0_pay23 a b l) s) (k0_pay30 (k0_pay23 a b l)))
      (k0_pay43 (k0_pay23 a b l) (k0_pay29 (k0_pay23 a b l) s) (k0_pay30 (k0_pay23 a b l)) t) (k0_pay44 (k0_pay23 a b l)) t t
  | 1 => k0_pay55 (k0_pay51 (k0_pay20 a b l) (k0_pay23 a b l) (k0_pay28 (k0_pay23 a b l) s t) (k0_pay31 (k0_pay29 (k0_pay23 a b l) s) (k0_pay30 (k0_pay23 a b l)) t (constant S16x128 .f32 0x00000000#32))
      (k0_pay34 (k0_pay23 a b l) (k0_pay29 (k0_pay23 a b l) s) (k0_pay30 (k0_pay23 a b l)) t) (k0_pay37 (k0_pay23 a b l) (k0_pay29 (k0_pay23 a b l) s) (k0_pay30 (k0_pay23 a b l)) t)
      (k0_pay40 (k0_pay23 a b l) (k0_pay29 (k0_pay23 a b l) s) (k0_pay30 (k0_pay23 a b l)) t) (k0_pay41 (k0_pay23 a b l) (k0_pay29 (k0_pay23 a b l) s) (k0_pay30 (k0_pay23 a b l)))
      (k0_pay43 (k0_pay23 a b l) (k0_pay29 (k0_pay23 a b l) s) (k0_pay30 (k0_pay23 a b l)) t) (k0_pay44 (k0_pay23 a b l)) t t) (k0_pay53 (k0_pay19 a b l)) k0_pay54
  | 2 => k0_pay56 (k0_pay22 a b l)
  | 3 => k0_pay57 (k0_pay21 a b l) (k0_pay22 a b l)
end

/-- A token of the point, in its row of 128. -/
def tok (b : Fin 8) (q : Fin 128) : Fin 1024 := ⟨128 * b.val + q.val, by omega⟩

/-- Four fields of 1024 tokens, by rows of 128 tokens. -/
def stack (f : Fin 4 → FVec F S1x1024 .f32) : FVec F S4x8x128 .f32 := fun y => f (y 0) (ix2 (0 : Fin 1) (tok (y 1) (y 2)))

theorem piece (f : Fin 4 → FVec F S1x1024 .f32) (n : Fin 4) (b : Fin 8) (h : S1x1024.Slices ![0, 128 * b.val] S1x128) (h' : S1x128.ShapeCasts S1x1x128)
    (hr : ∀ a, (![n.val, b.val, 0] : Fin 3 → ℕ) a + S1x1x128.size a ≤ S4x8x128.size a) (y : S1x1x128.Idx) :
    shapeCast S1x1x128 (extractStridedSlice S1x128 ![0, 128 * b.val] (f n) h) h' y = stack f ((Rect.unit (s := S4x8x128) ![n.val, b.val, 0] S1x1x128.size hr).emb y) := by
  have hy : y = ix3 (0 : Fin 1) (0 : Fin 1) (y 2 : Fin 128) := funext fun a => by
    match a with
    | ⟨0, _⟩ => exact Subsingleton.elim (α := Fin 1) _ _
    | ⟨1, _⟩ => exact Subsingleton.elim (α := Fin 1) _ _
    | ⟨2, _⟩ => rfl
  have e1 : shapeCast S1x1x128 (extractStridedSlice S1x128 ![0, 128 * b.val] (f n) h) h' (ix3 (0 : Fin 1) (0 : Fin 1) (y 2 : Fin 128))
      = extractStridedSlice S1x128 ![0, 128 * b.val] (f n) h (ix2 (0 : Fin 1) (y 2 : Fin 128)) := by
    apply Idealize.ShloMosaic.shapeCast_apply
    rw [rowMajor_val3 _ 128 128 rfl rfl, rowMajor_val2 _ 128 rfl]
    show 0 * 128 + (y 2).val = 0 * 128 + 0 * 128 + (y 2).val
    omega
  have e2 : extractStridedSlice S1x128 ![0, 128 * b.val] (f n) h (ix2 (0 : Fin 1) (y 2 : Fin 128)) = f n (ix2 (0 : Fin 1) (tok b (y 2))) := by
    apply congrArg (f n)
    funext a
    match a with
    | ⟨0, _⟩ => rfl
    | ⟨1, _⟩ => rfl
  have e3 : stack f (ix3 n b (y 2 : Fin 128)) = f n (ix2 (0 : Fin 1) (tok b (y 2))) := rfl
  have h0 : (y 0).val = 0 := Nat.lt_one_iff.mp (y 0).isLt
  have h1 : (y 1).val = 0 := Nat.lt_one_iff.mp (y 1).isLt
  have e4 : (Rect.unit (s := S4x8x128) ![n.val, b.val, 0] S1x1x128.size hr).emb y = ix3 n b (y 2 : Fin 128) := by
    funext a
    match a with
    | ⟨0, _⟩ =>
      refine Fin.ext (Eq.trans (b := n.val + 1 * (y 0).val) rfl ?_)
      rw [h0]
      rfl
    | ⟨1, _⟩ =>
      refine Fin.ext (Eq.trans (b := b.val + 1 * (y 1).val) rfl ?_)
      rw [h1]
      rfl
    | ⟨2, _⟩ =>
      refine Fin.ext (Eq.trans (b := 0 + 1 * (y 2).val) rfl ?_)
      exact (Nat.zero_add _).trans (Nat.one_mul _)
  exact (congrArg (shapeCast S1x1x128 (extractStridedSlice S1x128 ![0, 128 * b.val] (f n) h) h') hy).trans (e1.trans (e2.trans (e3.symm.trans (congrArg (stack f) e4.symm))))

/-- What the two results of a point are. -/
def byToken (x0 : Vec F S1024x1024 .f32) (x1 x2 : Vec F S1024x1024 .bf16) (x3 : Vec F S1x1024 .f32) (x4 : Vec F S32x1024 .bf16) (s : FVec F S16x128 .f32) (t : FVec F S128x128 .bf16) : FVec F S1024x4 .f32 :=
  k0_pay4 (field (k0_pay10 x0 x1 x2 x3) (k0_pay11 x4) (k0_pay12 x0 x1 x2 x3 x4) s t 0) (field (k0_pay10 x0 x1 x2 x3) (k0_pay11 x4) (k0_pay12 x0 x1 x2 x3 x4) s t 1)
    (field (k0_pay10 x0 x1 x2 x3) (k0_pay11 x4) (k0_pay12 x0 x1 x2 x3 x4) s t 2) (field (k0_pay10 x0 x1 x2 x3) (k0_pay11 x4) (k0_pay12 x0 x1 x2 x3 x4) s t 3)
def byField (x0 : Vec F S1024x1024 .f32) (x1 x2 : Vec F S1024x1024 .bf16) (x3 : Vec F S1x1024 .f32) (x4 : Vec F S32x1024 .bf16) (s : FVec F S16x128 .f32) (t : FVec F S128x128 .bf16) : FVec F S4x8x128 .f32 :=
  stack (field (k0_pay10 x0 x1 x2 x3) (k0_pay11 x4) (k0_pay12 x0 x1 x2 x3 x4) s t)

/-- Of two stores of the whole, the later stays. -/
theorem canon_two (u w : Vec F S16x128 .f32) : View.canon [(⟨Rect.unit (s := S16x128) ![0, 0] S16x128.size inb_S16x128_S16x128_0_0, u⟩ : View.Piece (Elt F) S16x128 .f32),
    ⟨Rect.unit (s := S16x128) ![0, 0] S16x128.size inb_S16x128_S16x128_0_0, w⟩] = u := by
  funext y
  have h := View.canon_cons_emb (Val := Elt F) (Rect.unit (s := S16x128) ![0, 0] S16x128.size inb_S16x128_S16x128_0_0) u
    [⟨Rect.unit (s := S16x128) ![0, 0] S16x128.size inb_S16x128_S16x128_0_0, w⟩] y
  have he : (Rect.unit (s := S16x128) ![0, 0] S16x128.size inb_S16x128_S16x128_0_0).emb y = y := funext fun a => Fin.ext (by
    match a with
    | ⟨0, _⟩ => exact (Nat.zero_add _).trans (Nat.one_mul _)
    | ⟨1, _⟩ => exact (Nat.zero_add _).trans (Nat.one_mul _))
  exact (congrArg _ he.symm).trans h

/-! ## The first point -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : cond0_0 i)
    (x0 : Vec F S1024x1024 .f32) (x1 : Vec F S1024x1024 .bf16) (x2 : Vec F S1024x1024 .bf16) (x3 : Vec F S1x1024 .f32) (x4 : Vec F S32x1024 .bf16)
theorem outA7 : out0_A_7 c i arg1 harg1 arg2 harg2 arg3 harg3 arg4 harg4 arg5 harg5 arg6 harg6 arg7 harg7 arg8 harg8 arg9 harg9 arg10 harg10 arg11 harg11 arg12 harg12 hc0 x0 x1 x2 x3 x4 = byToken x0 x1 x2 x3 x4 k0_pay5 k0_pay6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg11.read_unread, harg12.read_unread]
  rw [View.canon_unit_zero zz]
  simp only [readCov_c, readCov_m, ld_x, ld_o, ld_n, ld_r, ld_c, ld_m]
  generalize (k0_pay5 : FVec F S16x128 .f32) = s
  generalize (k0_pay6 : FVec F S128x128 .bf16) = t
  rfl
theorem outA8 : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 = byField x0 x1 x2 x3 x4 k0_pay5 k0_pay6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4)]
  funext y
  refine View.canon_apply_of_pieces _ _ ?_ y (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 y)
  unfold kernelRun0_A
  dsimp only
  sl_unfold_words
  simp only [View.readAt_eq_ld, harg1.read_unread, harg2.read_unread, harg3.read_unread, harg4.read_unread, harg5.read_unread, harg11.read_unread, harg12.read_unread, readCov_c, readCov_m, ld_x, ld_o, ld_n, ld_r, ld_c, ld_m]
  generalize (k0_pay5 : FVec F S16x128 .f32) = s
  generalize (k0_pay6 : FVec F S128x128 .bf16) = t
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun y => piece (field (k0_pay10 x0 x1 x2 x3) (k0_pay11 x4) (k0_pay12 x0 x1 x2 x3 x4) s t) 3 7 slices_S1x1024_o0_896_S1x128 shapeCasts_S1x128_S1x1x128 _ y
  · exact fun y => piece (field (k0_pay10 x0 x1 x2 x3) (k0_pay11 x4) (k0_pay12 x0 x1 x2 x3 x4) s t) 3 6 slices_S1x1024_o0_768_S1x128 shapeCasts_S1x128_S1x1x128 _ y
  · exact fun y => piece (field (k0_pay10 x0 x1 x2 x3) (k0_pay11 x4) (k0_pay12 x0 x1 x2 x3 x4) s t) 3 5 slices_S1x1024_o0_640_S1x128 shapeCasts_S1x128_S1x1x128 _ y
  · exact fun y => piece (field (k0_pay10 x0 x1 x2 x3) (k0_pay11 x4) (k0_pay12 x0 x1 x2 x3 x4) s t) 3 4 slices_S1x1024_o0_512_S1x128 shapeCasts_S1x128_S1x1x128 _ y
  · exact fun y => piece (field (k0_pay10 x0 x1 x2 x3) (k0_pay11 x4) (k0_pay12 x0 x1 x2 x3 x4) s t) 3 3 slices_S1x1024_o0_384_S1x128 shapeCasts_S1x128_S1x1x128 _ y
  · exact fun y => piece (field (k0_pay10 x0 x1 x2 x3) (k0_pay11 x4) (k0_pay12 x0 x1 x2 x3 x4) s t) 3 2 slices_S1x1024_o0_256_S1x128 shapeCasts_S1x128_S1x1x128 _ y
  · exact fun y => piece (field (k0_pay10 x0 x1 x2 x3) (k0_pay11 x4) (k0_pay12 x0 x1 x2 x3 x4) s t) 3 1 slices_S1x1024_o0_128_S1x128 shapeCasts_S1x128_S1x1x128 _ y
  · exact fun y => piece (field (k0_pay10 x0 x1 x2 x3) (k0_pay11 x4) (k0_pay12 x0 x1 x2 x3 x4) s t) 3 0 slices_S1x1024_o0_0_S1x128 shapeCasts_S1x128_S1x1x128 _ y
  · exact fun y => piece (field (k0_pay10 x0 x1 x2 x3) (k0_pay11 x4) (k0_pay12 x0 x1 x2 x3 x4) s t) 2 7 slices_S1x1024_o0_896_S1x128 shapeCasts_S1x128_S1x1x128 _ y
  · exact fun y => piece (field (k0_pay10 x0 x1 x2 x3) (k0_pay11 x4) (k0_pay12 x0 x1 x2 x3 x4) s t) 2 6 slices_S1x1024_o0_768_S1x128 shapeCasts_S1x128_S1x1x128 _ y
  · exact fun y => piece (field (k0_pay10 x0 x1 x2 x3) (k0_pay11 x4) (k0_pay12 x0 x1 x2 x3 x4) s t) 2 5 slices_S1x1024_o0_640_S1x128 shapeCasts_S1x128_S1x1x128 _ y
  · exact fun y => piece (field (k0_pay10 x0 x1 x2 x3) (k0_pay11 x4) (k0_pay12 x0 x1 x2 x3 x4) s t) 2 4 slices_S1x1024_o0_512_S1x128 shapeCasts_S1x128_S1x1x128 _ y
  · exact fun y => piece (field (k0_pay10 x0 x1 x2 x3) (k0_pay11 x4) (k0_pay12 x0 x1 x2 x3 x4) s t) 2 3 slices_S1x1024_o0_384_S1x128 shapeCasts_S1x128_S1x1x128 _ y
  · exact fun y => piece (field (k0_pay10 x0 x1 x2 x3) (k0_pay11 x4) (k0_pay12 x0 x1 x2 x3 x4) s t) 2 2 slices_S1x1024_o0_256_S1x128 shapeCasts_S1x128_S1x1x128 _ y
  · exact fun y => piece (field (k0_pay10 x0 x1 x2 x3) (k0_pay11 x4) (k0_pay12 x0 x1 x2 x3 x4) s t) 2 1 slices_S1x1024_o0_128_S1x128 shapeCasts_S1x128_S1x1x128 _ y
  · exact fun y => piece (field (k0_pay10 x0 x1 x2 x3) (k0_pay11 x4) (k0_pay12 x0 x1 x2 x3 x4) s t) 2 0 slices_S1x1024_o0_0_S1x128 shapeCasts_S1x128_S1x1x128 _ y
  · exact fun y => piece (field (k0_pay10 x0 x1 x2 x3) (k0_pay11 x4) (k0_pay12 x0 x1 x2 x3 x4) s t) 1 7 slices_S1x1024_o0_896_S1x128 shapeCasts_S1x128_S1x1x128 _ y
  · exact fun y => piece (field (k0_pay10 x0 x1 x2 x3) (k0_pay11 x4) (k0_pay12 x0 x1 x2 x3 x4) s t) 1 6 slices_S1x1024_o0_768_S1x128 shapeCasts_S1x128_S1x1x128 _ y
  · exact fun y => piece (field (k0_pay10 x0 x1 x2 x3) (k0_pay11 x4) (k0_pay12 x0 x1 x2 x3 x4) s t) 1 5 slices_S1x1024_o0_640_S1x128 shapeCasts_S1x128_S1x1x128 _ y
  · exact fun y => piece (field (k0_pay10 x0 x1 x2 x3) (k0_pay11 x4) (k0_pay12 x0 x1 x2 x3 x4) s t) 1 4 slices_S1x1024_o0_512_S1x128 shapeCasts_S1x128_S1x1x128 _ y
  · exact fun y => piece (field (k0_pay10 x0 x1 x2 x3) (k0_pay11 x4) (k0_pay12 x0 x1 x2 x3 x4) s t) 1 3 slices_S1x1024_o0_384_S1x128 shapeCasts_S1x128_S1x1x128 _ y
  · exact fun y => piece (field (k0_pay10 x0 x1 x2 x3) (k0_pay11 x4) (k0_pay12 x0 x1 x2 x3 x4) s t) 1 2 slices_S1x1024_o0_256_S1x128 shapeCasts_S1x128_S1x1x128 _ y
  · exact fun y => piece (field (k0_pay10 x0 x1 x2 x3) (k0_pay11 x4) (k0_pay12 x0 x1 x2 x3 x4) s t) 1 1 slices_S1x1024_o0_128_S1x128 shapeCasts_S1x128_S1x1x128 _ y
  · exact fun y => piece (field (k0_pay10 x0 x1 x2 x3) (k0_pay11 x4) (k0_pay12 x0 x1 x2 x3 x4) s t) 1 0 slices_S1x1024_o0_0_S1x128 shapeCasts_S1x128_S1x1x128 _ y
  · exact fun y => piece (field (k0_pay10 x0 x1 x2 x3) (k0_pay11 x4) (k0_pay12 x0 x1 x2 x3 x4) s t) 0 7 slices_S1x1024_o0_896_S1x128 shapeCasts_S1x128_S1x1x128 _ y
  · exact fun y => piece (field (k0_pay10 x0 x1 x2 x3) (k0_pay11 x4) (k0_pay12 x0 x1 x2 x3 x4) s t) 0 6 slices_S1x1024_o0_768_S1x128 shapeCasts_S1x128_S1x1x128 _ y
  · exact fun y => piece (field (k0_pay10 x0 x1 x2 x3) (k0_pay11 x4) (k0_pay12 x0 x1 x2 x3 x4) s t) 0 5 slices_S1x1024_o0_640_S1x128 shapeCasts_S1x128_S1x1x128 _ y
  · exact fun y => piece (field (k0_pay10 x0 x1 x2 x3) (k0_pay11 x4) (k0_pay12 x0 x1 x2 x3 x4) s t) 0 4 slices_S1x1024_o0_512_S1x128 shapeCasts_S1x128_S1x1x128 _ y
  · exact fun y => piece (field (k0_pay10 x0 x1 x2 x3) (k0_pay11 x4) (k0_pay12 x0 x1 x2 x3 x4) s t) 0 3 slices_S1x1024_o0_384_S1x128 shapeCasts_S1x128_S1x1x128 _ y
  · exact fun y => piece (field (k0_pay10 x0 x1 x2 x3) (k0_pay11 x4) (k0_pay12 x0 x1 x2 x3 x4) s t) 0 2 slices_S1x1024_o0_256_S1x128 shapeCasts_S1x128_S1x1x128 _ y
  · exact fun y => piece (field (k0_pay10 x0 x1 x2 x3) (k0_pay11 x4) (k0_pay12 x0 x1 x2 x3 x4) s t) 0 1 slices_S1x1024_o0_128_S1x128 shapeCasts_S1x128_S1x1x128 _ y
  · exact fun y => piece (field (k0_pay10 x0 x1 x2 x3) (k0_pay11 x4) (k0_pay12 x0 x1 x2 x3 x4) s t) 0 0 slices_S1x1024_o0_0_S1x128 shapeCasts_S1x128_S1x1x128 _ y
theorem soutA0 : sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 = after (k0_pay23 (k0_pay10 x0 x1 x2 x3) (k0_pay11 x4) (k0_pay12 x0 x1 x2 x3 x4)) k0_pay5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg11.read_unread, harg12.read_unread]
  simp only [readCov_c, readCov_m, ld_x, ld_o, ld_n, ld_r, ld_c, ld_m]
  exact canon_two _ _
theorem soutA1 : sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 = k0_pay6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  sl_unfold_words
  simp only [View.readAt_eq_ld, harg1.read_unread, harg2.read_unread, harg3.read_unread, harg4.read_unread, harg5.read_unread, harg11.read_unread, harg12.read_unread]
  rw [View.canon_unit_zero zz]
end

/-! ## The later points -/

section
variable (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S32x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x4 .f32) (harg8 : arg8.IsWhole) (arg9 : Memref sig .tc .vmem S4x8x128 .f32) (harg9 : arg9.IsWhole) (arg10 : Memref sig .tc .vmem S8x128 .f32) (harg10 : arg10.IsWhole) (arg11 : Memref sig .tc .vmem S16x128 .f32) (harg11 : arg11.IsWhole) (arg12 : Memref sig .tc .vmem S128x128 .bf16) (harg12 : arg12.IsWhole) (hc0 : ¬cond0_0 i)
    (x0 : Vec F S1024x1024 .f32) (x1 : Vec F S1024x1024 .bf16) (x2 : Vec F S1024x1024 .bf16) (x3 : Vec F S1x1024 .f32) (x4 : Vec F S32x1024 .bf16) (xs0 : Vec F S16x128 .f32) (xs1 : Vec F S128x128 .bf16)
theorem outB7 : out0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = byToken x0 x1 x2 x3 x4 xs0 xs1 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  unfold kernelRun0_B
  dsimp only
  sl_unfold_words
  simp only [View.readAt_eq_ld, harg1.read_unread, harg2.read_unread, harg3.read_unread, harg4.read_unread, harg5.read_unread, harg11.read_unread, harg12.read_unread]
  rw [View.canon_unit_zero zz]
  simp only [ld_x, ld_o, ld_n, ld_r, ld_c, ld_m]
  rfl
theorem outB8 : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = byField x0 x1 x2 x3 x4 xs0 xs1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  funext y
  refine View.canon_apply_of_pieces _ _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 y)
  unfold kernelRun0_B
  dsimp only
  sl_unfold_words
  simp only [View.readAt_eq_ld, harg1.read_unread, harg2.read_unread, harg3.read_unread, harg4.read_unread, harg5.read_unread, harg11.read_unread, harg12.read_unread, ld_x, ld_o, ld_n, ld_r, ld_c, ld_m]
  simp only [List.forall_mem_cons, List.not_mem_nil, false_implies, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun y => piece (field (k0_pay10 x0 x1 x2 x3) (k0_pay11 x4) (k0_pay12 x0 x1 x2 x3 x4) xs0 xs1) 3 7 slices_S1x1024_o0_896_S1x128 shapeCasts_S1x128_S1x1x128 _ y
  · exact fun y => piece (field (k0_pay10 x0 x1 x2 x3) (k0_pay11 x4) (k0_pay12 x0 x1 x2 x3 x4) xs0 xs1) 3 6 slices_S1x1024_o0_768_S1x128 shapeCasts_S1x128_S1x1x128 _ y
  · exact fun y => piece (field (k0_pay10 x0 x1 x2 x3) (k0_pay11 x4) (k0_pay12 x0 x1 x2 x3 x4) xs0 xs1) 3 5 slices_S1x1024_o0_640_S1x128 shapeCasts_S1x128_S1x1x128 _ y
  · exact fun y => piece (field (k0_pay10 x0 x1 x2 x3) (k0_pay11 x4) (k0_pay12 x0 x1 x2 x3 x4) xs0 xs1) 3 4 slices_S1x1024_o0_512_S1x128 shapeCasts_S1x128_S1x1x128 _ y
  · exact fun y => piece (field (k0_pay10 x0 x1 x2 x3) (k0_pay11 x4) (k0_pay12 x0 x1 x2 x3 x4) xs0 xs1) 3 3 slices_S1x1024_o0_384_S1x128 shapeCasts_S1x128_S1x1x128 _ y
  · exact fun y => piece (field (k0_pay10 x0 x1 x2 x3) (k0_pay11 x4) (k0_pay12 x0 x1 x2 x3 x4) xs0 xs1) 3 2 slices_S1x1024_o0_256_S1x128 shapeCasts_S1x128_S1x1x128 _ y
  · exact fun y => piece (field (k0_pay10 x0 x1 x2 x3) (k0_pay11 x4) (k0_pay12 x0 x1 x2 x3 x4) xs0 xs1) 3 1 slices_S1x1024_o0_128_S1x128 shapeCasts_S1x128_S1x1x128 _ y
  · exact fun y => piece (field (k0_pay10 x0 x1 x2 x3) (k0_pay11 x4) (k0_pay12 x0 x1 x2 x3 x4) xs0 xs1) 3 0 slices_S1x1024_o0_0_S1x128 shapeCasts_S1x128_S1x1x128 _ y
  · exact fun y => piece (field (k0_pay10 x0 x1 x2 x3) (k0_pay11 x4) (k0_pay12 x0 x1 x2 x3 x4) xs0 xs1) 2 7 slices_S1x1024_o0_896_S1x128 shapeCasts_S1x128_S1x1x128 _ y
  · exact fun y => piece (field (k0_pay10 x0 x1 x2 x3) (k0_pay11 x4) (k0_pay12 x0 x1 x2 x3 x4) xs0 xs1) 2 6 slices_S1x1024_o0_768_S1x128 shapeCasts_S1x128_S1x1x128 _ y
  · exact fun y => piece (field (k0_pay10 x0 x1 x2 x3) (k0_pay11 x4) (k0_pay12 x0 x1 x2 x3 x4) xs0 xs1) 2 5 slices_S1x1024_o0_640_S1x128 shapeCasts_S1x128_S1x1x128 _ y
  · exact fun y => piece (field (k0_pay10 x0 x1 x2 x3) (k0_pay11 x4) (k0_pay12 x0 x1 x2 x3 x4) xs0 xs1) 2 4 slices_S1x1024_o0_512_S1x128 shapeCasts_S1x128_S1x1x128 _ y
  · exact fun y => piece (field (k0_pay10 x0 x1 x2 x3) (k0_pay11 x4) (k0_pay12 x0 x1 x2 x3 x4) xs0 xs1) 2 3 slices_S1x1024_o0_384_S1x128 shapeCasts_S1x128_S1x1x128 _ y
  · exact fun y => piece (field (k0_pay10 x0 x1 x2 x3) (k0_pay11 x4) (k0_pay12 x0 x1 x2 x3 x4) xs0 xs1) 2 2 slices_S1x1024_o0_256_S1x128 shapeCasts_S1x128_S1x1x128 _ y
  · exact fun y => piece (field (k0_pay10 x0 x1 x2 x3) (k0_pay11 x4) (k0_pay12 x0 x1 x2 x3 x4) xs0 xs1) 2 1 slices_S1x1024_o0_128_S1x128 shapeCasts_S1x128_S1x1x128 _ y
  · exact fun y => piece (field (k0_pay10 x0 x1 x2 x3) (k0_pay11 x4) (k0_pay12 x0 x1 x2 x3 x4) xs0 xs1) 2 0 slices_S1x1024_o0_0_S1x128 shapeCasts_S1x128_S1x1x128 _ y
  · exact fun y => piece (field (k0_pay10 x0 x1 x2 x3) (k0_pay11 x4) (k0_pay12 x0 x1 x2 x3 x4) xs0 xs1) 1 7 slices_S1x1024_o0_896_S1x128 shapeCasts_S1x128_S1x1x128 _ y
  · exact fun y => piece (field (k0_pay10 x0 x1 x2 x3) (k0_pay11 x4) (k0_pay12 x0 x1 x2 x3 x4) xs0 xs1) 1 6 slices_S1x1024_o0_768_S1x128 shapeCasts_S1x128_S1x1x128 _ y
  · exact fun y => piece (field (k0_pay10 x0 x1 x2 x3) (k0_pay11 x4) (k0_pay12 x0 x1 x2 x3 x4) xs0 xs1) 1 5 slices_S1x1024_o0_640_S1x128 shapeCasts_S1x128_S1x1x128 _ y
  · exact fun y => piece (field (k0_pay10 x0 x1 x2 x3) (k0_pay11 x4) (k0_pay12 x0 x1 x2 x3 x4) xs0 xs1) 1 4 slices_S1x1024_o0_512_S1x128 shapeCasts_S1x128_S1x1x128 _ y
  · exact fun y => piece (field (k0_pay10 x0 x1 x2 x3) (k0_pay11 x4) (k0_pay12 x0 x1 x2 x3 x4) xs0 xs1) 1 3 slices_S1x1024_o0_384_S1x128 shapeCasts_S1x128_S1x1x128 _ y
  · exact fun y => piece (field (k0_pay10 x0 x1 x2 x3) (k0_pay11 x4) (k0_pay12 x0 x1 x2 x3 x4) xs0 xs1) 1 2 slices_S1x1024_o0_256_S1x128 shapeCasts_S1x128_S1x1x128 _ y
  · exact fun y => piece (field (k0_pay10 x0 x1 x2 x3) (k0_pay11 x4) (k0_pay12 x0 x1 x2 x3 x4) xs0 xs1) 1 1 slices_S1x1024_o0_128_S1x128 shapeCasts_S1x128_S1x1x128 _ y
  · exact fun y => piece (field (k0_pay10 x0 x1 x2 x3) (k0_pay11 x4) (k0_pay12 x0 x1 x2 x3 x4) xs0 xs1) 1 0 slices_S1x1024_o0_0_S1x128 shapeCasts_S1x128_S1x1x128 _ y
  · exact fun y => piece (field (k0_pay10 x0 x1 x2 x3) (k0_pay11 x4) (k0_pay12 x0 x1 x2 x3 x4) xs0 xs1) 0 7 slices_S1x1024_o0_896_S1x128 shapeCasts_S1x128_S1x1x128 _ y
  · exact fun y => piece (field (k0_pay10 x0 x1 x2 x3) (k0_pay11 x4) (k0_pay12 x0 x1 x2 x3 x4) xs0 xs1) 0 6 slices_S1x1024_o0_768_S1x128 shapeCasts_S1x128_S1x1x128 _ y
  · exact fun y => piece (field (k0_pay10 x0 x1 x2 x3) (k0_pay11 x4) (k0_pay12 x0 x1 x2 x3 x4) xs0 xs1) 0 5 slices_S1x1024_o0_640_S1x128 shapeCasts_S1x128_S1x1x128 _ y
  · exact fun y => piece (field (k0_pay10 x0 x1 x2 x3) (k0_pay11 x4) (k0_pay12 x0 x1 x2 x3 x4) xs0 xs1) 0 4 slices_S1x1024_o0_512_S1x128 shapeCasts_S1x128_S1x1x128 _ y
  · exact fun y => piece (field (k0_pay10 x0 x1 x2 x3) (k0_pay11 x4) (k0_pay12 x0 x1 x2 x3 x4) xs0 xs1) 0 3 slices_S1x1024_o0_384_S1x128 shapeCasts_S1x128_S1x1x128 _ y
  · exact fun y => piece (field (k0_pay10 x0 x1 x2 x3) (k0_pay11 x4) (k0_pay12 x0 x1 x2 x3 x4) xs0 xs1) 0 2 slices_S1x1024_o0_256_S1x128 shapeCasts_S1x128_S1x1x128 _ y
  · exact fun y => piece (field (k0_pay10 x0 x1 x2 x3) (k0_pay11 x4) (k0_pay12 x0 x1 x2 x3 x4) xs0 xs1) 0 1 slices_S1x1024_o0_128_S1x128 shapeCasts_S1x128_S1x1x128 _ y
  · exact fun y => piece (field (k0_pay10 x0 x1 x2 x3) (k0_pay11 x4) (k0_pay12 x0 x1 x2 x3 x4) xs0 xs1) 0 0 slices_S1x1024_o0_0_S1x128 shapeCasts_S1x128_S1x1x128 _ y
theorem soutB0 : sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1 = after (k0_pay23 (k0_pay10 x0 x1 x2 x3) (k0_pay11 x4) (k0_pay12 x0 x1 x2 x3 x4)) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 xs0 xs1)]
  unfold kernelRun0_B
  dsimp only
  sl_unfold_words
  simp only [View.readAt_eq_ld, harg1.read_unread, harg2.read_unread, harg3.read_unread, harg4.read_unread, harg5.read_unread, harg11.read_unread, harg12.read_unread]
  rw [View.canon_unit_zero zz]
  simp only [ld_x, ld_o, ld_n, ld_r, ld_c, ld_m]
  rfl
end

end Cert.Proof.RankPieces
end
-- ==== Proof.RankSpec.lean ====
/-
  What the router says of each row: its two greatest logits' experts, its rank among the rows that chose each of them, and
  the two gates.
-/
module

public import proofs.«01_k».proof.Proof.RoutingPick

@[expose] public section

noncomputable section
namespace Cert.Proof.RankSpec
open Idealize.ShloMosaic Cert.Proof.RoutingPick

/-- The first `n` of a sequence, added. -/
def upto (f : ℕ → EReal) (n : ℕ) : EReal := ∑ i ∈ Finset.range n, f i

/-- Which of the rows, counted through, choose an expert. -/
def marks (L : Fin 16384 → Fin 8 → EReal) (e : Fin 16) (i : ℕ) : EReal :=
  if h : i < 16384 then if he : e.val < 8 then chosen (L ⟨i, h⟩) ⟨e.val, he⟩ else 0 else 0

/-- The place of a row in an expert's queue, the experts' queues one after the other. -/
def place (i : Fin 8) (n : EReal) : EReal := FloatOps.sitofp (F := Ideal) FTy.f32 (BitVec.ofNat 32 i.val) * Ideal.ofBits .f32 0x46800000#32 + n

/-- The second logit's weight beside the first's. -/
def weight (l : Fin 8 → EReal) : EReal := Ideal.exp (l (second l) - l (first l))

/-- Two places and two gates. -/
def info (L : Fin 16384 → Fin 8 → EReal) (r : Fin 16384) (n : Fin 4) : EReal :=
  match n with
  | 0 => place (first (L r)) (upto (marks L (up (first (L r)))) r.val)
  | 1 => place (second (L r)) (upto (marks L (up (second (L r)))) r.val)
  | 2 => Ideal.div 1 (1 + weight (L r))
  | 3 => Ideal.div (weight (L r)) (1 + weight (L r))

theorem rest_top (l : Fin 8 → EReal) : top (rest (padded l)) = l (second l) := by
  have hs : rest (padded l) (up (second l)) = l (second l) := by
    rw [rest_padded, if_neg, padded_up]
    intro e
    have h : (second l).val = (first l).val := congrArg (fun z : Fin 16 => z.val) e
    exact first_ne_second l (Fin.ext h.symm)
  rw [← hs]
  refine top_eq _ _ fun e => ?_
  rw [hs, rest_padded]
  split_ifs with h
  · exact bot_le
  · unfold padded
    split_ifs with h'
    · by_cases h2 : (⟨e.val, h'⟩ : Fin 8) = second l
      · rw [h2]
      · have h1 : (⟨e.val, h'⟩ : Fin 8) ≠ first l := fun h1 => h (Fin.ext (congrArg (fun z : Fin 8 => z.val) h1))
        exact ((ahead_iff _ _ _).mp (second_ahead l _ h1 h2)).elim le_of_lt fun h3 => h3.1.symm.le
    · exact bot_le

theorem top_first (l : Fin 8 → EReal) : top (padded l) = l (first l) := by
  rw [← padded_up l (first l)]
  refine top_eq _ _ fun e => ?_
  rw [padded_up]
  unfold padded
  split_ifs with h'
  · by_cases h1 : (⟨e.val, h'⟩ : Fin 8) = first l
    · rw [h1]
    · exact ((ahead_iff _ _ _).mp (first_ahead l _ h1)).elim le_of_lt fun h3 => h3.1.symm.le
  · exact bot_le

end Cert.Proof.RankSpec
end
-- ==== Proof.RankBlock.lean ====
/-
  The router's ranks of a point's tokens at an index, over the extended reals: the tokens before a token that choose an
  expert are those of the earlier points and those before it in its own, block of 128 by block of 128.
-/
module

public import proofs.«01_k».proof.Proof.RankPieces
public import proofs.«01_k».proof.Proof.RoutingBlock
public import proofs.«01_k».proof.Proof.RankSpec

@[expose] public section
set_option maxRecDepth 16384

noncomputable section
namespace Cert.Proof.RankBlock
open Idealize.ShloMosaic Cert.RoutingIdeal Cert.RoutingIdeal.Gen Cert.Proof.RankPieces Cert.Proof.RankSpec

/-! ## Sums over the tokens before a token -/

theorem upto_add (f : ℕ → EReal) (a n : ℕ) : upto f a + ∑ k : Fin n, f (a + k.val) = upto f (a + n) := by
  unfold upto
  rw [Finset.sum_range_add, Fin.sum_univ_eq_sum_range (fun k => f (a + k)) n]

/-- With the mask of the places below `q`. -/
theorem upto_mask (f : ℕ → EReal) (a : ℕ) (q : Fin 128) :
    (∑ k : Fin 128, f (a + k.val) * (if k.val < q.val then 1 else 0)) + upto f a = upto f (a + q.val) := by
  have h : (∑ k : Fin 128, f (a + k.val) * (if k.val < q.val then 1 else 0)) = ∑ k ∈ Finset.range q.val, f (a + k) := by
    rw [Fin.sum_univ_eq_sum_range (fun k => f (a + k) * (if k < q.val then 1 else 0)) 128]
    have hq := q.isLt
    rw [← Finset.sum_subset (Finset.range_mono hq.le) (fun k _ hk => by
      rw [if_neg (fun h => hk (Finset.mem_range.mpr h)), mul_zero])]
    exact Finset.sum_congr rfl fun k hk => by rw [if_pos (Finset.mem_range.mp hk), mul_one]
  rw [h, add_comm]
  unfold upto
  rw [Finset.sum_range_add]

/-! ## The ranks -/

/-- Places before a place, of a sequence of 128 that begins at `o`. -/
theorem upto_mask_at (g : Fin 1024 → EReal) (f : ℕ → EReal) (a o : ℕ) (ho : o + 128 ≤ 1024) (hk : ∀ p : Fin 1024, g p = f (a + p.val)) (q : Fin 128) :
    (∑ p : Fin 128, g ⟨o + p.val, by omega⟩ * (if p.val < q.val then 1 else 0)) + upto f (a + o) = upto f (a + (o + q.val)) := by
  refine Eq.trans ?_ ((upto_mask f (a + o) q).trans (congrArg (upto f) (Nat.add_assoc a o q.val)))
  refine congrArg (fun z : EReal => z + upto f (a + o)) (Finset.sum_congr rfl fun p _ => congrArg (fun z : EReal => z * _) ?_)
  exact (hk _).trans (congrArg f (Nat.add_assoc a o p.val).symm)

theorem upto_add_at (g : Fin 1024 → EReal) (f : ℕ → EReal) (a o : ℕ) (ho : o + 128 ≤ 1024) (hk : ∀ p : Fin 1024, g p = f (a + p.val)) :
    upto f (a + o) + ∑ p : Fin 128, g ⟨o + p.val, by omega⟩ = upto f (a + (o + 128)) := by
  refine Eq.trans ?_ ((upto_add f (a + o) 128).trans (congrArg (upto f) (Nat.add_assoc a o 128)))
  refine congrArg (fun z : EReal => upto f (a + o) + z) (Finset.sum_congr rfl fun p _ => ?_)
  exact (hk _).trans (congrArg f (Nat.add_assoc a o p.val).symm)

set_option maxHeartbeats 1000000 in
/-- The eight rows of 128 tokens, one after the other. -/
theorem concat_at (u0 u1 u2 u3 u4 u5 u6 u7 : FVec Ideal S16x128 .f32) (e : Fin 16) (b : Fin 8) (q : Fin 128) :
    concatenate S16x1024 1 [⟨S16x128, u0⟩, ⟨S16x128, u1⟩, ⟨S16x128, u2⟩, ⟨S16x128, u3⟩, ⟨S16x128, u4⟩, ⟨S16x128, u5⟩, ⟨S16x128, u6⟩, ⟨S16x128, u7⟩]
      concatenates_S16x128_S16x128_S16x128_S16x128_S16x128_S16x128_S16x128_S16x128_S16x1024_d1 (ix2 e (tok b q)) = (![u0, u1, u2, u3, u4, u5, u6, u7] b) (ix2 e q) := by
  have := q.isLt
  fin_cases b <;> pointwise [tok]
  all_goals split_ifs <;> first | omega | exact congrArg _ (congrArg (ix2 e) (Fin.ext (by dsimp only; omega)))

section
variable (k : FVec Ideal S16x1024 .bf16) (s : FVec Ideal S16x128 .f32) (t : FVec Ideal S128x128 .bf16) (e : Fin 16) (f : ℕ → EReal) (a : ℕ)
  (hk : ∀ p : Fin 1024, k (ix2 e p) = f (a + p.val)) (hs : ∀ q : Fin 128, s (ix2 e q) = upto f a)
  (ht : ∀ p q : Fin 128, t (ix2 p q) = if p.val < q.val then (1 : EReal) else 0)

abbrev c1 := k0_pay29 (F := Ideal) k s
abbrev c2 := k0_pay32 (F := Ideal) (c1 k s) (k0_pay30 (F := Ideal) k)
abbrev c3 := k0_pay35 (F := Ideal) k (c1 k s) (k0_pay30 (F := Ideal) k)
abbrev c4 := k0_pay38 (F := Ideal) k (c1 k s) (k0_pay30 (F := Ideal) k)
abbrev c5 := k0_pay41 (F := Ideal) k (c1 k s) (k0_pay30 (F := Ideal) k)
abbrev c6 := k0_pay45 (F := Ideal) (c5 k s) (k0_pay44 (F := Ideal) k)
abbrev c7 := k0_pay47 (F := Ideal) k (c5 k s) (k0_pay44 (F := Ideal) k)

include hk hs in
theorem c1_at (q : Fin 128) : c1 k s (ix2 e q) = upto f (a + 128) := by
  have h : c1 k s (ix2 e q) = s (ix2 e q) + ∑ p : Fin 128, k (ix2 e (⟨0 + p.val, by omega⟩ : Fin 1024)) := by
    pointwise [k0_pay29, k0_pay27]
  rw [h, hs]
  exact upto_add_at (fun p => k (ix2 e p)) f a 0 (by omega) hk
include hk hs in
theorem c2_at (q : Fin 128) : c2 k s (ix2 e q) = upto f (a + 256) := by
  have h : c2 k s (ix2 e q) = c1 k s (ix2 e q) + ∑ p : Fin 128, k (ix2 e (⟨128 + p.val, by omega⟩ : Fin 1024)) := by
    pointwise [k0_pay32, k0_pay30]
  rw [h, c1_at k s e f a hk hs]
  exact upto_add_at (fun p => k (ix2 e p)) f a 128 (by omega) hk
include hk hs in
theorem c3_at (q : Fin 128) : c3 k s (ix2 e q) = upto f (a + 384) := by
  have h : c3 k s (ix2 e q) = c2 k s (ix2 e q) + ∑ p : Fin 128, k (ix2 e (⟨256 + p.val, by omega⟩ : Fin 1024)) := by
    pointwise [k0_pay35, k0_pay33]
  rw [h, c2_at k s e f a hk hs]
  exact upto_add_at (fun p => k (ix2 e p)) f a 256 (by omega) hk
include hk hs in
theorem c4_at (q : Fin 128) : c4 k s (ix2 e q) = upto f (a + 512) := by
  have h : c4 k s (ix2 e q) = c3 k s (ix2 e q) + ∑ p : Fin 128, k (ix2 e (⟨384 + p.val, by omega⟩ : Fin 1024)) := by
    pointwise [k0_pay38, k0_pay36]
  rw [h, c3_at k s e f a hk hs]
  exact upto_add_at (fun p => k (ix2 e p)) f a 384 (by omega) hk
include hk hs in
theorem c5_at (q : Fin 128) : c5 k s (ix2 e q) = upto f (a + 640) := by
  have h : c5 k s (ix2 e q) = c4 k s (ix2 e q) + ∑ p : Fin 128, k (ix2 e (⟨512 + p.val, by omega⟩ : Fin 1024)) := by
    pointwise [k0_pay41, k0_pay39]
  rw [h, c4_at k s e f a hk hs]
  exact upto_add_at (fun p => k (ix2 e p)) f a 512 (by omega) hk
include hk hs in
theorem c6_at (q : Fin 128) : c6 k s (ix2 e q) = upto f (a + 768) := by
  have h : c6 k s (ix2 e q) = c5 k s (ix2 e q) + ∑ p : Fin 128, k (ix2 e (⟨640 + p.val, by omega⟩ : Fin 1024)) := by
    pointwise [k0_pay45, k0_pay44, k0_pay42]
  rw [h, c5_at k s e f a hk hs]
  exact upto_add_at (fun p => k (ix2 e p)) f a 640 (by omega) hk
include hk hs in
theorem c7_at (q : Fin 128) : c7 k s (ix2 e q) = upto f (a + 896) := by
  have h : c7 k s (ix2 e q) = c6 k s (ix2 e q) + ∑ p : Fin 128, k (ix2 e (⟨768 + p.val, by omega⟩ : Fin 1024)) := by
    pointwise [k0_pay47, k0_pay46]
  rw [h, c6_at k s e f a hk hs]
  exact upto_add_at (fun p => k (ix2 e p)) f a 768 (by omega) hk
include hk hs in
/-- The counts after the point. -/
theorem after_at (q : Fin 128) : after (F := Ideal) k s (ix2 e q) = upto f (a + 1024) := by
  have h : after (F := Ideal) k s (ix2 e q) = c7 k s (ix2 e q) + ∑ p : Fin 128, k (ix2 e (⟨896 + p.val, by omega⟩ : Fin 1024)) := by
    pointwise [after, k0_pay49, k0_pay48]
  rw [h, c7_at k s e f a hk hs]
  exact upto_add_at (fun p => k (ix2 e p)) f a 896 (by omega) hk

abbrev r0 : FVec Ideal S16x128 .f32 := k0_pay28 (F := Ideal) k s t
include hk hs ht in
theorem r0_at (q : Fin 128) : r0 k s t (ix2 e q) = upto f (a + (0 + q.val)) := by
  have h : r0 k s t (ix2 e q) = (∑ p : Fin 128, k (ix2 e (⟨0 + p.val, by omega⟩ : Fin 1024)) * t (ix2 p q)) + s (ix2 e q) := by
    pointwise [k0_pay28, k0_pay27]
  rw [h, hs]
  simp only [ht]
  exact upto_mask_at (fun p => k (ix2 e p)) f a 0 (by omega) hk q

abbrev r1 : FVec Ideal S16x128 .f32 := k0_pay31 (F := Ideal) (c1 k s) (k0_pay30 (F := Ideal) k) t (constant S16x128 .f32 0x00000000#32)
include hk hs ht in
theorem r1_at (q : Fin 128) : r1 k s t (ix2 e q) = upto f (a + (128 + q.val)) := by
  have h : r1 k s t (ix2 e q) = (∑ p : Fin 128, k (ix2 e (⟨128 + p.val, by omega⟩ : Fin 1024)) * t (ix2 p q)) + c1 k s (ix2 e q) := by
    pointwise [k0_pay31, k0_pay30]
  rw [h, c1_at k s e f a hk hs]
  simp only [ht]
  exact upto_mask_at (fun p => k (ix2 e p)) f a 128 (by omega) hk q

abbrev r2 : FVec Ideal S16x128 .f32 := k0_pay34 (F := Ideal) k (c1 k s) (k0_pay30 (F := Ideal) k) t
include hk hs ht in
theorem r2_at (q : Fin 128) : r2 k s t (ix2 e q) = upto f (a + (256 + q.val)) := by
  have h : r2 k s t (ix2 e q) = (∑ p : Fin 128, k (ix2 e (⟨256 + p.val, by omega⟩ : Fin 1024)) * t (ix2 p q)) + c2 k s (ix2 e q) := by
    pointwise [k0_pay34, k0_pay33]
  rw [h, c2_at k s e f a hk hs]
  simp only [ht]
  exact upto_mask_at (fun p => k (ix2 e p)) f a 256 (by omega) hk q

abbrev r3 : FVec Ideal S16x128 .f32 := k0_pay37 (F := Ideal) k (c1 k s) (k0_pay30 (F := Ideal) k) t
include hk hs ht in
theorem r3_at (q : Fin 128) : r3 k s t (ix2 e q) = upto f (a + (384 + q.val)) := by
  have h : r3 k s t (ix2 e q) = (∑ p : Fin 128, k (ix2 e (⟨384 + p.val, by omega⟩ : Fin 1024)) * t (ix2 p q)) + c3 k s (ix2 e q) := by
    pointwise [k0_pay37, k0_pay36]
  rw [h, c3_at k s e f a hk hs]
  simp only [ht]
  exact upto_mask_at (fun p => k (ix2 e p)) f a 384 (by omega) hk q

abbrev r4 : FVec Ideal S16x128 .f32 := k0_pay40 (F := Ideal) k (c1 k s) (k0_pay30 (F := Ideal) k) t
include hk hs ht in
theorem r4_at (q : Fin 128) : r4 k s t (ix2 e q) = upto f (a + (512 + q.val)) := by
  have h : r4 k s t (ix2 e q) = (∑ p : Fin 128, k (ix2 e (⟨512 + p.val, by omega⟩ : Fin 1024)) * t (ix2 p q)) + c4 k s (ix2 e q) := by
    pointwise [k0_pay40, k0_pay39]
  rw [h, c4_at k s e f a hk hs]
  simp only [ht]
  exact upto_mask_at (fun p => k (ix2 e p)) f a 512 (by omega) hk q

abbrev r5 : FVec Ideal S16x128 .f32 := k0_pay43 (F := Ideal) k (c1 k s) (k0_pay30 (F := Ideal) k) t
include hk hs ht in
theorem r5_at (q : Fin 128) : r5 k s t (ix2 e q) = upto f (a + (640 + q.val)) := by
  have h : r5 k s t (ix2 e q) = (∑ p : Fin 128, k (ix2 e (⟨640 + p.val, by omega⟩ : Fin 1024)) * t (ix2 p q)) + c5 k s (ix2 e q) := by
    pointwise [k0_pay43, k0_pay42]
  rw [h, c5_at k s e f a hk hs]
  simp only [ht]
  exact upto_mask_at (fun p => k (ix2 e p)) f a 640 (by omega) hk q

abbrev r6 : FVec Ideal S16x128 .f32 := addf (F := Ideal) (matmul (F := Ideal) dot_S16x128_S128x128_S16x128_1_0_0_1_n_n none (k0_pay46 (F := Ideal) k) t (constant S16x128 .f32 0x00000000#32)) (c6 k s)
include hk hs ht in
theorem r6_at (q : Fin 128) : r6 k s t (ix2 e q) = upto f (a + (768 + q.val)) := by
  have h : r6 k s t (ix2 e q) = (∑ p : Fin 128, k (ix2 e (⟨768 + p.val, by omega⟩ : Fin 1024)) * t (ix2 p q)) + c6 k s (ix2 e q) := by
    pointwise [k0_pay46]
  rw [h, c6_at k s e f a hk hs]
  simp only [ht]
  exact upto_mask_at (fun p => k (ix2 e p)) f a 768 (by omega) hk q

abbrev r7 : FVec Ideal S16x128 .f32 := addf (F := Ideal) (matmul (F := Ideal) dot_S16x128_S128x128_S16x128_1_0_0_1_n_n none (k0_pay48 (F := Ideal) k) t (constant S16x128 .f32 0x00000000#32)) (c7 k s)
include hk hs ht in
theorem r7_at (q : Fin 128) : r7 k s t (ix2 e q) = upto f (a + (896 + q.val)) := by
  have h : r7 k s t (ix2 e q) = (∑ p : Fin 128, k (ix2 e (⟨896 + p.val, by omega⟩ : Fin 1024)) * t (ix2 p q)) + c7 k s (ix2 e q) := by
    pointwise [k0_pay48]
  rw [h, c7_at k s e f a hk hs]
  simp only [ht]
  exact upto_mask_at (fun p => k (ix2 e p)) f a 896 (by omega) hk q

include hk hs ht in
/-- The tokens before a token that choose the expert. -/
theorem before_at (p : Fin 1024) : before (F := Ideal) k s t (ix2 e p) = upto f (a + p.val) := by
  obtain ⟨b, q, rfl⟩ : ∃ (b : Fin 8) (q : Fin 128), p = tok b q := ⟨⟨p.val / 128, by omega⟩, ⟨p.val % 128, by omega⟩, Fin.ext (Nat.div_add_mod p.val 128).symm⟩
  refine (concat_at (r0 k s t) (r1 k s t) (r2 k s t) (r3 k s t) (r4 k s t) (r5 k s t) (r6 k s t) (r7 k s t) e b q).trans ?_
  match b with
  | 0 => exact r0_at k s t e f a hk hs ht q
  | 1 => exact r1_at k s t e f a hk hs ht q
  | 2 => exact r2_at k s t e f a hk hs ht q
  | 3 => exact r3_at k s t e f a hk hs ht q
  | 4 => exact r4_at k s t e f a hk hs ht q
  | 5 => exact r5_at k s t e f a hk hs ht q
  | 6 => exact r6_at k s t e f a hk hs ht q
  | 7 => exact r7_at k s t e f a hk hs ht q
end

end Cert.Proof.RankBlock
end
-- ==== Proof.RankFields.lean ====
/-
  A token's two places and two gates, as the router's kernel computes them from its column of logits and its ranks.
-/
module

public import proofs.«01_k».proof.Proof.RankBlock

@[expose] public section
set_option maxRecDepth 16384

noncomputable section
namespace Cert.Proof.RankFields
open Idealize.ShloMosaic Cert.RoutingIdeal Cert.RoutingIdeal.Gen Cert.Proof.RankPieces Cert.Proof.RankSpec Cert.Proof.RoutingPick

theorem bits_one : Ideal.ofBits .f32 0x3F800000#32 = 1 := by
  simp [Ideal.ofBits, Ideal.ieee]
  rw [← EReal.coe_mul, ← EReal.coe_one]
  norm_num

/-- Of the sixteen, the one at the picked place. -/
theorem sum_pick (g : Fin 16 → EReal) (i : Fin 8) :
    ∑ e : Fin 16, Scalar.select (BitVec.ofBool (decide (BitVec.ofNat 32 e.val = BitVec.ofNat 32 i.val))) (g e) 0 = g (up i) := by
  have h : ∀ e : Fin 16, Scalar.select (BitVec.ofBool (decide (BitVec.ofNat 32 e.val = BitVec.ofNat 32 i.val))) (g e) 0 = if e = up i then g e else 0 := fun e => by
    have hi := place_inj e (up i)
    by_cases he : e = up i
    · rw [if_pos he, decide_eq_true (hi.mpr he)]
      rfl
    · rw [if_neg he, decide_eq_false (fun z => he (hi.mp z))]
      rfl
  simp only [h]
  rw [Finset.sum_ite_eq' Finset.univ (up i) g, if_pos (Finset.mem_univ _)]

section
variable (a : FVec Ideal S1024x1024 .bf16) (b : FVec Ideal S32x1024 .bf16) (l : FVec Ideal S16x1024 .f32) (s : FVec Ideal S16x128 .f32) (t : FVec Ideal S128x128 .bf16) (p : Fin 1024)

theorem field0 : field (F := Ideal) a b l s t 0 (ix2 0 p) = FloatOps.sitofp (F := Ideal) FTy.f32 (k0_pay15 (F := Ideal) a b l (ix2 0 p)) * Ideal.ofBits .f32 0x46800000#32
    + ∑ e : Fin 16, Scalar.select (k0_pay16 (F := Ideal) a b l (ix2 e p)) (before (F := Ideal) (k0_pay23 (F := Ideal) a b l) s t (ix2 e p)) 0 := by
  pointwise [field, k0_pay52]
  rfl
theorem field1 : field (F := Ideal) a b l s t 1 (ix2 0 p) = FloatOps.sitofp (F := Ideal) FTy.f32 (k0_pay19 (F := Ideal) a b l (ix2 0 p)) * Ideal.ofBits .f32 0x46800000#32
    + ∑ e : Fin 16, Scalar.select (k0_pay20 (F := Ideal) a b l (ix2 e p)) (before (F := Ideal) (k0_pay23 (F := Ideal) a b l) s t (ix2 e p)) 0 := by
  pointwise [field, k0_pay55, k0_pay51, k0_pay53, k0_pay54]
  rfl
theorem pay21 : k0_pay21 (F := Ideal) a b l (ix2 0 p) = Ideal.exp (k0_pay18 (F := Ideal) a b l (ix2 0 p) - k0_pay14 (F := Ideal) a b l (ix2 0 p)) := by
  pointwise [k0_pay21]
theorem field2 : field (F := Ideal) a b l s t 2 (ix2 0 p) = Ideal.div 1 (1 + k0_pay21 (F := Ideal) a b l (ix2 0 p)) := by
  pointwise [field, k0_pay56, k0_pay22, bits_one]
theorem field3 : field (F := Ideal) a b l s t 3 (ix2 0 p) = Ideal.div (k0_pay21 (F := Ideal) a b l (ix2 0 p)) (1 + k0_pay21 (F := Ideal) a b l (ix2 0 p)) := by
  pointwise [field, k0_pay57, k0_pay22, bits_one]

/-- What the kernel says of a token is what the router says of its row. -/
theorem field_at (L : Fin 16384 → Fin 8 → EReal) (r : Fin 16384) (hc : RoutingBlock.col a b l p = padded (L r)) (hl : ∀ e, InprojMath.Finite (L r e))
    (hb : ∀ e : Fin 16, before (F := Ideal) (k0_pay23 (F := Ideal) a b l) s t (ix2 e p) = upto (marks L e) r.val) (n : Fin 4) :
    field (F := Ideal) a b l s t n (ix2 0 p) = info L r n := by
  have hw : k0_pay21 (F := Ideal) a b l (ix2 0 p) = weight (L r) := by
    rw [pay21, RoutingBlock.pay18, RoutingBlock.pay14, hc, rest_top, top_first]
    rfl
  match n with
  | 0 =>
    rw [field0, RoutingBlock.pay15]
    simp only [RoutingBlock.pay16, hb, hc, pick_first]
    rw [sum_pick (fun e => upto (marks L e) r.val)]
    rfl
  | 1 =>
    rw [field1, RoutingBlock.pay19]
    simp only [RoutingBlock.pay20, hb, hc, pick_second (L r) hl]
    rw [sum_pick (fun e => upto (marks L e) r.val)]
    rfl
  | 2 =>
    rw [field2, hw]
    rfl
  | 3 =>
    rw [field3, hw]
    rfl
end

end Cert.Proof.RankFields
end
-- ==== Proof.RankValue.lean ====
/-
  What the router's kernel leaves of every token's places and gates: each point counts its tokens into the experts' queues
  and keeps the counts for the points after it.
-/
module

public import proofs.«01_k».proof.Proof.RankFields
public import proofs.«01_k».proof.Proof.RoutingValue

@[expose] public section
set_option maxRecDepth 16384

noncomputable section
namespace Cert.Proof.RankValue
open Idealize.ShloMosaic Idealize.ShloMosaic.TcCoe Idealize.SL.Sem Cert.RoutingIdeal Cert.RoutingIdeal.Gen Cert.Proof.RankPieces Cert.Proof.RankSpec
open Cert.Proof.RoutingPick Cert.Proof.InprojMath Cert.Proof.RoutingValue

/-! ## The stored blocks at an index -/

theorem token_at (f0 f1 f2 f3 : FVec Ideal S1x1024 .f32) (p : Fin 1024) (n : Fin 4) :
    k0_pay4 (F := Ideal) f0 f1 f2 f3 (ix2 p n) = (match n with | 0 => f0 | 1 => f1 | 2 => f2 | 3 => f3) (ix2 0 p) := by
  match n with
  | 0 => pointwise [k0_pay4]
  | 1 => pointwise [k0_pay4]
  | 2 => pointwise [k0_pay4]
  | 3 => pointwise [k0_pay4]

theorem none_yet (e : Fin 16) (q : Fin 128) : k0_pay5 (F := Ideal) (ix2 e q) = (0 : EReal) := by
  pointwise [k0_pay5]

theorem toInt_small (a : ℕ) (ha : a < 16384) : (BitVec.ofNat 32 a).toInt = a := by
  have h : (BitVec.ofNat 32 a).toNat = a := by
    rw [BitVec.toNat_ofNat]; omega
  rw [BitVec.toInt_eq_toNat_of_lt (by rw [h]; omega), h]
theorem slt_small (a b : ℕ) (ha : a < 16384) (hb : b < 16384) : IntOp.cmpi .slt (BitVec.ofNat 32 a) (BitVec.ofNat 32 b) = BitVec.ofBool (decide (a < b)) := by
  show BitVec.ofBool (BitVec.slt (BitVec.ofNat 32 a) (BitVec.ofNat 32 b)) = _
  unfold BitVec.slt
  rw [toInt_small a ha, toInt_small b hb]
  simp only [Nat.cast_lt]

/-- The mask marks the tokens before a token. -/
theorem mask (p q : Fin 128) : k0_pay6 (F := Ideal) (ix2 p q) = if p.val < q.val then (1 : EReal) else 0 := by
  have h : ∀ d : Bool, (FloatOps.sitofp FTy.f32 ((BitVec.ofBool d).setWidth 32) : Ideal .f32) = (if d then 1 else 0 : EReal) := fun d => by
    show ((((BitVec.ofBool d).setWidth 32).toInt : ℝ) : EReal) = _
    cases d <;> simp
  pointwise [k0_pay6]
  rw [slt_small _ _ (by omega) (by omega)]
  exact (h _).trans (by simp)

/-! ## The points -/

variable (m : (ℓ : Loc nD τ sig) → Buf (Elt Ideal) ℓ) (c : Dev nD)

/-- The experts' logits of every row. -/
abbrev L : Fin 16384 → Fin 8 → EReal := logits (ax m c) (ao m c) (aw m c) (an m c) (ar m c)

/-- The marks of a point's tokens. -/
abbrev chosenAt (t : Fin cfg0.N) : FVec Ideal S16x1024 .bf16 :=
  k0_pay23 (F := Ideal) (k0_pay10 (F := Ideal) (iblk m c 0 t) (iblk m c 1 t) (iblk m c 2 t) (iblk m c 3 t))
    (k0_pay11 (F := Ideal) (iblk m c 4 t)) (k0_pay12 (F := Ideal) (iblk m c 0 t) (iblk m c 1 t) (iblk m c 2 t) (iblk m c 3 t) (iblk m c 4 t))

/-- What a point finds: the counts of the tokens before its own, and the mask. -/
structure Found (n : ℕ) (s : FVec Ideal S16x128 .f32) (u : FVec Ideal S128x128 .bf16) : Prop where
  counts : ∀ (e : Fin 16) (q : Fin 128), s (ix2 e q) = upto (marks (L m c) e) (1024 * n)
  mask : ∀ p q : Fin 128, u (ix2 p q) = if p.val < q.val then (1 : EReal) else 0

/-- What a point leaves, of what it finds. -/
structure Leaves (t : Fin cfg0.N) (s : FVec Ideal S16x128 .f32) (u : FVec Ideal S128x128 .bf16) : Prop where
  found : Found m c t.val s u
  tokens : (outsAt0 m c t.val t.isLt).2.2.1 = byToken (F := Ideal) (iblk m c 0 t) (iblk m c 1 t) (iblk m c 2 t) (iblk m c 3 t) (iblk m c 4 t) s u
  fields : (outsAt0 m c t.val t.isLt).2.2.2.1 = byField (F := Ideal) (iblk m c 0 t) (iblk m c 1 t) (iblk m c 2 t) (iblk m c 3 t) (iblk m c 4 t) s u
  counts : (outsAt0 m c t.val t.isLt).2.2.2.2.2.1 = after (F := Ideal) (chosenAt m c t) s
  mask : (outsAt0 m c t.val t.isLt).2.2.2.2.2.2 = u

section
variable {A B C D E G H : Type} {o : A × B × C × D × E × G × H} {a : A} {b : B} {x : C} {d : D} {e : E} {g : G} {h : H} (hp : o = (a, b, x, d, e, g, h))
include hp
theorem part2 : o.2.2.1 = x := congrArg (fun o => o.2.2.1) hp
theorem part3 : o.2.2.2.1 = d := congrArg (fun o => o.2.2.2.1) hp
theorem part5 : o.2.2.2.2.2.1 = g := congrArg (fun o => o.2.2.2.2.2.1) hp
theorem part6 : o.2.2.2.2.2.2 = h := congrArg (fun o => o.2.2.2.2.2.2) hp
end

theorem leaves_first (t : Fin cfg0.N) (h : t.val = 0) : Leaves m c t (k0_pay5 (F := Ideal)) (k0_pay6 (F := Ideal)) := by
  have e := outsAt0_A m c t (by omega)
  refine ⟨⟨fun e q => (none_yet e q).trans ?_, mask⟩, (part2 e).trans (outA7 ..), (part3 e).trans (outA8 ..),
    (part5 e).trans (soutA0 ..), (part6 e).trans (soutA1 ..)⟩
  rw [h]
  exact Finset.sum_range_zero _ |>.symm

theorem leaves_later (t : Fin cfg0.N) (h : t.val ≠ 0) (s : FVec Ideal S16x128 .f32) (u : FVec Ideal S128x128 .bf16)
    (hs : (outsAt0 m c (t.val - 1) (Nat.lt_of_le_of_lt (Nat.sub_le _ _) t.isLt)).2.2.2.2.2.1 = s)
    (hu : (outsAt0 m c (t.val - 1) (Nat.lt_of_le_of_lt (Nat.sub_le _ _) t.isLt)).2.2.2.2.2.2 = u) (hf : Found m c t.val s u) : Leaves m c t s u := by
  have hN := lt_of_lt_of_eq t.isLt N_0
  subst hs hu
  have e := outsAt0_B m c t (by omega)
  exact ⟨hf, (part2 e).trans (outB7 ..), (part3 e).trans (outB8 ..),
    (part5 e).trans (soutB0 ..), (part6 e).trans rfl⟩

section
variable (hn : ∀ k, Finite (an m c (ix2 0 k))) (hg : ∀ k e, Finite (ar m c (ix2 k e)))
include hn hg

theorem chosen_at (t : Fin cfg0.N) (e : Fin 16) (p : Fin 1024) : chosenAt m c t (ix2 e p) = marks (L m c) e (1024 * t.val + p.val) := by
  have hN := lt_of_lt_of_eq t.isLt N_0
  refine (RoutingBlock.pay23_chosen _ _ _ p _ (logits_finite m c hn hg _) (picked_from m c hn hg t p) e).trans ?_
  unfold marks
  rw [dif_pos (by omega : 1024 * t.val + p.val < 16384)]
  rfl

theorem leaves : ∀ (n : ℕ) (h : n < cfg0.N), ∃ s u, Leaves m c ⟨n, h⟩ s u
  | 0, h => ⟨_, _, leaves_first m c ⟨0, h⟩ rfl⟩
  | n + 1, h => by
    obtain ⟨s, u, hl⟩ := leaves n (Nat.lt_of_succ_lt h)
    refine ⟨_, _, leaves_later m c ⟨n + 1, h⟩ (Nat.succ_ne_zero n) _ _ hl.counts hl.mask ⟨fun e q => ?_, hl.found.mask⟩⟩
    exact RankBlock.after_at _ s e (marks (L m c) e) (1024 * n) (chosen_at m c hn hg ⟨n, Nat.lt_of_succ_lt h⟩ e) (hl.found.counts e) q

/-- What a point says of a token is what the router says of its row. -/
theorem fields_at (t : Fin cfg0.N) (s : FVec Ideal S16x128 .f32) (u : FVec Ideal S128x128 .bf16) (hf : Found m c t.val s u) (p : Fin 1024) (n : Fin 4) :
    field (F := Ideal) (k0_pay10 (F := Ideal) (iblk m c 0 t) (iblk m c 1 t) (iblk m c 2 t) (iblk m c 3 t)) (k0_pay11 (F := Ideal) (iblk m c 4 t))
      (k0_pay12 (F := Ideal) (iblk m c 0 t) (iblk m c 1 t) (iblk m c 2 t) (iblk m c 3 t) (iblk m c 4 t)) s u n (ix2 0 p)
      = info (L m c) (rowOf (point t) p) n :=
  RankFields.field_at _ _ _ s u p (L m c) (rowOf (point t) p) (picked_from m c hn hg t p) (logits_finite m c hn hg _)
    (fun e => RankBlock.before_at _ s u e (marks (L m c) e) (1024 * t.val) (chosen_at m c hn hg t e) (hf.counts e) hf.mask p) n
end

/-! ## The results' arrays -/

theorem idx7 : ∀ t : Fin grid0.N, win0_7.index t (0 : Fin 2) = t.val ∧ win0_7.index t (1 : Fin 2) = 0 := by decide +kernel
theorem idx8 : ∀ t : Fin grid0.N, win0_8.index t (0 : Fin 3) = 0 ∧ win0_8.index t (1 : Fin 3) = t.val ∧ win0_8.index t (2 : Fin 3) = 0 := by decide +kernel

theorem place7 (t : Fin cfg0.N) (p : Fin 1024) (n : Fin 4) : ((cfg0.win 7).blk t).view.emb (ix2 p n) = (ix2 (rowOf (point t) p) n : S16384x4.Idx) := by
  refine funext fun z => Fin.ext ?_
  refine ((cfg0.win 7).rect_emb_val t (ix2 p n) z).trans ?_
  obtain ⟨e0, e1⟩ := idx7 t
  match z with
  | ⟨0, _⟩ =>
    refine (congrArg (fun i : ℕ => i * 1024 + p.val) e0).trans ?_
    show t.val * 1024 + p.val = 1024 * t.val + p.val; omega
  | ⟨1, _⟩ =>
    refine (congrArg (fun i : ℕ => i * 4 + n.val) e1).trans ?_
    show 0 * 4 + n.val = n.val; omega

theorem place8 (t : Fin cfg0.N) (n : Fin 4) (b : Fin 8) (q : Fin 128) :
    ((cfg0.win 8).blk t).view.emb (ix3 n b q) = (ix3 n (⟨8 * (point t).val + b.val, by omega⟩ : Fin 128) q : S4x128x128.Idx) := by
  refine funext fun z => Fin.ext ?_
  refine ((cfg0.win 8).rect_emb_val t (ix3 n b q) z).trans ?_
  obtain ⟨e0, e1, e2⟩ := idx8 t
  match z with
  | ⟨0, _⟩ =>
    refine (congrArg (fun i : ℕ => i * 4 + n.val) e0).trans ?_
    show 0 * 4 + n.val = n.val; omega
  | ⟨1, _⟩ =>
    refine (congrArg (fun i : ℕ => i * 8 + b.val) e1).trans ?_
    show t.val * 8 + b.val = 8 * t.val + b.val; omega
  | ⟨2, _⟩ =>
    refine (congrArg (fun i : ℕ => i * 128 + q.val) e2).trans ?_
    show 0 * 128 + q.val = q.val; omega

/-- Every row's places and gates. -/
def rows (l : Fin 16384 → Fin 8 → EReal) : S16384x4.Idx → EReal := fun i => info l (i 0) (i 1)
/-- The same, each of the four by blocks of 128 rows. -/
def blocks (l : Fin 16384 → Fin 8 → EReal) : S4x128x128.Idx → EReal := fun i => info l (blockRow (i 1) (i 2)) (i 0)

section
variable (hn : ∀ k, Finite (an m c (ix2 0 k))) (hg : ∀ k e, Finite (ar m c (ix2 k e)))
include hn hg

/-- What the kernel leaves as the rows' places and gates. -/
theorem final7 : ((dats m 0 c).arrAt 7 cfg0.N : S16384x4.Idx → EReal) = rows (L m c) := by
  refine (dats m 0 c).arrAt_eq_of_cover 7 (rows (L m c)) (fun t _ => ?_) (fun i => ?_)
  · obtain ⟨s, u, hl⟩ := leaves m c hn hg t.val t.isLt
    refine (congrArg ((cfg0.win 7).cut (grid0.coords t)) ((after0_7 m c t).trans hl.tokens)).trans ?_
    funext y
    obtain ⟨p, n, rfl⟩ : ∃ (p : Fin 1024) (n : Fin 4), y = ix2 p n := ⟨y 0, y 1, eq_ix2 y⟩
    refine Eq.trans ?_ (congrArg (rows (L m c)) (place7 t p n)).symm
    refine Eq.trans ?_ (fields_at m c hn hg t s u hl.found p n)
    refine (token_at _ _ _ _ p n).trans ?_
    match n with
    | 0 => rfl
    | 1 => rfl
    | 2 => rfl
    | 3 => rfl
  · have h0 : (i 0).val < 16384 := (i 0).isLt
    refine ⟨⟨(i 0).val / 1024, lt_of_lt_of_eq (by omega : (i 0).val / 1024 < 16) N_0.symm⟩, flush0_7 _, ?_⟩
    refine Finset.mem_map.mpr ⟨ix2 (⟨(i 0).val % 1024, by omega⟩ : Fin 1024) (i 1), Finset.mem_univ _, ?_⟩
    refine (place7 _ _ _).trans ?_
    refine (funext fun z => ?_)
    match z with
    | ⟨0, _⟩ => exact Fin.ext (Nat.div_add_mod (i 0).val 1024)
    | ⟨1, _⟩ => rfl

/-- What the kernel leaves of the same by blocks. -/
theorem final8 : ((dats m 0 c).arrAt 8 cfg0.N : S4x128x128.Idx → EReal) = blocks (L m c) := by
  refine (dats m 0 c).arrAt_eq_of_cover 8 (blocks (L m c)) (fun t _ => ?_) (fun i => ?_)
  · obtain ⟨s, u, hl⟩ := leaves m c hn hg t.val t.isLt
    refine (congrArg ((cfg0.win 8).cut (grid0.coords t)) ((after0_8 m c t).trans hl.fields)).trans ?_
    funext y
    obtain ⟨n, b, q, rfl⟩ : ∃ (n : Fin 4) (b : Fin 8) (q : Fin 128), y = ix3 n b q := ⟨y 0, y 1, y 2, eq_ix3 y⟩
    refine Eq.trans ?_ (congrArg (blocks (L m c)) (place8 t n b q)).symm
    refine (fields_at m c hn hg t s u hl.found (tok b q) n).trans ?_
    refine congrArg (fun r => info (L m c) r n) (Fin.ext ?_)
    show 1024 * (point t).val + (128 * b.val + q.val) = 128 * (8 * (point t).val + b.val) + q.val
    omega
  · have h1 : (i 1).val < 128 := (i 1).isLt
    refine ⟨⟨(i 1).val / 8, lt_of_lt_of_eq (by omega : (i 1).val / 8 < 16) N_0.symm⟩, flush0_8 _, ?_⟩
    refine Finset.mem_map.mpr ⟨ix3 (i 0) (⟨(i 1).val % 8, by omega⟩ : Fin 8) (i 2), Finset.mem_univ _, ?_⟩
    refine (place8 _ _ _ _).trans ?_
    refine (funext fun z => ?_)
    match z with
    | ⟨0, _⟩ => rfl
    | ⟨1, _⟩ => exact Fin.ext (Nat.div_add_mod (i 1).val 8)
    | ⟨2, _⟩ => rfl
end

end Cert.Proof.RankValue
end
-- ==== Proof.RankRef.lean ====
/-
  The reference of the router's places and gates at an index: the rank of a row in the queue of each of its two experts is
  how many rows before it are marked, and its gates are the softmax of its two logits.
-/
module

public import proofs.«01_k».proof.Proof.RoutingRef
public import proofs.«01_k».proof.Proof.RankValue

@[expose] public section
set_option maxRecDepth 16384

noncomputable section
namespace Cert.Proof.RankRef
open Idealize.ShloMosaic Idealize.ShloMosaic.TcCoe Idealize.SL.Sem Cert.RoutingRefIdeal Cert.RoutingRefIdeal.Gen Cert.Proof.FfnBlock
open Cert.RoutingRefIdeal.Value (res_main_v54 res_main_v56)
open Cert.Proof.RoutingPick Cert.Proof.RankSpec Cert.Proof.RoutingRef Cert.Proof.InprojMath

/-! ## The reference's steps -/

/-- The two greatest logits. -/
def topsA (l : FVec Ideal S8x2048x8 .f32) : FVec Ideal S8x2048x2 .f32 :=
  (Host.topK S8x2048x2 2 (FloatOps.cmpfTotal .gt) l sliceFits_S8x2048x8_S8x2048x2).1

/-- One at each place's expert. -/
def onesA (p : IVec S8x2048x2 32) : FVec Ideal S8x2048x2x8 .f32 :=
  uitofp (F := Ideal) .f32 (cmpi .eq (broadcastInDim S8x2048x2x8 ![0, 1, 2, 3] bcast_S8x2048x2x1_S8x2048x2x8_0_1_2_3 (broadcastInDim S8x2048x2x1 ![0, 1, 2] bcast_S8x2048x2_S8x2048x2x1_0_1_2 p))
    (broadcastInDim S8x2048x2x8 ![0, 1, 2, 3] bcast_S1x1x1x8_S8x2048x2x8_0_1_2_3 (iotaInDim S1x1x1x8 32 3)))

/-- The rows before a row that are marked. -/
def beforeA (c : FVec Ideal S8x2048x8 .f32) : FVec Ideal S16384x8 .f32 :=
  Host.dotGeneral dot_S16384x16384_S16384x8_S16384x8_1_0_0_1_n_n none
    (uitofp (F := Ideal) .f32 (cmpi .slt (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0)))))
    (shapeCast _ c shapeCasts_S8x2048x8_S16384x8)

/-- The ranks of a row in its two experts' queues. -/
def ranksA (o : FVec Ideal S8x2048x2x8 .f32) (b : FVec Ideal S16384x8 .f32) : FVec Ideal S16384x2 .f32 :=
  Host.reduceAdd (mulf (shapeCast _ o shapeCasts_S8x2048x2x8_S16384x2x8)
    (broadcastInDim S16384x2x8 ![0, 1, 2] bcast_S16384x1x8_S16384x2x8_0_1_2 (broadcastInDim S16384x1x8 ![0, 2] bcast_S16384x8_S16384x1x8_0_2 b)))
    (constant S_ .f32 0x00000000#32) reducesTo_S16384x2x8_S16384x2_d2 h_S_

/-- Its two places. -/
def queueA (p : IVec S8x2048x2 32) (k : FVec Ideal S16384x2 .f32) : FVec Ideal S16384x2 .f32 :=
  addf (mulf (sitofp (F := Ideal) .f32 (shapeCast _ p shapeCasts_S8x2048x2_S16384x2)) (broadcastInDim S16384x2 ![] bcast_S_S16384x2 (constant S_ .f32 0x46800000#32))) k

/-- The logits' weights beside the greatest. -/
def weightsA (t : FVec Ideal S8x2048x2 .f32) : FVec Ideal S8x2048x2 .f32 :=
  Host.exp (subf t (broadcastInDim S8x2048x2 ![0, 1, 2] bcast_S8x2048x1_S8x2048x2_0_1_2 (broadcastInDim S8x2048x1 ![0, 1] bcast_S8x2048_S8x2048x1_0_1
    (maximumf (broadcastInDim S8x2048 ![] bcast_S_S8x2048 (constant S_ .f32 0xFF800000#32)) (Host.reduce FloatOps.maximumf t (constant S_ .f32 0xFF800000#32) reducesTo_S8x2048x2_S8x2048_d2 h_S_)))))

/-- The gates. -/
def gatesA (w : FVec Ideal S8x2048x2 .f32) : FVec Ideal S8x2048x2 .f32 :=
  Host.divf w (broadcastInDim S8x2048x2 ![0, 1, 2] bcast_S8x2048x1_S8x2048x2_0_1_2 (broadcastInDim S8x2048x1 ![0, 1] bcast_S8x2048_S8x2048x1_0_1
    (Host.reduceAdd w (constant S_ .f32 0x00000000#32) reducesTo_S8x2048x2_S8x2048_d2 h_S_)))

/-- The rows of places and gates. -/
def rowsA (l : FVec Ideal S8x2048x8 .f32) : FVec Ideal S16384x4 .f32 :=
  concatenate S16384x4 1 [⟨S16384x2, queueA (placesA l) (ranksA (onesA (placesA l)) (beforeA (chosenA (placesA l))))⟩,
    ⟨S16384x2, shapeCast _ (gatesA (weightsA (topsA l))) shapeCasts_S8x2048x2_S16384x2⟩] concatenates_S16384x2_S16384x2_S16384x4_d1

/-- The same by blocks of 128 rows. -/
def blocksA (r : FVec Ideal S16384x4 .f32) : FVec Ideal S4x128x128 .f32 :=
  shapeCast _ (transpose S4x16384 [1, 0] r transposes_S16384x4_S4x16384_1_0) shapeCasts_S4x16384_S4x128x128

theorem rows_term (m : (ℓ : Loc nD τ sig) → Buf (Elt Ideal) ℓ) (c : Dev nD) : res_main_v54 (F := Ideal) m c
    = rowsA (logitsA (normedA (mixedA (m ((c.tc : Thread nD τ).loc main_arg0)) (shapeCast S8x2048x1024 (m ((c.tc : Thread nD τ).loc main_arg1)) shapeCasts_S16384x1024_S8x2048x1024) (m ((c.tc : Thread nD τ).loc main_arg2)))
        (m ((c.tc : Thread nD τ).loc main_arg3))) (m ((c.tc : Thread nD τ).loc main_arg4))) := rfl
theorem blocks_term (m : (ℓ : Loc nD τ sig) → Buf (Elt Ideal) ℓ) (c : Dev nD) : res_main_v56 (F := Ideal) m c = blocksA (res_main_v54 (F := Ideal) m c) := rfl

/-! ## Them at an index -/

/-- A row counted through, in its batch. -/
abbrev bt (r : Fin 16384) : Fin 8 := ⟨r.val / 2048, by omega⟩
abbrev st (r : Fin 16384) : Fin 2048 := ⟨r.val % 2048, by omega⟩

theorem blocksA_apply (a : FVec Ideal S16384x4 .f32) (n : Fin 4) (b q : Fin 128) : blocksA a (ix3 n b q) = a (ix2 (⟨128 * b.val + q.val, by omega⟩ : Fin 16384) n) := by
  pointwise [blocksA]
  exact congrArg (fun z : Fin 16384 => a (ix2 z n)) (Fin.ext (by show b.val * 128 + q.val = 128 * b.val + q.val; omega))
theorem rowsA_apply (l : FVec Ideal S8x2048x8 .f32) (r : Fin 16384) (n : Fin 4) : rowsA l (ix2 r n)
    = if h : n.val < 2 then queueA (placesA l) (ranksA (onesA (placesA l)) (beforeA (chosenA (placesA l)))) (ix2 r ⟨n.val, h⟩)
      else gatesA (weightsA (topsA l)) (ix3 (bt r) (st r) ⟨n.val - 2, by omega⟩) := by
  pointwise [rowsA]
theorem queueA_apply (p : IVec S8x2048x2 32) (k : FVec Ideal S16384x2 .f32) (r : Fin 16384) (i : Fin 2) :
    queueA p k (ix2 r i) = FloatOps.sitofp (F := Ideal) FTy.f32 (p (ix3 (bt r) (st r) i)) * Ideal.ofBits .f32 0x46800000#32 + k (ix2 r i) := by
  pointwise [queueA]
theorem ranksA_apply (p : IVec S8x2048x2 32) (b : FVec Ideal S16384x8 .f32) (r : Fin 16384) (i : Fin 2) :
    ranksA (onesA p) b (ix2 r i) = ∑ e : Fin 8, FloatOps.uitofp (F := Ideal) FTy.f32 (IntOp.cmpi .eq (p (ix3 (bt r) (st r) i)) (BitVec.ofNat 32 e.val)) * b (ix2 r e) := by
  pointwise [ranksA, onesA]
theorem beforeA_apply (c : FVec Ideal S8x2048x8 .f32) (r : Fin 16384) (e : Fin 8) :
    beforeA c (ix2 r e) = ∑ j : Fin 16384, FloatOps.uitofp (F := Ideal) FTy.f32 (IntOp.cmpi .slt (BitVec.ofNat 32 j.val) (BitVec.ofNat 32 r.val)) * c (ix3 (bt j) (st j) e) := by
  pointwise [beforeA]
theorem bits_bot : Ideal.ofBits .f32 0xFF800000#32 = ⊥ := by simp [Ideal.ofBits, Ideal.ieee]
theorem fold_two (f : Fin 2 → EReal) : Finset.fold max ⊥ f Finset.univ = max (f 0) (f 1) := by
  rw [show (Finset.univ : Finset (Fin 2)) = {0, 1} from by decide, Finset.fold_insert (by decide), Finset.fold_singleton, max_bot_right]
theorem weightsA_apply (t : FVec Ideal S8x2048x2 .f32) (b : Fin 8) (s : Fin 2048) (i : Fin 2) :
    weightsA t (ix3 b s i) = Ideal.exp (t (ix3 b s i) - max (t (ix3 b s 0)) (t (ix3 b s 1))) := by
  pointwise [weightsA]
  rw [bits_bot, max_bot_left]
  exact congrArg (fun a => Ideal.exp (t (ix3 b s i) - a)) (fold_two fun j => t (ix3 b s j))
theorem gatesA_apply (w : FVec Ideal S8x2048x2 .f32) (b : Fin 8) (s : Fin 2048) (i : Fin 2) :
    gatesA w (ix3 b s i) = Ideal.div (w (ix3 b s i)) (w (ix3 b s 0) + w (ix3 b s 1)) := by
  pointwise [gatesA]
  rw [Fin.sum_univ_two]

theorem sort_value (l : FVec Ideal S8x2048x8 .f32) (j : S8x2048x8.Idx) :
    (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).1 j
      = l (j.along 2 (sortedFrom (fun k k' : Fin 8 => Ideal.cmp .ogt (l (j.along 2 k)) (l (j.along 2 k')) == 1#1) (j 2))) := rfl

theorem topsA_apply (l : FVec Ideal S8x2048x8 .f32) (b : Fin 8) (s : Fin 2048) (i : Fin 2) :
    topsA l (ix3 b s i) = l (ix3 b s (sortedFrom (ahead fun e => l (ix3 b s e)) (⟨i.val, by omega⟩ : Fin 8))) := by
  have hs := sortedFrom_places (fun k k' => Ideal.cmp .ogt (l (ix3 b s k)) (l (ix3 b s k')) == 1#1) (fun e => l (ix3 b s e)) (fun k k' => by
    show (BitVec.ofBool (decide (l (ix3 b s k') < l (ix3 b s k))) == 1#1) = _
    by_cases h : l (ix3 b s k') < l (ix3 b s k) <;> simp [h])
  have hp : topsA l (ix3 b s i) = (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).1 (ix3 b s (⟨i.val, by omega⟩ : Fin 8)) := by
    refine congrArg (Host.sort2 S8x2048x8 2 (fun x y : EReal × BitVec 32 => FloatOps.cmpfTotal (F := Ideal) (φ := .f32) .gt x.1 y.1) l
      (fun i => if hd : 2 < S8x2048x8.rank then iotaInDim S8x2048x8 32 ⟨2, hd⟩ i else 0#32)).1 (funext fun z => Fin.ext ?_)
    match z with
    | ⟨0, _⟩ => exact Nat.zero_add _
    | ⟨1, _⟩ => exact Nat.zero_add _
    | ⟨2, _⟩ => exact Nat.zero_add _
  have hf : (fun k k' : Fin 8 => Ideal.cmp .ogt (l ((ix3 b s (⟨i.val, by omega⟩ : Fin 8) : S8x2048x8.Idx).along 2 k)) (l ((ix3 b s (⟨i.val, by omega⟩ : Fin 8) : S8x2048x8.Idx).along 2 k')) == 1#1)
      = fun k k' => Ideal.cmp .ogt (l (ix3 b s k)) (l (ix3 b s k')) == 1#1 := funext fun k => funext fun k' => by
    rw [along_at, along_at]
  refine (hp.trans (sort_value l _)).trans (congrArg l ((along_at b s _ _).trans (congrArg (fun k : Fin 8 => (ix3 b s k : S8x2048x8.Idx)) ?_)))
  exact congrFun ((congrArg sortedFrom hf).trans hs) (⟨i.val, by omega⟩ : Fin 8)

/-! ## The rows -/

/-- The logits of a row counted through. -/
abbrev rowL (l : FVec Ideal S8x2048x8 .f32) (r : Fin 16384) (e : Fin 8) : EReal := l (ix3 (bt r) (st r) e)

theorem one_or (d : Bool) : FloatOps.uitofp (F := Ideal) FTy.f32 (BitVec.ofBool d) = (if d then 1 else 0 : EReal) := by
  show (((BitVec.ofBool d).toNat : ℝ) : EReal) = _
  cases d <;> simp

/-- The marks before a row, added. -/
theorem before_at (l : FVec Ideal S8x2048x8 .f32) (r : Fin 16384) (e : Fin 8) :
    beforeA (chosenA (placesA l)) (ix2 r e) = upto (marks (rowL l) (up e)) r.val := by
  rw [beforeA_apply]
  have h : ∀ j : Fin 16384, FloatOps.uitofp (F := Ideal) FTy.f32 (IntOp.cmpi .slt (BitVec.ofNat 32 j.val) (BitVec.ofNat 32 r.val)) * chosenA (placesA l) (ix3 (bt j) (st j) e)
      = (fun i : ℕ => if i < r.val then marks (rowL l) (up e) i else 0) j.val := fun j => by
    have hm : marks (rowL l) (up e) j.val = chosen (rowL l j) e := (dif_pos j.isLt).trans (dif_pos e.isLt)
    rw [RankValue.slt_small _ _ j.isLt r.isLt, one_or, chosen_at]
    show _ = if j.val < r.val then marks (rowL l) (up e) j.val else 0
    rw [hm]
    by_cases hj : j.val < r.val
    · simp [hj]
    · simp [hj]
  rw [Finset.sum_congr rfl fun j _ => h j, Fin.sum_univ_eq_sum_range (fun i : ℕ => if i < r.val then marks (rowL l) (up e) i else 0) 16384]
  refine (Finset.sum_subset (Finset.range_subset_range.mpr r.isLt.le) fun i _ hi => if_neg fun h => hi (Finset.mem_range.mpr h)).symm.trans ?_
  exact Finset.sum_congr rfl fun i hi => if_pos (Finset.mem_range.mp hi)

/-- A row's rank in the queue of a place's expert. -/
theorem rank_at (l : FVec Ideal S8x2048x8 .f32) (r : Fin 16384) (i : Fin 2) (k : Fin 8) (hk : placesA l (ix3 (bt r) (st r) i) = BitVec.ofNat 32 k.val) :
    ranksA (onesA (placesA l)) (beforeA (chosenA (placesA l))) (ix2 r i) = upto (marks (rowL l) (up k)) r.val := by
  have inj : ∀ x y : Fin 8, IntOp.cmpi .eq (BitVec.ofNat 32 x.val) (BitVec.ofNat 32 y.val) = BitVec.ofBool (decide (y = x)) := by decide +kernel
  rw [ranksA_apply, hk]
  have h : ∀ e : Fin 8, FloatOps.uitofp (F := Ideal) FTy.f32 (IntOp.cmpi .eq (BitVec.ofNat 32 k.val) (BitVec.ofNat 32 e.val)) * beforeA (chosenA (placesA l)) (ix2 r e)
      = if e = k then upto (marks (rowL l) (up e)) r.val else 0 := fun e => by
    rw [inj, one_or, before_at]
    by_cases he : e = k <;> simp [he]
  rw [Finset.sum_congr rfl fun e _ => h e, Finset.sum_ite_eq' Finset.univ k fun e => upto (marks (rowL l) (up e)) r.val, if_pos (Finset.mem_univ _)]

theorem second_le (l : Fin 8 → EReal) : l (second l) ≤ l (first l) :=
  ((ahead_iff _ _ _).mp (first_ahead l _ (first_ne_second l).symm)).elim le_of_lt fun h => h.1.symm.le

theorem exp_zero : Ideal.exp 0 = 1 := by
  show Ideal.exp ((0 : ℝ) : EReal) = 1
  refine Eq.trans (b := ((Real.exp 0 : ℝ) : EReal)) rfl ?_
  rw [Real.exp_zero]
  rfl

theorem tops_first (l : FVec Ideal S8x2048x8 .f32) (r : Fin 16384) : topsA l (ix3 (bt r) (st r) 0) = rowL l r (first (rowL l r)) := topsA_apply l _ _ 0
theorem tops_second (l : FVec Ideal S8x2048x8 .f32) (r : Fin 16384) : topsA l (ix3 (bt r) (st r) 1) = rowL l r (second (rowL l r)) := topsA_apply l _ _ 1

section
variable (l : FVec Ideal S8x2048x8 .f32) (hl : ∀ r e, Finite (rowL l r e)) (r : Fin 16384)
include hl
theorem weight_first : weightsA (topsA l) (ix3 (bt r) (st r) 0) = 1 := by
  rw [weightsA_apply, tops_first, tops_second, max_eq_left (second_le _), (hl r _).sub_self, exp_zero]
omit hl in
theorem weight_second : weightsA (topsA l) (ix3 (bt r) (st r) 1) = weight (rowL l r) := by
  rw [weightsA_apply, tops_first, tops_second, max_eq_left (second_le _)]
  rfl

/-- What the reference says of a row. -/
theorem rows_at (n : Fin 4) : rowsA l (ix2 r n) = info (rowL l) r n := by
  rw [rowsA_apply]
  match n with
  | 0 =>
    refine (queueA_apply _ _ r 0).trans ?_
    rw [rank_at l r 0 (first (rowL l r)) (placesA_apply l _ _ 0), placesA_apply]
    rfl
  | 1 =>
    refine (queueA_apply _ _ r 1).trans ?_
    rw [rank_at l r 1 (second (rowL l r)) (placesA_apply l _ _ 1), placesA_apply]
    rfl
  | 2 =>
    refine (gatesA_apply _ _ _ 0).trans ?_
    rw [weight_first l hl, weight_second l]
    rfl
  | 3 =>
    refine (gatesA_apply _ _ _ 1).trans ?_
    rw [weight_first l hl, weight_second l]
    rfl
end

/-! ## The logits -/

section
variable (x : FVec Ideal S8x2048x1024 .f32) (o : S16384x1024.Idx → EReal) (w : FVec Ideal S1024x1024 .f32) (n : FVec Ideal S1x1024 .f32)
  (g : FVec Ideal S1024x8 .f32) (h : S16384x1024.ShapeCasts S8x2048x1024)

/-- The reference's logits of a row. -/
theorem logits_at : rowL (logitsA (normedA (mixedA x (shapeCast S8x2048x1024 o h) w) n) g) = RoutingValue.logits x o w n g :=
  funext fun r => funext fun e => (logitsA_apply _ g _ _ e).trans (Finset.sum_congr rfl fun k _ => congrArg (fun a : EReal => a * g (ix2 k e))
    ((normedA_apply n (mixedA x (shapeCast S8x2048x1024 o h) w) (bt r) (st r) k).trans
      (congrArg (fun a => normed a (fun k => n (ix2 0 k)) k) (mixed_row x o w h r))))
end

end Cert.Proof.RankRef
end
-- ==== Proof.RoutingJoin.lean ====
/-
  The places, the gates and the counts of the router's kernel are its reference's; and the reference's frame.
-/
module

public import proofs.«01_k».proof.Defs
public import proofs.«01_k».proof.Proof.Gen.Routing
public import proofs.«01_k».proof.Proof.Gen.Pre_router_weights_finite
public import proofs.«01_k».proof.Proof.InprojJoin
public import proofs.«01_k».proof.Proof.RoutingValue
public import proofs.«01_k».proof.Proof.RoutingRef
public import proofs.«01_k».proof.Proof.RankValue
public import proofs.«01_k».proof.Proof.RankRef
public import Idealize.ShloMosaic.Lib.ReduceAll
public import Idealize.ShloMosaic.Lib.Quiescent

@[expose] public section
set_option maxRecDepth 16384

noncomputable section
namespace Cert.Proof.RoutingJoin
open Idealize.ShloMosaic Idealize.ShloMosaic.TcCoe Idealize.SL.Sem Cert.Proof.InprojMath

/-- The reference declares no semaphore: its run is its frame. -/
theorem reference_frame : Cert.quiescent_RoutingRefIdeal := fun m g _ =>
  (θ_run Cert.RoutingRefIdeal.defs _ _).mono
    (fun r h => And.intro (fun c => (h c).2.2.2) (sem_eq_zero_of_no_sems (by decide) r.2)) (Cert.RoutingRefIdeal.Value.run m g)

/-! ## What the precondition says -/

section
open Cert.Pre_router_weights_finite
variable (x : S8x2048x1024.Idx → EReal) (o : S16384x1024.Idx → EReal) (w : S1024x1024.Idx → EReal) (n : S1x1024.Idx → EReal) (g : S1024x8.Idx → EReal)
  (h : fn (F := Ideal) x o w n g = (fun _ => 1#1))
include h

theorem parts : Host.reduce IntOp.andi (cmpf (F := Ideal) (φ := .f32) .olt (Host.absf (F := Ideal) (φ := .f32) n) (broadcastInDim S1x1024 ![] Facts.bcast_S_S1x1024 (constant S_ .f32 0x7F800000#32))) (constantI S_ 1 1#1) Facts.reducesTo_S1x1024_S_d0_1 Facts.h_S_ ix0 = 1#1
    ∧ Host.reduce IntOp.andi (cmpf (F := Ideal) (φ := .f32) .olt (Host.absf (F := Ideal) (φ := .f32) g) (broadcastInDim S1024x8 ![] Facts.bcast_S_S1024x8 (constant S_ .f32 0x7F800000#32))) (constantI S_ 1 1#1) Facts.reducesTo_S1024x8_S_d0_1 Facts.h_S_ ix0 = 1#1 :=
  InprojJoin.both _ _ (congrFun h ix0)

theorem gain_finite (k : Fin 1024) : Finite (n (ix2 0 k)) :=
  InprojJoin.finite_of_bound _ (Host.reduce_andi_all _ _ _ _ ix0 (parts x o w n g h).1 (ix2 0 k))
theorem weights_finite (k : Fin 1024) (e : Fin 8) : Finite (g (ix2 k e)) :=
  InprojJoin.finite_of_bound _ (Host.reduce_andi_all _ _ _ _ ix0 (parts x o w n g h).2 (ix2 k e))
end

/-! ## The places, the gates and the counts -/

/-- Two arrays of counts are one when they are at each block and column. -/
theorem ext_counts {a b : Cert.RoutingIdeal.S128x128.Idx → EReal} (h : ∀ b' j : Fin 128, a (ix2 b' j) = b (ix2 b' j)) : a = b :=
  funext fun i => (congrArg a (eq_ix2 i)).trans ((h (i 0) (i 1)).trans (congrArg b (eq_ix2 i)).symm)

theorem ext_rows {a b : Cert.RoutingIdeal.S16384x4.Idx → EReal} (h : ∀ (r : Fin 16384) (n : Fin 4), a (ix2 r n) = b (ix2 r n)) : a = b :=
  funext fun i => (congrArg a (eq_ix2 i)).trans ((h (i 0) (i 1)).trans (congrArg b (eq_ix2 i)).symm)
theorem ext_blocks {a b : Cert.RoutingIdeal.S4x128x128.Idx → EReal} (h : ∀ (n : Fin 4) (b' q : Fin 128), a (ix3 n b' q) = b (ix3 n b' q)) : a = b :=
  funext fun i => (congrArg a (eq_ix3 i)).trans ((h (i 0) (i 1) (i 2)).trans (congrArg b (eq_ix3 i)).symm)

section
variable (m : (ℓ : Loc Cert.RoutingRefIdeal.nD Cert.RoutingRefIdeal.τ Cert.RoutingRefIdeal.sig) → Buf (Elt Ideal) ℓ) (c : Dev Cert.RoutingRefIdeal.nD)

/-- The reference's arrays. -/
abbrev rx : Cert.RoutingRefIdeal.S8x2048x1024.Idx → EReal := m ((c.tc : Thread Cert.RoutingRefIdeal.nD Cert.RoutingRefIdeal.τ).loc Cert.RoutingRefIdeal.main_arg0)
abbrev ro : Cert.RoutingRefIdeal.S16384x1024.Idx → EReal := m ((c.tc : Thread Cert.RoutingRefIdeal.nD Cert.RoutingRefIdeal.τ).loc Cert.RoutingRefIdeal.main_arg1)
abbrev rm : Cert.RoutingRefIdeal.S1024x1024.Idx → EReal := m ((c.tc : Thread Cert.RoutingRefIdeal.nD Cert.RoutingRefIdeal.τ).loc Cert.RoutingRefIdeal.main_arg2)
abbrev rn : Cert.RoutingRefIdeal.S1x1024.Idx → EReal := m ((c.tc : Thread Cert.RoutingRefIdeal.nD Cert.RoutingRefIdeal.τ).loc Cert.RoutingRefIdeal.main_arg3)
abbrev rg : Cert.RoutingRefIdeal.S1024x8.Idx → EReal := m ((c.tc : Thread Cert.RoutingRefIdeal.nD Cert.RoutingRefIdeal.τ).loc Cert.RoutingRefIdeal.main_arg4)
end

/-- The reference's rows of places and gates. -/
theorem ref_rows (m : (ℓ : Loc Cert.RoutingRefIdeal.nD Cert.RoutingRefIdeal.τ Cert.RoutingRefIdeal.sig) → Buf (Elt Ideal) ℓ) (c : Dev Cert.RoutingRefIdeal.nD)
    (hl : ∀ r e, InprojMath.Finite (RoutingValue.logits (rx m c) (ro m c) (rm m c) (rn m c) (rg m c) r e)) (r : Fin 16384) (n : Fin 4) :
    Cert.RoutingRefIdeal.Value.res_main_v54 (F := Ideal) m c (ix2 r n) = RankSpec.info (RoutingValue.logits (rx m c) (ro m c) (rm m c) (rn m c) (rg m c)) r n := by
  have e := RankRef.logits_at (rx m c) (ro m c) (rm m c) (rn m c) (rg m c) Cert.RoutingRefIdeal.Gen.shapeCasts_S16384x1024_S8x2048x1024
  rw [RankRef.rows_term]
  refine (RankRef.rows_at _ (fun r e' => Eq.mpr (congrArg InprojMath.Finite (congrFun (congrFun e r) e')) (hl r e')) r n).trans ?_
  exact congrArg (fun l => RankSpec.info l r n) e

theorem algebraic : Cert.algebraic_RoutingIdeal_RoutingRefIdeal_pre_router_weights_finite := by
  intro m g m' g' hp ha
  have fn := fun c k => gain_finite _ _ _ _ _ (hp c) k
  have fg := fun c k e => weights_finite _ _ _ _ _ (hp c) k e
  refine ⟨fun c => RankValue.rows (RankValue.L m c), fun c => RankValue.blocks (RankValue.L m c),
    fun c => RoutingValue.counts (RoutingValue.ax m c) (RoutingValue.ao m c) (RoutingValue.aw m c) (RoutingValue.an m c) (RoutingValue.ar m c), ?_, ?_⟩
  · exact (θ_run Cert.RoutingIdeal.defs _ _).mono
      (fun r h c => ⟨(h c).2.2.1.trans (RankValue.final7 m c (fn c) (fg c)), (h c).2.2.2.1.trans (RankValue.final8 m c (fn c) (fg c)),
        (h c).2.2.2.2.1.trans (RoutingValue.final9 m c (fn c) (fg c)), (h c).2.2.2.2.2⟩)
      (Cert.RoutingIdeal.Value.run_blocks m g)
  · refine (θ_run Cert.RoutingRefIdeal.defs _ _).mono (fun r h c => ?_) (Cert.RoutingRefIdeal.Value.run m' g')
    obtain ⟨g0, g1, g2, g3, g4⟩ := ha c
    have h0 : rx m' c = RoutingValue.ax m c := g0
    have h1 : ro m' c = RoutingValue.ao m c := g1
    have h2 : rm m' c = RoutingValue.aw m c := g2
    have h3 : rn m' c = RoutingValue.an m c := g3
    have h4 : rg m' c = RoutingValue.ar m c := g4
    have hL : RoutingValue.logits (rx m' c) (ro m' c) (rm m' c) (rn m' c) (rg m' c) = RankValue.L m c := by rw [h0, h1, h2, h3, h4]
    have hr : ∀ (r : Fin 16384) (n : Fin 4), Cert.RoutingRefIdeal.Value.res_main_v54 (F := Ideal) m' c (ix2 r n) = RankSpec.info (RankValue.L m c) r n := fun r n =>
      (ref_rows m' c (fun r e => Eq.mpr (congrArg InprojMath.Finite (congrFun (congrFun hL r) e)) (RoutingValue.logits_finite m c (fn c) (fg c) r e)) r n).trans
        (congrArg (fun l => RankSpec.info l r n) hL)
    obtain ⟨e0, e1, e2, rest⟩ := h c
    refine ⟨e0.trans (ext_rows hr), e1.trans (ext_blocks fun n b q => ?_),
      e2.trans (ext_counts fun b j => (RoutingRef.counts (rx m' c) (ro m' c) (rm m' c) (rn m' c) (rg m' c)
        Cert.RoutingRefIdeal.Gen.shapeCasts_S16384x1024_S8x2048x1024 Cert.RoutingRefIdeal.Gen.shapeCasts_S8x2048x8_S128x128x8 b j).trans ?_), rest⟩
    · rw [RankRef.blocks_term]
      exact (RankRef.blocksA_apply _ n b q).trans (hr _ n)
    · rw [h0, h1, h2, h3, h4]
      rfl

end Cert.Proof.RoutingJoin
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Experts
public import proofs.«01_k».proof.Proof.Gen.ExpertsIdeal
public import proofs.«01_k».proof.Proof.Gen.ExpertsRefIdeal
public import proofs.«01_k».proof.Proof.Gen.Pre_experts_in_range
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojRefIdeal.Run
public import proofs.«01_k».proof.Proof.Gen.Pre_decay_weights_finite
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.Routing
public import proofs.«01_k».proof.Proof.Gen.Routing.Frame
public import proofs.«01_k».proof.Proof.Gen.RoutingIdeal
public import proofs.«01_k».proof.Proof.Gen.RoutingIdeal.Frame
public import proofs.«01_k».proof.Proof.Gen.RoutingIdeal.Value
public import proofs.«01_k».proof.Proof.Gen.RoutingRefIdeal
public import proofs.«01_k».proof.Proof.Gen.RoutingRefIdeal.Run
public import proofs.«01_k».proof.Proof.Gen.Pre_router_weights_finite
public import proofs.«01_k».proof.Proof.Join
public import proofs.«01_k».proof.Proof.ExpertsJoin
public import proofs.«01_k».proof.Proof.FfnJoin
public import proofs.«01_k».proof.Proof.QkvJoin
public import proofs.«01_k».proof.Proof.InprojJoin
public import proofs.«01_k».proof.Proof.RouterJoin
public import proofs.«01_k».proof.Proof.RoutingJoin

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsRefIdeal.Gen.facts,
    Cert.Ffn.Gen.facts, Cert.FfnIdeal.Gen.facts, Cert.FfnRefIdeal.Gen.facts,
    Cert.Qkv.Gen.facts, Cert.QkvIdeal.Gen.facts, Cert.QkvRefIdeal.Gen.facts,
    Cert.Inproj.Gen.facts, Cert.InprojIdeal.Gen.facts, Cert.InprojRefIdeal.Gen.facts,
    Cert.Router.Gen.facts, Cert.RouterIdeal.Gen.facts, Cert.RouterRefIdeal.Gen.facts,
    Cert.Routing.Gen.facts, Cert.RoutingIdeal.Gen.facts, Cert.RoutingRefIdeal.Gen.facts,
    Join.decays_facts, Cert.Pre_experts_in_range.Gen.facts, Cert.Pre_decay_weights_finite.Gen.facts, Cert.Pre_router_weights_finite.Gen.facts,
    fun m ρ _ => Cert.Kernel.Gen.frame m ρ,
    fun m ρ _ => Cert.KernelIdeal.Gen.frame m ρ,
    fun m ρ _ => Cert.KernelIdeal.Gen.frame m ρ,
    Join.reference_frame,
    fun m ρ _ => Join.reference_frame m ρ trivial,
    ExpertsJoin.frame_bits,
    ExpertsJoin.frame_ideal,
    ExpertsJoin.reference_frame,
    fun m ρ _ => ExpertsJoin.reference_frame m ρ trivial,
    fun m ρ _ => Cert.Ffn.Gen.frame m ρ,
    fun m ρ _ => Cert.FfnIdeal.Gen.frame m ρ,
    FfnJoin.reference_frame,
    fun m ρ _ => Cert.Qkv.Gen.frame m ρ,
    fun m ρ _ => Cert.QkvIdeal.Gen.frame m ρ,
    QkvJoin.reference_frame,
    fun m ρ _ => Cert.Inproj.Gen.frame m ρ,
    fun m ρ _ => Cert.InprojIdeal.Gen.frame m ρ,
    fun m ρ _ => Cert.InprojIdeal.Gen.frame m ρ,
    InprojJoin.reference_frame,
    fun m ρ _ => InprojJoin.reference_frame m ρ trivial,
    fun m ρ _ => Cert.Router.Gen.frame m ρ,
    fun m ρ _ => Cert.RouterIdeal.Gen.frame m ρ,
    RouterJoin.reference_frame,
    fun m ρ _ => Cert.Routing.Gen.frame m ρ,
    fun m ρ _ => Cert.RoutingIdeal.Gen.frame m ρ,
    fun m ρ _ => Cert.RoutingIdeal.Gen.frame m ρ,
    RoutingJoin.reference_frame,
    fun m ρ _ => RoutingJoin.reference_frame m ρ trivial,
    trivial,
    Join.algebraic,
    trivial,
    ExpertsJoin.algebraic,
    trivial,
    FfnJoin.algebraic,
    trivial,
    QkvJoin.algebraic,
    trivial,
    InprojJoin.algebraic,
    trivial,
    RouterJoin.algebraic,
    trivial,
    RoutingJoin.algebraic⟩

end Cert.Proof

end
